-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pool_finite [hPre_pool_finite : Cert.Pre_pool_finite.Facts] (m : (ℓ : Loc Cert.KernelIdeal.nD Cert.KernelIdeal.τ Cert.KernelIdeal.sig) → Buf (Elt Ideal) ℓ) : Prop :=
  ∀ c : Dev Cert.KernelIdeal.nD,
    (Cert.Pre_pool_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pool_finite [hPre_pool_finite : Cert.Pre_pool_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pool_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_pool_finite [hKernelIdeal : Cert.KernelIdeal.Facts] [hPre_pool_finite : Cert.Pre_pool_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pool_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_pool_finite [hReferenceIdeal : Cert.ReferenceIdeal.Facts] [hPre_pool_finite : Cert.Pre_pool_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pool_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def preserves_Kernel_KernelIdeal : Prop :=
  True

def algebraic_KernelIdeal_ReferenceIdeal_pre_pool_finite [hKernelIdeal : Cert.KernelIdeal.Facts] [hReferenceIdeal : Cert.ReferenceIdeal.Facts] [hPre_pool_finite : Cert.Pre_pool_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pool_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v173) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v42) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_v18) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v15) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v18)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v18) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v72) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v6_0)) (v1 : (c : Dev Cert.Kernel7Ideal.nD) → Buf (Elt Ideal) ((c.tc : Thread Cert.Kernel7Ideal.nD Cert.Kernel7Ideal.τ).loc Cert.Kernel7Ideal.main_v6_1)) (v2 : (c : Dev Cert.Kernel7Ideal.nD) → Buf (Elt Ideal) ((c.tc : Thread Cert.Kernel7Ideal.nD Cert.Kernel7Ideal.τ).loc Cert.Kernel7Ideal.main_v6_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6_0) = v0 c
          ∧ r.2.mem ((c.tc : Thread Cert.Kernel7Ideal.nD Cert.Kernel7Ideal.τ).loc Cert.Kernel7Ideal.main_v6_1) = v1 c
          ∧ r.2.mem ((c.tc : Thread Cert.Kernel7Ideal.nD Cert.Kernel7Ideal.τ).loc Cert.Kernel7Ideal.main_v6_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v9) = v0 c
          ∧ r.2.mem ((c.tc : Thread Cert.Reference7Ideal.nD Cert.Reference7Ideal.τ).loc Cert.Reference7Ideal.main_v8) = v1 c
          ∧ r.2.mem ((c.tc : Thread Cert.Reference7Ideal.nD Cert.Reference7Ideal.τ).loc Cert.Reference7Ideal.main_v12) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v5_0)) (v1 : (c : Dev Cert.Kernel8Ideal.nD) → Buf (Elt Ideal) ((c.tc : Thread Cert.Kernel8Ideal.nD Cert.Kernel8Ideal.τ).loc Cert.Kernel8Ideal.main_v5_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5_0) = v0 c
          ∧ r.2.mem ((c.tc : Thread Cert.Kernel8Ideal.nD Cert.Kernel8Ideal.τ).loc Cert.Kernel8Ideal.main_v5_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v29) = v0 c
          ∧ r.2.mem ((c.tc : Thread Cert.Reference8Ideal.nD Cert.Reference8Ideal.τ).loc Cert.Reference8Ideal.main_v43) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v5)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v5) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v29) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_pool_finite : Cert.Pre_pool_finite.Facts),
    quiescent_Kernel (hKernel := hKernel)
    ∧ quiescent_KernelIdeal (hKernelIdeal := hKernelIdeal)
    ∧ quiescent_KernelIdeal_pre_pool_finite (hKernelIdeal := hKernelIdeal) (hPre_pool_finite := hPre_pool_finite)
    ∧ quiescent_ReferenceIdeal (hReferenceIdeal := hReferenceIdeal)
    ∧ quiescent_ReferenceIdeal_pre_pool_finite (hReferenceIdeal := hReferenceIdeal) (hPre_pool_finite := hPre_pool_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_pool_finite (hKernelIdeal := hKernelIdeal) (hReferenceIdeal := hReferenceIdeal) (hPre_pool_finite := hPre_pool_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_pool_finite.lean ====
abbrev S4x4096x3072 : Shape := ⟨3, ![4, 4096, 3072]⟩
abbrev S4x1024 : Shape := ⟨2, ![4, 1024]⟩
abbrev S1024 : Shape := ⟨1, ![1024]⟩
abbrev S16x64x64 : Shape := ⟨3, ![16, 64, 64]⟩
abbrev S4x256x256 : Shape := ⟨3, ![4, 256, 256]⟩
abbrev S4x4096x1024 : Shape := ⟨3, ![4, 4096, 1024]⟩
abbrev S_ : Shape := ⟨0, ![]⟩

class Facts : Prop where
  slices_S4x4096x3072_S4x4096x1024_0_0_2048 : S4x4096x3072.Slices ![0, 0, 2048] S4x4096x1024
  bcast_S_S4x4096x1024 : S_.BroadcastsInDim S4x4096x1024 (![] : Fin 0 → Fin S4x4096x1024.rank)

variable [Facts]

def fn {F : FTy → Type} [FloatOps F] (main_arg0 : FVec F S4x4096x3072 .f32) (main_arg1 : FVec F S4x1024 .f32) (main_arg2 : FVec F S1024 .f32) (main_arg3 : FVec F S16x64x64 .f32) (main_arg4 : FVec F S1024 .f32) (main_arg5 : FVec F S16x64x64 .f32) (main_arg6 : FVec F S1024 .f32) (main_arg7 : FVec F S1024 .f32) (main_arg8 : FVec F S4x256x256 .f32) (main_arg9 : FVec F S1024 .f32) : IVec S4x4096x1024 1 :=
  let main_v0 : FVec F S4x4096x1024 .f32 := (extractStridedSlice S4x4096x1024 ![0, 0, 2048] · slices_S4x4096x3072_S4x4096x1024_0_0_2048) main_arg0
  let main_v1 : FVec F S4x4096x1024 .f32 := Host.absf main_v0
  let main_cst : FVec F S_ .f32 := constant S_ .f32 0x7F800000#32
  let main_v2 : FVec F S4x4096x1024 .f32 := broadcastInDim S4x4096x1024 ![] bcast_S_S4x4096x1024 main_cst
  let main_v3 : IVec S4x4096x1024 1 := cmpf .olt main_v1 main_v2
  main_v3
-- ==== Kernel.lean ====
abbrev S4x4096x3072 : Shape := ⟨3, ![4, 4096, 3072]⟩
abbrev S4x1024 : Shape := ⟨2, ![4, 1024]⟩
abbrev S1024 : Shape := ⟨1, ![1024]⟩
abbrev S16x64x64 : Shape := ⟨3, ![16, 64, 64]⟩
abbrev S4x256x256 : Shape := ⟨3, ![4, 256, 256]⟩
abbrev S1x1024 : Shape := ⟨2, ![1, 1024]⟩
abbrev S4x4x64x64 : Shape := ⟨4, ![4, 4, 64, 64]⟩
abbrev S4x4 : Shape := ⟨2, ![4, 4]⟩
abbrev S_ : Shape := ⟨0, ![]⟩
abbrev S4x4x64x1x64 : Shape := ⟨5, ![4, 4, 64, 1, 64]⟩
abbrev S1x4x1x4x1 : Shape := ⟨5, ![1, 4, 1, 4, 1]⟩
abbrev S4x4x64x4x64 : Shape := ⟨5, ![4, 4, 64, 4, 64]⟩
abbrev S4x4096x2048 : Shape := ⟨3, ![4, 4096, 2048]⟩
abbrev S1x256x3072 : Shape := ⟨3, ![1, 256, 3072]⟩
abbrev S1x256x2048 : Shape := ⟨3, ![1, 256, 2048]⟩
abbrev S264x1024 : Shape := ⟨2, ![264, 1024]⟩
abbrev S272x1024 : Shape := ⟨2, ![272, 1024]⟩
abbrev S8x1024 : Shape := ⟨2, ![8, 1024]⟩
abbrev S16x1024 : Shape := ⟨2, ![16, 1024]⟩
abbrev S1x256x1024 : Shape := ⟨3, ![1, 256, 1024]⟩
abbrev S256x1024 : Shape := ⟨2, ![256, 1024]⟩
abbrev S256x256 : Shape := ⟨2, ![256, 256]⟩
abbrev S1x256x256 : Shape := ⟨3, ![1, 256, 256]⟩
abbrev S8x1 : Shape := ⟨2, ![8, 1]⟩
abbrev S256x1 : Shape := ⟨2, ![256, 1]⟩
abbrev S1x256 : Shape := ⟨2, ![1, 256]⟩

abbrev nBuf : Space → Nat
  | .hbm => 47
  | .vmem => 16
  | .smem => 0
  | _ => 0

abbrev bufTy : (tb : Table) → Fin (tcTables nBuf tb) → BufTy
  | .hbm, ⟨0, _⟩ => ⟨S4x4096x3072, .f32⟩
  | .hbm, ⟨1, _⟩ => ⟨S4x1024, .f32⟩
  | .hbm, ⟨2, _⟩ => ⟨S1024, .f32⟩
  | .hbm, ⟨3, _⟩ => ⟨S16x64x64, .f32⟩
  | .hbm, ⟨4, _⟩ => ⟨S1024, .f32⟩
  | .hbm, ⟨5, _⟩ => ⟨S16x64x64, .f32⟩
  | .hbm, ⟨6, _⟩ => ⟨S1024, .f32⟩
  | .hbm, ⟨7, _⟩ => ⟨S1024, .f32⟩
  | .hbm, ⟨8, _⟩ => ⟨S4x256x256, .f32⟩
  | .hbm, ⟨9, _⟩ => ⟨S1024, .f32⟩
  | .hbm, ⟨10, _⟩ => ⟨S1x1024, .f32⟩
  | .hbm, ⟨11, _⟩ => ⟨S4x4x64x64, .f32⟩
  | .hbm, ⟨12, _⟩ => ⟨S4x4, .i32⟩
  | .hbm, ⟨13, _⟩ => ⟨S4x4, .i32⟩
  | .hbm, ⟨14, _⟩ => ⟨S_, .i32⟩
  | .hbm, ⟨15, _⟩ => ⟨S4x4, .i32⟩
  | .hbm, ⟨16, _⟩ => ⟨S4x4, .i32⟩
  | .hbm, ⟨17, _⟩ => ⟨S4x4, .i1⟩
  | .hbm, ⟨18, _⟩ => ⟨S4x4, .f32⟩
  | .hbm, ⟨19, _⟩ => ⟨S4x4x64x1x64, .f32⟩
  | .hbm, ⟨20, _⟩ => ⟨S1x4x1x4x1, .f32⟩
  | .hbm, ⟨21, _⟩ => ⟨S4x4x64x4x64, .f32⟩
  | .hbm, ⟨22, _⟩ => ⟨S4x4x64x4x64, .f32⟩
  | .hbm, ⟨23, _⟩ => ⟨S4x4x64x4x64, .f32⟩
  | .hbm, ⟨24, _⟩ => ⟨S4x256x256, .f32⟩
  | .hbm, ⟨25, _⟩ => ⟨S4x256x256, .bf16⟩
  | .hbm, ⟨26, _⟩ => ⟨S1x1024, .f32⟩
  | .hbm, ⟨27, _⟩ => ⟨S4x4x64x64, .f32⟩
  | .hbm, ⟨28, _⟩ => ⟨S4x4, .i32⟩
  | .hbm, ⟨29, _⟩ => ⟨S4x4, .i32⟩
  | .hbm, ⟨30, _⟩ => ⟨S_, .i32⟩
  | .hbm, ⟨31, _⟩ => ⟨S4x4, .i32⟩
  | .hbm, ⟨32, _⟩ => ⟨S4x4, .i32⟩
  | .hbm, ⟨33, _⟩ => ⟨S4x4, .i1⟩
  | .hbm, ⟨34, _⟩ => ⟨S4x4, .f32⟩
  | .hbm, ⟨35, _⟩ => ⟨S4x4x64x1x64, .f32⟩
  | .hbm, ⟨36, _⟩ => ⟨S1x4x1x4x1, .f32⟩
  | .hbm, ⟨37, _⟩ => ⟨S4x4x64x4x64, .f32⟩
  | .hbm, ⟨38, _⟩ => ⟨S4x4x64x4x64, .f32⟩
  | .hbm, ⟨39, _⟩ => ⟨S4x4x64x4x64, .f32⟩
  | .hbm, ⟨40, _⟩ => ⟨S4x256x256, .f32⟩
  | .hbm, ⟨41, _⟩ => ⟨S4x256x256, .bf16⟩
  | .hbm, ⟨42, _⟩ => ⟨S1x1024, .f32⟩
  | .hbm, ⟨43, _⟩ => ⟨S1x1024, .f32⟩
  | .hbm, ⟨44, _⟩ => ⟨S4x256x256, .bf16⟩
  | .hbm, ⟨45, _⟩ => ⟨S1x1024, .f32⟩
  | .hbm, ⟨46, _⟩ => ⟨S4x4096x2048, .bf16⟩
  | .local _ .vmem, ⟨0, _⟩ => ⟨S1x256x3072, .f32⟩
  | .local _ .vmem, ⟨1, _⟩ => ⟨S1x256x3072, .f32⟩
  | .local _ .vmem, ⟨2, _⟩ => ⟨S4x1024, .f32⟩
  | .local _ .vmem, ⟨3, _⟩ => ⟨S1x1024, .f32⟩
  | .local _ .vmem, ⟨4, _⟩ => ⟨S4x256x256, .bf16⟩
  | .local _ .vmem, ⟨5, _⟩ => ⟨S1x1024, .f32⟩
  | .local _ .vmem, ⟨6, _⟩ => ⟨S4x256x256, .bf16⟩
  | .local _ .vmem, ⟨7, _⟩ => ⟨S1x1024, .f32⟩
  | .local _ .vmem, ⟨8, _⟩ => ⟨S1x1024, .f32⟩
  | .local _ .vmem, ⟨9, _⟩ => ⟨S4x256x256, .bf16⟩
  | .local _ .vmem, ⟨10, _⟩ => ⟨S1x1024, .f32⟩
  | .local _ .vmem, ⟨11, _⟩ => ⟨S1x256x2048, .bf16⟩
  | .local _ .vmem, ⟨12, _⟩ => ⟨S1x256x2048, .bf16⟩
  | .local _ .vmem, ⟨13, _⟩ => ⟨S264x1024, .f32⟩
  | .local _ .vmem, ⟨14, _⟩ => ⟨S272x1024, .f32⟩
  | .local _ .vmem, ⟨15, _⟩ => ⟨S1x1024, .f32⟩
  | _, _ => ⟨S4x4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S4x4096x3072 : Shape := ⟨3, ![4, 4096, 3072]⟩
abbrev S4x1024 : Shape := ⟨2, ![4, 1024]⟩
abbrev S1024 : Shape := ⟨1, ![1024]⟩
abbrev S16x64x64 : Shape := ⟨3, ![16, 64, 64]⟩
abbrev S4x256x256 : Shape := ⟨3, ![4, 256, 256]⟩
abbrev S4x4096x1024 : Shape := ⟨3, ![4, 4096, 1024]⟩
abbrev S_ : Shape := ⟨0, ![]⟩
abbrev S4x4099x1024 : Shape := ⟨3, ![4, 4099, 1024]⟩
abbrev S1x1024 : Shape := ⟨2, ![1, 1024]⟩
abbrev S1x1x1024 : Shape := ⟨3, ![1, 1, 1024]⟩
abbrev S4x4096x16x64 : Shape := ⟨4, ![4, 4096, 16, 64]⟩
abbrev S16x64x4x4096 : Shape := ⟨4, ![16, 64, 4, 4096]⟩
abbrev S4096x4x1024 : Shape := ⟨3, ![4096, 4, 1024]⟩
abbrev S1x4x1024 : Shape := ⟨3, ![1, 4, 1024]⟩
abbrev S4x4096x4x256 : Shape := ⟨4, ![4, 4096, 4, 256]⟩
abbrev S4096 : Shape := ⟨1, ![4096]⟩
abbrev S4x4096x1x256 : Shape := ⟨4, ![4, 4096, 1, 256]⟩
abbrev S4x4096x256 : Shape := ⟨3, ![4, 4096, 256]⟩
abbrev S4x4098x256 : Shape := ⟨3, ![4, 4098, 256]⟩
abbrev S1x4096x1 : Shape := ⟨3, ![1, 4096, 1]⟩
abbrev S4x4100x256 : Shape := ⟨3, ![4, 4100, 256]⟩
abbrev S4x4104x256 : Shape := ⟨3, ![4, 4104, 256]⟩
abbrev S4x4112x256 : Shape := ⟨3, ![4, 4112, 256]⟩
abbrev S4x256x4x4096 : Shape := ⟨4, ![4, 256, 4, 4096]⟩
abbrev S4x4096x2048 : Shape := ⟨3, ![4, 4096, 2048]⟩

abbrev nBuf : Space → Nat
  | .hbm => 252
  | .vmem => 0
  | .smem => 0
  | _ => 0

abbrev hbmTy0_0 (i : Nat) : BufTy := match i % 128 with
  | 0 => ⟨S4x4096x3072, .f32⟩
  | 1 => ⟨S4x1024, .f32⟩
  | 2 => ⟨S1024, .f32⟩
  | 3 => ⟨S16x64x64, .f32⟩
  | 4 => ⟨S1024, .f32⟩
  | 5 => ⟨S16x64x64, .f32⟩
  | 6 => ⟨S1024, .f32⟩
  | 7 => ⟨S1024, .f32⟩
  | 8 => ⟨S4x256x256, .f32⟩
  | 9 => ⟨S1024, .f32⟩
  | 10 => ⟨S4x4096x1024, .f32⟩
  | 11 => ⟨S_, .i32⟩
  | 12 => ⟨S_, .f32⟩
  | 13 => ⟨S4x4099x1024, .f32⟩
  | 14 => ⟨S4x4096x1024, .f32⟩
  | 15 => ⟨S1x1024, .f32⟩
  | 16 => ⟨S1024, .f32⟩
  | 17 => ⟨S1x1x1024, .f32⟩
  | 18 => ⟨S4x4096x1024, .f32⟩
  | 19 => ⟨S4x4096x1024, .f32⟩
  | 20 => ⟨S1x1x1024, .f32⟩
  | 21 => ⟨S4x4096x1024, .f32⟩
  | 22 => ⟨S4x4096x1024, .f32⟩
  | 23 => ⟨S4x4096x1024, .f32⟩
  | 24 => ⟨S1x1024, .f32⟩
  | 25 => ⟨S1024, .f32⟩
  | 26 => ⟨S1x1x1024, .f32⟩
  | 27 => ⟨S4x4096x1024, .f32⟩
  | 28 => ⟨S4x4096x1024, .f32⟩
  | 29 => ⟨S4x4096x1024, .f32⟩
  | 30 => ⟨S4x4096x1024, .f32⟩
  | 31 => ⟨S1x1024, .f32⟩
  | 32 => ⟨S1024, .f32⟩
  | 33 => ⟨S1x1x1024, .f32⟩
  | 34 => ⟨S4x4096x1024, .f32⟩
  | 35 => ⟨S4x4096x1024, .f32⟩
  | 36 => ⟨S4x4096x1024, .f32⟩
  | 37 => ⟨S4x4096x1024, .f32⟩
  | 38 => ⟨S1x1024, .f32⟩
  | 39 => ⟨S1024, .f32⟩
  | 40 => ⟨S1x1x1024, .f32⟩
  | 41 => ⟨S4x4096x1024, .f32⟩
  | 42 => ⟨S4x4096x1024, .f32⟩
  | 43 => ⟨S4x4096x1024, .f32⟩
  | 44 => ⟨S4x4096x16x64, .f32⟩
  | 45 => ⟨S16x64x4x4096, .f32⟩
  | 46 => ⟨S4x4096x16x64, .f32⟩
  | 47 => ⟨S4x4096x1024, .f32⟩
  | 48 => ⟨S1x1x1024, .f32⟩
  | 49 => ⟨S4x4096x1024, .f32⟩
  | 50 => ⟨S4x4096x1024, .f32⟩
  | 51 => ⟨S4x4096x1024, .f32⟩
  | 52 => ⟨S4x4096x1024, .f32⟩
  | 53 => ⟨S_, .f32⟩
  | 54 => ⟨S4x4096x1024, .f32⟩
  | 55 => ⟨S4x4096x1024, .f32⟩
  | 56 => ⟨S_, .f32⟩
  | 57 => ⟨S4x4096x1024, .f32⟩
  | 58 => ⟨S4x4096x1024, .f32⟩
  | 59 => ⟨S16x64x4x4096, .f32⟩
  | 60 => ⟨S4x4096x16x64, .f32⟩
  | 61 => ⟨S4x4096x1024, .f32⟩
  | 62 => ⟨S1x1x1024, .f32⟩
  | 63 => ⟨S4x4096x1024, .f32⟩
  | 64 => ⟨S4x4096x1024, .f32⟩
  | 65 => ⟨S4x4096x1024, .f32⟩
  | 66 => ⟨S4x4096x1024, .f32⟩
  | 67 => ⟨S_, .f32⟩
  | 68 => ⟨S4x4096x1024, .f32⟩
  | 69 => ⟨S4x4096x1024, .f32⟩
  | 70 => ⟨S_, .f32⟩
  | 71 => ⟨S4x4096x1024, .f32⟩
  | 72 => ⟨S4x4096x1024, .f32⟩
  | 73 => ⟨S_, .f32⟩
  | 74 => ⟨S4x4096x1024, .f32⟩
  | 75 => ⟨S4x4096x1024, .f32⟩
  | 76 => ⟨S1024, .f32⟩
  | 77 => ⟨S_, .f32⟩
  | 78 => ⟨S1024, .f32⟩
  | 79 => ⟨S1024, .f32⟩
  | 80 => ⟨S1024, .f32⟩
  | 81 => ⟨S1024, .f32⟩
  | 82 => ⟨S1024, .i1⟩
  | 83 => ⟨S1024, .f32⟩
  | 84 => ⟨S1024, .f32⟩
  | 85 => ⟨S1024, .f32⟩
  | 86 => ⟨S1024, .f32⟩
  | 87 => ⟨S1024, .f32⟩
  | 88 => ⟨S1024, .f32⟩
  | 89 => ⟨S1024, .f32⟩
  | 90 => ⟨S1024, .f32⟩
  | 91 => ⟨S1x1x1024, .f32⟩
  | 92 => ⟨S4x4096x1024, .f32⟩
  | 93 => ⟨S4x4096x1024, .f32⟩
  | 94 => ⟨S4x4096x1024, .f32⟩
  | 95 => ⟨S_, .f32⟩
  | 96 => ⟨S4x4096x1024, .f32⟩
  | 97 => ⟨S4x4096x1024, .f32⟩
  | 98 => ⟨S4x4096x1024, .f32⟩
  | 99 => ⟨S4x4096x1024, .f32⟩
  | 100 => ⟨S4x4096x1024, .f32⟩
  | 101 => ⟨S4x4096x1024, .f32⟩
  | 102 => ⟨S4x4096x1024, .f32⟩
  | 103 => ⟨S_, .f32⟩
  | 104 => ⟨S4x1024, .f32⟩
  | 105 => ⟨S4096x4x1024, .f32⟩
  | 106 => ⟨S4096x4x1024, .f32⟩
  | 107 => ⟨S_, .f32⟩
  | 108 => ⟨S4096x4x1024, .f32⟩
  | 109 => ⟨S_, .i32⟩
  | 110 => ⟨S4096x4x1024, .f32⟩
  | 111 => ⟨S4096x4x1024, .f32⟩
  | 112 => ⟨S_, .i32⟩
  | 113 => ⟨S4x1024, .f32⟩
  | 114 => ⟨S4096x4x1024, .f32⟩
  | 115 => ⟨S_, .i32⟩
  | 116 => ⟨S_, .i1⟩
  | 117 => ⟨S_, .i32⟩
  | 118 => ⟨S_, .i32⟩
  | 119 => ⟨S1x4x1024, .f32⟩
  | 120 => ⟨S4x1024, .f32⟩
  | 121 => ⟨S_, .i32⟩
  | 122 => ⟨S_, .i32⟩
  | 123 => ⟨S1x4x1024, .f32⟩
  | 124 => ⟨S4x1024, .f32⟩
  | 125 => ⟨S4x1024, .f32⟩
  | 126 => ⟨S4x1024, .f32⟩
  | 127 => ⟨S1x4x1024, .f32⟩
  | _ => ⟨S4x4096x3072, .f32⟩

abbrev hbmTy0_1 (i : Nat) : BufTy := match i % 128 with
  | 0 => ⟨S_, .i32⟩
  | 1 => ⟨S_, .i32⟩
  | 2 => ⟨S4096x4x1024, .f32⟩
  | 3 => ⟨S_, .i32⟩
  | 4 => ⟨S_, .i32⟩
  | 5 => ⟨S4x4096x1024, .f32⟩
  | 6 => ⟨S4x4096x1024, .f32⟩
  | 7 => ⟨S4x4096x1024, .f32⟩
  | 8 => ⟨S4x4096x1024, .f32⟩
  | 9 => ⟨S_, .f32⟩
  | 10 => ⟨S4x4096x1024, .f32⟩
  | 11 => ⟨S4x4096x1024, .f32⟩
  | 12 => ⟨S4x4096x1024, .f32⟩
  | 13 => ⟨S_, .f32⟩
  | 14 => ⟨S4x4096x1024, .f32⟩
  | 15 => ⟨S4x4096x1024, .f32⟩
  | 16 => ⟨S4x4096x1024, .f32⟩
  | 17 => ⟨S_, .f32⟩
  | 18 => ⟨S4x4096x1024, .f32⟩
  | 19 => ⟨S4x4096x1024, .f32⟩
  | 20 => ⟨S_, .f32⟩
  | 21 => ⟨S4x4096x1024, .f32⟩
  | 22 => ⟨S4x4096x1024, .f32⟩
  | 23 => ⟨S4x4096x1024, .f32⟩
  | 24 => ⟨S4x4096x1024, .f32⟩
  | 25 => ⟨S4x4096x1024, .f32⟩
  | 26 => ⟨S4x4096x4x256, .f32⟩
  | 27 => ⟨S_, .f32⟩
  | 28 => ⟨S_, .f32⟩
  | 29 => ⟨S4x4096x4x256, .f32⟩
  | 30 => ⟨S4096, .i32⟩
  | 31 => ⟨S4x4096x1x256, .f32⟩
  | 32 => ⟨S4x4096x256, .f32⟩
  | 33 => ⟨S_, .i32⟩
  | 34 => ⟨S_, .f32⟩
  | 35 => ⟨S4x4098x256, .f32⟩
  | 36 => ⟨S4x4096x256, .f32⟩
  | 37 => ⟨S_, .i32⟩
  | 38 => ⟨S4096, .i32⟩
  | 39 => ⟨S4096, .i32⟩
  | 40 => ⟨S_, .i32⟩
  | 41 => ⟨S4096, .i32⟩
  | 42 => ⟨S4096, .i32⟩
  | 43 => ⟨S4096, .f32⟩
  | 44 => ⟨S1x4096x1, .f32⟩
  | 45 => ⟨S4x4096x256, .f32⟩
  | 46 => ⟨S4x4096x256, .f32⟩
  | 47 => ⟨S4x4096x256, .f32⟩
  | 48 => ⟨S4x4096x1x256, .f32⟩
  | 49 => ⟨S4x4096x256, .f32⟩
  | 50 => ⟨S4x4096x256, .f32⟩
  | 51 => ⟨S4x4096x1x256, .f32⟩
  | 52 => ⟨S4x4096x256, .f32⟩
  | 53 => ⟨S_, .i32⟩
  | 54 => ⟨S_, .f32⟩
  | 55 => ⟨S4x4100x256, .f32⟩
  | 56 => ⟨S4x4096x256, .f32⟩
  | 57 => ⟨S_, .i32⟩
  | 58 => ⟨S4096, .i32⟩
  | 59 => ⟨S4096, .i32⟩
  | 60 => ⟨S_, .i32⟩
  | 61 => ⟨S4096, .i32⟩
  | 62 => ⟨S4096, .i32⟩
  | 63 => ⟨S4096, .f32⟩
  | 64 => ⟨S1x4096x1, .f32⟩
  | 65 => ⟨S4x4096x256, .f32⟩
  | 66 => ⟨S4x4096x256, .f32⟩
  | 67 => ⟨S4x4096x256, .f32⟩
  | 68 => ⟨S4x4096x1x256, .f32⟩
  | 69 => ⟨S4x4096x256, .f32⟩
  | 70 => ⟨S4x4096x256, .f32⟩
  | 71 => ⟨S4x4096x1x256, .f32⟩
  | 72 => ⟨S4x4096x256, .f32⟩
  | 73 => ⟨S_, .i32⟩
  | 74 => ⟨S_, .f32⟩
  | 75 => ⟨S4x4104x256, .f32⟩
  | 76 => ⟨S4x4096x256, .f32⟩
  | 77 => ⟨S_, .i32⟩
  | 78 => ⟨S4096, .i32⟩
  | 79 => ⟨S4096, .i32⟩
  | 80 => ⟨S_, .i32⟩
  | 81 => ⟨S4096, .i32⟩
  | 82 => ⟨S4096, .i32⟩
  | 83 => ⟨S4096, .f32⟩
  | 84 => ⟨S1x4096x1, .f32⟩
  | 85 => ⟨S4x4096x256, .f32⟩
  | 86 => ⟨S4x4096x256, .f32⟩
  | 87 => ⟨S4x4096x256, .f32⟩
  | 88 => ⟨S4x4096x1x256, .f32⟩
  | 89 => ⟨S4x4096x256, .f32⟩
  | 90 => ⟨S4x4096x256, .f32⟩
  | 91 => ⟨S4x4096x1x256, .f32⟩
  | 92 => ⟨S4x4096x256, .f32⟩
  | 93 => ⟨S_, .i32⟩
  | 94 => ⟨S_, .f32⟩
  | 95 => ⟨S4x4112x256, .f32⟩
  | 96 => ⟨S4x4096x256, .f32⟩
  | 97 => ⟨S_, .i32⟩
  | 98 => ⟨S4096, .i32⟩
  | 99 => ⟨S4096, .i32⟩
  | 100 => ⟨S_, .i32⟩
  | 101 => ⟨S4096, .i32⟩
  | 102 => ⟨S4096, .i32⟩
  | 103 => ⟨S4096, .f32⟩
  | 104 => ⟨S1x4096x1, .f32⟩
  | 105 => ⟨S4x4096x256, .f32⟩
  | 106 => ⟨S4x4096x256, .f32⟩
  | 107 => ⟨S4x4096x256, .f32⟩
  | 108 => ⟨S4x4096x1x256, .f32⟩
  | 109 => ⟨S4x4096x256, .f32⟩
  | 110 => ⟨S4x4096x256, .f32⟩
  | 111 => ⟨S4x4096x1x256, .f32⟩
  | 112 => ⟨S4x4096x1x256, .f32⟩
  | 113 => ⟨S4x4096x1x256, .f32⟩
  | 114 => ⟨S4x4096x1x256, .f32⟩
  | 115 => ⟨S4x4096x4x256, .f32⟩
  | 116 => ⟨S4x256x4x4096, .f32⟩
  | 117 => ⟨S4x4096x4x256, .f32⟩
  | 118 => ⟨S4x4096x1024, .f32⟩
  | 119 => ⟨S1x1x1024, .f32⟩
  | 120 => ⟨S4x4096x1024, .f32⟩
  | 121 => ⟨S4x4096x1024, .f32⟩
  | 122 => ⟨S4x4096x2048, .f32⟩
  | 123 => ⟨S4x4096x2048, .bf16⟩
  | _ => ⟨S4x4096x3072, .f32⟩

abbrev hbmTy (i : Nat) : BufTy := match i / 128 with
  | 0 => hbmTy0_0 i
  | 1 => hbmTy0_1 i
  | _ => ⟨S4x4096x3072, .f32⟩

abbrev bufTy : (tb : Table) → Fin (tcTables nBuf tb) → BufTy
  | .hbm, ⟨i, _⟩ => hbmTy i
  | _, _ => ⟨S4x4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst : Ref sig .tc := ⟨.hbm, 53, rfl⟩
abbrev main_v41 : Ref sig .tc := ⟨.hbm, 54, rfl⟩
abbrev main_v42 : Ref sig .tc := ⟨.hbm, 55, rfl⟩
abbrev main_cst_0 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_1 : Ref sig .tc := ⟨.hbm, 67, rfl⟩
abbrev main_v53 : Ref sig .tc := ⟨.hbm, 68, rfl⟩
abbrev main_v54 : Ref sig .tc := ⟨.hbm, 69, rfl⟩
abbrev main_cst_2 : Ref sig .tc := ⟨.hbm, 70, rfl⟩
abbrev main_v55 : Ref sig .tc := ⟨.hbm, 71, rfl⟩
abbrev main_v56 : Ref sig .tc := ⟨.hbm, 72, rfl⟩
abbrev main_cst_3 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_call1_cst : Ref sig .tc := ⟨.hbm, 77, rfl⟩
abbrev main_call1_v0 : Ref sig .tc := ⟨.hbm, 78, rfl⟩
abbrev main_call1_v1 : Ref sig .tc := ⟨.hbm, 79, rfl⟩
abbrev main_call1_v2 : Ref sig .tc := ⟨.hbm, 80, rfl⟩
abbrev main_call1_v3 : Ref sig .tc := ⟨.hbm, 81, rfl⟩
abbrev main_call1_v4 : Ref sig .tc := ⟨.hbm, 82, rfl⟩
abbrev main_call1_v5 : Ref sig .tc := ⟨.hbm, 83, rfl⟩
abbrev main_call1_v6 : Ref sig .tc := ⟨.hbm, 84, rfl⟩
abbrev main_call1_v7 : Ref sig .tc := ⟨.hbm, 85, rfl⟩
abbrev main_call1_v8 : Ref sig .tc := ⟨.hbm, 86, rfl⟩
abbrev main_call1_v9 : Ref sig .tc := ⟨.hbm, 87, rfl⟩
abbrev main_call1_v10 : Ref sig .tc := ⟨.hbm, 88, rfl⟩
abbrev main_call1_v11 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_4 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_5 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_cst_6 : Ref sig .tc := ⟨.hbm, 107, rfl⟩
abbrev main_v75 : Ref sig .tc := ⟨.hbm, 108, rfl⟩
abbrev main_c_7 : Ref sig .tc := ⟨.hbm, 109, rfl⟩
abbrev main_v76_0 : Ref sig .tc := ⟨.hbm, 110, rfl⟩
abbrev main_v76_1 : Ref sig .tc := ⟨.hbm, 111, rfl⟩
abbrev main_v76_2 : Ref sig .tc := ⟨.hbm, 112, rfl⟩
abbrev main_v76_3 : Ref sig .tc := ⟨.hbm, 113, rfl⟩
abbrev main_v76_4 : Ref sig .tc := ⟨.hbm, 114, rfl⟩
abbrev main_while0c_c_28 : Ref sig .tc := ⟨.hbm, 115, rfl⟩
abbrev main_while0c_v174 : Ref sig .tc := ⟨.hbm, 116, rfl⟩
abbrev main_while0b_call2_c : Ref sig .tc := ⟨.hbm, 117, rfl⟩
abbrev main_while0b_call2_c_0 : Ref sig .tc := ⟨.hbm, 118, rfl⟩
abbrev main_while0b_call2_v0 : Ref sig .tc := ⟨.hbm, 119, rfl⟩
abbrev main_while0b_v174 : Ref sig .tc := ⟨.hbm, 120, rfl⟩
abbrev main_while0b_call3_c : Ref sig .tc := ⟨.hbm, 121, rfl⟩
abbrev main_while0b_call3_c_0 : Ref sig .tc := ⟨.hbm, 122, rfl⟩
abbrev main_while0b_call3_v0 : Ref sig .tc := ⟨.hbm, 123, rfl⟩
abbrev main_while0b_v175 : Ref sig .tc := ⟨.hbm, 124, rfl⟩
abbrev main_while0b_v176 : Ref sig .tc := ⟨.hbm, 125, rfl⟩
abbrev main_while0b_v177 : Ref sig .tc := ⟨.hbm, 126, rfl⟩
abbrev main_while0b_call4_v0 : Ref sig .tc := ⟨.hbm, 127, rfl⟩
abbrev main_while0b_call4_c : Ref sig .tc := ⟨.hbm, 128, rfl⟩
abbrev main_while0b_call4_c_0 : Ref sig .tc := ⟨.hbm, 129, rfl⟩
abbrev main_while0b_v178 : Ref sig .tc := ⟨.hbm, 130, rfl⟩
abbrev main_while0b_c_28 : Ref sig .tc := ⟨.hbm, 131, rfl⟩
abbrev main_while0b_v179 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_cst_8 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_cst_9 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_cst_10 : Ref sig .tc := ⟨.hbm, 145, rfl⟩
abbrev main_v87 : Ref sig .tc := ⟨.hbm, 146, rfl⟩
abbrev main_v88 : Ref sig .tc := ⟨.hbm, 147, rfl⟩
abbrev main_cst_11 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_call5_call0_cst : Ref sig .tc := ⟨.hbm, 155, rfl⟩
abbrev main_call5_call0_v0 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_c_12 : Ref sig .tc := ⟨.hbm, 161, rfl⟩
abbrev main_call6_v0 : Ref sig .tc := ⟨.hbm, 162, rfl⟩
abbrev main_v99 : Ref sig .tc := ⟨.hbm, 163, rfl⟩
abbrev main_v100 : Ref sig .tc := ⟨.hbm, 164, rfl⟩
abbrev main_c_13 : Ref sig .tc := ⟨.hbm, 165, rfl⟩
abbrev main_v101 : Ref sig .tc := ⟨.hbm, 166, rfl⟩
abbrev main_v102 : Ref sig .tc := ⟨.hbm, 167, rfl⟩
abbrev main_c_14 : Ref sig .tc := ⟨.hbm, 168, rfl⟩
abbrev main_v103 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_v113 : Ref sig .tc := ⟨.hbm, 179, rfl⟩
abbrev main_v114 : Ref sig .tc := ⟨.hbm, 180, rfl⟩
abbrev main_c_15 : Ref sig .tc := ⟨.hbm, 181, rfl⟩
abbrev main_call7_v0 : Ref sig .tc := ⟨.hbm, 182, rfl⟩
abbrev main_v115 : Ref sig .tc := ⟨.hbm, 183, rfl⟩
abbrev main_v116 : Ref sig .tc := ⟨.hbm, 184, rfl⟩
abbrev main_c_16 : Ref sig .tc := ⟨.hbm, 185, rfl⟩
abbrev main_v117 : Ref sig .tc := ⟨.hbm, 186, rfl⟩
abbrev main_v118 : Ref sig .tc := ⟨.hbm, 187, rfl⟩
abbrev main_c_17 : Ref sig .tc := ⟨.hbm, 188, rfl⟩
abbrev main_v119 : Ref sig .tc := ⟨.hbm, 189, rfl⟩
abbrev main_v120 : Ref sig .tc := ⟨.hbm, 190, rfl⟩
abbrev main_v121 : Ref sig .tc := ⟨.hbm, 191, rfl⟩
abbrev main_v122 : Ref sig .tc := ⟨.hbm, 192, rfl⟩
abbrev main_v123 : Ref sig .tc := ⟨.hbm, 193, rfl⟩
abbrev main_v124 : Ref sig .tc := ⟨.hbm, 194, rfl⟩
abbrev main_v125 : Ref sig .tc := ⟨.hbm, 195, rfl⟩
abbrev main_v126 : Ref sig .tc := ⟨.hbm, 196, rfl⟩
abbrev main_v127 : Ref sig .tc := ⟨.hbm, 197, rfl⟩
abbrev main_v128 : Ref sig .tc := ⟨.hbm, 198, rfl⟩
abbrev main_v129 : Ref sig .tc := ⟨.hbm, 199, rfl⟩
abbrev main_v130 : Ref sig .tc := ⟨.hbm, 200, rfl⟩
abbrev main_c_18 : Ref sig .tc := ⟨.hbm, 201, rfl⟩
abbrev main_call8_v0 : Ref sig .tc := ⟨.hbm, 202, rfl⟩
abbrev main_v131 : Ref sig .tc := ⟨.hbm, 203, rfl⟩
abbrev main_v132 : Ref sig .tc := ⟨.hbm, 204, rfl⟩
abbrev main_c_19 : Ref sig .tc := ⟨.hbm, 205, rfl⟩
abbrev main_v133 : Ref sig .tc := ⟨.hbm, 206, rfl⟩
abbrev main_v134 : Ref sig .tc := ⟨.hbm, 207, rfl⟩
abbrev main_c_20 : Ref sig .tc := ⟨.hbm, 208, rfl⟩
abbrev main_v135 : Ref sig .tc := ⟨.hbm, 209, rfl⟩
abbrev main_v136 : Ref sig .tc := ⟨.hbm, 210, rfl⟩
abbrev main_v137 : Ref sig .tc := ⟨.hbm, 211, rfl⟩
abbrev main_v138 : Ref sig .tc := ⟨.hbm, 212, rfl⟩
abbrev main_v139 : Ref sig .tc := ⟨.hbm, 213, rfl⟩
abbrev main_v140 : Ref sig .tc := ⟨.hbm, 214, rfl⟩
abbrev main_v141 : Ref sig .tc := ⟨.hbm, 215, rfl⟩
abbrev main_v142 : Ref sig .tc := ⟨.hbm, 216, rfl⟩
abbrev main_v143 : Ref sig .tc := ⟨.hbm, 217, rfl⟩
abbrev main_v144 : Ref sig .tc := ⟨.hbm, 218, rfl⟩
abbrev main_v145 : Ref sig .tc := ⟨.hbm, 219, rfl⟩
abbrev main_v146 : Ref sig .tc := ⟨.hbm, 220, rfl⟩
abbrev main_c_21 : Ref sig .tc := ⟨.hbm, 221, rfl⟩
abbrev main_call9_v0 : Ref sig .tc := ⟨.hbm, 222, rfl⟩
abbrev main_v147 : Ref sig .tc := ⟨.hbm, 223, rfl⟩
abbrev main_v148 : Ref sig .tc := ⟨.hbm, 224, rfl⟩
abbrev main_c_22 : Ref sig .tc := ⟨.hbm, 225, rfl⟩
abbrev main_v149 : Ref sig .tc := ⟨.hbm, 226, rfl⟩
abbrev main_v150 : Ref sig .tc := ⟨.hbm, 227, rfl⟩
abbrev main_c_23 : Ref sig .tc := ⟨.hbm, 228, rfl⟩
abbrev main_v151 : Ref sig .tc := ⟨.hbm, 229, rfl⟩
abbrev main_v152 : Ref sig .tc := ⟨.hbm, 230, rfl⟩
abbrev main_v153 : Ref sig .tc := ⟨.hbm, 231, rfl⟩
abbrev main_v154 : Ref sig .tc := ⟨.hbm, 232, rfl⟩
abbrev main_v155 : Ref sig .tc := ⟨.hbm, 233, rfl⟩
abbrev main_v156 : Ref sig .tc := ⟨.hbm, 234, rfl⟩
abbrev main_v157 : Ref sig .tc := ⟨.hbm, 235, rfl⟩
abbrev main_v158 : Ref sig .tc := ⟨.hbm, 236, rfl⟩
abbrev main_v159 : Ref sig .tc := ⟨.hbm, 237, rfl⟩
abbrev main_v160 : Ref sig .tc := ⟨.hbm, 238, rfl⟩
abbrev main_v161 : Ref sig .tc := ⟨.hbm, 239, rfl⟩
abbrev main_v162 : Ref sig .tc := ⟨.hbm, 240, rfl⟩
abbrev main_v163 : Ref sig .tc := ⟨.hbm, 241, rfl⟩
abbrev main_v164 : Ref sig .tc := ⟨.hbm, 242, rfl⟩
abbrev main_v165 : Ref sig .tc := ⟨.hbm, 243, rfl⟩
abbrev main_v166 : Ref sig .tc := ⟨.hbm, 244, rfl⟩
abbrev main_v167 : Ref sig .tc := ⟨.hbm, 245, rfl⟩
abbrev main_v168 : Ref sig .tc := ⟨.hbm, 246, rfl⟩
abbrev main_v169 : Ref sig .tc := ⟨.hbm, 247, rfl⟩
abbrev main_v170 : Ref sig .tc := ⟨.hbm, 248, rfl⟩
abbrev main_v171 : Ref sig .tc := ⟨.hbm, 249, rfl⟩
abbrev main_v172 : Ref sig .tc := ⟨.hbm, 250, rfl⟩
abbrev main_v173 : Ref sig .tc := ⟨.hbm, 251, rfl⟩

abbrev nD : Nat := 1
abbrev τ : Topo := Topo.v7x

variable {F : FTy → Type} [FloatOps F]

abbrev main_while0_count : Scf.Loop 32 := ⟨0#32, 4096#32, 1#32⟩
-- ==== Kernel2.lean ====
abbrev S16384x2048 : Shape := ⟨2, ![16384, 2048]⟩
abbrev S4x2048x8192 : Shape := ⟨3, ![4, 2048, 8192]⟩
abbrev S4x8192x2048 : Shape := ⟨3, ![4, 8192, 2048]⟩
abbrev S512x2048 : Shape := ⟨2, ![512, 2048]⟩
abbrev S1x2048x2048 : Shape := ⟨3, ![1, 2048, 2048]⟩
abbrev S1x2048x1024 : Shape := ⟨3, ![1, 2048, 1024]⟩
abbrev S2048x1024 : Shape := ⟨2, ![2048, 1024]⟩
abbrev S512x1024 : Shape := ⟨2, ![512, 1024]⟩
abbrev S1x1024x2048 : Shape := ⟨3, ![1, 1024, 2048]⟩
abbrev S1024x2048 : Shape := ⟨2, ![1024, 2048]⟩

abbrev nBuf : Space → Nat
  | .hbm => 7
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S16384x2048, .bf16⟩
  | .hbm, ⟨2, _⟩ => ⟨S4x2048x8192, .f32⟩
  | .hbm, ⟨3, _⟩ => ⟨S4x8192x2048, .f32⟩
  | .hbm, ⟨4, _⟩ => ⟨S4x2048x8192, .bf16⟩
  | .hbm, ⟨5, _⟩ => ⟨S4x8192x2048, .bf16⟩
  | .hbm, ⟨6, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S1x2048x2048, .bf16⟩
  | .local _ .vmem, ⟨5, _⟩ => ⟨S1x2048x2048, .bf16⟩
  | .local _ .vmem, ⟨6, _⟩ => ⟨S1x2048x2048, .bf16⟩
  | .local _ .vmem, ⟨7, _⟩ => ⟨S1x2048x2048, .bf16⟩
  | .local _ .vmem, ⟨8, _⟩ => ⟨S512x2048, .f32⟩
  | .local _ .vmem, ⟨9, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S16384x2048 : Shape := ⟨2, ![16384, 2048]⟩
abbrev S4x2048x8192 : Shape := ⟨3, ![4, 2048, 8192]⟩
abbrev S4x8192x2048 : Shape := ⟨3, ![4, 8192, 2048]⟩
abbrev S1x2048x8192 : Shape := ⟨3, ![1, 2048, 8192]⟩
abbrev S2048x8192 : Shape := ⟨2, ![2048, 8192]⟩
abbrev S16384x8192 : Shape := ⟨2, ![16384, 8192]⟩
abbrev S_ : Shape := ⟨0, ![]⟩
abbrev S1x8192x2048 : Shape := ⟨3, ![1, 8192, 2048]⟩
abbrev S8192x2048 : Shape := ⟨2, ![8192, 2048]⟩

abbrev nBuf : Space → Nat
  | .hbm => 16
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .bf16⟩
  | .hbm, ⟨2, _⟩ => ⟨S4x2048x8192, .f32⟩
  | .hbm, ⟨3, _⟩ => ⟨S4x8192x2048, .f32⟩
  | .hbm, ⟨4, _⟩ => ⟨S16384x2048, .f32⟩
  | .hbm, ⟨5, _⟩ => ⟨S1x2048x8192, .f32⟩
  | .hbm, ⟨6, _⟩ => ⟨S2048x8192, .f32⟩
  | .hbm, ⟨7, _⟩ => ⟨S16384x8192, .f32⟩
  | .hbm, ⟨8, _⟩ => ⟨S_, .f32⟩
  | .hbm, ⟨9, _⟩ => ⟨S16384x8192, .f32⟩
  | .hbm, ⟨10, _⟩ => ⟨S16384x8192, .f32⟩
  | .hbm, ⟨11, _⟩ => ⟨S16384x8192, .f32⟩
  | .hbm, ⟨12, _⟩ => ⟨S1x8192x2048, .f32⟩
  | .hbm, ⟨13, _⟩ => ⟨S8192x2048, .f32⟩
  | .hbm, ⟨14, _⟩ => ⟨S16384x2048, .f32⟩
  | .hbm, ⟨15, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Kernel3.lean ====
abbrev S16384x2048 : Shape := ⟨2, ![16384, 2048]⟩
abbrev S2048 : Shape := ⟨1, ![2048]⟩
abbrev S4x2048x2048 : Shape := ⟨3, ![4, 2048, 2048]⟩
abbrev S4x4x4096x256 : Shape := ⟨4, ![4, 4, 4096, 256]⟩
abbrev S4x256x2048 : Shape := ⟨3, ![4, 256, 2048]⟩
abbrev S4x16384x256 : Shape := ⟨3, ![4, 16384, 256]⟩
abbrev S1x2048 : Shape := ⟨2, ![1, 2048]⟩
abbrev S512x2048 : Shape := ⟨2, ![512, 2048]⟩
abbrev S1x2048x2048 : Shape := ⟨3, ![1, 2048, 2048]⟩
abbrev S1x512x256 : Shape := ⟨3, ![1, 512, 256]⟩
abbrev S1x256x2048 : Shape := ⟨3, ![1, 256, 2048]⟩
abbrev S512 : Shape := ⟨1, ![512]⟩
abbrev S512x1 : Shape := ⟨2, ![512, 1]⟩
abbrev S2048x2048 : Shape := ⟨2, ![2048, 2048]⟩
abbrev S512x256 : Shape := ⟨2, ![512, 256]⟩
abbrev S256x2048 : Shape := ⟨2, ![256, 2048]⟩

abbrev nBuf : Space → Nat
  | .hbm => 12
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S4x2048x2048, .f32⟩
  | .hbm, ⟨3, _⟩ => ⟨S4x4x4096x256, .f32⟩
  | .hbm, ⟨4, _⟩ => ⟨S4x256x2048, .f32⟩
  | .hbm, ⟨5, _⟩ => ⟨S2048, .f32⟩
  | .hbm, ⟨6, _⟩ => ⟨S4x16384x256, .f32⟩
  | .hbm, ⟨7, _⟩ => ⟨S4x2048x2048, .bf16⟩
  | .hbm, ⟨8, _⟩ => ⟨S4x256x2048, .bf16⟩
  | .hbm, ⟨9, _⟩ => ⟨S1x2048, .f32⟩
  | .hbm, ⟨10, _⟩ => ⟨S1x2048, .f32⟩
  | .hbm, ⟨11, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x2048, .bf16⟩
  | .local _ .vmem, ⟨4, _⟩ => ⟨S1x512x256, .f32⟩
  | .local _ .vmem, ⟨5, _⟩ => ⟨S1x512x256, .f32⟩
  | .local _ .vmem, ⟨6, _⟩ => ⟨S1x256x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S16384x2048 : Shape := ⟨2, ![16384, 2048]⟩
abbrev S2048 : Shape := ⟨1, ![2048]⟩
abbrev S4x2048x2048 : Shape := ⟨3, ![4, 2048, 2048]⟩
abbrev S4x4x4096x256 : Shape := ⟨4, ![4, 4, 4096, 256]⟩
abbrev S4x256x2048 : Shape := ⟨3, ![4, 256, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S1x2048x2048 : Shape := ⟨3, ![1, 2048, 2048]⟩
abbrev S2048x2048 : Shape := ⟨2, ![2048, 2048]⟩
abbrev S1x4x4096x256 : Shape := ⟨4, ![1, 4, 4096, 256]⟩
abbrev S4x4096x256 : Shape := ⟨3, ![4, 4096, 256]⟩
abbrev S16384x256 : Shape := ⟨2, ![16384, 256]⟩
abbrev S1x256x2048 : Shape := ⟨3, ![1, 256, 2048]⟩
abbrev S256x2048 : Shape := ⟨2, ![256, 2048]⟩

abbrev nBuf : Space → Nat
  | .hbm => 57
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S4x2048x2048, .f32⟩
  | .hbm, ⟨3, _⟩ => ⟨S4x4x4096x256, .f32⟩
  | .hbm, ⟨4, _⟩ => ⟨S4x256x2048, .f32⟩
  | .hbm, ⟨5, _⟩ => ⟨S2048, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S1x2048x2048, .f32⟩
  | .hbm, ⟨23, _⟩ => ⟨S2048x2048, .f32⟩
  | .hbm, ⟨24, _⟩ => ⟨S16384x2048, .f32⟩
  | .hbm, ⟨25, _⟩ => ⟨S16384x2048, .f32⟩
  | .hbm, ⟨26, _⟩ => ⟨S16384x2048, .f32⟩
  | .hbm, ⟨27, _⟩ => ⟨S_, .f32⟩
  | .hbm, ⟨28, _⟩ => ⟨S16384x2048, .f32⟩
  | .hbm, ⟨29, _⟩ => ⟨S16384x2048, .f32⟩
  | .hbm, ⟨30, _⟩ => ⟨S_, .f32⟩
  | .hbm, ⟨31, _⟩ => ⟨S16384x2048, .f32⟩
  | .hbm, ⟨32, _⟩ => ⟨S16384x2048, .f32⟩
  | .hbm, ⟨33, _⟩ => ⟨S1x4x4096x256, .f32⟩
  | .hbm, ⟨34, _⟩ => ⟨S4x4096x256, .f32⟩
  | .hbm, ⟨35, _⟩ => ⟨S16384x256, .f32⟩
  | .hbm, ⟨36, _⟩ => ⟨S1x256x2048, .f32⟩
  | .hbm, ⟨37, _⟩ => ⟨S256x2048, .f32⟩
  | .hbm, ⟨38, _⟩ => ⟨S16384x2048, .f32⟩
  | .hbm, ⟨39, _⟩ => ⟨S16384x2048, .f32⟩
  | .hbm, ⟨40, _⟩ => ⟨S16384x2048, .f32⟩
  | .hbm, ⟨41, _⟩ => ⟨S16384x2048, .f32⟩
  | .hbm, ⟨42, _⟩ => ⟨S_, .f32⟩
  | .hbm, ⟨43, _⟩ => ⟨S16384, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S16384x1, .f32⟩
  | .hbm, ⟨52, _⟩ => ⟨S16384x2048, .f32⟩
  | .hbm, ⟨53, _⟩ => ⟨S16384x2048, .f32⟩
  | .hbm, ⟨54, _⟩ => ⟨S1x2048, .f32⟩
  | .hbm, ⟨55, _⟩ => ⟨S16384x2048, .f32⟩
  | .hbm, ⟨56, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Kernel4.lean ====
abbrev S16384x2048 : Shape := ⟨2, ![16384, 2048]⟩
abbrev S2x2048x2048 : Shape := ⟨3, ![2, 2048, 2048]⟩
abbrev S2048 : Shape := ⟨1, ![2048]⟩
abbrev S1x2048 : Shape := ⟨2, ![1, 2048]⟩
abbrev S512x2048 : Shape := ⟨2, ![512, 2048]⟩
abbrev S1x2048x2048 : Shape := ⟨3, ![1, 2048, 2048]⟩
abbrev S2048x2048 : Shape := ⟨2, ![2048, 2048]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S16384x2048, .bf16⟩
  | .hbm, ⟨1, _⟩ => ⟨S2x2048x2048, .f32⟩
  | .hbm, ⟨2, _⟩ => ⟨S16384x2048, .f32⟩
  | .hbm, ⟨3, _⟩ => ⟨S2048, .f32⟩
  | .hbm, ⟨4, _⟩ => ⟨S2x2048x2048, .bf16⟩
  | .hbm, ⟨5, _⟩ => ⟨S1x2048, .f32⟩
  | .hbm, ⟨6, _⟩ => ⟨S16384x2048, .f32⟩
  | .hbm, ⟨7, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S16384x2048 : Shape := ⟨2, ![16384, 2048]⟩
abbrev S2x2048x2048 : Shape := ⟨3, ![2, 2048, 2048]⟩
abbrev S2048 : Shape := ⟨1, ![2048]⟩
abbrev S1x2048x2048 : Shape := ⟨3, ![1, 2048, 2048]⟩
abbrev S2048x2048 : Shape := ⟨2, ![2048, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 26
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x2048x2048, .f32⟩
  | .hbm, ⟨2, _⟩ => ⟨S16384x2048, .f32⟩
  | .hbm, ⟨3, _⟩ => ⟨S2048, .f32⟩
  | .hbm, ⟨4, _⟩ => ⟨S16384x2048, .f32⟩
  | .hbm, ⟨5, _⟩ => ⟨S1x2048x2048, .f32⟩
  | .hbm, ⟨6, _⟩ => ⟨S2048x2048, .f32⟩
  | .hbm, ⟨7, _⟩ => ⟨S16384x2048, .f32⟩
  | .hbm, ⟨8, _⟩ => ⟨S16384x2048, .f32⟩
  | .hbm, ⟨9, _⟩ => ⟨S16384x2048, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x2048, .f32⟩
  | .hbm, ⟨21, _⟩ => ⟨S16384x2048, .f32⟩
  | .hbm, ⟨22, _⟩ => ⟨S1x2048, .f32⟩
  | .hbm, ⟨23, _⟩ => ⟨S16384x2048, .f32⟩
  | .hbm, ⟨24, _⟩ => ⟨S16384x2048, .f32⟩
  | .hbm, ⟨25, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel5.lean ====
abbrev S16384x2048 : Shape := ⟨2, ![16384, 2048]⟩
abbrev S2048 : Shape := ⟨1, ![2048]⟩
abbrev S2x2048x3072 : Shape := ⟨3, ![2, 2048, 3072]⟩
abbrev S1x2048 : Shape := ⟨2, ![1, 2048]⟩
abbrev S16384x3072 : Shape := ⟨2, ![16384, 3072]⟩
abbrev S512x2048 : Shape := ⟨2, ![512, 2048]⟩
abbrev S1x2048x3072 : Shape := ⟨3, ![1, 2048, 3072]⟩
abbrev S512x3072 : Shape := ⟨2, ![512, 3072]⟩
abbrev S512 : Shape := ⟨1, ![512]⟩
abbrev S512x1 : Shape := ⟨2, ![512, 1]⟩
abbrev S2048x3072 : Shape := ⟨2, ![2048, 3072]⟩

abbrev nBuf : Space → Nat
  | .hbm => 6
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2x2048x3072, .f32⟩
  | .hbm, ⟨3, _⟩ => ⟨S2x2048x3072, .bf16⟩
  | .hbm, ⟨4, _⟩ => ⟨S1x2048, .f32⟩
  | .hbm, ⟨5, _⟩ => ⟨S16384x3072, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x3072, .bf16⟩
  | .local _ .vmem, ⟨4, _⟩ => ⟨S512x3072, .f32⟩
  | .local _ .vmem, ⟨5, _⟩ => ⟨S512x3072, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S16384x2048 : Shape := ⟨2, ![16384, 2048]⟩
abbrev S2048 : Shape := ⟨1, ![2048]⟩
abbrev S2x2048x3072 : Shape := ⟨3, ![2, 2048, 3072]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S1x2048x3072 : Shape := ⟨3, ![1, 2048, 3072]⟩
abbrev S2048x3072 : Shape := ⟨2, ![2048, 3072]⟩
abbrev S16384x3072 : Shape := ⟨2, ![16384, 3072]⟩

abbrev nBuf : Space → Nat
  | .hbm => 22
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2x2048x3072, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S1x2048x3072, .f32⟩
  | .hbm, ⟨20, _⟩ => ⟨S2048x3072, .f32⟩
  | .hbm, ⟨21, _⟩ => ⟨S16384x3072, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel6.lean ====
abbrev S4x4096x4x128 : Shape := ⟨4, ![4, 4096, 4, 128]⟩
abbrev S32x128 : Shape := ⟨2, ![32, 128]⟩
abbrev S32x128x512 : Shape := ⟨3, ![32, 128, 512]⟩
abbrev S512x128 : Shape := ⟨2, ![512, 128]⟩
abbrev S4x4096x8x128 : Shape := ⟨4, ![4, 4096, 8, 128]⟩
abbrev S4x8x4096x128 : Shape := ⟨4, ![4, 8, 4096, 128]⟩
abbrev S4x8x256x2048 : Shape := ⟨4, ![4, 8, 256, 2048]⟩
abbrev S1x32x128 : Shape := ⟨3, ![1, 32, 128]⟩
abbrev S2x32x128 : Shape := ⟨3, ![2, 32, 128]⟩
abbrev S2x2x1x2048 : Shape := ⟨4, ![2, 2, 1, 2048]⟩
abbrev S1x32x128x512 : Shape := ⟨4, ![1, 32, 128, 512]⟩
abbrev S2x32x128x512 : Shape := ⟨4, ![2, 32, 128, 512]⟩
abbrev S2x2x2048x512 : Shape := ⟨4, ![2, 2, 2048, 512]⟩
abbrev S1x512x128 : Shape := ⟨3, ![1, 512, 128]⟩
abbrev S2x512x128 : Shape := ⟨3, ![2, 512, 128]⟩
abbrev S2x4x4x256x128 : Shape := ⟨5, ![2, 4, 4, 256, 128]⟩
abbrev S1x1x256x2048 : Shape := ⟨4, ![1, 1, 256, 2048]⟩
abbrev S1x2x1x2048 : Shape := ⟨4, ![1, 2, 1, 2048]⟩
abbrev S1x2x2048x512 : Shape := ⟨4, ![1, 2, 2048, 512]⟩
abbrev S1x1x1x256x128 : Shape := ⟨5, ![1, 1, 1, 256, 128]⟩
abbrev S256x2048 : Shape := ⟨2, ![256, 2048]⟩
abbrev S1x1x1x2048 : Shape := ⟨4, ![1, 1, 1, 2048]⟩
abbrev S1x2048 : Shape := ⟨2, ![1, 2048]⟩
abbrev S1x1x2048x512 : Shape := ⟨4, ![1, 1, 2048, 512]⟩
abbrev S2048x512 : Shape := ⟨2, ![2048, 512]⟩
abbrev S256x512 : Shape := ⟨2, ![256, 512]⟩
abbrev S256x128 : Shape := ⟨2, ![256, 128]⟩
abbrev S2x4x4x255x128 : Shape := ⟨5, ![2, 4, 4, 255, 128]⟩

abbrev nBuf : Space → Nat
  | .hbm => 27
  | .vmem => 10
  | .smem => 0
  | _ => 0

abbrev bufTy : (tb : Table) → Fin (tcTables nBuf tb) → BufTy
  | .hbm, ⟨0, _⟩ => ⟨S4x4096x4x128, .f32⟩
  | .hbm, ⟨1, _⟩ => ⟨S4x4096x4x128, .f32⟩
  | .hbm, ⟨2, _⟩ => ⟨S32x128, .f32⟩
  | .hbm, ⟨3, _⟩ => ⟨S32x128x512, .f32⟩
  | .hbm, ⟨4, _⟩ => ⟨S512x128, .f32⟩
  | .hbm, ⟨5, _⟩ => ⟨S32x128, .f32⟩
  | .hbm, ⟨6, _⟩ => ⟨S32x128x512, .f32⟩
  | .hbm, ⟨7, _⟩ => ⟨S512x128, .f32⟩
  | .hbm, ⟨8, _⟩ => ⟨S4x4096x8x128, .f32⟩
  | .hbm, ⟨9, _⟩ => ⟨S4x8x4096x128, .f32⟩
  | .hbm, ⟨10, _⟩ => ⟨S4x8x256x2048, .f32⟩
  | .hbm, ⟨11, _⟩ => ⟨S4x8x256x2048, .bf16⟩
  | .hbm, ⟨12, _⟩ => ⟨S1x32x128, .f32⟩
  | .hbm, ⟨13, _⟩ => ⟨S1x32x128, .f32⟩
  | .hbm, ⟨14, _⟩ => ⟨S2x32x128, .f32⟩
  | .hbm, ⟨15, _⟩ => ⟨S2x2x1x2048, .f32⟩
  | .hbm, ⟨16, _⟩ => ⟨S1x32x128x512, .f32⟩
  | .hbm, ⟨17, _⟩ => ⟨S1x32x128x512, .f32⟩
  | .hbm, ⟨18, _⟩ => ⟨S2x32x128x512, .f32⟩
  | .hbm, ⟨19, _⟩ => ⟨S2x2x2048x512, .f32⟩
  | .hbm, ⟨20, _⟩ => ⟨S2x2x2048x512, .bf16⟩
  | .hbm, ⟨21, _⟩ => ⟨S1x512x128, .f32⟩
  | .hbm, ⟨22, _⟩ => ⟨S1x512x128, .f32⟩
  | .hbm, ⟨23, _⟩ => ⟨S2x512x128, .f32⟩
  | .hbm, ⟨24, _⟩ => ⟨S2x512x128, .bf16⟩
  | .hbm, ⟨25, _⟩ => ⟨S2x4x4x256x128, .bf16⟩
  | .hbm, ⟨26, _⟩ => ⟨S2x4x4x255x128, .bf16⟩
  | .local _ .vmem, ⟨0, _⟩ => ⟨S1x1x256x2048, .bf16⟩
  | .local _ .vmem, ⟨1, _⟩ => ⟨S1x1x256x2048, .bf16⟩
  | .local _ .vmem, ⟨2, _⟩ => ⟨S1x2x1x2048, .f32⟩
  | .local _ .vmem, ⟨3, _⟩ => ⟨S1x2x1x2048, .f32⟩
  | .local _ .vmem, ⟨4, _⟩ => ⟨S1x2x2048x512, .bf16⟩
  | .local _ .vmem, ⟨5, _⟩ => ⟨S1x2x2048x512, .bf16⟩
  | .local _ .vmem, ⟨6, _⟩ => ⟨S1x512x128, .bf16⟩
  | .local _ .vmem, ⟨7, _⟩ => ⟨S1x512x128, .bf16⟩
  | .local _ .vmem, ⟨8, _⟩ => ⟨S1x1x1x256x128, .bf16⟩
  | .local _ .vmem, ⟨9, _⟩ => ⟨S1x1x1x256x128, .bf16⟩
  | _, _ => ⟨S4x4096x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 4, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let c0_i32_0 : BitVec 32 := 0#32
  let c0_i32_1 : BitVec 32 := 0#32
  ![arg1.toNat, v1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

abbrev stage0_0 : Fin 2 → Memref sig .tc .vmem S1x1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x2x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1x1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Reference6Ideal.lean ====
abbrev S4x4096x4x128 : Shape := ⟨4, ![4, 4096, 4, 128]⟩
abbrev S32x128 : Shape := ⟨2, ![32, 128]⟩
abbrev S32x128x512 : Shape := ⟨3, ![32, 128, 512]⟩
abbrev S512x128 : Shape := ⟨2, ![512, 128]⟩
abbrev S255 : Shape := ⟨1, ![255]⟩
abbrev S255x1 : Shape := ⟨2, ![255, 1]⟩
abbrev S_ : Shape := ⟨0, ![]⟩
abbrev S32 : Shape := ⟨1, ![32]⟩
abbrev S1x32 : Shape := ⟨2, ![1, 32]⟩
abbrev S255x32 : Shape := ⟨2, ![255, 32]⟩
abbrev S255x32x1 : Shape := ⟨3, ![255, 32, 1]⟩
abbrev S4x255x32x4x128 : Shape := ⟨5, ![4, 255, 32, 4, 128]⟩
abbrev S1x1x32x1x128 : Shape := ⟨5, ![1, 1, 32, 1, 128]⟩
abbrev S4x255x4x512 : Shape := ⟨4, ![4, 255, 4, 512]⟩
abbrev S4x255x4x128 : Shape := ⟨4, ![4, 255, 4, 128]⟩
abbrev S1x4x255x4x128 : Shape := ⟨5, ![1, 4, 255, 4, 128]⟩
abbrev S2x4x255x4x128 : Shape := ⟨5, ![2, 4, 255, 4, 128]⟩
abbrev S2x4x4x255x128 : Shape := ⟨5, ![2, 4, 4, 255, 128]⟩

abbrev nBuf : Space → Nat
  | .hbm => 95
  | .vmem => 0
  | .smem => 0
  | _ => 0

abbrev bufTy : (tb : Table) → Fin (tcTables nBuf tb) → BufTy
  | .hbm, ⟨0, _⟩ => ⟨S4x4096x4x128, .f32⟩
  | .hbm, ⟨1, _⟩ => ⟨S4x4096x4x128, .f32⟩
  | .hbm, ⟨2, _⟩ => ⟨S32x128, .f32⟩
  | .hbm, ⟨3, _⟩ => ⟨S32x128x512, .f32⟩
  | .hbm, ⟨4, _⟩ => ⟨S512x128, .f32⟩
  | .hbm, ⟨5, _⟩ => ⟨S32x128, .f32⟩
  | .hbm, ⟨6, _⟩ => ⟨S32x128x512, .f32⟩
  | .hbm, ⟨7, _⟩ => ⟨S512x128, .f32⟩
  | .hbm, ⟨8, _⟩ => ⟨S255, .i32⟩
  | .hbm, ⟨9, _⟩ => ⟨S255x1, .i32⟩
  | .hbm, ⟨10, _⟩ => ⟨S_, .i32⟩
  | .hbm, ⟨11, _⟩ => ⟨S255x1, .i32⟩
  | .hbm, ⟨12, _⟩ => ⟨S255x1, .i32⟩
  | .hbm, ⟨13, _⟩ => ⟨S32, .i32⟩
  | .hbm, ⟨14, _⟩ => ⟨S1x32, .i32⟩
  | .hbm, ⟨15, _⟩ => ⟨S255x32, .i32⟩
  | .hbm, ⟨16, _⟩ => ⟨S255x32, .i32⟩
  | .hbm, ⟨17, _⟩ => ⟨S255x32, .i32⟩
  | .hbm, ⟨18, _⟩ => ⟨S_, .i32⟩
  | .hbm, ⟨19, _⟩ => ⟨S255x32, .i32⟩
  | .hbm, ⟨20, _⟩ => ⟨S255x32, .i1⟩
  | .hbm, ⟨21, _⟩ => ⟨S_, .i32⟩
  | .hbm, ⟨22, _⟩ => ⟨S255x32, .i32⟩
  | .hbm, ⟨23, _⟩ => ⟨S255x32, .i32⟩
  | .hbm, ⟨24, _⟩ => ⟨S255x32, .i32⟩
  | .hbm, ⟨25, _⟩ => ⟨S255x32x1, .i32⟩
  | .hbm, ⟨26, _⟩ => ⟨S4x255x32x4x128, .f32⟩
  | .hbm, ⟨27, _⟩ => ⟨S1x1x32x1x128, .f32⟩
  | .hbm, ⟨28, _⟩ => ⟨S4x255x32x4x128, .f32⟩
  | .hbm, ⟨29, _⟩ => ⟨S4x255x32x4x128, .f32⟩
  | .hbm, ⟨30, _⟩ => ⟨S4x255x4x512, .f32⟩
  | .hbm, ⟨31, _⟩ => ⟨S4x255x4x512, .f32⟩
  | .hbm, ⟨32, _⟩ => ⟨S4x255x4x512, .f32⟩
  | .hbm, ⟨33, _⟩ => ⟨S_, .f32⟩
  | .hbm, ⟨34, _⟩ => ⟨S4x255x4x512, .f32⟩
  | .hbm, ⟨35, _⟩ => ⟨S4x255x4x512, .f32⟩
  | .hbm, ⟨36, _⟩ => ⟨S4x255x4x512, .f32⟩
  | .hbm, ⟨37, _⟩ => ⟨S_, .f32⟩
  | .hbm, ⟨38, _⟩ => ⟨S4x255x4x512, .f32⟩
  | .hbm, ⟨39, _⟩ => ⟨S4x255x4x512, .f32⟩
  | .hbm, ⟨40, _⟩ => ⟨S4x255x4x512, .f32⟩
  | .hbm, ⟨41, _⟩ => ⟨S_, .f32⟩
  | .hbm, ⟨42, _⟩ => ⟨S4x255x4x512, .f32⟩
  | .hbm, ⟨43, _⟩ => ⟨S4x255x4x512, .f32⟩
  | .hbm, ⟨44, _⟩ => ⟨S_, .f32⟩
  | .hbm, ⟨45, _⟩ => ⟨S4x255x4x512, .f32⟩
  | .hbm, ⟨46, _⟩ => ⟨S4x255x4x512, .f32⟩
  | .hbm, ⟨47, _⟩ => ⟨S4x255x4x512, .f32⟩
  | .hbm, ⟨48, _⟩ => ⟨S4x255x4x128, .f32⟩
  | .hbm, ⟨49, _⟩ => ⟨S255, .i32⟩
  | .hbm, ⟨50, _⟩ => ⟨S255x1, .i32⟩
  | .hbm, ⟨51, _⟩ => ⟨S_, .i32⟩
  | .hbm, ⟨52, _⟩ => ⟨S255x1, .i32⟩
  | .hbm, ⟨53, _⟩ => ⟨S255x1, .i32⟩
  | .hbm, ⟨54, _⟩ => ⟨S32, .i32⟩
  | .hbm, ⟨55, _⟩ => ⟨S1x32, .i32⟩
  | .hbm, ⟨56, _⟩ => ⟨S255x32, .i32⟩
  | .hbm, ⟨57, _⟩ => ⟨S255x32, .i32⟩
  | .hbm, ⟨58, _⟩ => ⟨S255x32, .i32⟩
  | .hbm, ⟨59, _⟩ => ⟨S_, .i32⟩
  | .hbm, ⟨60, _⟩ => ⟨S255x32, .i32⟩
  | .hbm, ⟨61, _⟩ => ⟨S255x32, .i1⟩
  | .hbm, ⟨62, _⟩ => ⟨S_, .i32⟩
  | .hbm, ⟨63, _⟩ => ⟨S255x32, .i32⟩
  | .hbm, ⟨64, _⟩ => ⟨S255x32, .i32⟩
  | .hbm, ⟨65, _⟩ => ⟨S255x32, .i32⟩
  | .hbm, ⟨66, _⟩ => ⟨S255x32x1, .i32⟩
  | .hbm, ⟨67, _⟩ => ⟨S4x255x32x4x128, .f32⟩
  | .hbm, ⟨68, _⟩ => ⟨S1x1x32x1x128, .f32⟩
  | .hbm, ⟨69, _⟩ => ⟨S4x255x32x4x128, .f32⟩
  | .hbm, ⟨70, _⟩ => ⟨S4x255x32x4x128, .f32⟩
  | .hbm, ⟨71, _⟩ => ⟨S4x255x4x512, .f32⟩
  | .hbm, ⟨72, _⟩ => ⟨S4x255x4x512, .f32⟩
  | .hbm, ⟨73, _⟩ => ⟨S4x255x4x512, .f32⟩
  | .hbm, ⟨74, _⟩ => ⟨S_, .f32⟩
  | .hbm, ⟨75, _⟩ => ⟨S4x255x4x512, .f32⟩
  | .hbm, ⟨76, _⟩ => ⟨S4x255x4x512, .f32⟩
  | .hbm, ⟨77, _⟩ => ⟨S4x255x4x512, .f32⟩
  | .hbm, ⟨78, _⟩ => ⟨S_, .f32⟩
  | .hbm, ⟨79, _⟩ => ⟨S4x255x4x512, .f32⟩
  | .hbm, ⟨80, _⟩ => ⟨S4x255x4x512, .f32⟩
  | .hbm, ⟨81, _⟩ => ⟨S4x255x4x512, .f32⟩
  | .hbm, ⟨82, _⟩ => ⟨S_, .f32⟩
  | .hbm, ⟨83, _⟩ => ⟨S4x255x4x512, .f32⟩
  | .hbm, ⟨84, _⟩ => ⟨S4x255x4x512, .f32⟩
  | .hbm, ⟨85, _⟩ => ⟨S_, .f32⟩
  | .hbm, ⟨86, _⟩ => ⟨S4x255x4x512, .f32⟩
  | .hbm, ⟨87, _⟩ => ⟨S4x255x4x512, .f32⟩
  | .hbm, ⟨88, _⟩ => ⟨S4x255x4x512, .f32⟩
  | .hbm, ⟨89, _⟩ => ⟨S4x255x4x128, .f32⟩
  | .hbm, ⟨90, _⟩ => ⟨S1x4x255x4x128, .f32⟩
  | .hbm, ⟨91, _⟩ => ⟨S1x4x255x4x128, .f32⟩
  | .hbm, ⟨92, _⟩ => ⟨S2x4x255x4x128, .f32⟩
  | .hbm, ⟨93, _⟩ => ⟨S2x4x4x255x128, .f32⟩
  | .hbm, ⟨94, _⟩ => ⟨S2x4x4x255x128, .bf16⟩
  | _, _ => ⟨S4x4096x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c_5 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_c_6 : Ref sig .tc := ⟨.hbm, 59, rfl⟩
abbrev main_v43 : Ref sig .tc := ⟨.hbm, 60, rfl⟩
abbrev main_v44 : Ref sig .tc := ⟨.hbm, 61, rfl⟩
abbrev main_c_7 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_8 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_9 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_10 : Ref sig .tc := ⟨.hbm, 82, rfl⟩
abbrev main_v62 : Ref sig .tc := ⟨.hbm, 83, rfl⟩
abbrev main_v63 : Ref sig .tc := ⟨.hbm, 84, rfl⟩
abbrev main_cst_11 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩

abbrev nD : Nat := 1
abbrev τ : Topo := Topo.v7x

variable {F : FTy → Type} [FloatOps F]
-- ==== Kernel7.lean ====
abbrev S16384x2048 : Shape := ⟨2, ![16384, 2048]⟩
abbrev S2x2048x5168 : Shape := ⟨3, ![2, 2048, 5168]⟩
abbrev S2x2048x5120 : Shape := ⟨3, ![2, 2048, 5120]⟩
abbrev S1x2048x48 : Shape := ⟨3, ![1, 2048, 48]⟩
abbrev S2048x48 : Shape := ⟨2, ![2048, 48]⟩
abbrev S_ : Shape := ⟨0, ![]⟩
abbrev S2048x128 : Shape := ⟨2, ![2048, 128]⟩
abbrev S4x40x4096x128 : Shape := ⟨4, ![4, 40, 4096, 128]⟩
abbrev S16384x128 : Shape := ⟨2, ![16384, 128]⟩
abbrev S4x8x256x2048 : Shape := ⟨4, ![4, 8, 256, 2048]⟩
abbrev S1024x2048 : Shape := ⟨2, ![1024, 2048]⟩
abbrev S1x2048x1024 : Shape := ⟨3, ![1, 2048, 1024]⟩
abbrev S1x8x1024x128 : Shape := ⟨4, ![1, 8, 1024, 128]⟩
abbrev S1024x128 : Shape := ⟨2, ![1024, 128]⟩
abbrev S1x8x64x2048 : Shape := ⟨4, ![1, 8, 64, 2048]⟩
abbrev S2048x1024 : Shape := ⟨2, ![2048, 1024]⟩
abbrev S1024x1024 : Shape := ⟨2, ![1024, 1024]⟩
abbrev S1x1x1024x128 : Shape := ⟨4, ![1, 1, 1024, 128]⟩
abbrev S64x128 : Shape := ⟨2, ![64, 128]⟩
abbrev S1x1x64x128 : Shape := ⟨4, ![1, 1, 64, 128]⟩

abbrev nBuf : Space → Nat
  | .hbm => 13
  | .vmem => 12
  | .smem => 0
  | _ => 0

abbrev bufTy : (tb : Table) → Fin (tcTables nBuf tb) → BufTy
  | .hbm, ⟨0, _⟩ => ⟨S16384x2048, .bf16⟩
  | .hbm, ⟨1, _⟩ => ⟨S2x2048x5168, .f32⟩
  | .hbm, ⟨2, _⟩ => ⟨S2x2048x5120, .f32⟩
  | .hbm, ⟨3, _⟩ => ⟨S2x2048x5120, .bf16⟩
  | .hbm, ⟨4, _⟩ => ⟨S1x2048x48, .f32⟩
  | .hbm, ⟨5, _⟩ => ⟨S2048x48, .f32⟩
  | .hbm, ⟨6, _⟩ => ⟨S_, .i32⟩
  | .hbm, ⟨7, _⟩ => ⟨S_, .f32⟩
  | .hbm, ⟨8, _⟩ => ⟨S2048x128, .f32⟩
  | .hbm, ⟨9, _⟩ => ⟨S2048x128, .bf16⟩
  | .hbm, ⟨10, _⟩ => ⟨S4x40x4096x128, .bf16⟩
  | .hbm, ⟨11, _⟩ => ⟨S16384x128, .f32⟩
  | .hbm, ⟨12, _⟩ => ⟨S4x8x256x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S2048x128, .bf16⟩
  | .local _ .vmem, ⟨5, _⟩ => ⟨S1x8x1024x128, .bf16⟩
  | .local _ .vmem, ⟨6, _⟩ => ⟨S1x8x1024x128, .bf16⟩
  | .local _ .vmem, ⟨7, _⟩ => ⟨S1024x128, .f32⟩
  | .local _ .vmem, ⟨8, _⟩ => ⟨S1024x128, .f32⟩
  | .local _ .vmem, ⟨9, _⟩ => ⟨S1x8x64x2048, .bf16⟩
  | .local _ .vmem, ⟨10, _⟩ => ⟨S1x8x64x2048, .bf16⟩
  | .local _ .vmem, ⟨11, _⟩ => ⟨S1024x128, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 5], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c2_i32 : BitVec 32 := 2#32
  let v40 : BitVec 1 := Scalar.cmpi .eq arg1 c2_i32
  let v41 : BitVec 32 := Scalar.extui v40
  let c0_i32_30 : BitVec 32 := 0#32
  let v42 : BitVec 1 := Scalar.cmpi .ne v41 c0_i32_30
  v42

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, arg1.toNat, v26.toNat, c0_i32_10.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x8x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x64x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference7Ideal.lean ====
abbrev S16384x2048 : Shape := ⟨2, ![16384, 2048]⟩
abbrev S2x2048x5168 : Shape := ⟨3, ![2, 2048, 5168]⟩
abbrev S1x2048x5168 : Shape := ⟨3, ![1, 2048, 5168]⟩
abbrev S2048x5168 : Shape := ⟨2, ![2048, 5168]⟩
abbrev S16384x5168 : Shape := ⟨2, ![16384, 5168]⟩
abbrev S16384x5120 : Shape := ⟨2, ![16384, 5120]⟩
abbrev S4x4096x40x128 : Shape := ⟨4, ![4, 4096, 40, 128]⟩
abbrev S4x40x4096x128 : Shape := ⟨4, ![4, 40, 4096, 128]⟩
abbrev S16384x48 : Shape := ⟨2, ![16384, 48]⟩
abbrev S_ : Shape := ⟨0, ![]⟩
abbrev S16384x128 : Shape := ⟨2, ![16384, 128]⟩
abbrev S4x8x4096x128 : Shape := ⟨4, ![4, 8, 4096, 128]⟩
abbrev S4x8x256x2048 : Shape := ⟨4, ![4, 8, 256, 2048]⟩

abbrev nBuf : Space → Nat
  | .hbm => 17
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x2048x5168, .f32⟩
  | .hbm, ⟨2, _⟩ => ⟨S16384x2048, .f32⟩
  | .hbm, ⟨3, _⟩ => ⟨S1x2048x5168, .f32⟩
  | .hbm, ⟨4, _⟩ => ⟨S2048x5168, .f32⟩
  | .hbm, ⟨5, _⟩ => ⟨S16384x5168, .f32⟩
  | .hbm, ⟨6, _⟩ => ⟨S16384x5120, .f32⟩
  | .hbm, ⟨7, _⟩ => ⟨S4x4096x40x128, .f32⟩
  | .hbm, ⟨8, _⟩ => ⟨S4x40x4096x128, .f32⟩
  | .hbm, ⟨9, _⟩ => ⟨S16384x48, .f32⟩
  | .hbm, ⟨10, _⟩ => ⟨S_, .i32⟩
  | .hbm, ⟨11, _⟩ => ⟨S_, .f32⟩
  | .hbm, ⟨12, _⟩ => ⟨S16384x128, .f32⟩
  | .hbm, ⟨13, _⟩ => ⟨S4x40x4096x128, .bf16⟩
  | .hbm, ⟨14, _⟩ => ⟨S4x8x4096x128, .f32⟩
  | .hbm, ⟨15, _⟩ => ⟨S4x8x256x2048, .f32⟩
  | .hbm, ⟨16, _⟩ => ⟨S4x8x256x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_call0_v0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Kernel8.lean ====
abbrev S16384x2048 : Shape := ⟨2, ![16384, 2048]⟩
abbrev S2048 : Shape := ⟨1, ![2048]⟩
abbrev S4x2048x2048 : Shape := ⟨3, ![4, 2048, 2048]⟩
abbrev S4x4x4096x256 : Shape := ⟨4, ![4, 4, 4096, 256]⟩
abbrev S4x256x2048 : Shape := ⟨3, ![4, 256, 2048]⟩
abbrev S4x16384x256 : Shape := ⟨3, ![4, 16384, 256]⟩
abbrev S1x2048 : Shape := ⟨2, ![1, 2048]⟩
abbrev S512x2048 : Shape := ⟨2, ![512, 2048]⟩
abbrev S1x2048x2048 : Shape := ⟨3, ![1, 2048, 2048]⟩
abbrev S1x512x256 : Shape := ⟨3, ![1, 512, 256]⟩
abbrev S1x256x2048 : Shape := ⟨3, ![1, 256, 2048]⟩
abbrev S512 : Shape := ⟨1, ![512]⟩
abbrev S512x1 : Shape := ⟨2, ![512, 1]⟩
abbrev S2048x2048 : Shape := ⟨2, ![2048, 2048]⟩
abbrev S512x256 : Shape := ⟨2, ![512, 256]⟩
abbrev S256x2048 : Shape := ⟨2, ![256, 2048]⟩

abbrev nBuf : Space → Nat
  | .hbm => 13
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S4x2048x2048, .f32⟩
  | .hbm, ⟨3, _⟩ => ⟨S4x4x4096x256, .f32⟩
  | .hbm, ⟨4, _⟩ => ⟨S4x256x2048, .f32⟩
  | .hbm, ⟨5, _⟩ => ⟨S2048, .f32⟩
  | .hbm, ⟨6, _⟩ => ⟨S4x16384x256, .f32⟩
  | .hbm, ⟨7, _⟩ => ⟨S4x2048x2048, .bf16⟩
  | .hbm, ⟨8, _⟩ => ⟨S4x256x2048, .bf16⟩
  | .hbm, ⟨9, _⟩ => ⟨S1x2048, .f32⟩
  | .hbm, ⟨10, _⟩ => ⟨S1x2048, .f32⟩
  | .hbm, ⟨11, _⟩ => ⟨S16384x2048, .f32⟩
  | .hbm, ⟨12, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x2048, .bf16⟩
  | .local _ .vmem, ⟨4, _⟩ => ⟨S1x512x256, .f32⟩
  | .local _ .vmem, ⟨5, _⟩ => ⟨S1x512x256, .f32⟩
  | .local _ .vmem, ⟨6, _⟩ => ⟨S1x256x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference8Ideal.lean ====
abbrev S16384x2048 : Shape := ⟨2, ![16384, 2048]⟩
abbrev S2048 : Shape := ⟨1, ![2048]⟩
abbrev S4x2048x2048 : Shape := ⟨3, ![4, 2048, 2048]⟩
abbrev S4x4x4096x256 : Shape := ⟨4, ![4, 4, 4096, 256]⟩
abbrev S4x256x2048 : Shape := ⟨3, ![4, 256, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S1x2048x2048 : Shape := ⟨3, ![1, 2048, 2048]⟩
abbrev S2048x2048 : Shape := ⟨2, ![2048, 2048]⟩
abbrev S1x4x4096x256 : Shape := ⟨4, ![1, 4, 4096, 256]⟩
abbrev S4x4096x256 : Shape := ⟨3, ![4, 4096, 256]⟩
abbrev S16384x256 : Shape := ⟨2, ![16384, 256]⟩
abbrev S1x256x2048 : Shape := ⟨3, ![1, 256, 2048]⟩
abbrev S256x2048 : Shape := ⟨2, ![256, 2048]⟩

abbrev nBuf : Space → Nat
  | .hbm => 58
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S4x2048x2048, .f32⟩
  | .hbm, ⟨3, _⟩ => ⟨S4x4x4096x256, .f32⟩
  | .hbm, ⟨4, _⟩ => ⟨S4x256x2048, .f32⟩
  | .hbm, ⟨5, _⟩ => ⟨S2048, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S1x2048x2048, .f32⟩
  | .hbm, ⟨23, _⟩ => ⟨S2048x2048, .f32⟩
  | .hbm, ⟨24, _⟩ => ⟨S16384x2048, .f32⟩
  | .hbm, ⟨25, _⟩ => ⟨S16384x2048, .f32⟩
  | .hbm, ⟨26, _⟩ => ⟨S16384x2048, .f32⟩
  | .hbm, ⟨27, _⟩ => ⟨S_, .f32⟩
  | .hbm, ⟨28, _⟩ => ⟨S16384x2048, .f32⟩
  | .hbm, ⟨29, _⟩ => ⟨S16384x2048, .f32⟩
  | .hbm, ⟨30, _⟩ => ⟨S_, .f32⟩
  | .hbm, ⟨31, _⟩ => ⟨S16384x2048, .f32⟩
  | .hbm, ⟨32, _⟩ => ⟨S16384x2048, .f32⟩
  | .hbm, ⟨33, _⟩ => ⟨S1x4x4096x256, .f32⟩
  | .hbm, ⟨34, _⟩ => ⟨S4x4096x256, .f32⟩
  | .hbm, ⟨35, _⟩ => ⟨S16384x256, .f32⟩
  | .hbm, ⟨36, _⟩ => ⟨S1x256x2048, .f32⟩
  | .hbm, ⟨37, _⟩ => ⟨S256x2048, .f32⟩
  | .hbm, ⟨38, _⟩ => ⟨S16384x2048, .f32⟩
  | .hbm, ⟨39, _⟩ => ⟨S16384x2048, .f32⟩
  | .hbm, ⟨40, _⟩ => ⟨S16384x2048, .f32⟩
  | .hbm, ⟨41, _⟩ => ⟨S16384x2048, .f32⟩
  | .hbm, ⟨42, _⟩ => ⟨S_, .f32⟩
  | .hbm, ⟨43, _⟩ => ⟨S16384, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S16384x1, .f32⟩
  | .hbm, ⟨52, _⟩ => ⟨S16384x2048, .f32⟩
  | .hbm, ⟨53, _⟩ => ⟨S16384x2048, .f32⟩
  | .hbm, ⟨54, _⟩ => ⟨S1x2048, .f32⟩
  | .hbm, ⟨55, _⟩ => ⟨S16384x2048, .f32⟩
  | .hbm, ⟨56, _⟩ => ⟨S16384x2048, .f32⟩
  | .hbm, ⟨57, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Kernel9.lean ====
abbrev S16384x2048 : Shape := ⟨2, ![16384, 2048]⟩
abbrev S2048 : Shape := ⟨1, ![2048]⟩
abbrev S4x2048x2048 : Shape := ⟨3, ![4, 2048, 2048]⟩
abbrev S4x4x4096x256 : Shape := ⟨4, ![4, 4, 4096, 256]⟩
abbrev S4x256x2048 : Shape := ⟨3, ![4, 256, 2048]⟩
abbrev S4x16384x256 : Shape := ⟨3, ![4, 16384, 256]⟩
abbrev S1x2048 : Shape := ⟨2, ![1, 2048]⟩
abbrev S512x2048 : Shape := ⟨2, ![512, 2048]⟩
abbrev S1x2048x2048 : Shape := ⟨3, ![1, 2048, 2048]⟩
abbrev S1x512x256 : Shape := ⟨3, ![1, 512, 256]⟩
abbrev S1x256x2048 : Shape := ⟨3, ![1, 256, 2048]⟩
abbrev S512 : Shape := ⟨1, ![512]⟩
abbrev S512x1 : Shape := ⟨2, ![512, 1]⟩
abbrev S2048x2048 : Shape := ⟨2, ![2048, 2048]⟩
abbrev S512x256 : Shape := ⟨2, ![512, 256]⟩
abbrev S256x2048 : Shape := ⟨2, ![256, 2048]⟩

abbrev nBuf : Space → Nat
  | .hbm => 12
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S4x2048x2048, .f32⟩
  | .hbm, ⟨3, _⟩ => ⟨S4x4x4096x256, .f32⟩
  | .hbm, ⟨4, _⟩ => ⟨S4x256x2048, .f32⟩
  | .hbm, ⟨5, _⟩ => ⟨S2048, .f32⟩
  | .hbm, ⟨6, _⟩ => ⟨S4x16384x256, .f32⟩
  | .hbm, ⟨7, _⟩ => ⟨S4x2048x2048, .bf16⟩
  | .hbm, ⟨8, _⟩ => ⟨S4x256x2048, .bf16⟩
  | .hbm, ⟨9, _⟩ => ⟨S1x2048, .f32⟩
  | .hbm, ⟨10, _⟩ => ⟨S1x2048, .f32⟩
  | .hbm, ⟨11, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x2048, .bf16⟩
  | .local _ .vmem, ⟨4, _⟩ => ⟨S1x512x256, .f32⟩
  | .local _ .vmem, ⟨5, _⟩ => ⟨S1x512x256, .f32⟩
  | .local _ .vmem, ⟨6, _⟩ => ⟨S1x256x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference9Ideal.lean ====
abbrev S16384x2048 : Shape := ⟨2, ![16384, 2048]⟩
abbrev S2048 : Shape := ⟨1, ![2048]⟩
abbrev S4x2048x2048 : Shape := ⟨3, ![4, 2048, 2048]⟩
abbrev S4x4x4096x256 : Shape := ⟨4, ![4, 4, 4096, 256]⟩
abbrev S4x256x2048 : Shape := ⟨3, ![4, 256, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S1x2048x2048 : Shape := ⟨3, ![1, 2048, 2048]⟩
abbrev S2048x2048 : Shape := ⟨2, ![2048, 2048]⟩
abbrev S1x4x4096x256 : Shape := ⟨4, ![1, 4, 4096, 256]⟩
abbrev S4x4096x256 : Shape := ⟨3, ![4, 4096, 256]⟩
abbrev S16384x256 : Shape := ⟨2, ![16384, 256]⟩
abbrev S1x256x2048 : Shape := ⟨3, ![1, 256, 2048]⟩
abbrev S256x2048 : Shape := ⟨2, ![256, 2048]⟩

abbrev nBuf : Space → Nat
  | .hbm => 41
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S4x2048x2048, .f32⟩
  | .hbm, ⟨3, _⟩ => ⟨S4x4x4096x256, .f32⟩
  | .hbm, ⟨4, _⟩ => ⟨S4x256x2048, .f32⟩
  | .hbm, ⟨5, _⟩ => ⟨S2048, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S1x2048x2048, .f32⟩
  | .hbm, ⟨23, _⟩ => ⟨S2048x2048, .f32⟩
  | .hbm, ⟨24, _⟩ => ⟨S16384x2048, .f32⟩
  | .hbm, ⟨25, _⟩ => ⟨S16384x2048, .f32⟩
  | .hbm, ⟨26, _⟩ => ⟨S16384x2048, .f32⟩
  | .hbm, ⟨27, _⟩ => ⟨S_, .f32⟩
  | .hbm, ⟨28, _⟩ => ⟨S16384x2048, .f32⟩
  | .hbm, ⟨29, _⟩ => ⟨S16384x2048, .f32⟩
  | .hbm, ⟨30, _⟩ => ⟨S_, .f32⟩
  | .hbm, ⟨31, _⟩ => ⟨S16384x2048, .f32⟩
  | .hbm, ⟨32, _⟩ => ⟨S16384x2048, .f32⟩
  | .hbm, ⟨33, _⟩ => ⟨S1x4x4096x256, .f32⟩
  | .hbm, ⟨34, _⟩ => ⟨S4x4096x256, .f32⟩
  | .hbm, ⟨35, _⟩ => ⟨S16384x256, .f32⟩
  | .hbm, ⟨36, _⟩ => ⟨S1x256x2048, .f32⟩
  | .hbm, ⟨37, _⟩ => ⟨S256x2048, .f32⟩
  | .hbm, ⟨38, _⟩ => ⟨S16384x2048, .f32⟩
  | .hbm, ⟨39, _⟩ => ⟨S16384x2048, .f32⟩
  | .hbm, ⟨40, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Proof.Mixer.Scan.lean ====
/-
  The scan of the mixer, as the kernel's body writes it: a block of 256 rows is cut into 32 groups of 8, each group is
  scanned by three doubling steps, and the last row of a group is the state the next one starts from.
-/
module

public import proofs.«01_k».proof.Proof.Gen.KernelIdeal.Value
public import Idealize.ShloMosaic.Lib.Pipeline.ValueKit

@[expose] public section

set_option maxRecDepth 16384
noncomputable section
open Idealize.ShloMosaic Idealize.ShloMosaic.TcCoe Idealize.SL.Sem

namespace Cert.Mixer
open Cert.KernelIdeal Cert.KernelIdeal.Gen
variable {F : FTy → Type} [FloatOps F]

/-- The rows of a group that are at least `d`. -/
def keep (d : BitVec 32) : IVec S8x1024 1 :=
  broadcastTo S8x1024 (shapeCast S8x1 (cmpi .sge (iota .tc S8x1 32 [0] iota_S8x1_d0_w32) (broadcast S8x1 d)) shapeCasts_S8x1_S8x1)
    broadcasts_S8x1_S8x1024

/-- One doubling step of the decay. -/
def stepA (d : BitVec 32) (a : FVec F S8x1024 .f32) : FVec F S8x1024 .f32 :=
  mulf a (select (keep d) (dynamicRotate 0 d none a rotates_S8x1024_d0) (broadcast S8x1024 (Scalar.ofBits .f32 0x3F800000#32)))

/-- One doubling step of the input. -/
def stepB (d : BitVec 32) (a b : FVec F S8x1024 .f32) : FVec F S8x1024 .f32 :=
  addf (mulf a (select (keep d) (dynamicRotate 0 d none b rotates_S8x1024_d0) (broadcast S8x1024 (Scalar.ofBits .f32 0x00000000#32)))) b

/-- The states of one group, from the state `c` before it. -/
def hgrp (a b : FVec F S8x1024 .f32) (c : FVec F S1x1024 .f32) : FVec F S8x1024 .f32 :=
  addf (mulf (stepA 4#32 (stepA 2#32 (stepA 1#32 a))) (broadcastTo S8x1024 c broadcasts_S1x1024_S8x1024))
    (stepB 4#32 (stepA 2#32 (stepA 1#32 a)) (stepB 2#32 (stepA 1#32 a) (stepB 1#32 a b)))

theorem slices (k : Fin 32) : S256x1024.Slices ![8 * k.val, 0] S8x1024 := by
  revert k; decide +kernel

/-- Group `k` of a block. -/
def grp (k : Fin 32) (a : FVec F S256x1024 .f32) : FVec F S8x1024 .f32 :=
  extractStridedSlice S8x1024 ![8 * k.val, 0] a (slices k)

/-- The last row of a group. -/
def lastRow (h : FVec F S8x1024 .f32) : FVec F S1x1024 .f32 :=
  extractStridedSlice S1x1024 ![7, 0] h slices_S8x1024_o7_0_S1x1024

/-- The state before group `k` of a block. -/
def cr (a b : FVec F S256x1024 .f32) (c : FVec F S1x1024 .f32) : ℕ → FVec F S1x1024 .f32
  | 0 => c
  | k + 1 => lastRow (hgrp (grp (Fin.ofNat 32 k) a) (grp (Fin.ofNat 32 k) b) (cr a b c k))

/-- The states of group `k`. -/
def hAt (a b : FVec F S256x1024 .f32) (c : FVec F S1x1024 .f32) (k : ℕ) : FVec F S8x1024 .f32 :=
  hgrp (grp (Fin.ofNat 32 k) a) (grp (Fin.ofNat 32 k) b) (cr a b c k)

/-- The states of `n` groups from group `k` on, as a list of pieces. -/
def pieces (a b : FVec F S256x1024 .f32) (c : FVec F S1x1024 .f32) : ℕ → ℕ → List ((s : Shape) × (s.Idx → F .f32))
  | 0, _ => []
  | n + 1, k => ⟨S8x1024, hAt a b c k⟩ :: pieces a b c n (k + 1)

/-- The states of a block. -/
def H (a b : FVec F S256x1024 .f32) (c : FVec F S1x1024 .f32) : FVec F S256x1024 .f32 :=
  concatenate S256x1024 0 (List.ofFn fun k : Fin 32 => (⟨S8x1024, hAt a b c k.val⟩ : (s : Shape) × (s.Idx → F .f32)))
    concatenates_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S256x1024_d0

/-- The states of a block are read off any list equal to the pieces. -/
theorem H_of_pieces (a b : FVec F S256x1024 .f32) (c : FVec F S1x1024 .f32) (xs : List ((s : Shape) × (s.Idx → F .f32)))
    (h : Shape.Concatenates (xs.map (·.1)) S256x1024 0) (e : xs = pieces a b c 32 0) : concatenate S256x1024 0 xs h = H a b c := by
  subst e; rfl

theorem pieces_of (a b : FVec F S256x1024 .f32) (c : FVec F S1x1024 .f32) (n k : ℕ) (x : FVec F S8x1024 .f32)
    (xs : List ((s : Shape) × (s.Idx → F .f32))) (h : x = hAt a b c k) (t : xs = pieces a b c n (k + 1)) :
    (⟨S8x1024, x⟩ : (s : Shape) × (s.Idx → F .f32)) :: xs = pieces a b c (n + 1) k := by
  subst h t; rfl

/-- A group's states are the next state's row, whatever words the doubling steps are written in. -/
theorem hAt_of (a b : FVec F S256x1024 .f32) (c : FVec F S1x1024 .f32) (k : ℕ) (A B : FVec F S8x1024 .f32) (v : FVec F S1x1024 .f32)
    (h : v = cr a b c k) (hA : A = stepA 4#32 (stepA 2#32 (stepA 1#32 (grp (Fin.ofNat 32 k) a))))
    (hB : B = stepB 4#32 (stepA 2#32 (stepA 1#32 (grp (Fin.ofNat 32 k) a)))
      (stepB 2#32 (stepA 1#32 (grp (Fin.ofNat 32 k) a)) (stepB 1#32 (grp (Fin.ofNat 32 k) a) (grp (Fin.ofNat 32 k) b)))) :
    addf (mulf A (broadcastTo S8x1024 v broadcasts_S1x1024_S8x1024)) B = hAt a b c k := by
  subst h hA hB; rfl

theorem cr_of (a b : FVec F S256x1024 .f32) (c : FVec F S1x1024 .f32) (k : ℕ) (A B : FVec F S8x1024 .f32) (v : FVec F S1x1024 .f32)
    (h : v = cr a b c k) (hA : A = stepA 4#32 (stepA 2#32 (stepA 1#32 (grp (Fin.ofNat 32 k) a))))
    (hB : B = stepB 4#32 (stepA 2#32 (stepA 1#32 (grp (Fin.ofNat 32 k) a)))
      (stepB 2#32 (stepA 1#32 (grp (Fin.ofNat 32 k) a)) (stepB 1#32 (grp (Fin.ofNat 32 k) a) (grp (Fin.ofNat 32 k) b)))) :
    lastRow (addf (mulf A (broadcastTo S8x1024 v broadcasts_S1x1024_S8x1024)) B) = cr a b c (k + 1) := by
  subst h hA hB; rfl

/-- The state after a block. -/
def carry (a b : FVec F S256x1024 .f32) (c : FVec F S1x1024 .f32) : FVec F S1x1024 .f32 :=
  shapeCast S1x1024 (cr a b c 32) shapeCasts_S1x1024_S1x1024

end Cert.Mixer
end
-- ==== Proof.Mixer.Body.lean ====
/-
  What one grid point of the mixer computes, from the blocks it reads and the two history buffers.
-/
module

public import proofs.«01_k».proof.Proof.Mixer.Scan

@[expose] public section

set_option maxRecDepth 16384
noncomputable section
open Idealize.ShloMosaic Idealize.ShloMosaic.TcCoe Idealize.SL.Sem

namespace Cert.Mixer
open Cert.KernelIdeal Cert.KernelIdeal.Gen
variable {F : FTy → Type} [FloatOps F]
variable (x0 : Vec F S1x256x3072 .f32) (x1 : Vec F S4x1024 .f32) (x2 : Vec F S1x1024 .f32) (x3 : Vec F S4x256x256 .bf16)
  (x4 : Vec F S1x1024 .f32) (x5 : Vec F S4x256x256 .bf16) (x6 : Vec F S1x1024 .f32) (x7 : Vec F S1x1024 .f32)
  (x8 : Vec F S4x256x256 .bf16) (x9 : Vec F S1x1024 .f32) (XE : Vec F S264x1024 .f32) (UE : Vec F S272x1024 .f32)
  (c : Vec F S1x1024 .f32) (s : BitVec 32)

/-- The recurrence's part of the block. -/
def xIn : Vec F S1x256x1024 .f32 := View.ld x0 (Rect.unit ![0, 0, 0] ![1, 256, 1024] inb_S1x256x3072_S1x256x1024_0_0_0)
/-- The gate's part of the block. -/
def gIn : Vec F S1x256x1024 .f32 := View.ld x0 (Rect.unit ![0, 0, 1024] ![1, 256, 1024] inb_S1x256x3072_S1x256x1024_0_0_1024)
/-- The pool's part of the block. -/
def uIn : Vec F S1x256x1024 .f32 := View.ld x0 (Rect.unit ![0, 0, 2048] ![1, 256, 1024] inb_S1x256x3072_S1x256x1024_0_0_2048)

/-- The causal convolution without its last summand. -/
def conv3 : FVec F S256x1024 .f32 :=
  k0_pay10 (xIn x0) x2 (View.ld x1 (Rect.unit ![3, 0] ![1, 1024] inb_S4x1024_S1x1024_3_0)) (View.ld x1 (Rect.unit ![0, 0] ![1, 1024] inb_S4x1024_S1x1024_0_0)) (View.ld XE (Rect.unit ![5, 0] ![256, 1024] inb_S264x1024_S256x1024_5_0)) (View.ld x1 (Rect.unit ![1, 0] ![1, 1024] inb_S4x1024_S1x1024_1_0)) (View.ld XE (Rect.unit ![6, 0] ![256, 1024] inb_S264x1024_S256x1024_6_0))
/-- The causal convolution. -/
def conv : FVec F S256x1024 .f32 := k0_pay11 (conv3 x0 x1 x2 XE) (View.ld x1 (Rect.unit ![2, 0] ![1, 1024] inb_S4x1024_S1x1024_2_0)) (View.ld XE (Rect.unit ![7, 0] ![256, 1024] inb_S264x1024_S256x1024_7_0))
/-- The recurrence gate. -/
def rGate : FVec F S256x1024 .f32 :=
  k0_pay24 (k0_pay13 (conv3 x0 x1 x2 XE) (View.ld x1 (Rect.unit ![2, 0] ![1, 1024] inb_S4x1024_S1x1024_2_0)) (View.ld XE (Rect.unit ![7, 0] ![256, 1024] inb_S264x1024_S256x1024_7_0)))
    (k0_pay15 (conv3 x0 x1 x2 XE) (View.ld x1 (Rect.unit ![2, 0] ![1, 1024] inb_S4x1024_S1x1024_2_0)) (View.ld XE (Rect.unit ![7, 0] ![256, 1024] inb_S264x1024_S256x1024_7_0)) (View.ld x3 (Rect.unit ![0, 0, 0] ![1, 256, 256] inb_S4x256x256_S1x256x256_0_0_0)))
    (k0_pay18 (conv3 x0 x1 x2 XE) (View.ld x1 (Rect.unit ![2, 0] ![1, 1024] inb_S4x1024_S1x1024_2_0)) (View.ld XE (Rect.unit ![7, 0] ![256, 1024] inb_S264x1024_S256x1024_7_0)) (View.ld x3 (Rect.unit ![1, 0, 0] ![1, 256, 256] inb_S4x256x256_S1x256x256_1_0_0)))
    (k0_pay21 (conv3 x0 x1 x2 XE) (View.ld x1 (Rect.unit ![2, 0] ![1, 1024] inb_S4x1024_S1x1024_2_0)) (View.ld XE (Rect.unit ![7, 0] ![256, 1024] inb_S264x1024_S256x1024_7_0)) (View.ld x3 (Rect.unit ![2, 0, 0] ![1, 256, 256] inb_S4x256x256_S1x256x256_2_0_0))) (View.ld x3 (Rect.unit ![3, 0, 0] ![1, 256, 256] inb_S4x256x256_S1x256x256_3_0_0)) x4
/-- The input gate. -/
def iGate : FVec F S256x1024 .f32 :=
  k0_pay25 (k0_pay13 (conv3 x0 x1 x2 XE) (View.ld x1 (Rect.unit ![2, 0] ![1, 1024] inb_S4x1024_S1x1024_2_0)) (View.ld XE (Rect.unit ![7, 0] ![256, 1024] inb_S264x1024_S256x1024_7_0)))
    (k0_pay16 (conv3 x0 x1 x2 XE) (View.ld x1 (Rect.unit ![2, 0] ![1, 1024] inb_S4x1024_S1x1024_2_0)) (View.ld XE (Rect.unit ![7, 0] ![256, 1024] inb_S264x1024_S256x1024_7_0)) (View.ld x5 (Rect.unit ![0, 0, 0] ![1, 256, 256] inb_S4x256x256_S1x256x256_0_0_0)))
    (k0_pay19 (conv3 x0 x1 x2 XE) (View.ld x1 (Rect.unit ![2, 0] ![1, 1024] inb_S4x1024_S1x1024_2_0)) (View.ld XE (Rect.unit ![7, 0] ![256, 1024] inb_S264x1024_S256x1024_7_0)) (View.ld x5 (Rect.unit ![1, 0, 0] ![1, 256, 256] inb_S4x256x256_S1x256x256_1_0_0)))
    (k0_pay22 (conv3 x0 x1 x2 XE) (View.ld x1 (Rect.unit ![2, 0] ![1, 1024] inb_S4x1024_S1x1024_2_0)) (View.ld XE (Rect.unit ![7, 0] ![256, 1024] inb_S264x1024_S256x1024_7_0)) (View.ld x5 (Rect.unit ![2, 0, 0] ![1, 256, 256] inb_S4x256x256_S1x256x256_2_0_0))) (View.ld x5 (Rect.unit ![3, 0, 0] ![1, 256, 256] inb_S4x256x256_S1x256x256_3_0_0)) x6
/-- The decay. -/
def decay : FVec F S256x1024 .f32 := k0_pay29 (rGate x0 x1 x2 x3 x4 XE) (k0_pay27 x7) (k0_pay28 x7)
/-- The input of the recurrence. -/
def inp : FVec F S256x1024 .f32 :=
  k0_pay30 (conv x0 x1 x2 XE) (rGate x0 x1 x2 x3 x4 XE) (iGate x0 x1 x2 x5 x6 XE) (k0_pay27 x7) (k0_pay28 x7)
/-- The states of the recurrence over the block. -/
def states : FVec F S256x1024 .f32 :=
  H (decay x0 x1 x2 x3 x4 x7 XE) (inp x0 x1 x2 x3 x4 x5 x6 x7 XE) c
/-- The state after the block. -/
def after : FVec F S1x1024 .f32 :=
  carry (decay x0 x1 x2 x3 x4 x7 XE) (inp x0 x1 x2 x3 x4 x5 x6 x7 XE) c
/-- The recurrence's half of the output. -/
def yLru : FVec F S1x256x1024 .bf16 :=
  k0_pay324 (k0_pay7 (gIn x0)) (states x0 x1 x2 x3 x4 x5 x6 x7 XE c) (k0_pay322 (k0_pay7 (gIn x0))) k0_pay323
/-- The pool of 2, 4, 8 and 16 rows: the four column groups of the other half. -/
def yPool0 : FVec F S1x256x256 .bf16 :=
  k0_pay327 s (k0_pay8 (uIn x0)) (View.ld UE (Rect.unit ![15, 0] ![256, 256] inb_S272x1024_S256x256_15_0)) (View.ld x8 (Rect.unit ![0, 0, 0] ![1, 256, 256] inb_S4x256x256_S1x256x256_0_0_0)) (View.ld x9 (Rect.unit ![0, 0] ![1, 256] inb_S1x1024_S1x256_0_0))
@[inherit_doc yPool0] def yPool1 : FVec F S1x256x256 .bf16 :=
  k0_pay328 (k0_pay8 (uIn x0)) (k0_pay326 s) (View.ld UE (Rect.unit ![15, 256] ![256, 256] inb_S272x1024_S256x256_15_256)) (View.ld UE (Rect.unit ![14, 256] ![256, 256] inb_S272x1024_S256x256_14_256)) (View.ld UE (Rect.unit ![13, 256] ![256, 256] inb_S272x1024_S256x256_13_256)) (View.ld x8 (Rect.unit ![1, 0, 0] ![1, 256, 256] inb_S4x256x256_S1x256x256_1_0_0)) (View.ld x9 (Rect.unit ![0, 256] ![1, 256] inb_S1x1024_S1x256_0_256))
@[inherit_doc yPool0] def yPool2 : FVec F S1x256x256 .bf16 :=
  k0_pay330 (k0_pay8 (uIn x0)) (k0_pay326 s) (k0_pay329 (k0_pay8 (uIn x0)) (View.ld UE (Rect.unit ![15, 512] ![256, 256] inb_S272x1024_S256x256_15_512)) (View.ld UE (Rect.unit ![14, 512] ![256, 256] inb_S272x1024_S256x256_14_512)) (View.ld UE (Rect.unit ![13, 512] ![256, 256] inb_S272x1024_S256x256_13_512)))
    (View.ld UE (Rect.unit ![12, 512] ![256, 256] inb_S272x1024_S256x256_12_512)) (View.ld UE (Rect.unit ![11, 512] ![256, 256] inb_S272x1024_S256x256_11_512)) (View.ld UE (Rect.unit ![10, 512] ![256, 256] inb_S272x1024_S256x256_10_512)) (View.ld UE (Rect.unit ![9, 512] ![256, 256] inb_S272x1024_S256x256_9_512)) (View.ld x8 (Rect.unit ![2, 0, 0] ![1, 256, 256] inb_S4x256x256_S1x256x256_2_0_0)) (View.ld x9 (Rect.unit ![0, 512] ![1, 256] inb_S1x1024_S1x256_0_512))
@[inherit_doc yPool0] def yPool3 : FVec F S1x256x256 .bf16 :=
  k0_pay1 (k0_pay333 (k0_pay332 (k0_pay8 (uIn x0)) (k0_pay326 s) (k0_pay331 (k0_pay8 (uIn x0)) (View.ld UE (Rect.unit ![15, 768] ![256, 256] inb_S272x1024_S256x256_15_768)) (View.ld UE (Rect.unit ![14, 768] ![256, 256] inb_S272x1024_S256x256_14_768)))
    (View.ld UE (Rect.unit ![13, 768] ![256, 256] inb_S272x1024_S256x256_13_768))
    (View.ld UE (Rect.unit ![12, 768] ![256, 256] inb_S272x1024_S256x256_12_768))
    (View.ld UE (Rect.unit ![11, 768] ![256, 256] inb_S272x1024_S256x256_11_768))
    (View.ld UE (Rect.unit ![10, 768] ![256, 256] inb_S272x1024_S256x256_10_768))
    (View.ld UE (Rect.unit ![9, 768] ![256, 256] inb_S272x1024_S256x256_9_768))
    (View.ld UE (Rect.unit ![8, 768] ![256, 256] inb_S272x1024_S256x256_8_768))
    (View.ld UE (Rect.unit ![7, 768] ![256, 256] inb_S272x1024_S256x256_7_768))
    (View.ld UE (Rect.unit ![6, 768] ![256, 256] inb_S272x1024_S256x256_6_768))
    (View.ld UE (Rect.unit ![5, 768] ![256, 256] inb_S272x1024_S256x256_5_768))
    (View.ld UE (Rect.unit ![4, 768] ![256, 256] inb_S272x1024_S256x256_4_768))
    (View.ld UE (Rect.unit ![3, 768] ![256, 256] inb_S272x1024_S256x256_3_768))
    (View.ld UE (Rect.unit ![2, 768] ![256, 256] inb_S272x1024_S256x256_2_768))
    (View.ld UE (Rect.unit ![1, 768] ![256, 256] inb_S272x1024_S256x256_1_768))) (View.ld x8 (Rect.unit ![3, 0, 0] ![1, 256, 256] inb_S4x256x256_S1x256x256_3_0_0)) (View.ld x9 (Rect.unit ![0, 768] ![1, 256] inb_S1x1024_S1x256_0_768)))

/-- The output block. -/
def yOut : Vec F S1x256x2048 .bf16 :=
  View.canon [
    ⟨Rect.unit ![0, 0, 1792] ![1, 256, 256] inb_S1x256x2048_S1x256x256_0_0_1792, yPool3 x0 x8 x9 UE s⟩,
    ⟨Rect.unit ![0, 0, 1536] ![1, 256, 256] inb_S1x256x2048_S1x256x256_0_0_1536, yPool2 x0 x8 x9 UE s⟩,
    ⟨Rect.unit ![0, 0, 1280] ![1, 256, 256] inb_S1x256x2048_S1x256x256_0_0_1280, yPool1 x0 x8 x9 UE s⟩,
    ⟨Rect.unit ![0, 0, 1024] ![1, 256, 256] inb_S1x256x2048_S1x256x256_0_0_1024, yPool0 x0 x8 x9 UE s⟩,
    ⟨Rect.unit ![0, 0, 0] ![1, 256, 1024] inb_S1x256x2048_S1x256x1024_0_0_0, yLru x0 x1 x2 x3 x4 x5 x6 x7 XE c⟩]

/-- The buffer's contents that read as `S`. -/
abbrev bufX (S : Vec F S264x1024 .f32) := (Memref.isWhole_whole cc0_scratch0).unread S
@[inherit_doc bufX] abbrev bufU (S : Vec F S272x1024 .f32) := (Memref.isWhole_whole cc0_scratch1).unread S

/-- What the history of the convolution reads, after the block is stored over the buffer. -/
def xeAt (f : (View.whole cc0_scratch0 : View sig .tc _ _ _).ty.Contents (Elt F)) (L : List (View.Piece (Elt F) S264x1024 .f32)) : Vec F S264x1024 .f32 :=
  View.read (Elt F) (View.whole cc0_scratch0) ((View.whole cc0_scratch0).writes (Elt F) f
    (⟨Rect.unit ![8, 0] ![256, 1024] inb_S264x1024_S256x1024_8_0, k0_pay9 (xIn x0)⟩ :: L))
/-- What the history of the pool reads, after the block is stored over the buffer. -/
def ueAt (f : (View.whole cc0_scratch1 : View sig .tc _ _ _).ty.Contents (Elt F)) (L : List (View.Piece (Elt F) S272x1024 .f32)) : Vec F S272x1024 .f32 :=
  View.read (Elt F) (View.whole cc0_scratch1) ((View.whole cc0_scratch1).writes (Elt F) f
    (⟨Rect.unit ![16, 0] ![256, 1024] inb_S272x1024_S256x1024_16_0, k0_pay325 (k0_pay8 (uIn x0))⟩ :: L))
/-- The convolution's history at the start of a batch: zeros above the block. -/
def xeA : Vec F S264x1024 .f32 :=
  xeAt x0 (View.whole cc0_scratch0).junk [⟨Rect.unit ![0, 0] ![8, 1024] inb_S264x1024_S8x1024_0_0, k0_pay3⟩]
/-- The pool's history at the start of a batch: zeros above the block. -/
def ueA : Vec F S272x1024 .f32 :=
  ueAt x0 (View.whole cc0_scratch1).junk [⟨Rect.unit ![0, 0] ![16, 1024] inb_S272x1024_S16x1024_0_0, k0_pay4⟩]
/-- What the convolution's history is left at: the block, and its last rows at the top. -/
def xNext (L : List (View.Piece (Elt F) S264x1024 .f32)) : Vec F S264x1024 .f32 :=
  View.canon (⟨Rect.unit ![0, 0] ![8, 1024] inb_S264x1024_S8x1024_0_0, k0_pay12 (k0_pay6 (xIn x0))⟩ ::
    ⟨Rect.unit ![8, 0] ![256, 1024] inb_S264x1024_S256x1024_8_0, k0_pay9 (xIn x0)⟩ :: L)
/-- What the pool's history is left at. -/
def uNext (L : List (View.Piece (Elt F) S272x1024 .f32)) : Vec F S272x1024 .f32 :=
  View.canon (⟨Rect.unit ![0, 0] ![16, 1024] inb_S272x1024_S16x1024_0_0, k0_pay2 (k0_pay8 (uIn x0))⟩ ::
    ⟨Rect.unit ![16, 0] ![256, 1024] inb_S272x1024_S256x1024_16_0, k0_pay325 (k0_pay8 (uIn x0))⟩ :: L)

end Cert.Mixer
end
-- ==== Proof.Mixer.PointA.lean ====
/-
  A grid point of the mixer that starts a batch: what it leaves in the output block and in the three carried buffers.
-/
module

public import proofs.«01_k».proof.Proof.Mixer.Body

@[expose] public section

set_option maxHeartbeats 4000000
set_option maxRecDepth 16384
noncomputable section
open Idealize.ShloMosaic Idealize.ShloMosaic.TcCoe Idealize.SL.Sem
namespace Cert.Mixer
open Cert.KernelIdeal Cert.KernelIdeal.Gen
variable {F : FTy → Type} [FloatOps F]
variable (m : (ℓ : Loc nD τ sig) → Buf (Elt F) ℓ)

/-- The state after the block. -/
theorem afterA (c : Dev nD) (t : Fin cfg0.N) (h : t.val % 16 = 0) :
    (outsAt0 m c t.val t.isLt).2.2.2 = after (iblk m c 0 t) (iblk m c 1 t) (iblk m c 2 t) (iblk m c 3 t) (iblk m c 4 t) (iblk m c 5 t)
      (iblk m c 6 t) (iblk m c 7 t) (xeA (iblk m c 0 t)) k0_pay5 := by
  funext y
  rw [outsAt0_A m c t h]; dsimp only; frame_out
  set r := k0_pay24 (F := F) _ _ _ _ _ _ with hr
  set i := k0_pay25 (F := F) _ _ _ _ _ _ with hi
  set cv := k0_pay11 (F := F) _ _ _ with hcv
  trans carry (k0_pay29 r (k0_pay27 (iblk m c 7 t)) (k0_pay28 (iblk m c 7 t))) (k0_pay30 cv r i (k0_pay27 (iblk m c 7 t)) (k0_pay28 (iblk m c 7 t))) k0_pay5 y
  · clear_value r i cv
    refine congrFun ?_ y
    unfold k0_pay321 carry
    dsimp only
    refine congrArg (fun v => shapeCast S1x1024 v shapeCasts_S1x1024_S1x1024) ?_
    iterate 32 refine cr_of (F := F) _ _ k0_pay5 _ _ _ _ ?_ rfl rfl
    rfl
  · rfl

/-- The output block. -/
theorem outA (c : Dev nD) (t : Fin cfg0.N) (h : t.val % 16 = 0) :
    (outsAt0 m c t.val t.isLt).1 = yOut (iblk m c 0 t) (iblk m c 1 t) (iblk m c 2 t) (iblk m c 3 t) (iblk m c 4 t) (iblk m c 5 t)
      (iblk m c 6 t) (iblk m c 7 t) (iblk m c 8 t) (iblk m c 9 t) (xeA (iblk m c 0 t)) (ueA (iblk m c 0 t))
      k0_pay5 (BitVec.ofNat 32 (grid0.coords t 1)) := by
  funext y
  rw [outsAt0_A m c t h]; dsimp only; frame_out
  set r := k0_pay24 (F := F) _ _ _ _ _ _ with hr
  set i := k0_pay25 (F := F) _ _ _ _ _ _ with hi
  set cv := k0_pay11 (F := F) _ _ _ with hcv
  set hh := k0_pay320 (F := F) _ _ _ _ _ _ _ _ _ _ _ _ _ _ _ _ _ _ _ _ _ _ _ _ _ _ _ _ _ _ _ _ _ _ _ _ _ _ with hhh
  have hH : hh = H (k0_pay29 r (k0_pay27 (iblk m c 7 t)) (k0_pay28 (iblk m c 7 t))) (k0_pay30 cv r i (k0_pay27 (iblk m c 7 t)) (k0_pay28 (iblk m c 7 t))) k0_pay5 := by
    rw [hhh]
    clear_value r i cv
    clear * -
    refine H_of_pieces _ _ _ _ ?_ ?_
    · exact concatenates_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S256x1024_d0
    iterate 32 (refine pieces_of (F := F) _ _ _ _ _ _ _ ?_ ?_; rotate_left)
    · rfl
    all_goals
      refine hAt_of (F := F) _ _ k0_pay5 _ _ _ _ ?_ rfl rfl
      repeat (first | refine cr_of (F := F) _ _ k0_pay5 _ _ _ _ ?_ rfl rfl | rfl)
  clear_value hh
  subst hH
  rfl

/-- The convolution's history after the block. -/
theorem xNextA (c : Dev nD) (t : Fin cfg0.N) (h : t.val % 16 = 0) :
    (outsAt0 m c t.val t.isLt).2.1 = xNext (iblk m c 0 t) [⟨Rect.unit ![0, 0] ![8, 1024] inb_S264x1024_S8x1024_0_0, k0_pay3⟩] := by
  funext y
  rw [outsAt0_A m c t h]; dsimp only; frame_out
  rfl

/-- The pool's history after the block. -/
theorem uNextA (c : Dev nD) (t : Fin cfg0.N) (h : t.val % 16 = 0) :
    (outsAt0 m c t.val t.isLt).2.2.1 = uNext (iblk m c 0 t) [⟨Rect.unit ![0, 0] ![16, 1024] inb_S272x1024_S16x1024_0_0, k0_pay4⟩] := by
  funext y
  rw [outsAt0_A m c t h]; dsimp only; frame_out
  rfl

end Cert.Mixer
end
-- ==== Proof.Mixer.PointB.lean ====
/-
  A grid point of the mixer that carries on inside a batch: what it leaves in the output block and in the three carried buffers.
-/
module

public import proofs.«01_k».proof.Proof.Mixer.Body

@[expose] public section

set_option maxHeartbeats 4000000
set_option maxRecDepth 16384
noncomputable section
open Idealize.ShloMosaic Idealize.ShloMosaic.TcCoe Idealize.SL.Sem
namespace Cert.Mixer
open Cert.KernelIdeal Cert.KernelIdeal.Gen
variable {F : FTy → Type} [FloatOps F]
variable (m : (ℓ : Loc nD τ sig) → Buf (Elt F) ℓ)

/-- What the point before left. -/
def prev (c : Dev nD) (t : Fin cfg0.N) := outsAt0 m c (t.val - 1) (Nat.lt_of_le_of_lt (Nat.sub_le _ _) t.isLt)

/-- The state after the block. -/
theorem afterB (c : Dev nD) (t : Fin cfg0.N) (h : ¬ t.val % 16 = 0) :
    (outsAt0 m c t.val t.isLt).2.2.2 = after (iblk m c 0 t) (iblk m c 1 t) (iblk m c 2 t) (iblk m c 3 t) (iblk m c 4 t) (iblk m c 5 t)
      (iblk m c 6 t) (iblk m c 7 t) (xeAt (iblk m c 0 t) (bufX (prev m c t).2.1) []) (prev m c t).2.2.2 := by
  funext y
  rw [outsAt0_B m c t h]; dsimp only; frame_out
  generalize hc0 : (prev m c t).2.2.2 = c0
  unfold prev at hc0
  rw [hc0]
  set r := k0_pay24 (F := F) _ _ _ _ _ _ with hr
  set i := k0_pay25 (F := F) _ _ _ _ _ _ with hi
  set cv := k0_pay11 (F := F) _ _ _ with hcv
  trans carry (k0_pay29 r (k0_pay27 (iblk m c 7 t)) (k0_pay28 (iblk m c 7 t))) (k0_pay30 cv r i (k0_pay27 (iblk m c 7 t)) (k0_pay28 (iblk m c 7 t))) c0 y
  · clear_value r i cv
    refine congrFun ?_ y
    unfold k0_pay321 carry
    dsimp only
    refine congrArg (fun v => shapeCast S1x1024 v shapeCasts_S1x1024_S1x1024) ?_
    iterate 32 refine cr_of (F := F) _ _ c0 _ _ _ _ ?_ rfl rfl
    exact Memref.IsWhole.read_unread _ _
  · rfl

/-- The output block. -/
theorem outB (c : Dev nD) (t : Fin cfg0.N) (h : ¬ t.val % 16 = 0) :
    (outsAt0 m c t.val t.isLt).1 = yOut (iblk m c 0 t) (iblk m c 1 t) (iblk m c 2 t) (iblk m c 3 t) (iblk m c 4 t) (iblk m c 5 t)
      (iblk m c 6 t) (iblk m c 7 t) (iblk m c 8 t) (iblk m c 9 t) (xeAt (iblk m c 0 t) (bufX (prev m c t).2.1) []) (ueAt (iblk m c 0 t) (bufU (prev m c t).2.2.1) [])
      (prev m c t).2.2.2 (BitVec.ofNat 32 (grid0.coords t 1)) := by
  funext y
  rw [outsAt0_B m c t h]; dsimp only; frame_out
  generalize hc0 : (prev m c t).2.2.2 = c0
  unfold prev at hc0
  rw [hc0]
  set r := k0_pay24 (F := F) _ _ _ _ _ _ with hr
  set i := k0_pay25 (F := F) _ _ _ _ _ _ with hi
  set cv := k0_pay11 (F := F) _ _ _ with hcv
  set hh := k0_pay320 (F := F) _ _ _ _ _ _ _ _ _ _ _ _ _ _ _ _ _ _ _ _ _ _ _ _ _ _ _ _ _ _ _ _ _ _ _ _ _ _ with hhh
  have hH : hh = H (k0_pay29 r (k0_pay27 (iblk m c 7 t)) (k0_pay28 (iblk m c 7 t))) (k0_pay30 cv r i (k0_pay27 (iblk m c 7 t)) (k0_pay28 (iblk m c 7 t))) c0 := by
    rw [hhh]
    clear_value r i cv
    clear * -
    refine H_of_pieces _ _ _ _ ?_ ?_
    · exact concatenates_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S256x1024_d0
    iterate 32 (refine pieces_of (F := F) _ _ _ _ _ _ _ ?_ ?_; rotate_left)
    · rfl
    all_goals
      refine hAt_of (F := F) _ _ c0 _ _ _ _ ?_ rfl rfl
      repeat (first | refine cr_of (F := F) _ _ c0 _ _ _ _ ?_ rfl rfl | exact Memref.IsWhole.read_unread _ _)
  clear_value hh
  subst hH
  rfl

/-- The convolution's history after the block. -/
theorem xNextB (c : Dev nD) (t : Fin cfg0.N) (h : ¬ t.val % 16 = 0) :
    (outsAt0 m c t.val t.isLt).2.1 = xNext (iblk m c 0 t) [] := by
  funext y
  rw [outsAt0_B m c t h]; dsimp only; frame_out
  rfl

/-- The pool's history after the block. -/
theorem uNextB (c : Dev nD) (t : Fin cfg0.N) (h : ¬ t.val % 16 = 0) :
    (outsAt0 m c t.val t.isLt).2.2.1 = uNext (iblk m c 0 t) [] := by
  funext y
  rw [outsAt0_B m c t h]; dsimp only; frame_out
  rfl

end Cert.Mixer
end
-- ==== Proof.Mixer.Spec.lean ====
/-
  The mixer's mathematics over the extended reals, as functions of the batch, the time and the channel.
-/
module

public import Idealize.ShloMosaic.Lib.Pipeline.ValueKit

@[expose] public section

noncomputable section
open Idealize.ShloMosaic Idealize.ShloMosaic.TcCoe Idealize.SL.Sem

namespace Cert.Mixer.Spec

/-- The arguments of the mixer. -/
structure Args where
  /-- the three projections, side by side -/
  z : (⟨3, ![4, 4096, 3072]⟩ : Shape).Idx → EReal
  /-- the taps of the convolution -/
  cw : (⟨2, ![4, 1024]⟩ : Shape).Idx → EReal
  /-- the bias of the convolution -/
  cb : (⟨1, ![1024]⟩ : Shape).Idx → EReal
  /-- the recurrence gate's matrices -/
  wr : (⟨3, ![16, 64, 64]⟩ : Shape).Idx → EReal
  /-- the recurrence gate's bias -/
  br : (⟨1, ![1024]⟩ : Shape).Idx → EReal
  /-- the input gate's matrices -/
  wi : (⟨3, ![16, 64, 64]⟩ : Shape).Idx → EReal
  /-- the input gate's bias -/
  bi : (⟨1, ![1024]⟩ : Shape).Idx → EReal
  /-- the decay's parameter -/
  lam : (⟨1, ![1024]⟩ : Shape).Idx → EReal
  /-- the pool's matrices -/
  pw : (⟨3, ![4, 256, 256]⟩ : Shape).Idx → EReal
  /-- the pool's scale -/
  ps : (⟨1, ![1024]⟩ : Shape).Idx → EReal

variable (A : Args) (b : Fin 4)

/-- Column `q` of `z` at time `n`, zero after the end. -/
def col (q : Fin 3072) (n : ℕ) : EReal := if h : n < 4096 then A.z (ix3 b ⟨n, h⟩ q) else 0

/-- Column `q` of `z`, `k` steps before time `n`: zero before the start. -/
def back (q : Fin 3072) (n k : ℕ) : EReal := if k ≤ n then col A b q (n - k) else 0

/-- The column of the recurrence's input, of the gate, and of the pool's input. -/
abbrev cx (w : Fin 1024) : Fin 3072 := ⟨w.val, by omega⟩
@[inherit_doc cx] abbrev cg (w : Fin 1024) : Fin 3072 := ⟨1024 + w.val, by omega⟩
@[inherit_doc cx] abbrev cu (w : Fin 1024) : Fin 3072 := ⟨2048 + w.val, by omega⟩

/-- The causal convolution. -/
def conv (n : ℕ) (w : Fin 1024) : EReal :=
  A.cb (ix1 w) + back A b (cx w) n 3 * A.cw (ix2 0 w) + back A b (cx w) n 2 * A.cw (ix2 1 w)
    + back A b (cx w) n 1 * A.cw (ix2 2 w) + back A b (cx w) n 0 * A.cw (ix2 3 w)

/-- The head of a channel and its place in it. -/
abbrev hd (w : Fin 1024) : Fin 16 := ⟨w.val / 64, by omega⟩
@[inherit_doc hd] abbrev lane (w : Fin 1024) : Fin 64 := ⟨w.val % 64, by omega⟩
/-- Channel `x` of the head of `w`. -/
abbrev mate (w : Fin 1024) (x : Fin 64) : Fin 1024 := ⟨64 * (w.val / 64) + x.val, by omega⟩

/-- The sigmoid. -/
def sigmoid (x : EReal) : EReal := Ideal.div 1 (1 + Ideal.exp (-x))

/-- A gate: a head's 64 channels through the head's matrix, the bias and the sigmoid. -/
def gate (W : (⟨3, ![16, 64, 64]⟩ : Shape).Idx → EReal) (B : (⟨1, ![1024]⟩ : Shape).Idx → EReal) (n : ℕ) (w : Fin 1024) : EReal :=
  sigmoid ((∑ x : Fin 64, conv A b n (mate w x) * W (ix3 (hd w) x (lane w))) + B (ix1 w))

/-- The softplus of `-lam`. -/
def softplus (x : EReal) : EReal := max x 0 + Ideal.log (1 + Ideal.exp (-max x (-x)))

/-- The logarithm of the decay. -/
def logDecay (n : ℕ) (w : Fin 1024) : EReal :=
  (Scalar.ofBits .f32 0xC1000000#32 : Ideal .f32) * gate A b A.wr A.br n w * softplus (-A.lam (ix1 w))

/-- The decay. -/
def decay (n : ℕ) (w : Fin 1024) : EReal := Ideal.exp (logDecay A b n w)

/-- The input of the recurrence. -/
def inp (n : ℕ) (w : Fin 1024) : EReal :=
  Ideal.sqrt (1 - decay A b n w * decay A b n w) * (gate A b A.wi A.bi n w * conv A b n w)

/-- The state before time `n`. -/
def state (w : Fin 1024) : ℕ → EReal
  | 0 => 0
  | n + 1 => decay A b n w * state w n + inp A b n w

/-- The gelu, in its tanh form. -/
def gelu (x : EReal) : EReal :=
  x * ((Scalar.ofBits .f32 0x3F000000#32 : Ideal .f32)
    * (1 + Ideal.tanh ((Scalar.ofBits .f32 0x3F4C422A#32 : Ideal .f32) * (x + (Scalar.ofBits .f32 0x3D372713#32 : Ideal .f32) * (x * x * x)))))

/-- The recurrence's half of the output. -/
def yLru (n : ℕ) (w : Fin 1024) : EReal := state A b w (n + 1) * gelu (col A b (cg w) n)

/-- The pool's window of a channel. -/
abbrev win (g : Fin 4) : ℕ := 2 ^ (g.val + 1)

/-- The sum over the window that ends at time `n`. -/
def wsum (g : Fin 4) (n : ℕ) (w : Fin 1024) : EReal := ∑ k ∈ Finset.range (win g), back A b (cu w) n k

/-- How many times the window holds. -/
def cnt (g : Fin 4) (n : ℕ) : EReal := (FloatOps.sitofp .f32 (IntOp.minsi (BitVec.ofNat 32 (n + 1)) (BitVec.ofNat 32 (win g))) : Ideal .f32)

/-- Channel `x` of group `g`. -/
abbrev gch (g : Fin 4) (x : Fin 256) : Fin 1024 := ⟨256 * g.val + x.val, by omega⟩

/-- The pool's half of the output. -/
def yPool (g : Fin 4) (n : ℕ) (y : Fin 256) : EReal :=
  (∑ x : Fin 256, (Ideal.div (wsum A b g n (gch g x)) (cnt g n) - col A b (cu (gch g x)) n) * A.pw (ix3 g x y)) * A.ps (ix1 (gch g y))

/-- The output: the recurrence's half and the pool's four groups. -/
def out (n : ℕ) (q : Fin 2048) : EReal :=
  if h : q.val < 1024 then yLru A b n ⟨q.val, h⟩
  else yPool A b ⟨(q.val - 1024) / 256, by omega⟩ n ⟨(q.val - 1024) % 256, by omega⟩

end Cert.Mixer.Spec
end
-- ==== Proof.Mixer.Algebra.lean ====
/-
  Facts about the extended reals that the mixer's recurrence rests on: the decay lies between 0 and 1, and a finite
  nonnegative factor distributes over every sum.
-/
module

public import proofs.«01_k».proof.Proof.Mixer.Spec

@[expose] public section

noncomputable section
open Idealize.ShloMosaic Idealize.ShloMosaic.TcCoe Idealize.SL.Sem

namespace Cert.Mixer

/-- A factor that distributes over every sum. -/
def Good (a : EReal) : Prop := 0 ≤ a ∧ a ≠ ⊤

theorem Good.mul {a b : EReal} (ha : Good a) (hb : Good b) : Good (a * b) := by
  refine ⟨mul_nonneg ha.1 hb.1, ?_⟩
  obtain ⟨ha0, ha1⟩ := ha
  obtain ⟨hb0, hb1⟩ := hb
  induction a <;> induction b <;> simp_all
  rw [← EReal.coe_mul]; exact EReal.coe_ne_top _

theorem Good.one : Good 1 := ⟨zero_le_one, by decide⟩

/-- Two affine maps, one after the other. -/
theorem comp {p : EReal} (hp : Good p) (q r s x : EReal) : p * r * x + (p * s + q) = p * (r * x + s) + q := by
  rw [EReal.left_distrib_of_nonneg_of_ne_top hp.1 hp.2, mul_assoc, add_assoc]

theorem exp_coe (r : ℝ) : Ideal.exp (r : EReal) = ((Real.exp r : ℝ) : EReal) := rfl
theorem exp_bot : Ideal.exp ⊥ = 0 := rfl
theorem exp_top : Ideal.exp ⊤ = ⊤ := rfl
theorem log_coe (r : ℝ) : Ideal.log (r : EReal) = if r ≤ 0 then ⊥ else ((Real.log r : ℝ) : EReal) := rfl
theorem log_top : Ideal.log ⊤ = ⊤ := rfl

theorem exp_nonneg (x : EReal) : 0 ≤ Ideal.exp x := by
  induction x with
  | bot => rw [exp_bot]
  | coe r => rw [exp_coe]; exact_mod_cast (Real.exp_pos r).le
  | top => rw [exp_top]; exact le_top

theorem exp_good {x : EReal} (h : x ≤ 0) : Good (Ideal.exp x) := by
  refine ⟨exp_nonneg x, ?_⟩
  induction x with
  | bot => rw [exp_bot]; exact EReal.zero_ne_top
  | coe r => rw [exp_coe]; exact EReal.coe_ne_top _
  | top => simp at h

/-- The square of an exponential. -/
theorem exp_two {x : EReal} (h : x ≤ 0) : Ideal.exp (2 * x) = Ideal.exp x * Ideal.exp x := by
  induction x with
  | bot => rw [show (2 : EReal) * ⊥ = ⊥ from EReal.mul_bot_of_pos (by norm_num), exp_bot, mul_zero]
  | coe r =>
    rw [show (2 : EReal) * (r : EReal) = ((2 * r : ℝ) : EReal) by push_cast; rfl, exp_coe, exp_coe,
      ← EReal.coe_mul, ← Real.exp_add, two_mul]
  | top => simp at h

theorem log_nonneg {x : EReal} (h : 1 ≤ x) : 0 ≤ Ideal.log x := by
  induction x with
  | bot => exact absurd h (by rw [le_bot_iff]; exact EReal.coe_ne_bot 1)
  | coe r =>
    have h1 : (1 : ℝ) ≤ r := by exact_mod_cast h
    rw [log_coe, if_neg (by linarith)]
    exact_mod_cast Real.log_nonneg h1
  | top => rw [log_top]; exact le_top

theorem softplus_nonneg (x : EReal) : 0 ≤ Spec.softplus x :=
  add_nonneg (le_max_right _ _) (log_nonneg (by simpa using add_le_add_right (exp_nonneg _) 1))

theorem sigmoid_nonneg (x : EReal) : 0 ≤ Spec.sigmoid x := by
  have h : (0 : EReal) < 1 + Ideal.exp (-x) := lt_of_lt_of_le zero_lt_one (by simpa using add_le_add_right (exp_nonneg (-x)) 1)
  unfold Spec.sigmoid Ideal.div
  rw [if_neg h.ne']
  simpa using EReal.inv_nonneg_of_nonneg h.le

variable (A : Spec.Args) (b : Fin 4)

theorem eight : (Scalar.ofBits .f32 0xC1000000#32 : Ideal .f32) = ((-8 : ℝ) : EReal) := by
  simp [Scalar.ofBits, FloatOps.ofBits, Ideal.ofBits, Ideal.ieee]
  rw [← EReal.coe_mul]; norm_num

theorem logDecay_le (n : ℕ) (w : Fin 1024) : Spec.logDecay A b n w ≤ 0 := by
  unfold Spec.logDecay
  rw [eight, mul_assoc]
  exact EReal.mul_nonpos_iff.2 (.inr ⟨by norm_num, mul_nonneg (sigmoid_nonneg _) (softplus_nonneg _)⟩)

theorem decay_good (n : ℕ) (w : Fin 1024) : Good (Spec.decay A b n w) := exp_good (logDecay_le A b n w)

/-- `1 - a²` is `-(exp (2 log a) - 1)`. -/
theorem one_sub_sq (n : ℕ) (w : Fin 1024) :
    -(Ideal.exp (2 * Spec.logDecay A b n w) - 1) = 1 - Spec.decay A b n w * Spec.decay A b n w := by
  rw [exp_two (logDecay_le A b n w)]
  show -(Spec.decay A b n w * Spec.decay A b n w - 1) = _
  have hg := (decay_good A b n w).mul (decay_good A b n w)
  set y := Spec.decay A b n w * Spec.decay A b n w
  rw [EReal.neg_sub (.inr (by decide)) (.inr (by decide)), add_comm, sub_eq_add_neg]

end Cert.Mixer
end
-- ==== Proof.Mixer.ScanIdeal.lean ====
/-
  Over the extended reals the scan of a block is the recurrence run row by row.
-/
module

public import proofs.«01_k».proof.Proof.Mixer.Scan
public import proofs.«01_k».proof.Proof.Mixer.Algebra
public import Idealize.ShloMosaic.Lib.KernelVsHost

@[expose] public section

set_option maxRecDepth 16384
noncomputable section
open Idealize.ShloMosaic Idealize.ShloMosaic.TcCoe Idealize.SL.Sem

namespace Cert.Mixer
open Cert.KernelIdeal Cert.KernelIdeal.Gen

theorem keep_at (j d : Fin 8) (w : Fin 1024) : keep (BitVec.ofNat 32 d.val) (ix2 j w) = if d ≤ j then 1#1 else 0#1 := by
  pointwise [keep]
  revert j d; decide

theorem rotate_at (a : FVec Ideal S8x1024 .f32) (j d : Fin 8) (w : Fin 1024) (h : d ≤ j) :
    dynamicRotate 0 (BitVec.ofNat 32 d.val) none a rotates_S8x1024_d0 (ix2 j w) = a (ix2 (j - d) w) := by
  refine dynamicRotate_apply _ _ _ _ _ _ fun x => ?_
  fin_cases x
  · show (j - d).val = (j.val + 8 - (BitVec.ofNat 32 d.val).toNat % 8) % 8
    revert j d; decide
  · rfl

theorem lit_one : (Scalar.ofBits .f32 0x3F800000#32 : Ideal .f32) = (1 : EReal) := by pointwise
theorem lit_zero : (Scalar.ofBits .f32 0x00000000#32 : Ideal .f32) = (0 : EReal) := by pointwise

theorem stepA_at (a : FVec Ideal S8x1024 .f32) (j d : Fin 8) (w : Fin 1024) :
    stepA (BitVec.ofNat 32 d.val) a (ix2 j w) = a (ix2 j w) * if d ≤ j then a (ix2 (j - d) w) else 1 := by
  change a (ix2 j w) * Scalar.select (keep (BitVec.ofNat 32 d.val) (ix2 j w))
    (dynamicRotate 0 (BitVec.ofNat 32 d.val) none a rotates_S8x1024_d0 (ix2 j w)) (Scalar.ofBits .f32 0x3F800000#32 : Ideal .f32) = _
  rw [keep_at, lit_one]
  by_cases h : d ≤ j
  · rw [if_pos h, if_pos h, rotate_at a j d w h]; rfl
  · rw [if_neg h, if_neg h]; rfl

theorem stepB_at (a b : FVec Ideal S8x1024 .f32) (j d : Fin 8) (w : Fin 1024) :
    stepB (BitVec.ofNat 32 d.val) a b (ix2 j w) = a (ix2 j w) * (if d ≤ j then b (ix2 (j - d) w) else 0) + b (ix2 j w) := by
  change a (ix2 j w) * Scalar.select (keep (BitVec.ofNat 32 d.val) (ix2 j w))
    (dynamicRotate 0 (BitVec.ofNat 32 d.val) none b rotates_S8x1024_d0 (ix2 j w)) (Scalar.ofBits .f32 0x00000000#32 : Ideal .f32)
      + b (ix2 j w) = _
  rw [keep_at, lit_zero]
  by_cases h : d ≤ j
  · rw [if_pos h, if_pos h, rotate_at b j d w h]; rfl
  · rw [if_neg h, if_neg h]; rfl

/-- The recurrence from `c`: the state before row `n`. -/
def rec (p q : ℕ → EReal) (c : EReal) : ℕ → EReal
  | 0 => c
  | n + 1 => p n * rec p q c n + q n

/-- A group's states are the recurrence's. -/
theorem hgrp_at (a b : FVec Ideal S8x1024 .f32) (c : FVec Ideal S1x1024 .f32) (w : Fin 1024) (p q : ℕ → EReal)
    (hp : ∀ n, Good (p n)) (ha : ∀ j : Fin 8, a (ix2 j w) = p j.val) (hb : ∀ j : Fin 8, b (ix2 j w) = q j.val) (j : Fin 8) :
    hgrp a b c (ix2 j w) = rec p q (c (ix2 0 w)) (j.val + 1) := by
  unfold hgrp
  pointwise
  have e1 := fun (a : FVec Ideal S8x1024 .f32) j => stepA_at a j 1 w
  have e2 := fun (a : FVec Ideal S8x1024 .f32) j => stepA_at a j 2 w
  have e4 := fun (a : FVec Ideal S8x1024 .f32) j => stepA_at a j 4 w
  have f1 := fun (a b : FVec Ideal S8x1024 .f32) j => stepB_at a b j 1 w
  have f2 := fun (a b : FVec Ideal S8x1024 .f32) j => stepB_at a b j 2 w
  have f4 := fun (a b : FVec Ideal S8x1024 .f32) j => stepB_at a b j 4 w
  change ∀ (a : FVec Ideal S8x1024 .f32) (j : Fin 8), stepA 1#32 a (ix2 j w) = _ at e1
  change ∀ (a : FVec Ideal S8x1024 .f32) (j : Fin 8), stepA 2#32 a (ix2 j w) = _ at e2
  change ∀ (a : FVec Ideal S8x1024 .f32) (j : Fin 8), stepA 4#32 a (ix2 j w) = _ at e4
  change ∀ (a b : FVec Ideal S8x1024 .f32) (j : Fin 8), stepB 1#32 a b (ix2 j w) = _ at f1
  change ∀ (a b : FVec Ideal S8x1024 .f32) (j : Fin 8), stepB 2#32 a b (ix2 j w) = _ at f2
  change ∀ (a b : FVec Ideal S8x1024 .f32) (j : Fin 8), stepB 4#32 a b (ix2 j w) = _ at f4
  have hd : ∀ n y z, p n * (y + z) = p n * y + p n * z := fun n y z => EReal.left_distrib_of_nonneg_of_ne_top (hp n).1 (hp n).2 y z
  rw [e4, f4]
  simp only [e2, f2, e1, f1, ha, hb]
  fin_cases j <;> simp [rec, hd, mul_assoc, add_assoc]

theorem rec_add (p q : ℕ → EReal) (c : EReal) (m n : ℕ) : rec p q c (m + n) = rec (fun k => p (m + k)) (fun k => q (m + k)) (rec p q c m) n := by
  induction n with
  | zero => rfl
  | succ n ih => rw [← add_assoc]; simp only [rec]; rw [ih]

variable (a b : FVec Ideal S256x1024 .f32) (c : FVec Ideal S1x1024 .f32) (w : Fin 1024) (p q : ℕ → EReal)
  (hp : ∀ n, Good (p n)) (ha : ∀ r : Fin 256, a (ix2 r w) = p r.val) (hb : ∀ r : Fin 256, b (ix2 r w) = q r.val)
include hp ha hb

omit hp hb in
theorem grp_at (k : ℕ) (hk : k < 32) (j : Fin 8) : grp (Fin.ofNat 32 k) a (ix2 j w) = p (8 * k + j.val) := by
  have h8 : 8 * k + j.val < 256 := by omega
  refine Eq.trans ?_ (ha ⟨8 * k + j.val, h8⟩)
  unfold grp
  refine extractStridedSlice_apply _ _ _ _ _ fun x => ?_
  fin_cases x
  · show 8 * k + j.val = 8 * (k % 32) + j.val
    rw [Nat.mod_eq_of_lt hk]
  · show w.val = 0 + w.val
    omega

/-- A group's states, from the state before it. -/
theorem hAt_eq (k : ℕ) (hk : k < 32) (hc : cr a b c k (ix2 0 w) = rec p q (c (ix2 0 w)) (8 * k)) (j : Fin 8) :
    hAt a b c k (ix2 j w) = rec p q (c (ix2 0 w)) (8 * k + j.val + 1) := by
  unfold hAt
  rw [hgrp_at _ _ _ w (fun n => p (8 * k + n)) (fun n => q (8 * k + n)) (fun n => hp _) (grp_at a w p ha k hk) (grp_at b w q hb k hk) j,
    hc, add_assoc, rec_add p q _ (8 * k) (j.val + 1)]

theorem cr_eq : ∀ k ≤ 32, cr a b c k (ix2 0 w) = rec p q (c (ix2 0 w)) (8 * k)
  | 0, _ => rfl
  | k + 1, hk => by
    refine Eq.trans ?_ (hAt_eq a b c w p q hp ha hb k (by omega) (cr_eq k (by omega)) 7)
    show lastRow (hAt a b c k) (ix2 0 w) = _
    pointwise [lastRow]

/-- The states of a block. -/
theorem H_at (r : Fin 256) : H a b c (ix2 r w) = rec p q (c (ix2 0 w)) (r.val + 1) := by
  have hk : r.val / 8 < 32 := by omega
  have h := hAt_eq a b c w p q hp ha hb (r.val / 8) hk (cr_eq a b c w p q hp ha hb _ hk.le) ⟨r.val % 8, by omega⟩
  rw [show 8 * (r.val / 8) + (⟨r.val % 8, by omega⟩ : Fin 8).val + 1 = r.val + 1 by simp only []; omega] at h
  rw [← h]
  unfold H
  refine concatenate_ofFn_apply (t := S256x1024) (s₁ := S8x1024) (0 : Fin 2) (fun k : Fin 32 => hAt a b c k.val) _ rfl 8 rfl (ix2 r w) ⟨r.val / 8, hk⟩ rfl (ix2 ⟨r.val % 8, by omega⟩ w) rfl fun x hx => ?_
  fin_cases x
  · exact absurd rfl hx
  · rfl

/-- The state after a block. -/
theorem carry_at : carry a b c (ix2 0 w) = rec p q (c (ix2 0 w)) 256 := by
  pointwise [carry]
  exact cr_eq a b c w p q hp ha hb 32 le_rfl

end Cert.Mixer
end
-- ==== Proof.Mixer.Block.lean ====
/-
  What one grid point computes over the extended reals: with its blocks read at block `s` of batch `b`, with the history
  above the block and with the state before it, its rows are the mixer's at the times `256 s + r`.
-/
module

public import proofs.«01_k».proof.Proof.Mixer.Body
public import proofs.«01_k».proof.Proof.Mixer.ScanIdeal

@[expose] public section

set_option maxRecDepth 16384
noncomputable section
open Idealize.ShloMosaic Idealize.ShloMosaic.TcCoe Idealize.SL.Sem

namespace Cert.Mixer
open Cert.KernelIdeal Cert.KernelIdeal.Gen

variable (A : Spec.Args) (b : Fin 4) (s : Fin 16)
variable (x0 : Vec Ideal S1x256x3072 .f32) (x1 : Vec Ideal S4x1024 .f32) (x2 : Vec Ideal S1x1024 .f32) (x3 : Vec Ideal S4x256x256 .bf16)
  (x4 : Vec Ideal S1x1024 .f32) (x5 : Vec Ideal S4x256x256 .bf16) (x6 : Vec Ideal S1x1024 .f32) (x7 : Vec Ideal S1x1024 .f32)
  (x8 : Vec Ideal S4x256x256 .bf16) (x9 : Vec Ideal S1x1024 .f32)

/-- Four heads' matrices on the diagonal of a 256-wide one. -/
def diag (W : (⟨3, ![16, 64, 64]⟩ : Shape).Idx → EReal) (g : Fin 4) (x y : Fin 256) : EReal :=
  if x.val / 64 = y.val / 64 then W (ix3 (⟨4 * g.val + y.val / 64, by omega⟩ : Fin 16) (⟨x.val % 64, by omega⟩ : Fin 64) (⟨y.val % 64, by omega⟩ : Fin 64)) else 0

/-- The blocks are the arguments' at block `s` of batch `b`. -/
structure Reads : Prop where
  h0 : ∀ (r : Fin 256) (q : Fin 3072), x0 (ix3 0 r q) = Spec.col A b q (256 * s.val + r.val)
  h1 : ∀ (k : Fin 4) (w : Fin 1024), x1 (ix2 k w) = A.cw (ix2 k w)
  h2 : ∀ w : Fin 1024, x2 (ix2 0 w) = A.cb (ix1 w)
  h3 : ∀ (g : Fin 4) (x y : Fin 256), x3 (ix3 g x y) = diag A.wr g x y
  h4 : ∀ w : Fin 1024, x4 (ix2 0 w) = A.br (ix1 w)
  h5 : ∀ (g : Fin 4) (x y : Fin 256), x5 (ix3 g x y) = diag A.wi g x y
  h6 : ∀ w : Fin 1024, x6 (ix2 0 w) = A.bi (ix1 w)
  h7 : ∀ w : Fin 1024, x7 (ix2 0 w) = A.lam (ix1 w)
  h8 : ∀ (g : Fin 4) (x y : Fin 256), x8 (ix3 g x y) = A.pw (ix3 g x y)
  h9 : ∀ w : Fin 1024, x9 (ix2 0 w) = A.ps (ix1 w)

/-- The convolution's history: row `j` is time `256 s + j - 8`. -/
def HistX (XE : Vec Ideal S264x1024 .f32) : Prop :=
  ∀ (j : Fin 264) (w : Fin 1024), XE (ix2 j w) = Spec.back A b (Spec.cx w) (256 * s.val + j.val) 8
/-- The pool's history: row `j` is time `256 s + j - 16`. -/
def HistU (UE : Vec Ideal S272x1024 .f32) : Prop :=
  ∀ (j : Fin 272) (w : Fin 1024), UE (ix2 j w) = Spec.back A b (Spec.cu w) (256 * s.val + j.val) 16
/-- The state before the block. -/
def Before (c : Vec Ideal S1x1024 .f32) : Prop := ∀ w : Fin 1024, c (ix2 0 w) = Spec.state A b w (256 * s.val)

theorem back_add (q : Fin 3072) (n k d : ℕ) : Spec.back A b q (n + d) (k + d) = Spec.back A b q n k := by
  unfold Spec.back
  rw [Nat.add_sub_add_right]
  simp only [Nat.add_le_add_iff_right]

theorem back_zero (q : Fin 3072) (n : ℕ) : Spec.back A b q n 0 = Spec.col A b q n := by simp [Spec.back]

/-- A product with the 256-wide block-diagonal matrix is each head's own product. -/
theorem diag_sum (W : (⟨3, ![16, 64, 64]⟩ : Shape).Idx → EReal) (f : Fin 1024 → EReal) (g : Fin 4) (y : Fin 256) :
    ∑ x : Fin 256, f (Spec.gch g x) * diag W g x y
      = ∑ x : Fin 64, f (Spec.mate (Spec.gch g y) x) * W (ix3 (Spec.hd (Spec.gch g y)) x (Spec.lane (Spec.gch g y))) := by
  have hy : y.val / 64 < 4 := by omega
  rw [← (finProdFinEquiv (m := 4) (n := 64)).sum_comp (fun x : Fin (4 * 64) => f (Spec.gch g x) * diag W g x y), Fintype.sum_prod_type,
    Finset.sum_eq_single (⟨y.val / 64, hy⟩ : Fin 4)]
  · refine Finset.sum_congr rfl fun x _ => ?_
    have e : (finProdFinEquiv (m := 4) (n := 64) (⟨y.val / 64, hy⟩, x)).val = x.val + 64 * (y.val / 64) := rfl
    unfold diag
    rw [if_pos (by rw [e]; omega)]
    congr 2
    · apply Fin.ext
      show 256 * g.val + (x.val + 64 * (y.val / 64)) = 64 * ((256 * g.val + y.val) / 64) + x.val
      omega
    · congr 1
      · apply Fin.ext
        show 4 * g.val + y.val / 64 = (256 * g.val + y.val) / 64
        omega
      · apply Fin.ext
        show (x.val + 64 * (y.val / 64)) % 64 = x.val
        omega
      · apply Fin.ext
        show y.val % 64 = (256 * g.val + y.val) % 64
        omega
  · intro i _ hi
    refine Finset.sum_eq_zero fun x _ => ?_
    have e : (finProdFinEquiv (m := 4) (n := 64) (i, x)).val = x.val + 64 * i.val := rfl
    unfold diag
    rw [if_neg, mul_zero]
    rw [e]
    intro h
    apply hi
    apply Fin.ext
    show i.val = y.val / 64
    omega
  · intro h
    exact absurd (Finset.mem_univ _) h

/-- The four column blocks of a gate's product, put side by side. -/
theorem pick (W : (⟨3, ![16, 64, 64]⟩ : Shape).Idx → EReal) (f : Fin 1024 → EReal) (w : Fin 1024) :
    (if h : w.val < 256 then ∑ x : Fin 256, f ⟨x.val, by omega⟩ * diag W 0 x ⟨w.val, h⟩
    else if h : w.val - 256 < 256 then ∑ x : Fin 256, f ⟨256 + x.val, by omega⟩ * diag W 1 x ⟨w.val - 256, h⟩
    else if h : w.val - 256 - 256 < 256 then ∑ x : Fin 256, f ⟨512 + x.val, by omega⟩ * diag W 2 x ⟨w.val - 256 - 256, h⟩
    else ∑ x : Fin 256, f ⟨768 + x.val, by omega⟩ * diag W 3 x ⟨w.val - 256 - 256 - 256, by omega⟩)
      = ∑ x : Fin 64, f (Spec.mate w x) * W (ix3 (Spec.hd w) x (Spec.lane w)) := by
  have key : ∀ (g : Fin 4) (y : Fin 256), 256 * g.val + y.val = w.val → ∑ x : Fin 256, f (Spec.gch g x) * diag W g x y
      = ∑ x : Fin 64, f (Spec.mate w x) * W (ix3 (Spec.hd w) x (Spec.lane w)) := by
    intro g y h
    obtain rfl : Spec.gch g y = w := Fin.ext h
    exact diag_sum W f g y
  split_ifs with h1 h2 h3
  · rw [← key 0 ⟨w.val, h1⟩ (by show 256 * 0 + w.val = _; omega)]
    exact Finset.sum_congr rfl fun x _ => congrArg (f · * _) (Fin.ext (by show x.val = 256 * 0 + x.val; omega))
  · rw [← key 1 ⟨w.val - 256, h2⟩ (by show 256 * 1 + (w.val - 256) = _; omega)]
    exact Finset.sum_congr rfl fun x _ => congrArg (f · * _) (Fin.ext (by show 256 + x.val = 256 * 1 + x.val; omega))
  · rw [← key 2 ⟨w.val - 256 - 256, h3⟩ (by show 256 * 2 + (w.val - 256 - 256) = _; omega)]
    exact Finset.sum_congr rfl fun x _ => congrArg (f · * _) (Fin.ext (by show 512 + x.val = 256 * 2 + x.val; omega))
  · rw [← key 3 ⟨w.val - 256 - 256 - 256, by omega⟩ (by show 256 * 3 + (w.val - 256 - 256 - 256) = _; omega)]
    exact Finset.sum_congr rfl fun x _ => congrArg (f · * _) (Fin.ext (by show 768 + x.val = 256 * 3 + x.val; omega))

theorem sigmoid_eq (x : EReal) : Ideal.div 1 (1 + Ideal.exp (0 - x)) = Spec.sigmoid x := by
  unfold Spec.sigmoid; rw [zero_sub]

section Lru
variable (R : Reads A b s x0 x1 x2 x3 x4 x5 x6 x7 x8 x9) (XE : Vec Ideal S264x1024 .f32) (hX : HistX A b s XE)
include R hX

theorem conv_at (r : Fin 256) (w : Fin 1024) : conv x0 x1 x2 XE (ix2 r w) = Spec.conv A b (256 * s.val + r.val) w := by
  pointwise [conv, conv3, k0_pay10, k0_pay11, k0_pay9, k0_pay6, xIn]
  unfold Spec.conv
  simp only [R.h0, R.h1, R.h2]
  rw [hX, hX, hX, back_zero]
  simp only []
  rw [show 256 * s.val + (5 + r.val) = 256 * s.val + r.val + 5 by omega, show 256 * s.val + (6 + r.val) = 256 * s.val + r.val + 6 by omega,
    show 256 * s.val + (7 + r.val) = 256 * s.val + r.val + 7 by omega]
  rw [back_add A b _ _ 3 5, back_add A b _ _ 2 6, back_add A b _ _ 1 7]
  simp only [Spec.cx]
  generalize Spec.back A b _ _ 3 = t3, Spec.back A b _ _ 2 = t2, Spec.back A b _ _ 1 = t1, Spec.col A b _ _ = t0
  rw [mul_comm t0, mul_comm t1, mul_comm t2, mul_comm t3]
  abel

theorem rGate_at (r : Fin 256) (w : Fin 1024) :
    rGate x0 x1 x2 x3 x4 XE (ix2 r w) = Spec.gate A b A.wr A.br (256 * s.val + r.val) w := by
  have hf : ∀ y, conv x0 x1 x2 XE (ix2 r y) = Spec.conv A b (256 * s.val + r.val) y := conv_at A b s x0 x1 x2 x3 x4 x5 x6 x7 x8 x9 R XE hX r
  pointwise [rGate, k0_pay24, k0_pay13, k0_pay15, k0_pay18, k0_pay21, k0_pay14, k0_pay17, k0_pay20, k0_pay23]
  rw [sigmoid_eq, R.h4]
  simp only [R.h3]
  unfold conv at hf
  simp only [hf]
  unfold Spec.gate
  rw [← pick]

theorem iGate_at (r : Fin 256) (w : Fin 1024) :
    iGate x0 x1 x2 x5 x6 XE (ix2 r w) = Spec.gate A b A.wi A.bi (256 * s.val + r.val) w := by
  have hf : ∀ y, conv x0 x1 x2 XE (ix2 r y) = Spec.conv A b (256 * s.val + r.val) y := conv_at A b s x0 x1 x2 x3 x4 x5 x6 x7 x8 x9 R XE hX r
  pointwise [iGate, k0_pay25, k0_pay13, k0_pay16, k0_pay19, k0_pay22, k0_pay14, k0_pay17, k0_pay20, k0_pay23]
  rw [sigmoid_eq, R.h6]
  simp only [R.h5]
  unfold conv at hf
  simp only [hf]
  unfold Spec.gate
  rw [← pick]

omit hX in
/-- The kernel's softplus of `-lam`. -/
theorem soft (w : Fin 1024) : max (0 - A.lam (ix1 w)) 0 + Ideal.log (1 + Ideal.exp (0 - max (0 - A.lam (ix1 w)) (-(0 - A.lam (ix1 w)))))
    = Spec.softplus (-A.lam (ix1 w)) := by
  simp only [zero_sub]; rfl

theorem decay_at (r : Fin 256) (w : Fin 1024) : decay x0 x1 x2 x3 x4 x7 XE (ix2 r w) = Spec.decay A b (256 * s.val + r.val) w := by
  pointwise [decay, k0_pay29, k0_pay27, k0_pay28, k0_pay26]
  rw [rGate_at A b s x0 x1 x2 x3 x4 x5 x6 x7 x8 x9 R XE hX, R.h7]
  unfold Spec.decay Spec.logDecay
  rw [← soft A b s x0 x1 x2 x3 x4 x5 x6 x7 x8 x9 R]
  rfl

theorem inp_at (r : Fin 256) (w : Fin 1024) : inp x0 x1 x2 x3 x4 x5 x6 x7 XE (ix2 r w) = Spec.inp A b (256 * s.val + r.val) w := by
  have h := decay_at A b s x0 x1 x2 x3 x4 x5 x6 x7 x8 x9 R XE hX r w
  unfold decay at h
  pointwise [inp, k0_pay30, k0_pay27, k0_pay28, k0_pay26] at h ⊢
  rw [h, iGate_at A b s x0 x1 x2 x3 x4 x5 x6 x7 x8 x9 R XE hX, conv_at A b s x0 x1 x2 x3 x4 x5 x6 x7 x8 x9 R XE hX]
  rfl

omit R hX in
/-- The state is the recurrence restarted at any time. -/
theorem rec_state (w : Fin 1024) (k n : ℕ) :
    rec (fun n => Spec.decay A b (k + n) w) (fun n => Spec.inp A b (k + n) w) (Spec.state A b w k) n = Spec.state A b w (k + n) := by
  induction n with
  | zero => rfl
  | succ n ih => rw [← add_assoc]; simp only [rec, Spec.state]; rw [ih]

variable (c : Vec Ideal S1x1024 .f32) (hc : Before A b s c)
include hc

theorem states_at (r : Fin 256) (w : Fin 1024) :
    states x0 x1 x2 x3 x4 x5 x6 x7 XE c (ix2 r w) = Spec.state A b w (256 * s.val + r.val + 1) := by
  unfold states
  rw [H_at _ _ c w (fun n => Spec.decay A b (256 * s.val + n) w) (fun n => Spec.inp A b (256 * s.val + n) w) (fun n => decay_good A b _ w)
    (fun r => decay_at A b s x0 x1 x2 x3 x4 x5 x6 x7 x8 x9 R XE hX r w) (fun r => inp_at A b s x0 x1 x2 x3 x4 x5 x6 x7 x8 x9 R XE hX r w),
    hc, rec_state, add_assoc]

theorem after_at (w : Fin 1024) : after x0 x1 x2 x3 x4 x5 x6 x7 XE c (ix2 0 w) = Spec.state A b w (256 * s.val + 256) := by
  unfold after
  rw [carry_at _ _ c w (fun n => Spec.decay A b (256 * s.val + n) w) (fun n => Spec.inp A b (256 * s.val + n) w) (fun n => decay_good A b _ w)
    (fun r => decay_at A b s x0 x1 x2 x3 x4 x5 x6 x7 x8 x9 R XE hX r w) (fun r => inp_at A b s x0 x1 x2 x3 x4 x5 x6 x7 x8 x9 R XE hX r w),
    hc, rec_state]

theorem yLru_at (r : Fin 256) (w : Fin 1024) :
    yLru x0 x1 x2 x3 x4 x5 x6 x7 XE c (ix3 0 r w) = Spec.yLru A b (256 * s.val + r.val) w := by
  pointwise [yLru, k0_pay324, k0_pay322, k0_pay323, k0_pay7, gIn]
  rw [states_at A b s x0 x1 x2 x3 x4 x5 x6 x7 x8 x9 R XE hX c hc]
  unfold Spec.yLru Spec.gelu
  rw [← R.h0 r (Spec.cg w)]
  rfl

end Lru

section Pool
variable (R : Reads A b s x0 x1 x2 x3 x4 x5 x6 x7 x8 x9) (UE : Vec Ideal S272x1024 .f32) (hU : HistU A b s UE)
include R hU

omit R in
/-- The pool's history, `k` rows up from row `r`. -/
theorem ue_at (r : Fin 256) (w : Fin 1024) (k j : ℕ) (hj : j + k = 16) (h : j + r.val < 272) :
    UE (ix2 (⟨j + r.val, h⟩ : Fin 272) w) = Spec.back A b (Spec.cu w) (256 * s.val + r.val) k := by
  rw [hU, ← back_add A b _ _ k j]
  simp only []
  congr 1 <;> omega

omit R hU in
/-- The number of rows so far, counted from the block's place. -/
theorem count_at (r : Fin 256) (g : Fin 4) (v : BitVec 32) (hv : v = BitVec.ofNat 32 (Spec.win g)) :
    (FloatOps.sitofp .f32 (IntOp.minsi (IntOp.addi (IntOp.addi (Scalar.muli (BitVec.ofNat 32 s.val) 256#32) (BitVec.ofNat 32 r.val)) 1#32) v) : Ideal .f32)
      = Spec.cnt g (256 * s.val + r.val) := by
  subst hv
  unfold Spec.cnt
  congr 2
  show BitVec.ofNat 32 s.val * 256#32 + BitVec.ofNat 32 r.val + 1#32 = _
  rw [show 256#32 = BitVec.ofNat 32 256 from rfl, show 1#32 = BitVec.ofNat 32 1 from rfl, ← BitVec.ofNat_mul, ← BitVec.ofNat_add, ← BitVec.ofNat_add,
    mul_comm]

theorem yPool0_at (r y : Fin 256) : yPool0 x0 x8 x9 UE (BitVec.ofNat 32 s.val) (ix3 0 r y) = Spec.yPool A b 0 (256 * s.val + r.val) y := by
  pointwise [yPool0, k0_pay326, k0_pay8, uIn, k0_pay327]
  have hk := ue_at A b s UE hU r
  unfold Spec.yPool
  refine congrArg₂ (· * ·) (Finset.sum_congr rfl fun x _ => congrArg₂ (· * ·) (congrArg₂ (· - ·) (congrArg₂ Ideal.div ?_ (count_at s r 0 _ rfl)) ?_) (R.h8 0 x y)) ((congrArg x9 (congrArg (ix2 0) (Fin.ext (by simp [Spec.gch])))).trans (R.h9 _))
  · unfold Spec.wsum
    rw [show Spec.win 0 = 2 from rfl]
    simp only [Finset.sum_range_succ, Finset.sum_range_zero, zero_add]
    have h0 : ∀ x : Fin 256, x0 (ix3 0 r (Spec.cu (Spec.gch 0 x))) = Spec.back A b (Spec.cu (Spec.gch 0 x)) (256 * s.val + r.val) 0 :=
      fun x => (R.h0 r _).trans (back_zero A b _ _).symm
    refine Eq.trans ?_ (congrArg₂ (· + ·) (h0 x) (hk _ 1 15 rfl (by omega)))
    exact congrArg₂ (· + ·) (congrArg x0 (congrArg (ix3 0 r) (Fin.ext (by simp [Spec.cu, Spec.gch])))) (congrArg UE (congrArg (ix2 _) (Fin.ext (by simp [Spec.gch]))))
  · refine (congrArg x0 (congrArg (ix3 0 r) (Fin.ext (by simp [Spec.cu, Spec.gch])))).trans (R.h0 r _)
theorem yPool1_at (r y : Fin 256) : yPool1 x0 x8 x9 UE (BitVec.ofNat 32 s.val) (ix3 0 r y) = Spec.yPool A b 1 (256 * s.val + r.val) y := by
  pointwise [yPool1, k0_pay326, k0_pay8, uIn, k0_pay328]
  have hk := ue_at A b s UE hU r
  unfold Spec.yPool
  refine congrArg₂ (· * ·) (Finset.sum_congr rfl fun x _ => congrArg₂ (· * ·) (congrArg₂ (· - ·) (congrArg₂ Ideal.div ?_ (count_at s r 1 _ rfl)) ?_) (R.h8 1 x y)) (R.h9 _)
  · unfold Spec.wsum
    rw [show Spec.win 1 = 4 from rfl]
    simp only [Finset.sum_range_succ, Finset.sum_range_zero, zero_add]
    have h0 : ∀ x : Fin 256, x0 (ix3 0 r (Spec.cu (Spec.gch 1 x))) = Spec.back A b (Spec.cu (Spec.gch 1 x)) (256 * s.val + r.val) 0 :=
      fun x => (R.h0 r _).trans (back_zero A b _ _).symm
    refine Eq.trans ?_ (congrArg₂ (· + ·) (congrArg₂ (· + ·) (congrArg₂ (· + ·) (h0 x) (hk _ 1 15 rfl (by omega))) (hk _ 2 14 rfl (by omega))) (hk _ 3 13 rfl (by omega)))
    rfl
  · exact R.h0 r _
theorem yPool2_at (r y : Fin 256) : yPool2 x0 x8 x9 UE (BitVec.ofNat 32 s.val) (ix3 0 r y) = Spec.yPool A b 2 (256 * s.val + r.val) y := by
  pointwise [yPool2, k0_pay326, k0_pay8, uIn, k0_pay329, k0_pay330]
  have hk := ue_at A b s UE hU r
  unfold Spec.yPool
  refine congrArg₂ (· * ·) (Finset.sum_congr rfl fun x _ => congrArg₂ (· * ·) (congrArg₂ (· - ·) (congrArg₂ Ideal.div ?_ (count_at s r 2 _ rfl)) ?_) (R.h8 2 x y)) (R.h9 _)
  · unfold Spec.wsum
    rw [show Spec.win 2 = 8 from rfl]
    simp only [Finset.sum_range_succ, Finset.sum_range_zero, zero_add]
    have h0 : ∀ x : Fin 256, x0 (ix3 0 r (Spec.cu (Spec.gch 2 x))) = Spec.back A b (Spec.cu (Spec.gch 2 x)) (256 * s.val + r.val) 0 :=
      fun x => (R.h0 r _).trans (back_zero A b _ _).symm
    refine Eq.trans ?_ (congrArg₂ (· + ·) (congrArg₂ (· + ·) (congrArg₂ (· + ·) (congrArg₂ (· + ·) (congrArg₂ (· + ·) (congrArg₂ (· + ·) (congrArg₂ (· + ·) (h0 x) (hk _ 1 15 rfl (by omega))) (hk _ 2 14 rfl (by omega))) (hk _ 3 13 rfl (by omega))) (hk _ 4 12 rfl (by omega))) (hk _ 5 11 rfl (by omega))) (hk _ 6 10 rfl (by omega))) (hk _ 7 9 rfl (by omega)))
    rfl
  · exact R.h0 r _
theorem yPool3_at (r y : Fin 256) : yPool3 x0 x8 x9 UE (BitVec.ofNat 32 s.val) (ix3 0 r y) = Spec.yPool A b 3 (256 * s.val + r.val) y := by
  pointwise [yPool3, k0_pay326, k0_pay8, uIn, k0_pay1, k0_pay333, k0_pay332, k0_pay331]
  have hk := ue_at A b s UE hU r
  unfold Spec.yPool
  refine congrArg₂ (· * ·) (Finset.sum_congr rfl fun x _ => congrArg₂ (· * ·) (congrArg₂ (· - ·) (congrArg₂ Ideal.div ?_ (count_at s r 3 _ rfl)) ?_) (R.h8 3 x y)) (R.h9 _)
  · unfold Spec.wsum
    rw [show Spec.win 3 = 16 from rfl]
    simp only [Finset.sum_range_succ, Finset.sum_range_zero, zero_add]
    have h0 : ∀ x : Fin 256, x0 (ix3 0 r (Spec.cu (Spec.gch 3 x))) = Spec.back A b (Spec.cu (Spec.gch 3 x)) (256 * s.val + r.val) 0 :=
      fun x => (R.h0 r _).trans (back_zero A b _ _).symm
    refine Eq.trans ?_ (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (h0 x) (hk _ 1 15 rfl (by omega))) (hk _ 2 14 rfl (by omega))) (hk _ 3 13 rfl (by omega))) (hk _ 4 12 rfl (by omega))) (hk _ 5 11 rfl (by omega))) (hk _ 6 10 rfl (by omega))) (hk _ 7 9 rfl (by omega))) (hk _ 8 8 rfl (by omega))) (hk _ 9 7 rfl (by omega))) (hk _ 10 6 rfl (by omega))) (hk _ 11 5 rfl (by omega))) (hk _ 12 4 rfl (by omega))) (hk _ 13 3 rfl (by omega))) (hk _ 14 2 rfl (by omega))) (hk _ 15 1 rfl (by omega)))
    rfl
  · exact R.h0 r _
end Pool

end Cert.Mixer
end
-- ==== Proof.Mixer.Buffers.lean ====
/-
  The carried buffers and the output block of one grid point, read at an index: the histories are the input at earlier
  times (zero before the start), what is left at their tops is the history of the next block, and the output block is
  the mixer's output.
-/
module

public import proofs.«01_k».proof.Proof.Mixer.Block
public import Idealize.ShloMosaic.Lib.WritesUnit

@[expose] public section

set_option maxRecDepth 16384
noncomputable section
open Idealize.ShloMosaic Idealize.ShloMosaic.TcCoe Idealize.SL.Sem

namespace Cert.Mixer
open Cert.KernelIdeal Cert.KernelIdeal.Gen

variable (A : Spec.Args) (b : Fin 4) (s : Fin 16)
variable (x0 : Vec Ideal S1x256x3072 .f32) (x1 : Vec Ideal S4x1024 .f32) (x2 : Vec Ideal S1x1024 .f32) (x3 : Vec Ideal S4x256x256 .bf16)
  (x4 : Vec Ideal S1x1024 .f32) (x5 : Vec Ideal S4x256x256 .bf16) (x6 : Vec Ideal S1x1024 .f32) (x7 : Vec Ideal S1x1024 .f32)
  (x8 : Vec Ideal S4x256x256 .bf16) (x9 : Vec Ideal S1x1024 .f32)

/-- The first rows of the convolution's buffer hold the times before `n`. -/
def TopX (n : ℕ) (S : Vec Ideal S264x1024 .f32) : Prop :=
  ∀ (j : Fin 264) (w : Fin 1024), j.val < 8 → S (ix2 j w) = Spec.back A b (Spec.cx w) (n + j.val) 8
/-- The first rows of the pool's buffer hold the times before `n`. -/
def TopU (n : ℕ) (S : Vec Ideal S272x1024 .f32) : Prop :=
  ∀ (j : Fin 272) (w : Fin 1024), j.val < 16 → S (ix2 j w) = Spec.back A b (Spec.cu w) (n + j.val) 16

theorem col_back (q : Fin 3072) {n m k : ℕ} (h : n + k = m) : Spec.col A b q n = Spec.back A b q m k := by
  subst h
  rw [← back_zero, ← back_add A b _ _ 0 k, Nat.zero_add]

section Hist
variable (R0 : ∀ (r : Fin 256) (q : Fin 3072), x0 (ix3 0 r q) = Spec.col A b q (256 * s.val + r.val))
include R0

theorem blockX (r : Fin 256) (w : Fin 1024) : k0_pay9 (xIn x0) (ix2 r w) = Spec.col A b (Spec.cx w) (256 * s.val + r.val) := by
  rw [← R0]
  pointwise [k0_pay9, k0_pay6, xIn]
  try rfl
theorem blockU (r : Fin 256) (w : Fin 1024) : k0_pay325 (k0_pay8 (uIn x0)) (ix2 r w) = Spec.col A b (Spec.cu w) (256 * s.val + r.val) := by
  rw [← R0]
  pointwise [k0_pay325, k0_pay8, uIn]
  try rfl

theorem xeAt_at (f) (L) (h : TopX A b (256 * s.val) (View.read (Elt Ideal) (View.whole cc0_scratch0) ((View.whole cc0_scratch0).writes (Elt Ideal) f L))) :
    HistX A b s (xeAt x0 f L) := by
  intro j w
  unfold xeAt
  by_cases hj : j.val < 8
  · rw [View.read_writes_cons_rows_of_not_mem (o := 8) (W := 256) _ _ _ _ _ _ rfl rfl (by left; exact hj)]
    exact h j w hj
  · rw [View.read_writes_cons_rows_of_mem (off := ![8, 0]) (size := ![256, 1024]) (o := 8) _ _ inb_S264x1024_S256x1024_8_0 _ _ _ (ix2 (⟨j.val - 8, by omega⟩ : Fin 256) w) rfl (by show j.val = 8 + (j.val - 8); omega) rfl]
    refine (blockX A b s x0 R0 _ _).trans ?_
    exact col_back A b _ (by show 256 * s.val + (j.val - 8) + 8 = 256 * s.val + j.val; omega)
theorem ueAt_at (f) (L) (h : TopU A b (256 * s.val) (View.read (Elt Ideal) (View.whole cc0_scratch1) ((View.whole cc0_scratch1).writes (Elt Ideal) f L))) :
    HistU A b s (ueAt x0 f L) := by
  intro j w
  unfold ueAt
  by_cases hj : j.val < 16
  · rw [View.read_writes_cons_rows_of_not_mem (o := 16) (W := 256) _ _ _ _ _ _ rfl rfl (by left; exact hj)]
    exact h j w hj
  · rw [View.read_writes_cons_rows_of_mem (off := ![16, 0]) (size := ![256, 1024]) (o := 16) _ _ inb_S272x1024_S256x1024_16_0 _ _ _ (ix2 (⟨j.val - 16, by omega⟩ : Fin 256) w) rfl (by show j.val = 16 + (j.val - 16); omega) rfl]
    refine (blockU A b s x0 R0 _ _).trans ?_
    exact col_back A b _ (by show 256 * s.val + (j.val - 16) + 16 = 256 * s.val + j.val; omega)

/-- Inside a batch the history is what the block before left. -/
theorem xeB_at (S) (h : TopX A b (256 * s.val) S) : HistX A b s (xeAt x0 (bufX S) []) := by
  refine xeAt_at A b s x0 R0 _ _ ?_
  have e : View.read (Elt Ideal) (View.whole cc0_scratch0) (bufX S) = S := Memref.IsWhole.read_unread _ _
  rw [show (View.whole cc0_scratch0).writes (Elt Ideal) (bufX S) [] = bufX S from rfl, e]
  exact h
theorem ueB_at (S) (h : TopU A b (256 * s.val) S) : HistU A b s (ueAt x0 (bufU S) []) := by
  refine ueAt_at A b s x0 R0 _ _ ?_
  have e : View.read (Elt Ideal) (View.whole cc0_scratch1) (bufU S) = S := Memref.IsWhole.read_unread _ _
  rw [show (View.whole cc0_scratch1).writes (Elt Ideal) (bufU S) [] = bufU S from rfl, e]
  exact h

/-- At the start of a batch the history is zero. -/
theorem xeA_at (hs : s.val = 0) : HistX A b s (xeA x0) := by
  refine xeAt_at A b s x0 R0 _ _ ?_
  intro j w hj
  rw [View.read_writes_cons_rows_of_mem (off := ![0, 0]) (size := ![8, 1024]) (o := 0) _ _ inb_S264x1024_S8x1024_0_0 _ _ _ (ix2 (⟨j.val, hj⟩ : Fin 8) w) rfl (by show j.val = 0 + j.val; omega) rfl]
  rw [Spec.back, if_neg (by omega)]
  exact lit_zero
theorem ueA_at (hs : s.val = 0) : HistU A b s (ueA x0) := by
  refine ueAt_at A b s x0 R0 _ _ ?_
  intro j w hj
  rw [View.read_writes_cons_rows_of_mem (off := ![0, 0]) (size := ![16, 1024]) (o := 0) _ _ inb_S272x1024_S16x1024_0_0 _ _ _ (ix2 (⟨j.val, hj⟩ : Fin 16) w) rfl (by show j.val = 0 + j.val; omega) rfl]
  rw [Spec.back, if_neg (by omega)]
  exact lit_zero

/-- What is left is the history of the next block. -/
theorem xNext_at (L) : TopX A b (256 * s.val + 256) (xNext x0 L) := by
  intro j w hj
  unfold xNext
  have hy : (ix2 j w : S264x1024.Idx) = (Rect.unit ![0, 0] ![8, 1024] inb_S264x1024_S8x1024_0_0).emb (ix2 (⟨j.val, hj⟩ : Fin 8) w) := by
    funext a; refine Fin.ext ?_
    rw [Rect.emb_apply]
    fin_cases a
    · show j.val = 0 + 1 * j.val; omega
    · show w.val = 0 + 1 * w.val; omega
  rw [hy, View.canon_cons_emb]
  pointwise [k0_pay12, k0_pay6, xIn]
  refine (R0 ⟨248 + j.val, by omega⟩ (Spec.cx w)).trans ?_
  exact col_back A b _ (by show 256 * s.val + (248 + j.val) + 8 = 256 * s.val + 256 + j.val; omega)
theorem uNext_at (L) : TopU A b (256 * s.val + 256) (uNext x0 L) := by
  intro j w hj
  unfold uNext
  have hy : (ix2 j w : S272x1024.Idx) = (Rect.unit ![0, 0] ![16, 1024] inb_S272x1024_S16x1024_0_0).emb (ix2 (⟨j.val, hj⟩ : Fin 16) w) := by
    funext a; refine Fin.ext ?_
    rw [Rect.emb_apply]
    fin_cases a
    · show j.val = 0 + 1 * j.val; omega
    · show w.val = 0 + 1 * w.val; omega
  rw [hy, View.canon_cons_emb]
  pointwise [k0_pay2, k0_pay8, uIn]
  refine (R0 ⟨240 + j.val, by omega⟩ (Spec.cu w)).trans ?_
  exact col_back A b _ (by show 256 * s.val + (240 + j.val) + 16 = 256 * s.val + 256 + j.val; omega)
end Hist

/-- The output block. -/
theorem yOut_at (R : Reads A b s x0 x1 x2 x3 x4 x5 x6 x7 x8 x9) (XE : Vec Ideal S264x1024 .f32) (hX : HistX A b s XE)
    (UE : Vec Ideal S272x1024 .f32) (hU : HistU A b s UE) (c : Vec Ideal S1x1024 .f32) (hc : Before A b s c) (r : Fin 256) (q : Fin 2048) :
    yOut x0 x1 x2 x3 x4 x5 x6 x7 x8 x9 XE UE c (BitVec.ofNat 32 s.val) (ix3 0 r q) = Spec.out A b (256 * s.val + r.val) q := by
  unfold yOut
  canon_tiles x h using View.cover_of_tiledBy _ ![1, 256, 256] (by sl_kernel_rfl) _
  all_goals
    have e0 : (x 0).val = 0 := by omega
    have e1 : (x 1).val = r.val := h1.symm
  · have e2 : q.val = 1792 + (x 2).val := h2
    rw [show x = ix3 (0 : Fin 1) r (⟨(x 2).val, x2_lt⟩ : Fin 256) from by funext a; match a with | 0 => exact Fin.ext e0 | 1 => exact Fin.ext e1 | 2 => rfl,
      yPool3_at A b s x0 x1 x2 x3 x4 x5 x6 x7 x8 x9 R UE hU]
    unfold Spec.out
    rw [dif_neg (by omega)]
    exact congrArg₂ (fun g y => Spec.yPool A b g _ y) (Fin.ext (by show 3 = (q.val - 1024) / 256; omega)) (Fin.ext (by show (x 2).val = (q.val - 1024) % 256; omega))
  · have e2 : q.val = 1536 + (x 2).val := h2
    rw [show x = ix3 (0 : Fin 1) r (⟨(x 2).val, x2_lt⟩ : Fin 256) from by funext a; match a with | 0 => exact Fin.ext e0 | 1 => exact Fin.ext e1 | 2 => rfl,
      yPool2_at A b s x0 x1 x2 x3 x4 x5 x6 x7 x8 x9 R UE hU]
    unfold Spec.out
    rw [dif_neg (by omega)]
    exact congrArg₂ (fun g y => Spec.yPool A b g _ y) (Fin.ext (by show 2 = (q.val - 1024) / 256; omega)) (Fin.ext (by show (x 2).val = (q.val - 1024) % 256; omega))
  · have e2 : q.val = 1280 + (x 2).val := h2
    rw [show x = ix3 (0 : Fin 1) r (⟨(x 2).val, x2_lt⟩ : Fin 256) from by funext a; match a with | 0 => exact Fin.ext e0 | 1 => exact Fin.ext e1 | 2 => rfl,
      yPool1_at A b s x0 x1 x2 x3 x4 x5 x6 x7 x8 x9 R UE hU]
    unfold Spec.out
    rw [dif_neg (by omega)]
    exact congrArg₂ (fun g y => Spec.yPool A b g _ y) (Fin.ext (by show 1 = (q.val - 1024) / 256; omega)) (Fin.ext (by show (x 2).val = (q.val - 1024) % 256; omega))
  · have e2 : q.val = 1024 + (x 2).val := h2
    rw [show x = ix3 (0 : Fin 1) r (⟨(x 2).val, x2_lt⟩ : Fin 256) from by funext a; match a with | 0 => exact Fin.ext e0 | 1 => exact Fin.ext e1 | 2 => rfl,
      yPool0_at A b s x0 x1 x2 x3 x4 x5 x6 x7 x8 x9 R UE hU]
    unfold Spec.out
    rw [dif_neg (by omega)]
    exact congrArg₂ (fun g y => Spec.yPool A b g _ y) (Fin.ext (by show 0 = (q.val - 1024) / 256; omega)) (Fin.ext (by show (x 2).val = (q.val - 1024) % 256; omega))
  · have e2 : q.val = (x 2).val := h2
    rw [show x = ix3 (0 : Fin 1) r (⟨(x 2).val, x2_lt⟩ : Fin 1024) from by funext a; match a with | 0 => exact Fin.ext e0 | 1 => exact Fin.ext e1 | 2 => rfl,
      yLru_at A b s x0 x1 x2 x3 x4 x5 x6 x7 x8 x9 R XE hX c hc]
    unfold Spec.out
    rw [dif_pos (by omega)]
    exact congrArg (Spec.yLru A b _) (Fin.ext e2.symm)

theorem before_zero (hs : s.val = 0) : Before A b s (k0_pay5 (F := Ideal)) := by
  intro w
  rw [hs]
  exact lit_zero

end Cert.Mixer
end
-- ==== Proof.Mixer.Windows.lean ====
/-
  What the blocks of the mixer's grid points read: the rows `256 s …` of batch `b` of the input, and the whole of the
  other operands as the host lays them out, the gates' weights as block-diagonal matrices.
-/
module

public import proofs.«01_k».proof.Proof.Mixer.Buffers

@[expose] public section

set_option maxRecDepth 16384
noncomputable section
open Idealize.ShloMosaic Idealize.ShloMosaic.TcCoe Idealize.SL.Sem

namespace Cert.Mixer
open Cert.KernelIdeal Cert.KernelIdeal.Gen

variable (m : (ℓ : Loc nD τ sig) → Buf (Elt Ideal) ℓ) (c : Dev nD)

/-- The mixer's arguments. -/
def args : Spec.Args where
  z := m ((c : Thread nD τ).loc main_arg0)
  cw := m ((c : Thread nD τ).loc main_arg1)
  cb := m ((c : Thread nD τ).loc main_arg2)
  wr := m ((c : Thread nD τ).loc main_arg3)
  br := m ((c : Thread nD τ).loc main_arg4)
  wi := m ((c : Thread nD τ).loc main_arg5)
  bi := m ((c : Thread nD τ).loc main_arg6)
  lam := m ((c : Thread nD τ).loc main_arg7)
  pw := m ((c : Thread nD τ).loc main_arg8)
  ps := m ((c : Thread nD τ).loc main_arg9)

/-- The batch and the block of a point. -/
abbrev bt (t : Fin cfg0.N) : Fin 4 := ⟨t.val / 16, by have := t.isLt; have h : cfg0.N = 64 := N_0; omega⟩
abbrev sb (t : Fin cfg0.N) : Fin 16 := ⟨t.val % 16, by omega⟩

theorem idx : ∀ t : Fin cfg0.N, win0_0.index t = ![t.val / 16, t.val % 16, 0] ∧ win0_1.index t = ![0, 0] ∧ win0_2.index t = ![0, 0]
    ∧ win0_3.index t = ![0, 0, 0] ∧ win0_4.index t = ![0, 0] ∧ win0_5.index t = ![0, 0, 0] ∧ win0_6.index t = ![0, 0] ∧ win0_7.index t = ![0, 0]
    ∧ win0_8.index t = ![0, 0, 0] ∧ win0_9.index t = ![0, 0] ∧ (grid0.coords t 1).val = t.val % 16 :=
  (by decide +kernel : ∀ t : Fin grid0.N, _)

theorem r0 (t : Fin cfg0.N) (r : Fin 256) (q : Fin 3072) : iblk m c 0 t (ix3 0 r q) = Spec.col (args m c) (bt t) q (256 * (sb t).val + r.val) := by
  unfold Spec.col
  rw [dif_pos (by show 256 * (t.val % 16) + r.val < 4096; omega)]
  show _ = m ((c : Thread nD τ).loc main_arg0) _
  have e := (idx t).1
  blk_point [iblk, V, e]

theorem r1 (t : Fin cfg0.N) (k : Fin 4) (w : Fin 1024) : iblk m c 1 t (ix2 k w) = (args m c).cw (ix2 k w) := by
  show _ = m ((c : Thread nD τ).loc main_arg1) _
  have e := (idx t).2.1
  blk_point [iblk, V, e]

theorem r2 (t : Fin cfg0.N) (w : Fin 1024) : iblk m c 2 t (ix2 0 w) = (args m c).cb (ix1 w) := by
  show _ = m ((c : Thread nD τ).loc main_arg2) _
  have e := (idx t).2.2.1
  blk_point [iblk, V, e]

theorem r8 (t : Fin cfg0.N) (g : Fin 4) (x y : Fin 256) : iblk m c 8 t (ix3 g x y) = (args m c).pw (ix3 g x y) := by
  show _ = m ((c : Thread nD τ).loc main_arg8) _
  have e := (idx t).2.2.2.2.2.2.2.2.1
  blk_point [iblk, V, e]

/-- The identity the host makes of two counts. -/
theorem eye (a b : ℕ) (ha : a < 4) (hb : b < 4) :
    (FloatOps.uitofp .f32 (IntOp.cmpi .eq (IntOp.addi (BitVec.ofNat 32 a) 0#32) (BitVec.ofNat 32 b)) : Ideal .f32) = if a = b then (1 : EReal) else 0 := by
  have h : IntOp.cmpi .eq (IntOp.addi (BitVec.ofNat 32 a) 0#32) (BitVec.ofNat 32 b) = if a = b then 1#1 else 0#1 := by
    interval_cases a <;> interval_cases b <;> rfl
  rw [h]
  by_cases hab : a = b
  · rw [if_pos hab, if_pos hab]
    show (((1#1 : BitVec 1).toNat : ℝ) : EReal) = 1
    simp
  · rw [if_neg hab, if_neg hab]
    show (((0#1 : BitVec 1).toNat : ℝ) : EReal) = 0
    simp

/-- A weight times the identity is the block-diagonal matrix. -/
theorem diag_of (W : (⟨3, ![16, 64, 64]⟩ : Shape).Idx → EReal) (g : Fin 4) (x y : Fin 256) (i : S4x256x256.Idx)
    (h0 : (i 0).val = g.val) (h1 : (i 1).val = x.val) (h2 : (i 2).val = y.val) (p0 p1 p2) :
    W (ix3 (⟨(i 0).val * 4 + (i 1).val / 64, p0⟩ : Fin 16) (⟨(i 1).val % 64, p1⟩ : Fin 64) (⟨(i 2).val % 64, p2⟩ : Fin 64))
      * (FloatOps.uitofp .f32 (IntOp.cmpi .eq (IntOp.addi (BitVec.ofNat 32 ((i 1).val / 64)) 0#32) (BitVec.ofNat 32 ((i 2).val / 64))) : Ideal .f32)
      = diag W g x y := by
  rw [eye _ _ (by omega) (by omega)]
  unfold diag
  by_cases h : x.val / 64 = y.val / 64
  · rw [if_pos (by omega), if_pos h, mul_one]
    congr 1
    funext a
    match a with
    | 0 => exact Fin.ext (by show (i 0).val * 4 + (i 1).val / 64 = 4 * g.val + y.val / 64; omega)
    | 1 => exact Fin.ext (by show (i 1).val % 64 = x.val % 64; omega)
    | 2 => exact Fin.ext (by show (i 2).val % 64 = y.val % 64; omega)
  · rw [if_neg (by omega), if_neg h, mul_zero]

theorem r3 (t : Fin cfg0.N) (g : Fin 4) (x y : Fin 256) : iblk m c 3 t (ix3 g x y) = diag (args m c).wr g x y := by
  have e := (idx t).2.2.2.1
  blk_simp [iblk, e]
  entry_read
  pointwise
  exact diag_of (args m c).wr g x y _ (by show win0_3.index t 0 * 4 + 1 * g.val = g.val; rw [e]; simp) (by show win0_3.index t 1 * 256 + 1 * x.val = x.val; rw [e]; simp)
    (by show win0_3.index t 2 * 256 + 1 * y.val = y.val; rw [e]; simp) _ _ _

theorem r5 (t : Fin cfg0.N) (g : Fin 4) (x y : Fin 256) : iblk m c 5 t (ix3 g x y) = diag (args m c).wi g x y := by
  have e := (idx t).2.2.2.2.2.1
  blk_simp [iblk, e]
  entry_read
  pointwise
  exact diag_of (args m c).wi g x y _ (by show win0_5.index t 0 * 4 + 1 * g.val = g.val; rw [e]; simp) (by show win0_5.index t 1 * 256 + 1 * x.val = x.val; rw [e]; simp)
    (by show win0_5.index t 2 * 256 + 1 * y.val = y.val; rw [e]; simp) _ _ _

theorem r4 (t : Fin cfg0.N) (w : Fin 1024) : iblk m c 4 t (ix2 0 w) = (args m c).br (ix1 w) := by
  show _ = m ((c : Thread nD τ).loc main_arg4) _
  have e := (idx t).2.2.2.2.1
  blk_point [iblk, V, e]

theorem r6 (t : Fin cfg0.N) (w : Fin 1024) : iblk m c 6 t (ix2 0 w) = (args m c).bi (ix1 w) := by
  show _ = m ((c : Thread nD τ).loc main_arg6) _
  have e := (idx t).2.2.2.2.2.2.1
  blk_point [iblk, V, e]

theorem r7 (t : Fin cfg0.N) (w : Fin 1024) : iblk m c 7 t (ix2 0 w) = (args m c).lam (ix1 w) := by
  show _ = m ((c : Thread nD τ).loc main_arg7) _
  have e := (idx t).2.2.2.2.2.2.2.1
  blk_point [iblk, V, e]

theorem r9 (t : Fin cfg0.N) (w : Fin 1024) : iblk m c 9 t (ix2 0 w) = (args m c).ps (ix1 w) := by
  show _ = m ((c : Thread nD τ).loc main_arg9) _
  have e := (idx t).2.2.2.2.2.2.2.2.2.1
  blk_point [iblk, V, e]

/-- The blocks of point `t` are those of block `t mod 16` of batch `t / 16`. -/
theorem reads (t : Fin cfg0.N) : Reads (args m c) (bt t) (sb t) (iblk m c 0 t) (iblk m c 1 t) (iblk m c 2 t) (iblk m c 3 t) (iblk m c 4 t) (iblk m c 5 t)
    (iblk m c 6 t) (iblk m c 7 t) (iblk m c 8 t) (iblk m c 9 t) :=
  ⟨r0 m c t, r1 m c t, r2 m c t, r3 m c t, r4 m c t, r5 m c t, r6 m c t, r7 m c t, r8 m c t, r9 m c t⟩

end Cert.Mixer
end
-- ==== Proof.Mixer.Chain.lean ====
/-
  The grid points in order: what point `t` leaves is block `t mod 16` of batch `t / 16` of the mixer, and so is the
  whole output.
-/
module

public import proofs.«01_k».proof.Proof.Mixer.PointA
public import proofs.«01_k».proof.Proof.Mixer.PointB
public import proofs.«01_k».proof.Proof.Mixer.Windows
public import proofs.«01_k».proof.Proof.Gen.KernelIdeal.Value

@[expose] public section

set_option maxRecDepth 16384
noncomputable section
open Idealize.ShloMosaic Idealize.ShloMosaic.TcCoe Idealize.SL.Sem

namespace Cert.Mixer
open Cert.KernelIdeal Cert.KernelIdeal.Gen

variable (m : (ℓ : Loc nD τ sig) → Buf (Elt Ideal) ℓ) (c : Dev nD)

/-- What a point leaves. -/
structure Left (t : Fin cfg0.N) : Prop where
  out : ∀ (r : Fin 256) (q : Fin 2048), (outsAt0 m c t.val t.isLt).1 (ix3 0 r q) = Spec.out (args m c) (bt t) (256 * (sb t).val + r.val) q
  x : TopX (args m c) (bt t) (256 * (sb t).val + 256) (outsAt0 m c t.val t.isLt).2.1
  u : TopU (args m c) (bt t) (256 * (sb t).val + 256) (outsAt0 m c t.val t.isLt).2.2.1
  h : ∀ w : Fin 1024, (outsAt0 m c t.val t.isLt).2.2.2 (ix2 0 w) = Spec.state (args m c) (bt t) w (256 * (sb t).val + 256)

theorem coord (t : Fin cfg0.N) : BitVec.ofNat 32 (grid0.coords t 1).val = BitVec.ofNat 32 (sb t).val := congrArg _ (idx t).2.2.2.2.2.2.2.2.2.2

theorem left_A (t : Fin cfg0.N) (h : t.val % 16 = 0) : Left m c t := by
  have R := reads m c t
  have hX := xeA_at (args m c) (bt t) (sb t) (iblk m c 0 t) R.h0 h
  have hU := ueA_at (args m c) (bt t) (sb t) (iblk m c 0 t) R.h0 h
  have hc := before_zero (args m c) (bt t) (sb t) h
  refine ⟨fun r q => ?_, ?_, ?_, fun w => ?_⟩
  · rw [outA m c t h, coord]
    exact yOut_at _ _ _ _ _ _ _ _ _ _ _ _ _ R _ hX _ hU _ hc r q
  · rw [xNextA m c t h]
    exact xNext_at _ _ _ _ R.h0 _
  · rw [uNextA m c t h]
    exact uNext_at _ _ _ _ R.h0 _
  · rw [afterA m c t h]
    exact after_at _ _ _ _ _ _ _ _ _ _ _ _ _ R _ hX _ hc w

theorem left_B (t : Fin cfg0.N) (h : ¬ t.val % 16 = 0) (L : Left m c ⟨t.val - 1, Nat.lt_of_le_of_lt (Nat.sub_le _ _) t.isLt⟩) : Left m c t := by
  have R := reads m c t
  have hb : bt (⟨t.val - 1, Nat.lt_of_le_of_lt (Nat.sub_le _ _) t.isLt⟩ : Fin cfg0.N) = bt t := Fin.ext (by show (t.val - 1) / 16 = t.val / 16; omega)
  have hs : 256 * (sb (⟨t.val - 1, Nat.lt_of_le_of_lt (Nat.sub_le _ _) t.isLt⟩ : Fin cfg0.N)).val + 256 = 256 * (sb t).val := by
    show 256 * ((t.val - 1) % 16) + 256 = 256 * (t.val % 16); omega
  obtain ⟨-, Lx, Lu, Lh⟩ := L
  rw [hb, hs] at Lx Lu
  have hX := xeB_at (args m c) (bt t) (sb t) (iblk m c 0 t) R.h0 _ Lx
  have hU := ueB_at (args m c) (bt t) (sb t) (iblk m c 0 t) R.h0 _ Lu
  have hc : Before (args m c) (bt t) (sb t) (prev m c t).2.2.2 := by
    intro w
    refine (Lh w).trans ?_
    rw [hb, hs]
  refine ⟨fun r q => ?_, ?_, ?_, fun w => ?_⟩
  · rw [outB m c t h, coord]
    exact yOut_at _ _ _ _ _ _ _ _ _ _ _ _ _ R _ hX _ hU _ hc r q
  · rw [xNextB m c t h]
    exact xNext_at _ _ _ _ R.h0 _
  · rw [uNextB m c t h]
    exact uNext_at _ _ _ _ R.h0 _
  · rw [afterB m c t h]
    exact after_at _ _ _ _ _ _ _ _ _ _ _ _ _ R _ hX _ hc w

theorem left : ∀ (n : ℕ) (hn : n < cfg0.N), Left m c ⟨n, hn⟩
  | 0, hn => left_A m c ⟨0, hn⟩ rfl
  | n + 1, hn => by
    by_cases h : (n + 1) % 16 = 0
    · exact left_A m c ⟨n + 1, hn⟩ h
    · exact left_B m c ⟨n + 1, hn⟩ h (left n (Nat.lt_of_succ_lt hn))

/-- What the kernel's output holds. -/
theorem kernel_out (b : Fin 4) (n : Fin 4096) (q : Fin 2048) :
    Cert.KernelIdeal.Value.G10 m c (ix3 b n q) = Spec.out (args m c) b n.val q := by
  have hp : Cert.KernelIdeal.Value.pt10Of (ix3 b n q) = 16 * b.val + n.val / 256 := by
    show 16 * (b.val / 1 - 0) + 1 * (n.val / 256 - 0) + 1 * (q.val / 2048 - 0) = _
    omega
  have hN : cfg0.N = 64 := N_0
  have hlt : Cert.KernelIdeal.Value.pt10Of (ix3 b n q) < cfg0.N := by rw [hp, hN]; omega
  unfold Cert.KernelIdeal.Value.G10
  rw [dif_pos hlt]
  have L := (left m c _ hlt).out ⟨n.val % 256, by omega⟩ q
  have hb : bt (⟨Cert.KernelIdeal.Value.pt10Of (ix3 b n q), hlt⟩ : Fin cfg0.N) = b := Fin.ext (by show Cert.KernelIdeal.Value.pt10Of (ix3 b n q) / 16 = b.val; rw [hp]; omega)
  have hs : 256 * (sb (⟨Cert.KernelIdeal.Value.pt10Of (ix3 b n q), hlt⟩ : Fin cfg0.N)).val + n.val % 256 = n.val := by
    show 256 * (Cert.KernelIdeal.Value.pt10Of (ix3 b n q) % 16) + n.val % 256 = n.val; rw [hp]; omega
  rw [hb, hs] at L
  rw [← L]
  have hl : Cert.KernelIdeal.Value.loc10Of (ix3 b n q) = ix3 (0 : Fin 1) (⟨n.val % 256, by omega⟩ : Fin 256) q := by
    funext a
    match a with
    | 0 => exact Fin.ext (by show b.val % 1 = 0; omega)
    | 1 => rfl
    | 2 => exact Fin.ext (by show q.val % 2048 = q.val; omega)
  rw [hl, ← Cert.KernelIdeal.Value.outsAt0_sweep m c _ hlt]

end Cert.Mixer
end
-- ==== Proof.Mixer.RefEntry.lean ====
/-
  What the reference computes before its loop over time: the padded input, the convolution, the gates, the decay and
  the recurrence's input, each as a term of the arguments; and that the loop starts from them.
-/
module

public import proofs.«01_k».proof.Proof.Gen.ReferenceIdeal.Run
public import proofs.«01_k».proof.Proof.Mixer.Algebra

@[expose] public section

set_option maxRecDepth 16384
noncomputable section

namespace Cert.Mixer.Ref
open Idealize.ShloMosaic Idealize.ShloMosaic.TcCoe Idealize.SL.Sem Idealize.ShloMosaic.StableHlo
open Cert.ReferenceIdeal Cert.ReferenceIdeal.Gen Cert.ReferenceIdeal.Value

/-- The recurrence's columns of `z`, three zero rows in front. -/
def xpT (z : FVec Ideal S4x4096x3072 .f32) : FVec Ideal S4x4099x1024 .f32 :=
  pad S4x4099x1024 ![0, 3, 0] ![0, 0, 0] ![0, 0, 0] (extractStridedSlice S4x4096x1024 ![0, 0, 0] z slices_S4x4096x3072_S4x4096x1024_0_0_0)
    (sitofp .f32 (constantI S_ 32 0#32)) pads_S4x4096x1024_S4x4099x1024_000_300_000 h_S_

/-- A vector over the channels, at every batch and time. -/
def rowT (v : FVec Ideal S1024 .f32) : FVec Ideal S4x4096x1024 .f32 :=
  broadcastInDim S4x4096x1024 ![0, 1, 2] bcast_S1x1x1024_S4x4096x1024_0_1_2 (broadcastInDim S1x1x1024 ![2] bcast_S1024_S1x1x1024_2 v)

/-- A number at every batch, time and channel. -/
def numT (w : BitVec 32) : FVec Ideal S4x4096x1024 .f32 := broadcastInDim S4x4096x1024 ![] bcast_S_S4x4096x1024 (constant S_ .f32 w)

/-- The convolution. -/
def convT (z : FVec Ideal S4x4096x3072 .f32) (cw : FVec Ideal S4x1024 .f32) (cb : FVec Ideal S1024 .f32) : FVec Ideal S4x4096x1024 .f32 :=
  addf (addf (addf (addf (rowT cb)
    (mulf (extractStridedSlice S4x4096x1024 ![0, 0, 0] (xpT z) slices_S4x4099x1024_S4x4096x1024_0_0_0)
      (rowT (shapeCast _ (extractStridedSlice S1x1024 ![0, 0] cw slices_S4x1024_S1x1024_0_0) shapeCasts_S1x1024_S1024))))
    (mulf (extractStridedSlice S4x4096x1024 ![0, 1, 0] (xpT z) slices_S4x4099x1024_S4x4096x1024_0_1_0)
      (rowT (shapeCast _ (extractStridedSlice S1x1024 ![1, 0] cw slices_S4x1024_S1x1024_1_0) shapeCasts_S1x1024_S1024))))
    (mulf (extractStridedSlice S4x4096x1024 ![0, 2, 0] (xpT z) slices_S4x4099x1024_S4x4096x1024_0_2_0)
      (rowT (shapeCast _ (extractStridedSlice S1x1024 ![2, 0] cw slices_S4x1024_S1x1024_2_0) shapeCasts_S1x1024_S1024))))
    (mulf (extractStridedSlice S4x4096x1024 ![0, 3, 0] (xpT z) slices_S4x4099x1024_S4x4096x1024_0_3_0)
      (rowT (shapeCast _ (extractStridedSlice S1x1024 ![3, 0] cw slices_S4x1024_S1x1024_3_0) shapeCasts_S1x1024_S1024)))

/-- A gate over an input `x`. -/
def gateT (x : FVec Ideal S4x4096x1024 .f32) (w : FVec Ideal S16x64x64 .f32) (b : FVec Ideal S1024 .f32) : FVec Ideal S4x4096x1024 .f32 :=
  Host.divf (numT 0x3F800000#32) (addf (numT 0x3F800000#32) (Host.exp (Host.negf (addf
    (shapeCast _ (transpose S4x4096x16x64 [2, 3, 0, 1] (Host.dotGeneral (F := Ideal) (φ₁ := .f32) (φ₂ := .f32) (so := S16x64x4x4096) dot_S16x64x64_S4x4096x16x64_S16x64x4x4096_1_3_2_01_0_2 none w
      (shapeCast _ x shapeCasts_S4x4096x1024_S4x4096x16x64)) transposes_S16x64x4x4096_S4x4096x16x64_2_3_0_1) shapeCasts_S4x4096x16x64_S4x4096x1024)
    (rowT b)))))

/-- The softplus of `-lam`. -/
def softT (lam : FVec Ideal S1024 .f32) : FVec Ideal S1024 .f32 :=
  let x : FVec Ideal S1024 .f32 := Host.negf lam
  let o : FVec Ideal S1024 .f32 := broadcastInDim S1024 ![] bcast_S_S1024 (constant S_ .f32 0x00000000#32)
  select (cmpf .une (subf x o) (subf x o)) (addf x o) (addf (maximumf x o) (Host.log1p (Host.exp (Host.negf (Host.absf (subf x o))))))

/-- The logarithm of the decay, of the recurrence gate. -/
def logT (r : FVec Ideal S4x4096x1024 .f32) (lam : FVec Ideal S1024 .f32) : FVec Ideal S4x4096x1024 .f32 :=
  mulf (mulf (numT 0xC1000000#32) r) (rowT (softT lam))

/-- The recurrence's input, of the decay's logarithm, the input gate and the convolution. -/
def inpT (l i x : FVec Ideal S4x4096x1024 .f32) : FVec Ideal S4x4096x1024 .f32 :=
  mulf (Host.sqrt (Host.negf (Host.expm1 (mulf (numT 0x40000000#32) l)))) (mulf i x)

variable (m : (ℓ : Loc nD τ sig) → Buf (Elt Ideal) ℓ) (c : Dev nD)

/-- The reference's arguments. -/
abbrev arg0 : FVec Ideal S4x4096x3072 .f32 := m ((c.tc : Thread nD τ).loc main_arg0)
@[inherit_doc arg0] abbrev arg1 : FVec Ideal S4x1024 .f32 := m ((c.tc : Thread nD τ).loc main_arg1)
@[inherit_doc arg0] abbrev arg2 : FVec Ideal S1024 .f32 := m ((c.tc : Thread nD τ).loc main_arg2)
@[inherit_doc arg0] abbrev arg3 : FVec Ideal S16x64x64 .f32 := m ((c.tc : Thread nD τ).loc main_arg3)
@[inherit_doc arg0] abbrev arg4 : FVec Ideal S1024 .f32 := m ((c.tc : Thread nD τ).loc main_arg4)
@[inherit_doc arg0] abbrev arg5 : FVec Ideal S16x64x64 .f32 := m ((c.tc : Thread nD τ).loc main_arg5)
@[inherit_doc arg0] abbrev arg6 : FVec Ideal S1024 .f32 := m ((c.tc : Thread nD τ).loc main_arg6)
@[inherit_doc arg0] abbrev arg7 : FVec Ideal S1024 .f32 := m ((c.tc : Thread nD τ).loc main_arg7)
@[inherit_doc arg0] abbrev arg8 : FVec Ideal S4x256x256 .f32 := m ((c.tc : Thread nD τ).loc main_arg8)
@[inherit_doc arg0] abbrev arg9 : FVec Ideal S1024 .f32 := m ((c.tc : Thread nD τ).loc main_arg9)

/-- The convolution of the arguments. -/
def convM : FVec Ideal S4x4096x1024 .f32 := convT (arg0 m c) (arg1 m c) (arg2 m c)
/-- The decay's logarithm of the arguments. -/
def logM : FVec Ideal S4x4096x1024 .f32 := logT (gateT (convM m c) (arg3 m c) (arg4 m c)) (arg7 m c)

set_option maxHeartbeats 4000000 in
/-- The decays the loop starts with. -/
theorem entry_0 : entryContents preI m c (Proc.devRef .tc main_v76_0)
    = transpose S4096x4x1024 [1, 0, 2] (Host.exp (logM m c)) transposes_S4x4096x1024_S4096x4x1024_1_0_2 := by
  simp only [entryContents, afterL_cons, afterL_nil]
  after_reads_simp
  rfl

set_option maxHeartbeats 4000000 in
/-- The inputs the loop starts with. -/
theorem entry_1 : entryContents preI m c (Proc.devRef .tc main_v76_1)
    = transpose S4096x4x1024 [1, 0, 2] (inpT (logM m c) (gateT (convM m c) (arg5 m c) (arg6 m c)) (convM m c)) transposes_S4x4096x1024_S4096x4x1024_1_0_2 := by
  simp only [entryContents, afterL_cons, afterL_nil]
  after_reads_simp
  rfl

/-- The state the loop starts with. -/
theorem entry_3 : entryContents preI m c (Proc.devRef .tc main_v76_3) = (broadcastInDim S4x1024 ![] bcast_S_S4x1024 (constant S_ .f32 0x00000000#32) : FVec Ideal S4x1024 .f32) := by
  simp only [entryContents, afterL_cons, afterL_nil]
  after_reads_simp
  rfl

end Cert.Mixer.Ref
end
-- ==== Proof.Mixer.RefAt.lean ====
/-
  What the reference's loop starts from, at an index: the mixer's decays and inputs.
-/
module

public import proofs.«01_k».proof.Proof.Mixer.RefEntry
public import Idealize.ShloMosaic.Lib.KernelVsHost

@[expose] public section

set_option maxRecDepth 16384
noncomputable section

namespace Cert.Mixer.Ref
open Idealize.ShloMosaic Idealize.ShloMosaic.TcCoe Idealize.SL.Sem Idealize.ShloMosaic.StableHlo
open Cert.ReferenceIdeal Cert.ReferenceIdeal.Gen Cert.ReferenceIdeal.Value

variable (A : Spec.Args) (b : Fin 4)

/-- The padding is zero. -/
theorem pad_zero : (sitofp (F := Ideal) .f32 (constantI S_ 32 0#32)) (Shape.Idx.first h_S_) = 0 := by
  show (((0#32 : BitVec 32).toInt : ℝ) : EReal) = 0
  simp

theorem back_shift (q : Fin 3072) (n k d : ℕ) : Spec.back A b q (d + n) (k + d) = Spec.back A b q n k := by
  unfold Spec.back
  rw [Nat.add_comm d n, Nat.add_sub_add_right]
  simp only [Nat.add_le_add_iff_right]

theorem xpT_at (p : Fin 4099) (w : Fin 1024) : xpT A.z (ix3 b p w) = Spec.back A b (Spec.cx w) p.val 3 := by
  unfold Spec.back xpT
  split
  · rename_i h
    rw [pad_apply_of_inside _ _ _ _ _ _ _ _ (ix3 b (⟨p.val - 3, by omega⟩ : Fin 4096) w) (by
      intro a
      match a with
      | 0 => exact (by show b.val = 0 + b.val * 1; omega)
      | 1 => exact (by show p.val = 3 + (p.val - 3) * 1; omega)
      | 2 => exact (by show w.val = 0 + w.val * 1; omega))]
    unfold Spec.col
    rw [dif_pos (by omega : p.val - 3 < 4096)]
    pointwise
    first | done | rfl | (congr 1; ext a; fin_cases a <;> simp)
  · rename_i h
    rw [pad_apply_of_not_inside _ _ _ _ _ _ _ _ 1 (by
      intro hh
      have : 3 ≤ p.val := hh.1
      omega)]
    exact pad_zero

theorem rowT_at (v : FVec Ideal S1024 .f32) (n : Fin 4096) (w : Fin 1024) : rowT v (ix3 b n w) = v (ix1 w) := by
  pointwise [rowT]

theorem numT_at (v : BitVec 32) (n : Fin 4096) (w : Fin 1024) : numT v (ix3 b n w) = (Scalar.ofBits .f32 v : Ideal .f32) := by
  pointwise [numT]

theorem convT_at (n : Fin 4096) (w : Fin 1024) : convT A.z A.cw A.cb (ix3 b n w) = Spec.conv A b n.val w := by
  have h0 : extractStridedSlice S4x4096x1024 ![0, 0, 0] (xpT A.z) slices_S4x4099x1024_S4x4096x1024_0_0_0 (ix3 b n w) = Spec.back A b (Spec.cx w) n.val 3 := by
    refine Eq.trans ?_ (xpT_at A b ⟨n.val, by omega⟩ w)
    pointwise
  have h1 : extractStridedSlice S4x4096x1024 ![0, 1, 0] (xpT A.z) slices_S4x4099x1024_S4x4096x1024_0_1_0 (ix3 b n w) = Spec.back A b (Spec.cx w) n.val 2 := by
    refine Eq.trans ?_ ((xpT_at A b ⟨1 + n.val, by omega⟩ w).trans (back_shift A b (Spec.cx w) n.val 2 1))
    pointwise
  have h2 : extractStridedSlice S4x4096x1024 ![0, 2, 0] (xpT A.z) slices_S4x4099x1024_S4x4096x1024_0_2_0 (ix3 b n w) = Spec.back A b (Spec.cx w) n.val 1 := by
    refine Eq.trans ?_ ((xpT_at A b ⟨2 + n.val, by omega⟩ w).trans (back_shift A b (Spec.cx w) n.val 1 2))
    pointwise
  have h3 : extractStridedSlice S4x4096x1024 ![0, 3, 0] (xpT A.z) slices_S4x4099x1024_S4x4096x1024_0_3_0 (ix3 b n w) = Spec.back A b (Spec.cx w) n.val 0 := by
    refine Eq.trans ?_ ((xpT_at A b ⟨3 + n.val, by omega⟩ w).trans (back_shift A b (Spec.cx w) n.val 0 3))
    pointwise
  unfold convT Spec.conv
  simp only [addf_apply, mulf_apply, h0, h1, h2, h3, rowT_at]
  pointwise

theorem gateT_at (x : FVec Ideal S4x4096x1024 .f32) (hx : ∀ (n : Fin 4096) (w : Fin 1024), x (ix3 b n w) = Spec.conv A b n.val w)
    (W : FVec Ideal S16x64x64 .f32) (B : FVec Ideal S1024 .f32) (n : Fin 4096) (w : Fin 1024) :
    gateT x W B (ix3 b n w) = Spec.gate A b W B n.val w := by
  pointwise [gateT, rowT, numT]
  refine congrArg (fun e => Ideal.div 1 (1 + Ideal.exp (-(e + B (ix1 w))))) (Finset.sum_congr rfl fun i _ => ?_)
  refine (mul_comm _ _).trans (congrArg (· * W (ix3 (Spec.hd w) i (Spec.lane w))) ((hx n _).trans ?_))
  exact congrArg (Spec.conv A b n.val) (Fin.ext (by show w.val / 64 * 64 + i.val = 64 * (w.val / 64) + i.val; omega))

theorem softT_at (lam : FVec Ideal S1024 .f32) (w : Fin 1024) : softT lam (ix1 w) = Spec.softplus (-lam (ix1 w)) := by
  pointwise [softT]
  refine (if_neg (not_not.2 rfl)).trans ?_
  rfl

theorem logT_at (r : FVec Ideal S4x4096x1024 .f32) (n : Fin 4096) (w : Fin 1024) (hr : r (ix3 b n w) = Spec.gate A b A.wr A.br n.val w) :
    logT r A.lam (ix3 b n w) = Spec.logDecay A b n.val w := by
  unfold logT Spec.logDecay
  simp only [mulf_apply, hr, rowT_at, numT_at, softT_at]
  rfl

theorem two : Ideal.ofBits .f32 1073741824#32 = 2 := by
  simp [Ideal.ofBits, Ideal.ieee]
  rw [← EReal.coe_mul]
  norm_num
  rfl

theorem inpT_at (l i x : FVec Ideal S4x4096x1024 .f32) (n : Fin 4096) (w : Fin 1024) (hl : l (ix3 b n w) = Spec.logDecay A b n.val w)
    (hi : i (ix3 b n w) = Spec.gate A b A.wi A.bi n.val w) (hx : x (ix3 b n w) = Spec.conv A b n.val w) :
    inpT l i x (ix3 b n w) = Spec.inp A b n.val w := by
  unfold Spec.inp
  rw [← one_sub_sq, ← hl, ← hi, ← hx]
  pointwise [inpT, numT]
  exact congrArg (fun e => Ideal.sqrt (-(Ideal.exp (e * l (ix3 b n w)) - 1)) * (i (ix3 b n w) * x (ix3 b n w))) two

variable (m : (ℓ : Loc nD τ sig) → Buf (Elt Ideal) ℓ) (c : Dev nD)

/-- The reference's arguments. -/
def argsR : Spec.Args := ⟨arg0 m c, arg1 m c, arg2 m c, arg3 m c, arg4 m c, arg5 m c, arg6 m c, arg7 m c, arg8 m c, arg9 m c⟩

theorem convM_at (n : Fin 4096) (w : Fin 1024) : convM m c (ix3 b n w) = Spec.conv (argsR m c) b n.val w := convT_at (argsR m c) b n w

theorem logM_at (n : Fin 4096) (w : Fin 1024) : logM m c (ix3 b n w) = Spec.logDecay (argsR m c) b n.val w :=
  logT_at (argsR m c) b _ n w (gateT_at (argsR m c) b _ (convM_at b m c) (arg3 m c) (arg4 m c) n w)

/-- The decays the loop starts with. -/
theorem entry_0_at (n : Fin 4096) (w : Fin 1024) :
    (entryContents preI m c (Proc.devRef .tc main_v76_0) : FVec Ideal S4096x4x1024 .f32) (ix3 n b w) = Spec.decay (argsR m c) b n.val w := by
  rw [entry_0]
  unfold Spec.decay
  rw [← logM_at b m c n w]
  pointwise

/-- The inputs the loop starts with. -/
theorem entry_1_at (n : Fin 4096) (w : Fin 1024) :
    (entryContents preI m c (Proc.devRef .tc main_v76_1) : FVec Ideal S4096x4x1024 .f32) (ix3 n b w) = Spec.inp (argsR m c) b n.val w := by
  rw [entry_1, ← inpT_at (argsR m c) b _ _ _ n w (logM_at b m c n w) (gateT_at (argsR m c) b _ (convM_at b m c) (arg5 m c) (arg6 m c) n w) (convM_at b m c n w)]
  pointwise

/-- The state the loop starts with. -/
theorem entry_3_at (w : Fin 1024) : (entryContents preI m c (Proc.devRef .tc main_v76_3) : FVec Ideal S4x1024 .f32) (ix2 b w) = (0 : EReal) := by
  rw [entry_3]
  pointwise

end Cert.Mixer.Ref
end
-- ==== Proof.Mixer.RefPool.lean ====
/-
  The reference's pool: a difference of two running sums over time is the sum over the window, where the summands are
  finite.
-/
module

public import proofs.«01_k».proof.Proof.Mixer.RefAt

@[expose] public section

set_option maxRecDepth 16384
noncomputable section

namespace Cert.Mixer.Ref
open Idealize.ShloMosaic Idealize.ShloMosaic.TcCoe Idealize.SL.Sem Idealize.ShloMosaic.StableHlo
open Cert.ReferenceIdeal Cert.ReferenceIdeal.Gen Cert.ReferenceIdeal.Value

/-! ## Sums -/

/-- Adding up a list from a start is the start plus the sum. -/
theorem foldl_add {ι : Type} (l : List ι) (g : ι → EReal) (v : EReal) : l.foldl (fun r n => r + g n) v = v + (l.map g).sum := by
  induction l generalizing v with
  | nil => simp
  | cons a l ih => rw [List.foldl_cons, ih, List.map_cons, List.sum_cons, add_assoc]

/-- The window's positions are its times. -/
def times (N : ℕ) : (⟨4, ![1, N, 1, 1]⟩ : Shape).Idx ≃ Fin N where
  toFun i := i 1
  invFun k := ix4 (0 : Fin 1) k (0 : Fin 1) (0 : Fin 1)
  left_inv i := by
    funext a
    match a with
    | 0 => exact Subsingleton.elim (α := Fin 1) _ _
    | 1 => rfl
    | 2 => exact Subsingleton.elim (α := Fin 1) _ _
    | 3 => exact Subsingleton.elim (α := Fin 1) _ _
  right_inv k := rfl

/-- A window of the whole length, padded in front by one less, sums a prefix. -/
theorem sum_prefix (f : ℕ → EReal) (N M n : ℕ) (hM : M + 1 = N) (hn : n < N) :
    (∑ k : Fin N, if M ≤ n + k.val then f (n + k.val - M) else 0) = ∑ k ∈ Finset.range (n + 1), f k := by
  rw [Fin.sum_univ_eq_sum_range (fun k => if M ≤ n + k then f (n + k - M) else 0) N, ← Finset.sum_filter]
  refine Finset.sum_nbij' (fun k => n + k - M) (fun k => k + M - n) ?_ ?_ ?_ ?_ ?_
  · intro k hk; simp only [Finset.mem_filter, Finset.mem_range] at hk ⊢; omega
  · intro k hk; simp only [Finset.mem_filter, Finset.mem_range] at hk ⊢; omega
  · intro k hk; simp only [Finset.mem_filter, Finset.mem_range] at hk; omega
  · intro k hk; simp only [Finset.mem_range] at hk; omega
  · intro k hk; rfl

/-- The running sum along the second of four axes. -/
theorem running (B N M G C : ℕ) (hM : M + 1 = N) (x : (⟨4, ![B, N, G, C]⟩ : Shape).Idx → EReal)
    (h : (⟨4, ![B, N, G, C]⟩ : Shape).ReduceWindows (![1, N, 1, 1] : Fin 4 → ℕ) ![1, 1, 1, 1] ![0, M, 0, 0] ![0, 0, 0, 0] ⟨4, ![B, N, G, C]⟩)
    (b : Fin B) (g : Fin G) (w : Fin C) (f : ℕ → EReal) (hf : ∀ n : Fin N, x (ix4 b n g w) = f n.val) (n : Fin N) :
    Ideal.hostReduceWindowAdd (s := ⟨4, ![B, N, G, C]⟩) (![1, N, 1, 1] : Fin 4 → ℕ) ![1, 1, 1, 1] ![0, M, 0, 0] ![0, 0, 0, 0] h x 0 (ix4 b n g w)
      = ∑ k ∈ Finset.range (n.val + 1), f k := by
  refine Eq.trans ?_ (sum_prefix f N M n.val hM n.isLt)
  unfold Ideal.hostReduceWindowAdd Host.reduceWindow
  refine (foldl_add _ _ _).trans ?_
  rw [zero_add, ← List.ofFn_eq_map, List.sum_ofFn]
  refine Eq.trans (Finset.sum_congr rfl fun i _ => ?_) ((Equiv.sum_comp (Shape.rowMajor (⟨4, ![1, N, 1, 1]⟩ : Shape)).symm
    (fun q : (⟨4, ![1, N, 1, 1]⟩ : Shape).Idx => if M ≤ n.val + (q 1).val then f (n.val + (q 1).val - M) else 0)).trans ?_)
  · have q0 : ((Shape.rowMajor (⟨4, ![1, N, 1, 1]⟩ : Shape)).symm i 0).val < 1 := ((Shape.rowMajor (⟨4, ![1, N, 1, 1]⟩ : Shape)).symm i 0).isLt
    have q1 : ((Shape.rowMajor (⟨4, ![1, N, 1, 1]⟩ : Shape)).symm i 1).val < N := ((Shape.rowMajor (⟨4, ![1, N, 1, 1]⟩ : Shape)).symm i 1).isLt
    have q2 : ((Shape.rowMajor (⟨4, ![1, N, 1, 1]⟩ : Shape)).symm i 2).val < 1 := ((Shape.rowMajor (⟨4, ![1, N, 1, 1]⟩ : Shape)).symm i 2).isLt
    have q3 : ((Shape.rowMajor (⟨4, ![1, N, 1, 1]⟩ : Shape)).symm i 3).val < 1 := ((Shape.rowMajor (⟨4, ![1, N, 1, 1]⟩ : Shape)).symm i 3).isLt
    by_cases hk : M ≤ n.val + ((Shape.rowMajor (⟨4, ![1, N, 1, 1]⟩ : Shape)).symm i 1).val
    · rw [if_pos hk, dif_pos (fun a => match a with
        | 0 => (by show 0 ≤ b.val * 1 + ((Shape.rowMajor (⟨4, ![1, N, 1, 1]⟩ : Shape)).symm i 0).val ∧ b.val * 1 + ((Shape.rowMajor (⟨4, ![1, N, 1, 1]⟩ : Shape)).symm i 0).val - 0 < B; omega)
        | 1 => (by show M ≤ n.val * 1 + ((Shape.rowMajor (⟨4, ![1, N, 1, 1]⟩ : Shape)).symm i 1).val ∧ n.val * 1 + ((Shape.rowMajor (⟨4, ![1, N, 1, 1]⟩ : Shape)).symm i 1).val - M < N; omega)
        | 2 => (by show 0 ≤ g.val * 1 + ((Shape.rowMajor (⟨4, ![1, N, 1, 1]⟩ : Shape)).symm i 2).val ∧ g.val * 1 + ((Shape.rowMajor (⟨4, ![1, N, 1, 1]⟩ : Shape)).symm i 2).val - 0 < G; omega)
        | 3 => (by show 0 ≤ w.val * 1 + ((Shape.rowMajor (⟨4, ![1, N, 1, 1]⟩ : Shape)).symm i 3).val ∧ w.val * 1 + ((Shape.rowMajor (⟨4, ![1, N, 1, 1]⟩ : Shape)).symm i 3).val - 0 < C; omega))]
      rw [← hf ⟨n.val + ((Shape.rowMajor (⟨4, ![1, N, 1, 1]⟩ : Shape)).symm i 1).val - M, by omega⟩]
      refine congrArg x (funext fun a => Fin.ext ?_)
      match a with
      | 0 => show b.val * 1 + ((Shape.rowMajor (⟨4, ![1, N, 1, 1]⟩ : Shape)).symm i 0).val - 0 = b.val; omega
      | 1 => show n.val * 1 + ((Shape.rowMajor (⟨4, ![1, N, 1, 1]⟩ : Shape)).symm i 1).val - M = n.val + ((Shape.rowMajor (⟨4, ![1, N, 1, 1]⟩ : Shape)).symm i 1).val - M; omega
      | 2 => show g.val * 1 + ((Shape.rowMajor (⟨4, ![1, N, 1, 1]⟩ : Shape)).symm i 2).val - 0 = g.val; omega
      | 3 => show w.val * 1 + ((Shape.rowMajor (⟨4, ![1, N, 1, 1]⟩ : Shape)).symm i 3).val - 0 = w.val; omega
    · rw [if_neg hk]
      exact dif_neg (fun hin => hk (by
        have h1 : M ≤ n.val * 1 + ((Shape.rowMajor (⟨4, ![1, N, 1, 1]⟩ : Shape)).symm i 1).val ∧ _ := hin 1
        omega))
  · exact (Equiv.sum_comp (times N) (fun k : Fin N => if M ≤ n.val + k.val then f (n.val + k.val - M) else 0))

theorem coe_sum (s : Finset ℕ) (r : ℕ → ℝ) : ((∑ k ∈ s, r k : ℝ) : EReal) = ∑ k ∈ s, (r k : EReal) := by
  induction s using Finset.induction_on with
  | empty => simp
  | insert a s ha ih => rw [Finset.sum_insert ha, Finset.sum_insert ha, EReal.coe_add, ih]

/-- The difference of two prefix sums of finite numbers is the sum between. -/
theorem prefix_sub (f : ℕ → EReal) (hf : ∀ k, ∃ r : ℝ, f k = (r : EReal)) (n W : ℕ) :
    (∑ k ∈ Finset.range (n + 1), f k) - (if W ≤ n then ∑ k ∈ Finset.range (n - W + 1), f k else 0)
      = ∑ k ∈ Finset.range W, if k ≤ n then f (n - k) else 0 := by
  choose r hr using hf
  split
  · rename_i h
    have e : ∑ k ∈ Finset.range (n - W + 1), f k = ((∑ k ∈ Finset.range (n - W + 1), r k : ℝ) : EReal) := by
      rw [coe_sum]; exact Finset.sum_congr rfl fun k _ => hr k
    have e2 : ∑ k ∈ Finset.range (n + 1), f k = (∑ k ∈ Finset.range (n - W + 1), f k) + ∑ k ∈ Finset.range W, f (n - W + 1 + k) := by
      rw [← Finset.sum_range_add]; congr 2; omega
    rw [e2, e, add_comm, EReal.add_sub_cancel_right, ← Finset.sum_range_reflect]
    refine Finset.sum_congr rfl fun k hk => ?_
    have := Finset.mem_range.1 hk
    rw [if_pos (by omega)]
    congr 1; omega
  · rename_i h
    rw [sub_zero, ← Finset.sum_filter, ← Finset.sum_range_reflect]
    have e : (Finset.range W).filter (fun k => k ≤ n) = Finset.range (n + 1) := by
      ext k; simp only [Finset.mem_filter, Finset.mem_range]; omega
    rw [e]
    refine Finset.sum_congr rfl fun k hk => ?_
    congr 1

/-! ## The terms -/

/-- The pool's columns, by group. -/
def uT (z : FVec Ideal S4x4096x3072 .f32) : FVec Ideal S4x4096x4x256 .f32 :=
  shapeCast _ (extractStridedSlice S4x4096x1024 ![0, 0, 2048] z slices_S4x4096x3072_S4x4096x1024_0_0_2048) shapeCasts_S4x4096x1024_S4x4096x4x256

/-- The running sum over time. -/
def csT (x : FVec Ideal S4x4096x4x256 .f32) : FVec Ideal S4x4096x4x256 .f32 :=
  Host.reduceWindowAdd ![1, 4096, 1, 1] ![1, 1, 1, 1] ![0, 4095, 0, 0] ![0, 0, 0, 0] x (broadcastInDim S_ ![] bcast_S_S_ (constant S_ .f32 0x00000000#32))
    reduceWindows_S4x4096x4x256_S4x4096x4x256_w1s1p0_0_w4096s1p4095_0_w1s1p0_0_w1s1p0_0 h_S_

/-- One group. -/
def grpT (g : ℕ) (h : S4x4096x4x256.Slices ![0, 0, g, 0] S4x4096x1x256) (x : FVec Ideal S4x4096x4x256 .f32) : FVec Ideal S4x4096x256 .f32 :=
  shapeCast _ (extractStridedSlice S4x4096x1x256 ![0, 0, g, 0] x h) shapeCasts_S4x4096x1x256_S4x4096x256

/-- `W` times later, zero at the start. -/
def lateT (W : ℕ) (hp : S4x4096x256.Pads (![0, W, 0] : Fin 3 → Nat) ![0, 0, 0] ![0, 0, 0] ⟨3, ![4, 4096 + W, 256]⟩)
    (hs : (⟨3, ![4, 4096 + W, 256]⟩ : Shape).Slices ![0, 0, 0] S4x4096x256) (x : FVec Ideal S4x4096x256 .f32) : FVec Ideal S4x4096x256 .f32 :=
  extractStridedSlice S4x4096x256 ![0, 0, 0] (pad ⟨3, ![4, 4096 + W, 256]⟩ ![0, W, 0] ![0, 0, 0] ![0, 0, 0] x (sitofp .f32 (constantI S_ 32 0#32)) hp h_S_) hs

/-- How many times the window holds. -/
def cntT (v : BitVec 32) : FVec Ideal S4x4096x256 .f32 :=
  broadcastInDim S4x4096x256 ![0, 1, 2] bcast_S1x4096x1_S4x4096x256_0_1_2 (broadcastInDim S1x4096x1 ![1] bcast_S4096_S1x4096x1_1
    (sitofp .f32 (minsi (addi (iotaInDim S4096 32 0) (broadcastInDim S4096 ![] bcast_S_S4096 (constantI S_ 32 1#32))) (broadcastInDim S4096 ![] bcast_S_S4096 (constantI S_ 32 v)))))

/-- A group's averages less its columns. -/
def partT (g W : ℕ) (v : BitVec 32) (h : S4x4096x4x256.Slices ![0, 0, g, 0] S4x4096x1x256)
    (hp : S4x4096x256.Pads (![0, W, 0] : Fin 3 → Nat) ![0, 0, 0] ![0, 0, 0] ⟨3, ![4, 4096 + W, 256]⟩)
    (hs : (⟨3, ![4, 4096 + W, 256]⟩ : Shape).Slices ![0, 0, 0] S4x4096x256) (z : FVec Ideal S4x4096x3072 .f32) : FVec Ideal S4x4096x256 .f32 :=
  subf (Host.divf (subf (grpT g h (csT (uT z))) (lateT W hp hs (grpT g h (csT (uT z))))) (cntT v)) (grpT g h (uT z))

/-! ## The terms at an index -/

variable (A : Spec.Args) (b : Fin 4)

theorem uT_at (n : Fin 4096) (g : Fin 4) (x : Fin 256) : uT A.z (ix4 b n g x) = Spec.col A b (Spec.cu (Spec.gch g x)) n.val := by
  unfold Spec.col
  rw [dif_pos n.isLt]
  pointwise [uT]
  exact congrArg (fun q => A.z (ix3 b n q)) (Fin.ext (by show 2048 + (g.val * 256 + x.val) = 2048 + (256 * g.val + x.val); omega))

theorem csT_at (x : FVec Ideal S4x4096x4x256 .f32) (g : Fin 4) (w : Fin 256) (f : ℕ → EReal) (hf : ∀ n : Fin 4096, x (ix4 b n g w) = f n.val) (n : Fin 4096) :
    csT x (ix4 b n g w) = ∑ k ∈ Finset.range (n.val + 1), f k := by
  unfold csT Host.reduceWindowAdd
  rw [Ideal.hostReduceWindowAdd_def]
  have e : (broadcastInDim S_ ![] bcast_S_S_ (constant (F := Ideal) S_ .f32 0x00000000#32)) (Shape.Idx.first h_S_) = (0 : EReal) := by
    show Ideal.ofBits .f32 0x00000000#32 = 0
    simp [Ideal.ofBits, Ideal.ieee]
  rw [e]
  exact running 4 4096 4095 4 256 rfl x _ b g w f hf n

theorem grpT_at (g : Fin 4) (h : S4x4096x4x256.Slices ![0, 0, g.val, 0] S4x4096x1x256) (x : FVec Ideal S4x4096x4x256 .f32) (n : Fin 4096) (w : Fin 256) :
    grpT g.val h x (ix3 b n w) = x (ix4 b n g w) := by
  unfold grpT
  match g, h with
  | 0, h => pointwise
  | 1, h => pointwise
  | 2, h => pointwise
  | 3, h => pointwise

theorem lateT_at (W : ℕ) (hp : S4x4096x256.Pads (![0, W, 0] : Fin 3 → Nat) ![0, 0, 0] ![0, 0, 0] ⟨3, ![4, 4096 + W, 256]⟩)
    (hs : (⟨3, ![4, 4096 + W, 256]⟩ : Shape).Slices ![0, 0, 0] S4x4096x256) (x : FVec Ideal S4x4096x256 .f32) (w : Fin 256) (f : ℕ → EReal)
    (hf : ∀ n : Fin 4096, x (ix3 b n w) = f n.val) (n : Fin 4096) :
    lateT W hp hs x (ix3 b n w) = if W ≤ n.val then f (n.val - W) else 0 := by
  unfold lateT extractStridedSlice
  split
  · rename_i h
    rw [pad_apply_of_inside _ _ _ _ _ _ _ _ (ix3 b (⟨n.val - W, by omega⟩ : Fin 4096) w) (fun a => match a with
      | 0 => (by show 0 + b.val = 0 + b.val * 1; omega)
      | 1 => (by show 0 + n.val = W + (n.val - W) * 1; omega)
      | 2 => (by show 0 + w.val = 0 + w.val * 1; omega))]
    exact hf _
  · rename_i h
    rw [pad_apply_of_not_inside _ _ _ _ _ _ _ _ 1 (by
      intro hh
      have : W ≤ 0 + n.val := hh.1
      omega)]
    exact pad_zero

theorem cntT_at (g : Fin 4) (n : Fin 4096) (w : Fin 256) : cntT (BitVec.ofNat 32 (Spec.win g)) (ix3 b n w) = Spec.cnt g n.val := by
  unfold Spec.cnt
  pointwise [cntT]
  refine congrArg (fun e => (FloatOps.sitofp .f32 (IntOp.minsi e (BitVec.ofNat 32 (Spec.win g))) : Ideal .f32)) ?_
  exact (BitVec.ofNat_add n.val 1).symm

/-- The pool's columns are finite. -/
def Finite (A : Spec.Args) : Prop := ∀ (b : Fin 4) (n : Fin 4096) (w : Fin 1024), ∃ r : ℝ, A.z (ix3 b n (Spec.cu w)) = (r : EReal)

theorem partT_at (hA : Finite A) (g : Fin 4) (h : S4x4096x4x256.Slices ![0, 0, g.val, 0] S4x4096x1x256)
    (hp : S4x4096x256.Pads (![0, Spec.win g, 0] : Fin 3 → Nat) ![0, 0, 0] ![0, 0, 0] ⟨3, ![4, 4096 + Spec.win g, 256]⟩)
    (hs : (⟨3, ![4, 4096 + Spec.win g, 256]⟩ : Shape).Slices ![0, 0, 0] S4x4096x256) (n : Fin 4096) (x : Fin 256) :
    partT g.val (Spec.win g) (BitVec.ofNat 32 (Spec.win g)) h hp hs A.z (ix3 b n x)
      = Ideal.div (Spec.wsum A b g n.val (Spec.gch g x)) (Spec.cnt g n.val) - Spec.col A b (Spec.cu (Spec.gch g x)) n.val := by
  have hc : ∀ n : Fin 4096, grpT g.val h (csT (uT A.z)) (ix3 b n x) = ∑ k ∈ Finset.range (n.val + 1), Spec.col A b (Spec.cu (Spec.gch g x)) k :=
    fun n => (grpT_at b g h _ n x).trans (csT_at b _ g x _ (fun n => uT_at A b n g x) n)
  have hw : Spec.wsum A b g n.val (Spec.gch g x) = _ := (prefix_sub (Spec.col A b (Spec.cu (Spec.gch g x))) (fun k => by
    unfold Spec.col
    split
    · exact hA b _ _
    · exact ⟨0, rfl⟩) n.val (Spec.win g)).symm
  show Ideal.div (grpT g.val h (csT (uT A.z)) (ix3 b n x) - lateT (Spec.win g) hp hs (grpT g.val h (csT (uT A.z))) (ix3 b n x)) (cntT _ (ix3 b n x))
    - grpT g.val h (uT A.z) (ix3 b n x) = _
  rw [hw, cntT_at, ← uT_at A b n g x, ← grpT_at b g h (uT A.z) n x, hc, lateT_at b _ hp hs _ x (fun j => ∑ k ∈ Finset.range (j + 1), Spec.col A b (Spec.cu (Spec.gch g x)) k) hc n]

end Cert.Mixer.Ref
end
-- ==== Proof.Mixer.RefLoop.lean ====
/-
  The reference's loop over time: after `k` turns it holds the state before time `k`, and the states of the times before.
-/
module

public import proofs.«01_k».proof.Proof.Mixer.RefAt
public import Idealize.ShloMosaic.Lib.WordCmp

@[expose] public section

set_option maxRecDepth 16384
noncomputable section

namespace Cert.Mixer.Ref
open Idealize.ShloMosaic Idealize.ShloMosaic.TcCoe Idealize.SL.Sem Idealize.ShloMosaic.StableHlo Idealize.ShloMosaic.WordCmp
open Cert.ReferenceIdeal Cert.ReferenceIdeal.Gen Cert.ReferenceIdeal.Value

variable (m : (ℓ : Loc nD τ sig) → Buf (Elt Ideal) ℓ) (c : Dev nD)

/-- What the loop's buffers hold after `k` turns. -/
structure Turn (k : ℕ) (V : Valuation τ sig (Elt Ideal)) : Prop where
  c0 : V (Proc.devRef .tc main_v76_0) = entryContents preI m c (Proc.devRef .tc main_v76_0)
  c1 : V (Proc.devRef .tc main_v76_1) = entryContents preI m c (Proc.devRef .tc main_v76_1)
  c2 : V (Proc.devRef .tc main_v76_2) = fun _ => BitVec.ofNat 32 k
  c3 : ∀ (b : Fin 4) (w : Fin 1024), (V (Proc.devRef .tc main_v76_3) : FVec Ideal S4x1024 .f32) (ix2 b w) = Spec.state (argsR m c) b w k
  c4 : ∀ (n : Fin 4096) (b : Fin 4) (w : Fin 1024), n.val < k →
    (V (Proc.devRef .tc main_v76_4) : FVec Ideal S4096x4x1024 .f32) (ix3 n b w) = Spec.state (argsR m c) b w (n.val + 1)

/-- A turn's start along each axis. -/
theorem start_at (k : ℕ) (hk : k < 4096) (x : IVec S_ 32) (hx : x = fun _ => BitVec.ofNat 32 k) (a : Fin 3) :
    (((![x, constantI S_ 32 0#32, constantI S_ 32 0#32] : Fin 3 → IVec S_ 32) a (Shape.Idx.first h_S_)).toInt) = ((![k, 0, 0] a : ℕ) : Int) := by
  subst hx
  match a with
  | 0 =>
    show (BitVec.ofNat 32 k).toInt = (k : Int)
    rw [BitVec.toInt_eq_toNat_of_lt (by rw [BitVec.toNat_ofNat]; omega), BitVec.toNat_ofNat, Nat.mod_eq_of_lt (by omega)]
  | 1 => rfl
  | 2 => rfl

theorem fits (k : ℕ) (hk : k < 4096) : S4096x4x1024.Slices ![k, 0, 0] S1x4x1024 :=
  ⟨rfl, fun a => match a with
    | 0 => (by show k + 1 ≤ 4096; omega)
    | 1 => (by show 0 + 4 ≤ 4; omega)
    | 2 => (by show 0 + 1024 ≤ 1024; omega)⟩

/-- The state after a turn. -/
theorem next_at (k : ℕ) (hk : k < 4096) (V : Valuation τ sig (Elt Ideal)) (T : Turn m c k V) (b : Fin 4) (w : Fin 1024) :
    (res_main_while0b_v177 V : FVec Ideal S4x1024 .f32) (ix2 b w) = Spec.state (argsR m c) b w (k + 1) := by
  unfold res_main_while0b_v177
  rw [dynamicSlice_eq_extract _ _ _ _ ![k, 0, 0] (fits k hk) (start_at k hk _ T.c2),
    dynamicSlice_eq_extract _ _ _ _ ![k, 0, 0] (fits k hk) (start_at k hk _ T.c2)]
  show _ = Spec.decay (argsR m c) b k w * Spec.state (argsR m c) b w k + Spec.inp (argsR m c) b k w
  rw [← entry_0_at b m c ⟨k, hk⟩ w, ← entry_1_at b m c ⟨k, hk⟩ w, ← T.c3 b w, ← T.c0, ← T.c1]
  pointwise
  first | done | rfl

theorem turn_step (k : ℕ) (hk : k < 4096) (V : Valuation τ sig (Elt Ideal)) (T : Turn m c k V) : Turn m c (k + 1) (STEP V) where
  c0 := (STEP_main_v76_0 V).trans T.c0
  c1 := (STEP_main_v76_1 V).trans T.c1
  c2 := by
    rw [STEP_main_v76_2]
    unfold step_main_v76_2
    rw [T.c2]
    funext i
    exact (BitVec.ofNat_add k 1).symm
  c3 := fun b w => by
    rw [STEP_main_v76_3]
    exact next_at m c k hk V T b w
  c4 := fun n b w hn => by
    rw [STEP_main_v76_4]
    unfold step_main_v76_4
    rw [dynamicUpdateSlice_eq_update _ _ _ _ ![k, 0, 0] (fits k hk) (start_at k hk _ T.c2)]
    rw [id, updateSlice_apply]
    by_cases h : n.val = k
    · rw [dif_pos (fun a => match a with
        | 0 => (by show k ≤ n.val ∧ n.val < k + 1; omega)
        | 1 => (by show 0 ≤ b.val ∧ b.val < 0 + 4; omega)
        | 2 => (by show 0 ≤ w.val ∧ w.val < 0 + 1024; omega))]
      refine Eq.trans ?_ ((next_at m c k hk V T b w).trans (by rw [h]))
      pointwise
    · rw [dif_neg (fun hin => h (by
        have h0 : k ≤ n.val ∧ n.val < k + 1 := hin 0
        omega))]
      exact T.c4 n b w (by omega)

/-- The buffers after `k` turns. -/
theorem turn (k : ℕ) (hk : k ≤ 4096) : Turn m c k (STEP^[k] (entryContents preI m c)) := by
  induction k with
  | zero => exact ⟨rfl, rfl, ctr_entry m c, fun b w => entry_3_at b m c w, fun n b w h => absurd h (by omega)⟩
  | succ k ih =>
    rw [Function.iterate_succ_apply']
    exact turn_step m c k (by omega) _ (ih (by omega))

/-- The states the loop leaves. -/
theorem states_left (n : Fin 4096) (b : Fin 4) (w : Fin 1024) :
    ((STEP^[4096] (entryContents preI m c)) (Proc.devRef .tc main_v76_4) : FVec Ideal S4096x4x1024 .f32) (ix3 n b w) = Spec.state (argsR m c) b w (n.val + 1) :=
  (turn m c 4096 le_rfl).c4 n b w n.isLt

end Cert.Mixer.Ref
end
-- ==== Proof.Mixer.RefOut.lean ====
/-
  The reference's result is the mixer's, where the pool's columns are finite.
-/
module

public import proofs.«01_k».proof.Proof.Mixer.RefPool
public import proofs.«01_k».proof.Proof.Mixer.RefLoop

@[expose] public section

set_option maxRecDepth 16384
noncomputable section

namespace Cert.Mixer.Ref
open Idealize.ShloMosaic Idealize.ShloMosaic.TcCoe Idealize.SL.Sem Idealize.ShloMosaic.StableHlo
open Cert.ReferenceIdeal Cert.ReferenceIdeal.Gen Cert.ReferenceIdeal.Value

/-- The gate's columns. -/
def gcT (z : FVec Ideal S4x4096x3072 .f32) : FVec Ideal S4x4096x1024 .f32 :=
  extractStridedSlice S4x4096x1024 ![0, 0, 1024] z slices_S4x4096x3072_S4x4096x1024_0_0_1024

/-- The gelu. -/
def geluT (x : FVec Ideal S4x4096x1024 .f32) : FVec Ideal S4x4096x1024 .f32 :=
  mulf x (mulf (numT 0x3F000000#32) (addf (numT 0x3F800000#32) (Host.tanh (mulf (numT 0x3F4C422A#32) (addf x (mulf (numT 0x3D372713#32) (mulf (mulf x x) x)))))))

/-- The recurrence's half. -/
def lruT (h : FVec Ideal S4096x4x1024 .f32) (z : FVec Ideal S4x4096x3072 .f32) : FVec Ideal S4x4096x1024 .f32 :=
  mulf (transpose S4x4096x1024 [1, 0, 2] h transposes_S4096x4x1024_S4x4096x1024_1_0_2) (geluT (gcT z))

/-- A group as one of four. -/
def oneT (x : FVec Ideal S4x4096x256 .f32) : FVec Ideal S4x4096x1x256 .f32 :=
  broadcastInDim S4x4096x1x256 ![0, 1, 3] bcast_S4x4096x256_S4x4096x1x256_0_1_3 x

/-- The four groups, side by side. -/
def fourT (a b c d : FVec Ideal S4x4096x256 .f32) : FVec Ideal S4x4096x4x256 .f32 :=
  concatenate S4x4096x4x256 2 [⟨S4x4096x1x256, oneT a⟩, ⟨S4x4096x1x256, oneT b⟩, ⟨S4x4096x1x256, oneT c⟩, ⟨S4x4096x1x256, oneT d⟩]
    concatenates_S4x4096x1x256_S4x4096x1x256_S4x4096x1x256_S4x4096x1x256_S4x4096x4x256_d2

/-- The four groups through their matrices, scaled. -/
def mixT (x : FVec Ideal S4x4096x4x256 .f32) (pw : FVec Ideal S4x256x256 .f32) (ps : FVec Ideal S1024 .f32) : FVec Ideal S4x4096x1024 .f32 :=
  mulf (shapeCast _ (transpose S4x4096x4x256 [2, 3, 0, 1] (Host.dotGeneral (F := Ideal) (φ₁ := .f32) (φ₂ := .f32) (so := S4x256x4x4096)
    dot_S4x256x256_S4x4096x4x256_S4x256x4x4096_1_3_2_01_0_2 none pw x) transposes_S4x256x4x4096_S4x4096x4x256_2_3_0_1) shapeCasts_S4x4096x4x256_S4x4096x1024) (rowT ps)

/-- The averages less the columns, of all four groups. -/
def poolT (z : FVec Ideal S4x4096x3072 .f32) : FVec Ideal S4x4096x4x256 .f32 :=
  fourT
    (partT 0 2 2#32 slices_S4x4096x4x256_S4x4096x1x256_0_0_0_0 pads_S4x4096x256_S4x4098x256_000_200_000 slices_S4x4098x256_S4x4096x256_0_0_0 z)
    (partT 1 4 4#32 slices_S4x4096x4x256_S4x4096x1x256_0_0_1_0 pads_S4x4096x256_S4x4100x256_000_400_000 slices_S4x4100x256_S4x4096x256_0_0_0 z)
    (partT 2 8 8#32 slices_S4x4096x4x256_S4x4096x1x256_0_0_2_0 pads_S4x4096x256_S4x4104x256_000_800_000 slices_S4x4104x256_S4x4096x256_0_0_0 z)
    (partT 3 16 16#32 slices_S4x4096x4x256_S4x4096x1x256_0_0_3_0 pads_S4x4096x256_S4x4112x256_000_1600_000 slices_S4x4112x256_S4x4096x256_0_0_0 z)

theorem out_eq (V0 : Valuation τ sig (Elt Ideal)) : out_main_v173 V0
    = truncf .bf16 (concatenate S4x4096x2048 2 [⟨S4x4096x1024, lruT (V0 (Proc.devRef .tc main_v76_4)) (V0 (Proc.devRef .tc main_arg0))⟩,
      ⟨S4x4096x1024, mixT (poolT (V0 (Proc.devRef .tc main_arg0))) (V0 (Proc.devRef .tc main_arg8)) (V0 (Proc.devRef .tc main_arg9))⟩]
      concatenates_S4x4096x1024_S4x4096x1024_S4x4096x2048_d2 : FVec Ideal S4x4096x2048 .f32) bitsLt_bf16_f32 := rfl

variable (A : Spec.Args) (b : Fin 4)

theorem lruT_at (h : FVec Ideal S4096x4x1024 .f32) (n : Fin 4096) (w : Fin 1024) (hh : h (ix3 n b w) = Spec.state A b w (n.val + 1)) :
    lruT h A.z (ix3 b n w) = Spec.yLru A b n.val w := by
  have hz : Spec.col A b (Spec.cg w) n.val = A.z (ix3 b n (Spec.cg w)) := dif_pos n.isLt
  unfold Spec.yLru Spec.gelu
  rw [hz, ← hh]
  pointwise [lruT, geluT, gcT, numT]
  skip

theorem fourT_at (f : Fin 4 → FVec Ideal S4x4096x256 .f32) (n : Fin 4096) (g : Fin 4) (x : Fin 256) :
    fourT (f 0) (f 1) (f 2) (f 3) (ix4 b n g x) = f g (ix3 b n x) := by
  match g with
  | 0 => pointwise [fourT, oneT]
  | 1 => pointwise [fourT, oneT]
  | 2 => pointwise [fourT, oneT]
  | 3 => pointwise [fourT, oneT]

theorem poolT_at (hA : Finite A) (n : Fin 4096) (g : Fin 4) (x : Fin 256) :
    poolT A.z (ix4 b n g x) = Ideal.div (Spec.wsum A b g n.val (Spec.gch g x)) (Spec.cnt g n.val) - Spec.col A b (Spec.cu (Spec.gch g x)) n.val := by
  unfold poolT
  refine (fourT_at b (![_, _, _, _]) n g x).trans ?_
  match g with
  | 0 => exact partT_at A b hA 0 _ _ _ n x
  | 1 => exact partT_at A b hA 1 _ _ _ n x
  | 2 => exact partT_at A b hA 2 _ _ _ n x
  | 3 => exact partT_at A b hA 3 _ _ _ n x

theorem mixT_at (X : FVec Ideal S4x4096x4x256 .f32) (n : Fin 4096) (g : Fin 4) (y : Fin 256)
    (hX : ∀ x : Fin 256, X (ix4 b n g x) = Ideal.div (Spec.wsum A b g n.val (Spec.gch g x)) (Spec.cnt g n.val) - Spec.col A b (Spec.cu (Spec.gch g x)) n.val) :
    mixT X A.pw A.ps (ix3 b n (Spec.gch g y)) = Spec.yPool A b g n.val y := by
  unfold Spec.yPool
  simp only [← hX]
  pointwise [mixT, rowT]
  have hg : (⟨(256 * g.val + y.val) / 256, by omega⟩ : Fin 4) = g := Fin.ext (by show (256 * g.val + y.val) / 256 = g.val; omega)
  have hy : (⟨(256 * g.val + y.val) % 256, by omega⟩ : Fin 256) = y := Fin.ext (by show (256 * g.val + y.val) % 256 = y.val; omega)
  refine congrArg (· * A.ps (ix1 (Spec.gch g y))) (Finset.sum_congr rfl fun x _ => ?_)
  refine (congrArg₂ (fun g' y' => A.pw (ix3 g' x y') * X (ix4 b n g' x)) hg hy).trans (mul_comm _ _)

variable (m : (ℓ : Loc nD τ sig) → Buf (Elt Ideal) ℓ) (c : Dev nD)

/-- The reference's result, where the pool's columns are finite. -/
theorem reference_out (hA : Finite (argsR m c)) (n : Fin 4096) (q : Fin 2048) :
    (out_main_v173 (STEP^[4096] (entryContents preI m c)) : FVec Ideal S4x4096x2048 .bf16) (ix3 b n q) = Spec.out (argsR m c) b n.val q := by
  rw [out_eq, iter_main_arg0 m c 4096, iter_main_arg8 m c 4096, iter_main_arg9 m c 4096]
  have hl := fun w => lruT_at (argsR m c) b _ n w (states_left m c n b w)
  have hp := fun g y => mixT_at (argsR m c) b (poolT (argsR m c).z) n g y (poolT_at (argsR m c) b hA n g)
  unfold Spec.out
  by_cases h : q.val < 1024
  · rw [dif_pos h, ← hl]
    pointwise []
    exact dif_pos h
  · rw [dif_neg h, ← hp]
    pointwise []
    refine (dif_neg h).trans (congrArg (fun k => mixT (poolT (argsR m c).z) (argsR m c).pw (argsR m c).ps (ix3 b n k)) (Fin.ext ?_))
    show q.val - 1024 = 256 * ((q.val - 1024) / 256) + (q.val - 1024) % 256
    omega

end Cert.Mixer.Ref
end
-- ==== Proof.Mixer.Pre.lean ====
/-
  The precondition, read: the pool's columns are finite.
-/
module

public import proofs.«01_k».proof.Defs
public import proofs.«01_k».proof.Proof.Mixer.Windows
public import proofs.«01_k».proof.Proof.Mixer.RefPool

@[expose] public section

noncomputable section

namespace Cert.Mixer
open Idealize.ShloMosaic Idealize.ShloMosaic.TcCoe Idealize.SL.Sem

/-- The precondition's side conditions. -/
theorem preFacts : Cert.Pre_pool_finite.Facts := ⟨by decide, by decide⟩

/-- A number whose magnitude is below infinity is real. -/
theorem real_of_lt (x : EReal) (h : Ideal.cmp .olt (max x (-x)) (Ideal.ofBits .f32 0x7F800000#32) = 1#1) : ∃ r : ℝ, x = (r : EReal) := by
  have ht : (Ideal.ofBits .f32 0x7F800000#32 : EReal) = ⊤ := by simp [Ideal.ofBits, Ideal.ieee]
  rw [ht] at h
  induction x with
  | bot => simp [Ideal.cmp] at h
  | top => simp [Ideal.cmp] at h
  | coe r => exact ⟨r, rfl⟩

/-- What the precondition says. -/
theorem finite_of_pre (m : (ℓ : Loc Cert.KernelIdeal.nD Cert.KernelIdeal.τ Cert.KernelIdeal.sig) → Buf (Elt Ideal) ℓ)
    (h : @Cert.Pre_KernelIdeal_pool_finite preFacts m) (c : Dev Cert.KernelIdeal.nD) : Ref.Finite (args m c) := by
  intro b n w
  have e := congrFun (h c) (ix3 b n w)
  have f : Cert.Pre_pool_finite.S4x4096x3072.Slices ![0, 0, 2048] Cert.Pre_pool_finite.S4x4096x1024 := preFacts.1
  have hx : extractStridedSlice Cert.Pre_pool_finite.S4x4096x1024 ![0, 0, 2048] (args m c).z f (ix3 b n w) = (args m c).z (ix3 b n (Spec.cu w)) := by
    pointwise []
  rw [← hx]
  exact real_of_lt _ e

end Cert.Mixer
end
-- ==== Proof.Calls.Norm.lean ====
/-
  The row norm that the calls share.
-/
module

public import proofs.«01_k».proof.Proof.Mixer.Algebra

@[expose] public section

noncomputable section
open Idealize.ShloMosaic

namespace Cert.Calls

/-- A row divided by its root mean square, times the gains: entry `k`. -/
def rms (x g : Fin 2048 → EReal) (k : Fin 2048) : EReal :=
  x k * Ideal.rsqrt (Ideal.div (∑ j, x j * x j) (Ideal.ofBits .f32 0x45000000#32) + Ideal.ofBits .f32 0x358637BD#32) * g k

end Cert.Calls
end
-- ==== Proof.Calls.Mlp.lean ====
/-
  The MLP: what the kernel leaves, four chunks of the hidden units one after another, and what the reference computes, all of
  them at once, are the same.
-/
module

public import proofs.«01_k».proof.Proof.Calls.Norm
public import proofs.«01_k».proof.Proof.Gen.Kernel2Ideal.Value
public import proofs.«01_k».proof.Proof.Gen.Reference2Ideal.Run
public import proofs.«01_k».proof.Defs

@[expose] public section

set_option maxHeartbeats 4000000
set_option maxRecDepth 16384
noncomputable section
open Idealize.ShloMosaic Idealize.ShloMosaic.TcCoe Idealize.SL.Sem

namespace Cert.Calls.Mlp

variable (h : FVec Ideal ⟨2, ![16384, 2048]⟩ .f32) (x : FVec Ideal ⟨2, ![16384, 2048]⟩ .bf16) (up : FVec Ideal ⟨3, ![4, 2048, 8192]⟩ .f32)
  (dn : FVec Ideal ⟨3, ![4, 8192, 2048]⟩ .f32)

/-- Hidden unit `f` of row `n`: the squared relu of `x` times layer 3 of `up`. -/
def hid (n : Fin 16384) (f : Fin 8192) : EReal :=
  max (∑ k : Fin 2048, x (ix2 n k) * up (ix3 3 k f)) 0 * max (∑ k : Fin 2048, x (ix2 n k) * up (ix3 3 k f)) 0

/-- What hidden unit `f` adds to the result. -/
def term (n : Fin 16384) (q : Fin 2048) (f : ℕ) : EReal :=
  if hf : f < 8192 then hid x up n ⟨f, hf⟩ * dn (ix3 3 ⟨f, hf⟩ q) else 0

/-- The result with the first `b` hidden units in it. -/
def upTo (n : Fin 16384) (q : Fin 2048) (b : ℕ) : EReal := h (ix2 n q) + ∑ f ∈ Finset.range b, term x up dn n q f

/-- 1024 more. -/
theorem upTo_add (n : Fin 16384) (q : Fin 2048) (b : ℕ) :
    upTo h x up dn n q b + ∑ f : Fin 1024, term x up dn n q (b + f.val) = upTo h x up dn n q (b + 1024) := by
  unfold upTo
  rw [Finset.sum_range_add, add_assoc, Finset.sum_range (fun f => term x up dn n q (b + f))]

/-- All of them. -/
theorem upTo_all (n : Fin 16384) (q : Fin 2048) :
    upTo h x up dn n q 8192 = h (ix2 n q) + ∑ f : Fin 8192, hid x up n f * dn (ix3 3 f q) := by
  unfold upTo
  rw [Finset.sum_range]
  exact congrArg _ (Finset.sum_congr rfl fun f _ => dif_pos f.isLt)

section Kernel
open Cert.Kernel2Ideal Cert.Kernel2Ideal.Gen

variable (m : (ℓ : Loc nD τ sig) → Buf (Elt Ideal) ℓ) (c : Dev nD)

/-- Where the windows' blocks lie. -/
theorem idx : ∀ t : Fin cfg0.N, win0_0.index t = ![t.val / 4, 0] ∧ win0_1.index t = ![t.val / 4, 0] ∧ win0_2.index t = ![3, 0, t.val % 4]
    ∧ win0_3.index t = ![3, t.val % 4, 0] ∧ win0_4.index t = ![t.val / 4, 0] :=
  (by decide +kernel : ∀ t : Fin grid0.N, _)

theorem r0 (t : Fin cfg0.N) (r : Fin 512) (q : Fin 2048) (n : Fin 16384) (hn : n.val = 512 * (t.val / 4) + r.val) :
    iblk m c 0 t (ix2 r q) = (m ((c : Thread nD τ).loc main_arg0) : FVec Ideal S16384x2048 .f32) (ix2 n q) := by
  have e := (idx t).1
  blk_point [iblk, V, e]

theorem r1 (t : Fin cfg0.N) (r : Fin 512) (q : Fin 2048) (n : Fin 16384) (hn : n.val = 512 * (t.val / 4) + r.val) :
    iblk m c 1 t (ix2 r q) = (m ((c : Thread nD τ).loc main_arg1) : FVec Ideal S16384x2048 .bf16) (ix2 n q) := by
  have e := (idx t).2.1
  blk_point [iblk, V, e]

theorem r2 (t : Fin cfg0.N) (k : Fin 2048) (f : Fin 2048) (p : Fin 8192) (hp : p.val = 2048 * (t.val % 4) + f.val) :
    iblk m c 2 t (ix3 0 k f) = (m ((c : Thread nD τ).loc main_arg2) : FVec Ideal S4x2048x8192 .f32) (ix3 3 k p) := by
  have e := (idx t).2.2.1
  blk_point [iblk, V, e]

theorem r3 (t : Fin cfg0.N) (f : Fin 2048) (q : Fin 2048) (p : Fin 8192) (hp : p.val = 2048 * (t.val % 4) + f.val) :
    iblk m c 3 t (ix3 0 f q) = (m ((c : Thread nD τ).loc main_arg3) : FVec Ideal S4x8192x2048 .f32) (ix3 3 p q) := by
  have e := (idx t).2.2.2.1
  blk_point [iblk, V, e]

/-- The result's block of row-block `t / 4` is its rows `512 (t / 4) …`. -/
theorem out_read (t : Fin cfg0.N) (f : Vec Ideal S16384x2048 .f32) (r : Fin 512) (q : Fin 2048) (n : Fin 16384) (hn : n.val = 512 * (t.val / 4) + r.val) :
    ((cfg0.win 4).blk t).view.read (Elt Ideal) f (ix2 r q) = f (ix2 n q) := by
  have e := (idx t).2.2.2.2
  blk_point [e]

/-- A chunk of 1024 hidden units, over what the rows held. -/
def chunk (xn : Vec Ideal S512x2048 .bf16) (u : Vec Ideal S1x2048x1024 .bf16) (o : Vec Ideal S512x2048 .f32) (d : Vec Ideal S1x1024x2048 .bf16) :
    Vec Ideal S512x2048 .f32 := k0_pay1 (k0_pay3 xn u) (k0_pay4 o) (k0_pay5 d)

/-- Both chunks of a point, over what the rows held. -/
def both (xn : Vec Ideal S512x2048 .bf16) (u : Vec Ideal S1x2048x2048 .bf16) (o : Vec Ideal S512x2048 .f32) (d : Vec Ideal S1x2048x2048 .bf16) :
    Vec Ideal S512x2048 .f32 :=
  chunk xn (View.ld u (Rect.unit ![0, 0, 1024] ![1, 2048, 1024] inb_S1x2048x2048_S1x2048x1024_0_0_1024))
    (k0_pay2 xn (View.ld u (Rect.unit ![0, 0, 0] ![1, 2048, 1024] inb_S1x2048x2048_S1x2048x1024_0_0_0)) o
      (View.ld d (Rect.unit ![0, 0, 0] ![1, 1024, 2048] inb_S1x2048x2048_S1x1024x2048_0_0_0)))
    (View.ld d (Rect.unit ![0, 1024, 0] ![1, 1024, 2048] inb_S1x2048x2048_S1x1024x2048_0_1024_0))

theorem outA (t : Fin cfg0.N) (h : t.val % 4 = 0) :
    outsAt0 m c t.val t.isLt = both (iblk m c 1 t) (iblk m c 2 t) (iblk m c 0 t) (iblk m c 3 t) := by
  funext y
  rw [outsAt0_A m c t h]; frame_out
  rfl

theorem outB (t : Fin cfg0.N) (h : ¬ t.val % 4 = 0) :
    outsAt0 m c t.val t.isLt = both (iblk m c 1 t) (iblk m c 2 t) (outsAt0 m c (t.val - 1) (Nat.lt_of_le_of_lt (Nat.sub_le _ _) t.isLt)) (iblk m c 3 t) := by
  funext y
  rw [outsAt0_B m c t h]; frame_out
  rfl

theorem pay2_at (xn : Vec Ideal S512x2048 .bf16) (u : Vec Ideal S1x2048x1024 .bf16) (o : Vec Ideal S512x2048 .f32) (d : Vec Ideal S1x1024x2048 .bf16)
    (r : Fin 512) (q : Fin 2048) :
    k0_pay2 xn u o d (ix2 r q) = o (ix2 r q) + ∑ f : Fin 1024,
      max (∑ k : Fin 2048, xn (ix2 r k) * u (ix3 0 k f)) 0 * max (∑ k : Fin 2048, xn (ix2 r k) * u (ix3 0 k f)) 0 * d (ix3 0 f q) := by
  pointwise [k0_pay2]

theorem chunk_at (xn : Vec Ideal S512x2048 .bf16) (u : Vec Ideal S1x2048x1024 .bf16) (o : Vec Ideal S512x2048 .f32) (d : Vec Ideal S1x1024x2048 .bf16)
    (r : Fin 512) (q : Fin 2048) :
    chunk xn u o d (ix2 r q) = o (ix2 r q) + ∑ f : Fin 1024,
      max (∑ k : Fin 2048, xn (ix2 r k) * u (ix3 0 k f)) 0 * max (∑ k : Fin 2048, xn (ix2 r k) * u (ix3 0 k f)) 0 * d (ix3 0 f q) := by
  pointwise [chunk, k0_pay1, k0_pay3, k0_pay4, k0_pay5]

theorem up_lo (u : Vec Ideal S1x2048x2048 .bf16) (k : Fin 2048) (f : Fin 1024) (p : Fin 2048) (hp : p.val = f.val) :
    View.ld u (Rect.unit ![0, 0, 0] ![1, 2048, 1024] inb_S1x2048x2048_S1x2048x1024_0_0_0) (ix3 0 k f) = u (ix3 0 k p) := by
  refine congrArg u (funext fun a => Fin.ext ?_)
  match a with
  | 0 => show 0 + 1 * 0 = 0; omega
  | 1 => show 0 + 1 * k.val = k.val; omega
  | 2 => show 0 + 1 * f.val = p.val; omega

theorem up_hi (u : Vec Ideal S1x2048x2048 .bf16) (k : Fin 2048) (f : Fin 1024) (p : Fin 2048) (hp : p.val = 1024 + f.val) :
    View.ld u (Rect.unit ![0, 0, 1024] ![1, 2048, 1024] inb_S1x2048x2048_S1x2048x1024_0_0_1024) (ix3 0 k f) = u (ix3 0 k p) := by
  refine congrArg u (funext fun a => Fin.ext ?_)
  match a with
  | 0 => show 0 + 1 * 0 = 0; omega
  | 1 => show 0 + 1 * k.val = k.val; omega
  | 2 => show 1024 + 1 * f.val = p.val; omega

theorem dn_lo (d : Vec Ideal S1x2048x2048 .bf16) (f : Fin 1024) (q : Fin 2048) (p : Fin 2048) (hp : p.val = f.val) :
    View.ld d (Rect.unit ![0, 0, 0] ![1, 1024, 2048] inb_S1x2048x2048_S1x1024x2048_0_0_0) (ix3 0 f q) = d (ix3 0 p q) := by
  refine congrArg d (funext fun a => Fin.ext ?_)
  match a with
  | 0 => show 0 + 1 * 0 = 0; omega
  | 1 => show 0 + 1 * f.val = p.val; omega
  | 2 => show 0 + 1 * q.val = q.val; omega

theorem dn_hi (d : Vec Ideal S1x2048x2048 .bf16) (f : Fin 1024) (q : Fin 2048) (p : Fin 2048) (hp : p.val = 1024 + f.val) :
    View.ld d (Rect.unit ![0, 1024, 0] ![1, 1024, 2048] inb_S1x2048x2048_S1x1024x2048_0_1024_0) (ix3 0 f q) = d (ix3 0 p q) := by
  refine congrArg d (funext fun a => Fin.ext ?_)
  match a with
  | 0 => show 0 + 1 * 0 = 0; omega
  | 1 => show 1024 + 1 * f.val = p.val; omega
  | 2 => show 0 + 1 * q.val = q.val; omega

/-- The call's arguments. -/
abbrev aH : FVec Ideal ⟨2, ![16384, 2048]⟩ .f32 := m ((c : Thread nD τ).loc main_arg0)
abbrev aX : FVec Ideal ⟨2, ![16384, 2048]⟩ .bf16 := m ((c : Thread nD τ).loc main_arg1)
abbrev aU : FVec Ideal ⟨3, ![4, 2048, 8192]⟩ .f32 := m ((c : Thread nD τ).loc main_arg2)
abbrev aD : FVec Ideal ⟨3, ![4, 8192, 2048]⟩ .f32 := m ((c : Thread nD τ).loc main_arg3)

/-- A point's blocks. -/
abbrev bX (t : Fin cfg0.N) : FVec Ideal S512x2048 .bf16 := iblk m c 1 t
abbrev bU (t : Fin cfg0.N) : FVec Ideal S1x2048x2048 .bf16 := iblk m c 2 t
abbrev bD (t : Fin cfg0.N) : FVec Ideal S1x2048x2048 .bf16 := iblk m c 3 t

/-- A hidden unit of a point, as its blocks give it. -/
theorem term_at (t : Fin cfg0.N) (r : Fin 512) (q : Fin 2048) (n : Fin 16384) (hn : n.val = 512 * (t.val / 4) + r.val)
    (f : Fin 2048) (p : ℕ) (hp : p = 2048 * (t.val % 4) + f.val) :
    max (∑ k : Fin 2048, bX m c t (ix2 r k) * bU m c t (ix3 0 k f)) 0
      * max (∑ k : Fin 2048, bX m c t (ix2 r k) * bU m c t (ix3 0 k f)) 0
      * bD m c t (ix3 0 f q) = term (aX m c) (aU m c) (aD m c) n q p := by
  have hlt : p < 8192 := by omega
  unfold term
  rw [dif_pos hlt]
  unfold hid
  have e : (∑ k : Fin 2048, bX m c t (ix2 r k) * bU m c t (ix3 0 k f) : EReal)
      = ∑ k : Fin 2048, aX m c (ix2 n k) * aU m c (ix3 3 k ⟨p, hlt⟩) :=
    Finset.sum_congr rfl fun k _ => congrArg₂ (· * ·) (r1 m c t r k n hn) (r2 m c t k f ⟨p, hlt⟩ hp)
  rw [e]
  exact congrArg _ (r3 m c t f q ⟨p, hlt⟩ hp)

/-- A point adds its 2048 hidden units. -/
theorem both_at (t : Fin cfg0.N) (o : Vec Ideal S512x2048 .f32) (r : Fin 512) (q : Fin 2048) (n : Fin 16384) (hn : n.val = 512 * (t.val / 4) + r.val)
    (ho : o (ix2 r q) = upTo (aH m c) (aX m c) (aU m c) (aD m c) n q (2048 * (t.val % 4))) :
    both (bX m c t) (bU m c t) o (bD m c t) (ix2 r q) = upTo (aH m c) (aX m c) (aU m c) (aD m c) n q (2048 * (t.val % 4) + 2048) := by
  unfold both
  rw [chunk_at, pay2_at, ho]
  refine Eq.trans (congrArg₂ (· + ·) (congrArg₂ (· + ·) rfl (Finset.sum_congr rfl fun f _ => ?_)) (Finset.sum_congr rfl fun f _ => ?_))
    ((congrArg (· + _) (upTo_add _ _ _ _ n q (2048 * (t.val % 4)))).trans (upTo_add _ _ _ _ n q (2048 * (t.val % 4) + 1024)))
  · exact (congrArg₂ (fun a b : EReal => a * b) (congrArg (fun a : EReal => max a 0 * max a 0) (Finset.sum_congr rfl fun k _ =>
      congrArg (fun a : EReal => bX m c t (ix2 r k) * a) (up_lo (bU m c t) k f ⟨f.val, by omega⟩ rfl))) (dn_lo (bD m c t) f q ⟨f.val, by omega⟩ rfl)).trans
      (term_at m c t r q n hn ⟨f.val, by omega⟩ _ rfl)
  · exact (congrArg₂ (fun a b : EReal => a * b) (congrArg (fun a : EReal => max a 0 * max a 0) (Finset.sum_congr rfl fun k _ =>
      congrArg (fun a : EReal => bX m c t (ix2 r k) * a) (up_hi (bU m c t) k f ⟨1024 + f.val, by omega⟩ rfl))) (dn_hi (bD m c t) f q ⟨1024 + f.val, by omega⟩ rfl)).trans
      (term_at m c t r q n hn ⟨1024 + f.val, by omega⟩ _ (by show 2048 * (t.val % 4) + 1024 + f.val = 2048 * (t.val % 4) + (1024 + f.val); omega))

/-- What a point leaves: the rows with the hidden units up to its own in them. -/
theorem left (k : ℕ) : ∀ (t : Fin cfg0.N), t.val = k → ∀ (r : Fin 512) (q : Fin 2048) (n : Fin 16384), n.val = 512 * (t.val / 4) + r.val →
    outsAt0 m c t.val t.isLt (ix2 r q) = upTo (aH m c) (aX m c) (aU m c) (aD m c) n q (2048 * (t.val % 4) + 2048) := by
  induction k with
  | zero =>
    intro t ht r q n hn
    have h0 : t.val % 4 = 0 := by omega
    rw [outA m c t h0]
    refine both_at m c t _ r q n hn ?_
    rw [h0]
    unfold upTo
    simp only [mul_zero, Finset.range_zero, Finset.sum_empty, add_zero]
    exact r0 m c t r q n hn
  | succ k ih =>
    intro t ht r q n hn
    by_cases h0 : t.val % 4 = 0
    · rw [outA m c t h0]
      refine both_at m c t _ r q n hn ?_
      rw [h0]
      unfold upTo
      simp only [mul_zero, Finset.range_zero, Finset.sum_empty, add_zero]
      exact r0 m c t r q n hn
    · rw [outB m c t h0]
      refine both_at m c t _ r q n hn ?_
      refine (ih ⟨t.val - 1, Nat.lt_of_le_of_lt (Nat.sub_le _ _) t.isLt⟩ (by show t.val - 1 = k; omega) r q n (by show n.val = 512 * ((t.val - 1) / 4) + r.val; omega)).trans ?_
      exact congrArg (upTo (aH m c) (aX m c) (aU m c) (aD m c) n q) (by show 2048 * ((t.val - 1) % 4) + 2048 = 2048 * (t.val % 4); omega)

theorem idx_inj : ∀ t t' : Fin cfg0.N, t.val % 4 = 3 → t'.val % 4 = 3 → win0_4.index t = win0_4.index t' → t = t' := by
  intro t t' h h' e
  have e' := congrFun e 0
  rw [(idx t).2.2.2.2, (idx t').2.2.2.2] at e'
  have e'' : t.val / 4 = t'.val / 4 := e'
  exact Fin.ext (by omega)

/-- The blocks written back do not meet. -/
theorem disjoint : ∀ t t' : Fin cfg0.N, (cfg0.win 4).flush t = true → (cfg0.win 4).flush t' = true → t ≠ t' →
    Disjoint ((cfg0.win 4).blk t).view.set ((cfg0.win 4).blk t').view.set :=
  fun t t' hf hf' hne => (cfg0.win 4).disjoint_blk fun h => hne (idx_inj t t' ((flush0_4 t).mp hf) ((flush0_4 t').mp hf') h)

/-- What the kernel leaves. -/
theorem kernel_at (n : Fin 16384) (q : Fin 2048) :
    ((dats m 0 c).arrAt 4 cfg0.N : FVec Ideal S16384x2048 .f32) (ix2 n q) = upTo (aH m c) (aX m c) (aU m c) (aD m c) n q 8192 := by
  have hN : cfg0.N = 128 := N_0
  let t : Fin cfg0.N := ⟨4 * (n.val / 512) + 3, by omega⟩
  let r : Fin 512 := ⟨n.val % 512, by omega⟩
  have h4 : t.val / 4 = n.val / 512 := by show (4 * (n.val / 512) + 3) / 4 = n.val / 512; omega
  have h3 : t.val % 4 = 3 := by show (4 * (n.val / 512) + 3) % 4 = 3; omega
  have hn : n.val = 512 * (t.val / 4) + r.val := by rw [h4]; show n.val = 512 * (n.val / 512) + n.val % 512; omega
  refine (out_read t _ r q n hn).symm.trans
    ((congrFun ((dats m 0 c).read_blk_arrAt_eq_flushed 4 disjoint cfg0.N t t.isLt ((flush0_4 t).mpr h3)) (ix2 r q)).trans ?_)
  rw [Value.flushed4]
  show outsAt0 m c t.val t.isLt (ix2 r q) = _
  rw [left m c t.val t rfl r q n hn, h3]

end Kernel
section Reference
open Cert.Reference2Ideal Cert.Reference2Ideal.Gen Idealize.ShloMosaic.StableHlo

/-- What the reference computes. -/
theorem reference_at (h : FVec Ideal S16384x2048 .f32) (x : FVec Ideal S16384x2048 .bf16) (up : FVec Ideal S4x2048x8192 .f32) (dn : FVec Ideal S4x8192x2048 .f32) (n : Fin 16384) (q : Fin 2048) :
   addf h (Host.dotGeneral dot_S16384x8192_S8192x2048_S16384x2048_1_0_0_1_n_n none (mulf (maximumf (Host.dotGeneral (φ₁ := .f32) (φ₂ := .f32) dot_S16384x2048_S2048x8192_S16384x8192_1_0_0_1_n_n none (extf .f32 x bitsLt_bf16_f32) (shapeCast S2048x8192 (extractStridedSlice S1x2048x8192 ![3, 0, 0] up slices_S4x2048x8192_S1x2048x8192_3_0_0) shapeCasts_S1x2048x8192_S2048x8192)) (broadcastInDim S16384x8192 ![] bcast_S_S16384x8192 (constant S_ .f32 0x00000000#32))) (maximumf (Host.dotGeneral (φ₁ := .f32) (φ₂ := .f32) dot_S16384x2048_S2048x8192_S16384x8192_1_0_0_1_n_n none (extf .f32 x bitsLt_bf16_f32) (shapeCast S2048x8192 (extractStridedSlice S1x2048x8192 ![3, 0, 0] up slices_S4x2048x8192_S1x2048x8192_3_0_0) shapeCasts_S1x2048x8192_S2048x8192)) (broadcastInDim S16384x8192 ![] bcast_S_S16384x8192 (constant S_ .f32 0x00000000#32)))) (shapeCast S8192x2048 (extractStridedSlice S1x8192x2048 ![3, 0, 0] dn slices_S4x8192x2048_S1x8192x2048_3_0_0) shapeCasts_S1x8192x2048_S8192x2048)) (ix2 n q) = h (ix2 n q) + ∑ f : Fin 8192, hid x up n f * dn (ix3 3 f q) := by
  unfold hid
  pointwise []

end Reference

/-- The claim. -/
theorem same : @Cert.algebraic_Kernel2Ideal_Reference2Ideal Cert.Kernel2Ideal.Gen.facts Cert.Reference2Ideal.Gen.facts := by
  intro m g m' g' _ heq
  refine ⟨fun c => (Cert.Kernel2Ideal.Gen.dats m 0 c).arrAt 4 Cert.Kernel2Ideal.cfg0.N, Cert.Kernel2Ideal.Value.run_blocks (F := Ideal) m g, ?_⟩
  refine (θ_run Cert.Reference2Ideal.defs _ _).mono (fun r h c => ⟨(h c).1.trans ?_, (h c).2⟩) (Cert.Reference2Ideal.Value.run (F := Ideal) m' g')
  obtain ⟨h0, h1, h2, h3⟩ := heq c
  rw [h0, h1, h2, h3]
  funext i
  have hi : i = ix2 (i 0 : Fin 16384) (i 1 : Fin 2048) := by
    funext a
    match a with
    | 0 => rfl
    | 1 => rfl
  refine (congrArg _ hi).trans ((reference_at _ _ _ _ (i 0) (i 1)).trans ?_)
  refine (upTo_all _ _ _ _ (i 0) (i 1)).symm.trans ?_
  exact (kernel_at m c (i 0) (i 1)).symm.trans (congrArg ((Cert.Kernel2Ideal.Gen.dats m 0 c).arrAt 4 Cert.Kernel2Ideal.cfg0.N) hi.symm)

end Cert.Calls.Mlp
end
-- ==== Proof.Calls.Ple.lean ====
/-
  The per-layer embedding with the final norm: what the kernel leaves and what the reference computes are both the gated
  embedding added to the rows, and the sum normed.
-/
module

public import proofs.«01_k».proof.Proof.Calls.Norm
public import proofs.«01_k».proof.Proof.Gen.Kernel3Ideal.Value
public import proofs.«01_k».proof.Proof.Gen.Reference3Ideal.Run
public import proofs.«01_k».proof.Defs

@[expose] public section

set_option maxHeartbeats 4000000
set_option maxRecDepth 16384
noncomputable section
open Idealize.ShloMosaic Idealize.ShloMosaic.TcCoe Idealize.SL.Sem

namespace Cert.Calls.Ple

variable (h : FVec Ideal ⟨2, ![16384, 2048]⟩ .f32) (g : FVec Ideal ⟨1, ![2048]⟩ .f32) (w : FVec Ideal ⟨3, ![4, 2048, 2048]⟩ .f32)
  (p : FVec Ideal ⟨4, ![4, 4, 4096, 256]⟩ .f32) (v : FVec Ideal ⟨3, ![4, 256, 2048]⟩ .f32) (gf : FVec Ideal ⟨1, ![2048]⟩ .f32)

/-- The gate: the sigmoid of the normed row times layer 3 of `w`. -/
def gate (n : Fin 16384) (q : Fin 2048) : EReal :=
  Ideal.div 1 (1 + Ideal.exp (-∑ k, rms (fun j => h (ix2 n j)) (fun j => g (ix1 j)) k * w (ix3 3 k q)))

/-- The embedding: position `n`'s row of layer 3 of `p` times layer 3 of `v`. -/
def emb (n : Fin 16384) (q : Fin 2048) : EReal :=
  ∑ k : Fin 256, p (ix4 3 (⟨n.val / 4096, by omega⟩ : Fin 4) (⟨n.val % 4096, by omega⟩ : Fin 4096) k) * v (ix3 3 k q)

/-- The rows with the gated embedding added. -/
def sum (n : Fin 16384) (q : Fin 2048) : EReal := h (ix2 n q) + gate h g w n q * emb p v n q

/-- The result: those rows normed. -/
def normed (n : Fin 16384) (q : Fin 2048) : EReal := rms (sum h g w p v n) (fun j => gf (ix1 j)) q

section Kernel
open Cert.Kernel3Ideal Cert.Kernel3Ideal.Gen

variable (m : (ℓ : Loc nD τ sig) → Buf (Elt Ideal) ℓ) (c : Dev nD)

/-- Where the windows' blocks lie. -/
theorem idx : ∀ t : Fin cfg0.N, win0_0.index t = ![t.val, 0] ∧ win0_1.index t = ![0, 0] ∧ win0_2.index t = ![3, 0, 0] ∧ win0_3.index t = ![3, t.val, 0]
    ∧ win0_4.index t = ![3, 0, 0] ∧ win0_5.index t = ![0, 0] ∧ win0_6.index t = ![t.val, 0] :=
  (by decide +kernel : ∀ t : Fin grid0.N, _)

theorem r0 (t : Fin cfg0.N) (r : Fin 512) (k : Fin 2048) (n : Fin 16384) (hn : n.val = 512 * t.val + r.val) :
    iblk m c 0 t (ix2 r k) = (m ((c : Thread nD τ).loc main_arg0) : FVec Ideal S16384x2048 .f32) (ix2 n k) := by
  have e := (idx t).1
  blk_point [iblk, V, e]

theorem r1 (t : Fin cfg0.N) (k : Fin 2048) :
    iblk m c 1 t (ix2 0 k) = (m ((c : Thread nD τ).loc main_arg1) : FVec Ideal S2048 .f32) (ix1 k) := by
  have e := (idx t).2.1
  blk_point [iblk, V, e]

theorem r2 (t : Fin cfg0.N) (k q : Fin 2048) :
    iblk m c 2 t (ix3 0 k q) = (m ((c : Thread nD τ).loc main_arg2) : FVec Ideal S4x2048x2048 .f32) (ix3 3 k q) := by
  have e := (idx t).2.2.1
  blk_point [iblk, V, e]

theorem r3 (t : Fin cfg0.N) (r : Fin 512) (k : Fin 256) (n : Fin 16384) (hn : n.val = 512 * t.val + r.val) :
    iblk m c 3 t (ix3 0 r k) = (m ((c : Thread nD τ).loc main_arg3) : FVec Ideal S4x4x4096x256 .f32)
      (ix4 3 (⟨n.val / 4096, by omega⟩ : Fin 4) (⟨n.val % 4096, by omega⟩ : Fin 4096) k) := by
  have e := (idx t).2.2.2.1
  blk_point [iblk, V, e]

theorem r4 (t : Fin cfg0.N) (k : Fin 256) (q : Fin 2048) :
    iblk m c 4 t (ix3 0 k q) = (m ((c : Thread nD τ).loc main_arg4) : FVec Ideal S4x256x2048 .f32) (ix3 3 k q) := by
  have e := (idx t).2.2.2.2.1
  blk_point [iblk, V, e]

theorem r5 (t : Fin cfg0.N) (k : Fin 2048) :
    iblk m c 5 t (ix2 0 k) = (m ((c : Thread nD τ).loc main_arg5) : FVec Ideal S2048 .f32) (ix1 k) := by
  have e := (idx t).2.2.2.2.2.1
  blk_point [iblk, V, e]

/-- The result's block `t` is its rows `512 t …`. -/
theorem out_read (t : Fin cfg0.N) (f : Vec Ideal S16384x2048 .f32) (r : Fin 512) (q : Fin 2048) (n : Fin 16384) (hn : n.val = 512 * t.val + r.val) :
    ((cfg0.win 6).blk t).view.read (Elt Ideal) f (ix2 r q) = f (ix2 n q) := by
  have e := (idx t).2.2.2.2.2.2
  blk_point [e]

theorem ld0 {φ : EltTy} (x : Vec Ideal S512x2048 φ) : View.ld x r0_0 = x :=
  View.ld_unit_zero (by funext a; match a with | 0 => rfl | 1 => rfl) _ x
theorem ld1 {φ : EltTy} (x : Vec Ideal S1x2048 φ) : View.ld x r0_1 = x :=
  View.ld_unit_zero (by funext a; match a with | 0 => rfl | 1 => rfl) _ x
theorem ld2 {φ : EltTy} (x : Vec Ideal S1x2048x2048 φ) : View.ld x r0_2 = x :=
  View.ld_unit_zero (by funext a; match a with | 0 => rfl | 1 => rfl | 2 => rfl) _ x
theorem ld3 {φ : EltTy} (x : Vec Ideal S1x512x256 φ) : View.ld x r0_3 = x :=
  View.ld_unit_zero (by funext a; match a with | 0 => rfl | 1 => rfl | 2 => rfl) _ x
theorem ld4 {φ : EltTy} (x : Vec Ideal S1x256x2048 φ) : View.ld x r0_4 = x :=
  View.ld_unit_zero (by funext a; match a with | 0 => rfl | 1 => rfl | 2 => rfl) _ x

theorem out_pay (x0 : Vec Ideal S512x2048 .f32) (x1 : Vec Ideal S1x2048 .f32) (x2 : Vec Ideal S1x2048x2048 .bf16) (x3 : Vec Ideal S1x512x256 .f32)
    (x4 : Vec Ideal S1x256x2048 .bf16) (x5 : Vec Ideal S1x2048 .f32) :
    out0_6 x0 x1 x2 x3 x4 x5 = k0_pay1 (k0_pay2 x0 x1 x2 x3 x4) (k0_pay3 x0 x1 x2 x3 x4) x5 := by
  unfold out0_6
  rw [View.canon_unit_zero (by funext a; match a with | 0 => rfl | 1 => rfl)]
  simp only [ld0, ld1, ld2, ld3, ld4]

/-- The rows with the gated embedding added, as a point's blocks give them. -/
theorem pay2_at (x0 : Vec Ideal S512x2048 .f32) (x1 : Vec Ideal S1x2048 .f32) (x2 : Vec Ideal S1x2048x2048 .bf16) (x3 : Vec Ideal S1x512x256 .f32)
    (x4 : Vec Ideal S1x256x2048 .bf16) (r : Fin 512) (q : Fin 2048) :
    k0_pay2 x0 x1 x2 x3 x4 (ix2 r q) = x0 (ix2 r q)
      + Ideal.div 1 (1 + Ideal.exp (0 - ∑ k, rms (fun j => x0 (ix2 r j)) (fun j => x1 (ix2 0 j)) k * x2 (ix3 0 k q))) * ∑ k : Fin 256, x3 (ix3 0 r k) * x4 (ix3 0 k q) := by
  unfold rms
  pointwise [k0_pay2]

theorem pay1_at (x0 : Vec Ideal S512x2048 .f32) (x1 : Vec Ideal S1x2048 .f32) (x2 : Vec Ideal S1x2048x2048 .bf16) (x3 : Vec Ideal S1x512x256 .f32)
    (x4 : Vec Ideal S1x256x2048 .bf16) (x5 : Vec Ideal S1x2048 .f32) (r : Fin 512) (q : Fin 2048) :
    k0_pay1 (k0_pay2 x0 x1 x2 x3 x4) (k0_pay3 x0 x1 x2 x3 x4) x5 (ix2 r q) = rms (fun j => k0_pay2 x0 x1 x2 x3 x4 (ix2 r j)) (fun j => x5 (ix2 0 j)) q := by
  unfold k0_pay3 rms
  generalize k0_pay2 x0 x1 x2 x3 x4 = s
  pointwise [k0_pay1]

/-- The sum's row at a point. -/
theorem sum_at (t : Fin cfg0.N) (r : Fin 512) (q : Fin 2048) (n : Fin 16384) (hn : n.val = 512 * t.val + r.val) :
    k0_pay2 (iblk m c 0 t) (iblk m c 1 t) (iblk m c 2 t) (iblk m c 3 t) (iblk m c 4 t) (ix2 r q)
      = sum (m ((c : Thread nD τ).loc main_arg0)) (m ((c : Thread nD τ).loc main_arg1)) (m ((c : Thread nD τ).loc main_arg2)) (m ((c : Thread nD τ).loc main_arg3))
          (m ((c : Thread nD τ).loc main_arg4)) n q := by
  rw [pay2_at, zero_sub]
  unfold sum gate emb rms
  simp only [r0 m c t r _ n hn, r1, r2, r3 m c t r _ n hn, r4]

/-- What the kernel leaves. -/
theorem kernel_at (n : Fin 16384) (q : Fin 2048) :
    ((dats m 0 c).arrAt 6 cfg0.N : FVec Ideal S16384x2048 .f32) (ix2 n q)
      = normed (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) n q := by
  have hN : cfg0.N = 32 := N_0
  let t : Fin cfg0.N := ⟨n.val / 512, by omega⟩
  let r : Fin 512 := ⟨n.val % 512, by omega⟩
  have hn : n.val = 512 * t.val + r.val := by show n.val = 512 * (n.val / 512) + n.val % 512; omega
  refine (out_read t _ r q n hn).symm.trans ((congrFun (Value.blocks6 m c t (flush0_6 t)) (ix2 r q)).trans ?_)
  rw [Value.flushed6]
  show out0_6 (iblk m c 0 t) (iblk m c 1 t) (iblk m c 2 t) (iblk m c 3 t) (iblk m c 4 t) (iblk m c 5 t) (ix2 r q) = _
  rw [out_pay, pay1_at]
  unfold normed
  exact congrArg₂ (fun a b => rms a b q) (funext fun j => sum_at m c t r j n hn) (funext fun j => r5 m c t j)

end Kernel

section Reference
open Cert.Reference3Ideal Cert.Reference3Ideal.Gen Idealize.ShloMosaic.StableHlo

/-- The reference's norm. -/
def normT (x : FVec Ideal S16384x2048 .f32) (g : FVec Ideal S2048 .f32) : FVec Ideal S16384x2048 .f32 :=
  mulf (mulf x (broadcastInDim S16384x2048 ![0, 1] bcast_S16384x1_S16384x2048_0_1 (Host.rsqrt (addf (Host.divf (broadcastInDim S16384x1 ![0] bcast_S16384_S16384x1_0
    (Host.reduceAdd (mulf x x) (constant S_ .f32 0x00000000#32) reducesTo_S16384x2048_S16384_d1 h_S_)) (broadcastInDim S16384x1 ![] bcast_S_S16384x1 (constant S_ .f32 0x45000000#32)))
    (broadcastInDim S16384x1 ![] bcast_S_S16384x1 (constant S_ .f32 0x358637BD#32)))))) (broadcastInDim S16384x2048 ![0, 1] bcast_S1x2048_S16384x2048_0_1
    (broadcastInDim S1x2048 ![1] bcast_S2048_S1x2048_1 g))

/-- The reference's product with layer 3 of the gate's matrix. -/
def gateT (x : FVec Ideal S16384x2048 .f32) (w : FVec Ideal S4x2048x2048 .f32) : FVec Ideal S16384x2048 .f32 :=
  Host.dotGeneral dot_S16384x2048_S2048x2048_S16384x2048_1_0_0_1_n_n none x
    (shapeCast S2048x2048 (extractStridedSlice S1x2048x2048 ![3, 0, 0] w slices_S4x2048x2048_S1x2048x2048_3_0_0) shapeCasts_S1x2048x2048_S2048x2048)

/-- The reference's embedding. -/
def embT (p : FVec Ideal S4x4x4096x256 .f32) (v : FVec Ideal S4x256x2048 .f32) : FVec Ideal S16384x2048 .f32 :=
  Host.dotGeneral dot_S16384x256_S256x2048_S16384x2048_1_0_0_1_n_n none
    (shapeCast S16384x256 (shapeCast S4x4096x256 (extractStridedSlice S1x4x4096x256 ![3, 0, 0, 0] p slices_S4x4x4096x256_S1x4x4096x256_3_0_0_0)
      shapeCasts_S1x4x4096x256_S4x4096x256) shapeCasts_S4x4096x256_S16384x256)
    (shapeCast S256x2048 (extractStridedSlice S1x256x2048 ![3, 0, 0] v slices_S4x256x2048_S1x256x2048_3_0_0) shapeCasts_S1x256x2048_S256x2048)

/-- The reference's sum. -/
def sumT (h : FVec Ideal S16384x2048 .f32) (g : FVec Ideal S2048 .f32) (w : FVec Ideal S4x2048x2048 .f32) (p : FVec Ideal S4x4x4096x256 .f32)
    (v : FVec Ideal S4x256x2048 .f32) : FVec Ideal S16384x2048 .f32 :=
  addf h (mulf (Host.divf (broadcastInDim S16384x2048 ![] bcast_S_S16384x2048 (constant S_ .f32 0x3F800000#32))
    (addf (broadcastInDim S16384x2048 ![] bcast_S_S16384x2048 (constant S_ .f32 0x3F800000#32)) (Host.exp (Host.negf (gateT (normT h g) w))))) (embT p v))

theorem normT_at (x : FVec Ideal S16384x2048 .f32) (g : FVec Ideal S2048 .f32) (n : Fin 16384) (q : Fin 2048) :
    normT x g (ix2 n q) = rms (fun j => x (ix2 n j)) (fun j => g (ix1 j)) q := by
  unfold normT rms
  pointwise []

theorem gateT_at (x : FVec Ideal S16384x2048 .f32) (w : FVec Ideal S4x2048x2048 .f32) (n : Fin 16384) (q : Fin 2048) :
    gateT x w (ix2 n q) = ∑ k : Fin 2048, x (ix2 n k) * w (ix3 3 k q) := by
  unfold gateT
  pointwise []

theorem embT_at (p : FVec Ideal S4x4x4096x256 .f32) (v : FVec Ideal S4x256x2048 .f32) (n : Fin 16384) (q : Fin 2048) :
    embT p v (ix2 n q) = emb p v n q := by
  unfold embT emb
  pointwise []

theorem sumT_at (h : FVec Ideal S16384x2048 .f32) (g : FVec Ideal S2048 .f32) (w : FVec Ideal S4x2048x2048 .f32) (p : FVec Ideal S4x4x4096x256 .f32)
    (v : FVec Ideal S4x256x2048 .f32) (n : Fin 16384) (q : Fin 2048) : sumT h g w p v (ix2 n q) = sum h g w p v n q := by
  have e1 : gateT (normT h g) w (ix2 n q) = ∑ k, rms (fun j => h (ix2 n j)) (fun j => g (ix1 j)) k * w (ix3 3 k q) :=
    (gateT_at _ w n q).trans (Finset.sum_congr rfl fun k _ => congrArg (· * w (ix3 3 k q)) (normT_at h g n k))
  have e2 := embT_at p v n q
  unfold sum gate
  rw [← e1, ← e2]
  unfold sumT
  generalize gateT (normT h g) w = a
  generalize embT p v = b
  pointwise []

theorem norm_sum_at (h : FVec Ideal S16384x2048 .f32) (g : FVec Ideal S2048 .f32) (w : FVec Ideal S4x2048x2048 .f32) (p : FVec Ideal S4x4x4096x256 .f32)
    (v : FVec Ideal S4x256x2048 .f32) (gf : FVec Ideal S2048 .f32) (n : Fin 16384) (q : Fin 2048) :
    normT (sumT h g w p v) gf (ix2 n q) = normed h g w p v gf n q := by
  rw [normT_at]
  unfold normed
  exact congrArg (fun a => rms a _ q) (funext fun j => sumT_at h g w p v n j)

/-- The reference's result is the norm of the sum. -/
theorem res_eq (m : (ℓ : Loc nD τ sig) → Buf (Elt Ideal) ℓ) (c : Dev nD) :
    Value.res_main_v42 m c = normT (sumT (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4))) (m ((c.tc : Thread nD τ).loc main_arg5)) := by
  unfold Value.res_main_v42 sumT gateT embT
  rfl

end Reference

/-- The claim. -/
theorem same : @Cert.algebraic_Kernel3Ideal_Reference3Ideal Cert.Kernel3Ideal.Gen.facts Cert.Reference3Ideal.Gen.facts := by
  intro m g m' g' _ heq
  refine ⟨fun c => (Cert.Kernel3Ideal.Gen.dats m 0 c).arrAt 6 Cert.Kernel3Ideal.cfg0.N, Cert.Kernel3Ideal.Value.run_blocks (F := Ideal) m g, ?_⟩
  refine (θ_run Cert.Reference3Ideal.defs _ _).mono (fun r h c => ⟨(h c).1.trans ?_, (h c).2⟩) (Cert.Reference3Ideal.Value.run (F := Ideal) m' g')
  obtain ⟨h0, h1, h2, h3, h4, h5⟩ := heq c
  rw [res_eq, h0, h1, h2, h3, h4, h5]
  funext i
  have hi : i = ix2 (i 0 : Fin 16384) (i 1 : Fin 2048) := by
    funext a
    match a with
    | 0 => rfl
    | 1 => rfl
  refine (congrArg _ hi).trans ((norm_sum_at _ _ _ _ _ _ (i 0) (i 1)).trans ?_)
  exact (kernel_at m c (i 0) (i 1)).symm.trans (congrArg ((Cert.Kernel3Ideal.Gen.dats m 0 c).arrAt 6 Cert.Kernel3Ideal.cfg0.N) hi.symm)

end Cert.Calls.Ple
end
-- ==== Proof.Calls.MatmulResidual.lean ====
/-
  The output projection with its residual and the norm after it: what the kernel leaves and what the reference computes
  are both the residual plus the product, and that sum normed.
-/
module

public import proofs.«01_k».proof.Proof.Calls.Norm
public import proofs.«01_k».proof.Proof.Gen.Kernel4Ideal.Value
public import proofs.«01_k».proof.Proof.Gen.Reference4Ideal.Run
public import proofs.«01_k».proof.Defs

@[expose] public section

set_option maxHeartbeats 4000000
set_option maxRecDepth 16384
noncomputable section
open Idealize.ShloMosaic Idealize.ShloMosaic.TcCoe Idealize.SL.Sem

namespace Cert.Calls.MatmulResidual

/-- The first result: `h` plus `y` times layer 1 of `w`. -/
def sum (y : FVec Ideal ⟨2, ![16384, 2048]⟩ .bf16) (w : FVec Ideal ⟨3, ![2, 2048, 2048]⟩ .f32) (h : FVec Ideal ⟨2, ![16384, 2048]⟩ .f32)
    (n : Fin 16384) (q : Fin 2048) : EReal :=
  h (ix2 n q) + ∑ k : Fin 2048, y (ix2 n k) * w (ix3 1 k q)

/-- The second: its rows normed. -/
def normed (y : FVec Ideal ⟨2, ![16384, 2048]⟩ .bf16) (w : FVec Ideal ⟨3, ![2, 2048, 2048]⟩ .f32) (h : FVec Ideal ⟨2, ![16384, 2048]⟩ .f32)
    (g : FVec Ideal ⟨1, ![2048]⟩ .f32) (n : Fin 16384) (q : Fin 2048) : EReal :=
  rms (sum y w h n) (fun j => g (ix1 j)) q

section Kernel
open Cert.Kernel4Ideal Cert.Kernel4Ideal.Gen

variable (m : (ℓ : Loc nD τ sig) → Buf (Elt Ideal) ℓ) (c : Dev nD)

/-- Where the windows' blocks lie. -/
theorem idx : ∀ t : Fin cfg0.N, win0_0.index t = ![t.val, 0] ∧ win0_1.index t = ![1, 0, 0] ∧ win0_2.index t = ![t.val, 0] ∧ win0_3.index t = ![0, 0]
    ∧ win0_4.index t = ![t.val, 0] ∧ win0_5.index t = ![t.val, 0] :=
  (by decide +kernel : ∀ t : Fin grid0.N, _)

theorem r0 (t : Fin cfg0.N) (r : Fin 512) (k : Fin 2048) (n : Fin 16384) (hn : n.val = 512 * t.val + r.val) :
    iblk m c 0 t (ix2 r k) = (m ((c : Thread nD τ).loc main_arg0) : FVec Ideal S16384x2048 .bf16) (ix2 n k) := by
  have e := (idx t).1
  blk_point [iblk, V, e]

theorem r1 (t : Fin cfg0.N) (k q : Fin 2048) :
    iblk m c 1 t (ix3 0 k q) = (m ((c : Thread nD τ).loc main_arg1) : FVec Ideal S2x2048x2048 .f32) (ix3 1 k q) := by
  have e := (idx t).2.1
  blk_point [iblk, V, e]

theorem r2 (t : Fin cfg0.N) (r : Fin 512) (k : Fin 2048) (n : Fin 16384) (hn : n.val = 512 * t.val + r.val) :
    iblk m c 2 t (ix2 r k) = (m ((c : Thread nD τ).loc main_arg2) : FVec Ideal S16384x2048 .f32) (ix2 n k) := by
  have e := (idx t).2.2.1
  blk_point [iblk, V, e]

theorem r3 (t : Fin cfg0.N) (k : Fin 2048) :
    iblk m c 3 t (ix2 0 k) = (m ((c : Thread nD τ).loc main_arg3) : FVec Ideal S2048 .f32) (ix1 k) := by
  have e := (idx t).2.2.2.1
  blk_point [iblk, V, e]

/-- The results' blocks `t` are their rows `512 t …`. -/
theorem out4_read (t : Fin cfg0.N) (f : Vec Ideal S16384x2048 .f32) (r : Fin 512) (q : Fin 2048) (n : Fin 16384) (hn : n.val = 512 * t.val + r.val) :
    ((cfg0.win 4).blk t).view.read (Elt Ideal) f (ix2 r q) = f (ix2 n q) := by
  have e := (idx t).2.2.2.2.1
  blk_point [e]

theorem out5_read (t : Fin cfg0.N) (f : Vec Ideal S16384x2048 .bf16) (r : Fin 512) (q : Fin 2048) (n : Fin 16384) (hn : n.val = 512 * t.val + r.val) :
    ((cfg0.win 5).blk t).view.read (Elt Ideal) f (ix2 r q) = f (ix2 n q) := by
  have e := (idx t).2.2.2.2.2
  blk_point [e]

theorem ld_rows {φ : EltTy} (x : Vec Ideal S512x2048 φ) : View.ld x r0_0 = x :=
  View.ld_unit_zero (by funext a; match a with | 0 => rfl | 1 => rfl) _ x
theorem ld_mat {φ : EltTy} (x : Vec Ideal S1x2048x2048 φ) : View.ld x r0_1 = x :=
  View.ld_unit_zero (by funext a; match a with | 0 => rfl | 1 => rfl | 2 => rfl) _ x
theorem ld_row {φ : EltTy} (x : Vec Ideal S1x2048 φ) : View.ld x r0_2 = x :=
  View.ld_unit_zero (by funext a; match a with | 0 => rfl | 1 => rfl) _ x

theorem out4_pay (y : Vec Ideal S512x2048 .bf16) (w : Vec Ideal S1x2048x2048 .bf16) (h : Vec Ideal S512x2048 .f32) (g : Vec Ideal S1x2048 .f32) :
    out0_4 y w h g = k0_pay1 h y w := by
  unfold out0_4
  rw [View.canon_unit_zero (by funext a; match a with | 0 => rfl | 1 => rfl)]
  simp only [ld_rows, ld_mat, ld_row]

theorem out5_pay (y : Vec Ideal S512x2048 .bf16) (w : Vec Ideal S1x2048x2048 .bf16) (h : Vec Ideal S512x2048 .f32) (g : Vec Ideal S1x2048 .f32) :
    out0_5 y w h g = k0_pay2 h y w g := by
  unfold out0_5
  rw [View.canon_unit_zero (by funext a; match a with | 0 => rfl | 1 => rfl)]
  simp only [ld_rows, ld_mat, ld_row]

theorem pay1_at (h : Vec Ideal S512x2048 .f32) (y : Vec Ideal S512x2048 .bf16) (w : Vec Ideal S1x2048x2048 .bf16) (r : Fin 512) (q : Fin 2048) :
    k0_pay1 h y w (ix2 r q) = h (ix2 r q) + ∑ k : Fin 2048, y (ix2 r k) * w (ix3 0 k q) := by
  pointwise [k0_pay1]

theorem pay2_at (h : Vec Ideal S512x2048 .f32) (y : Vec Ideal S512x2048 .bf16) (w : Vec Ideal S1x2048x2048 .bf16) (g : Vec Ideal S1x2048 .f32) (r : Fin 512) (q : Fin 2048) :
    k0_pay2 h y w g (ix2 r q) = rms (fun j => k0_pay1 h y w (ix2 r j)) (fun j => g (ix2 0 j)) q := by
  unfold k0_pay2 rms
  generalize k0_pay1 h y w = s
  pointwise []

/-- The sum's row at a point. -/
theorem sum_at (t : Fin cfg0.N) (r : Fin 512) (q : Fin 2048) (n : Fin 16384) (hn : n.val = 512 * t.val + r.val) :
    k0_pay1 (iblk m c 2 t) (iblk m c 0 t) (iblk m c 1 t) (ix2 r q)
      = sum (m ((c : Thread nD τ).loc main_arg0)) (m ((c : Thread nD τ).loc main_arg1)) (m ((c : Thread nD τ).loc main_arg2)) n q := by
  rw [pay1_at]
  unfold sum
  simp only [r0 m c t r _ n hn, r1, r2 m c t r _ n hn]

/-- What the kernel leaves. -/
theorem kernel4_at (n : Fin 16384) (q : Fin 2048) :
    ((dats m 0 c).arrAt 4 cfg0.N : FVec Ideal S16384x2048 .f32) (ix2 n q)
      = sum (m ((c : Thread nD τ).loc main_arg0)) (m ((c : Thread nD τ).loc main_arg1)) (m ((c : Thread nD τ).loc main_arg2)) n q := by
  have hN : cfg0.N = 32 := N_0
  let t : Fin cfg0.N := ⟨n.val / 512, by omega⟩
  let r : Fin 512 := ⟨n.val % 512, by omega⟩
  have hn : n.val = 512 * t.val + r.val := by show n.val = 512 * (n.val / 512) + n.val % 512; omega
  refine (out4_read t _ r q n hn).symm.trans ((congrFun (Value.blocks4 m c t (flush0_4 t)) (ix2 r q)).trans ?_)
  rw [Value.flushed4]
  show out0_4 (iblk m c 0 t) (iblk m c 1 t) (iblk m c 2 t) (iblk m c 3 t) (ix2 r q) = _
  rw [out4_pay]
  exact sum_at m c t r q n hn

theorem kernel5_at (n : Fin 16384) (q : Fin 2048) :
    ((dats m 0 c).arrAt 5 cfg0.N : FVec Ideal S16384x2048 .bf16) (ix2 n q)
      = normed (m ((c : Thread nD τ).loc main_arg0)) (m ((c : Thread nD τ).loc main_arg1)) (m ((c : Thread nD τ).loc main_arg2))
          (m ((c : Thread nD τ).loc main_arg3)) n q := by
  have hN : cfg0.N = 32 := N_0
  let t : Fin cfg0.N := ⟨n.val / 512, by omega⟩
  let r : Fin 512 := ⟨n.val % 512, by omega⟩
  have hn : n.val = 512 * t.val + r.val := by show n.val = 512 * (n.val / 512) + n.val % 512; omega
  refine (out5_read t _ r q n hn).symm.trans ((congrFun (Value.blocks5 m c t (flush0_5 t)) (ix2 r q)).trans ?_)
  rw [Value.flushed5]
  show out0_5 (iblk m c 0 t) (iblk m c 1 t) (iblk m c 2 t) (iblk m c 3 t) (ix2 r q) = _
  rw [out5_pay, pay2_at]
  unfold normed
  exact congrArg₂ (fun a b => rms a b q) (funext fun j => sum_at m c t r j n hn) (funext fun j => r3 m c t j)

end Kernel

section Reference
open Cert.Reference4Ideal Cert.Reference4Ideal.Gen Idealize.ShloMosaic.StableHlo

/-- The reference's sum. -/
def sumT (y : FVec Ideal S16384x2048 .bf16) (w : FVec Ideal S2x2048x2048 .f32) (h : FVec Ideal S16384x2048 .f32) : FVec Ideal S16384x2048 .f32 :=
  addf h (Host.dotGeneral dot_S16384x2048_S2048x2048_S16384x2048_1_0_0_1_n_n none (extf .f32 y bitsLt_bf16_f32)
    (shapeCast S2048x2048 (extractStridedSlice S1x2048x2048 ![1, 0, 0] w slices_S2x2048x2048_S1x2048x2048_1_0_0) shapeCasts_S1x2048x2048_S2048x2048))

/-- The reference's norm. -/
def normT (x : FVec Ideal S16384x2048 .f32) (g : FVec Ideal S2048 .f32) : FVec Ideal S16384x2048 .bf16 :=
  truncf .bf16 (mulf (mulf x (broadcastInDim S16384x2048 ![0, 1] bcast_S16384x1_S16384x2048_0_1 (Host.rsqrt (addf (Host.divf (broadcastInDim S16384x1 ![0] bcast_S16384_S16384x1_0
    (Host.reduceAdd (mulf x x) (constant S_ .f32 0x00000000#32) reducesTo_S16384x2048_S16384_d1 h_S_)) (broadcastInDim S16384x1 ![] bcast_S_S16384x1 (constant S_ .f32 0x45000000#32)))
    (broadcastInDim S16384x1 ![] bcast_S_S16384x1 (constant S_ .f32 0x358637BD#32)))))) (broadcastInDim S16384x2048 ![0, 1] bcast_S1x2048_S16384x2048_0_1
    (broadcastInDim S1x2048 ![1] bcast_S2048_S1x2048_1 g))) bitsLt_bf16_f32

theorem sumT_at (y : FVec Ideal S16384x2048 .bf16) (w : FVec Ideal S2x2048x2048 .f32) (h : FVec Ideal S16384x2048 .f32) (n : Fin 16384) (q : Fin 2048) :
    sumT y w h (ix2 n q) = sum y w h n q := by
  unfold sumT sum
  pointwise []

theorem normT_at (x : FVec Ideal S16384x2048 .f32) (g : FVec Ideal S2048 .f32) (n : Fin 16384) (q : Fin 2048) :
    normT x g (ix2 n q) = rms (fun j => x (ix2 n j)) (fun j => g (ix1 j)) q := by
  unfold normT rms
  pointwise []

theorem norm_sum_at (y : FVec Ideal S16384x2048 .bf16) (w : FVec Ideal S2x2048x2048 .f32) (h : FVec Ideal S16384x2048 .f32) (g : FVec Ideal S2048 .f32)
    (n : Fin 16384) (q : Fin 2048) : normT (sumT y w h) g (ix2 n q) = normed y w h g n q := by
  rw [normT_at]
  unfold normed
  exact congrArg (fun a => rms a _ q) (funext fun j => sumT_at y w h n j)

end Reference

theorem ix_eq (i : (⟨2, ![16384, 2048]⟩ : Shape).Idx) : i = ix2 (i 0 : Fin 16384) (i 1 : Fin 2048) := by
  funext a
  match a with
  | 0 => rfl
  | 1 => rfl

/-- The claim. -/
theorem same : @Cert.algebraic_Kernel4Ideal_Reference4Ideal Cert.Kernel4Ideal.Gen.facts Cert.Reference4Ideal.Gen.facts := by
  intro m g m' g' _ heq
  refine ⟨fun c => (Cert.Kernel4Ideal.Gen.dats m 0 c).arrAt 4 Cert.Kernel4Ideal.cfg0.N, fun c => (Cert.Kernel4Ideal.Gen.dats m 0 c).arrAt 5 Cert.Kernel4Ideal.cfg0.N,
    Cert.Kernel4Ideal.Value.run_blocks (F := Ideal) m g, ?_⟩
  refine (θ_run Cert.Reference4Ideal.defs _ _).mono (fun r h c => ⟨(h c).1.trans ?_, (h c).2.1.trans ?_, (h c).2.2⟩) (Cert.Reference4Ideal.Value.run (F := Ideal) m' g')
  · obtain ⟨h0, h1, h2, h3⟩ := heq c
    rw [h0, h1, h2]
    funext i
    refine (congrArg _ (ix_eq i)).trans ((sumT_at _ _ _ (i 0) (i 1)).trans ?_)
    exact (kernel4_at m c (i 0) (i 1)).symm.trans (congrArg ((Cert.Kernel4Ideal.Gen.dats m 0 c).arrAt 4 Cert.Kernel4Ideal.cfg0.N) (ix_eq i).symm)
  · obtain ⟨h0, h1, h2, h3⟩ := heq c
    rw [h0, h1, h2, h3]
    funext i
    refine (congrArg _ (ix_eq i)).trans ((norm_sum_at _ _ _ _ (i 0) (i 1)).trans ?_)
    exact (kernel5_at m c (i 0) (i 1)).symm.trans (congrArg ((Cert.Kernel4Ideal.Gen.dats m 0 c).arrAt 5 Cert.Kernel4Ideal.cfg0.N) (ix_eq i).symm)

end Cert.Calls.MatmulResidual
end
-- ==== Proof.Calls.NormMatmul.lean ====
/-
  The norm with its matmul: what the kernel leaves and what the reference computes are both the normed rows times the
  second layer's matrix.
-/
module

public import proofs.«01_k».proof.Proof.Calls.Norm
public import proofs.«01_k».proof.Proof.Gen.Kernel5Ideal.Value
public import proofs.«01_k».proof.Proof.Gen.Reference5Ideal.Run
public import proofs.«01_k».proof.Defs

@[expose] public section

set_option maxHeartbeats 4000000
set_option maxRecDepth 16384
noncomputable section
open Idealize.ShloMosaic Idealize.ShloMosaic.TcCoe Idealize.SL.Sem

namespace Cert.Calls.NormMatmul

/-- Row `n` of the result: the normed row of `h` times column `q` of layer 1 of `w`. -/
def spec (h : FVec Ideal ⟨2, ![16384, 2048]⟩ .f32) (g : FVec Ideal ⟨1, ![2048]⟩ .f32) (w : FVec Ideal ⟨3, ![2, 2048, 3072]⟩ .f32)
    (n : Fin 16384) (q : Fin 3072) : EReal :=
  ∑ k, rms (fun j => h (ix2 n j)) (fun j => g (ix1 j)) k * w (ix3 1 k q)

section Kernel
open Cert.Kernel5Ideal Cert.Kernel5Ideal.Gen

variable (m : (ℓ : Loc nD τ sig) → Buf (Elt Ideal) ℓ) (c : Dev nD)

/-- Where the windows' blocks lie. -/
theorem idx : ∀ t : Fin cfg0.N, win0_0.index t = ![t.val, 0] ∧ win0_1.index t = ![0, 0] ∧ win0_2.index t = ![1, 0, 0] ∧ win0_3.index t = ![t.val, 0] :=
  (by decide +kernel : ∀ t : Fin grid0.N, _)

theorem r0 (t : Fin cfg0.N) (r : Fin 512) (k : Fin 2048) (n : Fin 16384) (hn : n.val = 512 * t.val + r.val) :
    iblk m c 0 t (ix2 r k) = (m ((c : Thread nD τ).loc main_arg0) : FVec Ideal S16384x2048 .f32) (ix2 n k) := by
  have e := (idx t).1
  blk_point [iblk, V, e]

theorem r1 (t : Fin cfg0.N) (k : Fin 2048) :
    iblk m c 1 t (ix2 0 k) = (m ((c : Thread nD τ).loc main_arg1) : FVec Ideal S2048 .f32) (ix1 k) := by
  have e := (idx t).2.1
  blk_point [iblk, V, e]

theorem r2 (t : Fin cfg0.N) (k : Fin 2048) (q : Fin 3072) :
    iblk m c 2 t (ix3 0 k q) = (m ((c : Thread nD τ).loc main_arg2) : FVec Ideal S2x2048x3072 .f32) (ix3 1 k q) := by
  have e := (idx t).2.2.1
  blk_point [iblk, V, e]

/-- The result's block `t` is its rows `512 t …`. -/
theorem out_read (t : Fin cfg0.N) (f : Vec Ideal S16384x3072 .f32) (r : Fin 512) (q : Fin 3072) (n : Fin 16384) (hn : n.val = 512 * t.val + r.val) :
    ((cfg0.win 3).blk t).view.read (Elt Ideal) f (ix2 r q) = f (ix2 n q) := by
  have e := (idx t).2.2.2
  blk_point [e]

theorem out_pay (x : Vec Ideal S512x2048 .f32) (g : Vec Ideal S1x2048 .f32) (w : Vec Ideal S1x2048x3072 .bf16) :
    out0_3 x g w = k0_pay1 x g w := by
  unfold out0_3
  rw [View.canon_unit_zero (by funext a; match a with | 0 => rfl | 1 => rfl), View.ld_unit_zero (by funext a; match a with | 0 => rfl | 1 => rfl),
    View.ld_unit_zero (by funext a; match a with | 0 => rfl | 1 => rfl), View.ld_unit_zero (by funext a; match a with | 0 => rfl | 1 => rfl | 2 => rfl)]

theorem pay_at (x : Vec Ideal S512x2048 .f32) (g : Vec Ideal S1x2048 .f32) (w : Vec Ideal S1x2048x3072 .bf16) (r : Fin 512) (q : Fin 3072) :
    k0_pay1 x g w (ix2 r q) = ∑ k, rms (fun j => x (ix2 r j)) (fun j => g (ix2 0 j)) k * w (ix3 0 k q) := by
  pointwise [k0_pay1]
  rfl

/-- What the kernel leaves. -/
theorem kernel_at (n : Fin 16384) (q : Fin 3072) :
    ((dats m 0 c).arrAt 3 cfg0.N : FVec Ideal S16384x3072 .f32) (ix2 n q)
      = spec (m ((c : Thread nD τ).loc main_arg0)) (m ((c : Thread nD τ).loc main_arg1)) (m ((c : Thread nD τ).loc main_arg2)) n q := by
  have hN : cfg0.N = 32 := N_0
  let t : Fin cfg0.N := ⟨n.val / 512, by omega⟩
  let r : Fin 512 := ⟨n.val % 512, by omega⟩
  have hn : n.val = 512 * t.val + r.val := by show n.val = 512 * (n.val / 512) + n.val % 512; omega
  refine (out_read t _ r q n hn).symm.trans ((congrFun (Value.blocks3 m c t (flush0_3 t)) (ix2 r q)).trans ?_)
  rw [Value.flushed3]
  show out0_3 (iblk m c 0 t) (iblk m c 1 t) (iblk m c 2 t) (ix2 r q) = _
  rw [out_pay, pay_at]
  unfold spec rms
  simp only [r0 m c t r _ n hn, r1, r2]

end Kernel

section Reference
open Cert.Reference5Ideal Cert.Reference5Ideal.Gen Idealize.ShloMosaic.StableHlo

/-- What the reference computes. -/
theorem reference_at (h : FVec Ideal S16384x2048 .f32) (g : FVec Ideal S2048 .f32) (w : FVec Ideal S2x2048x3072 .f32) (n : Fin 16384) (q : Fin 3072) :
    Host.dotGeneral dot_S16384x2048_S2048x3072_S16384x3072_1_0_0_1_n_n none (mulf (mulf h (broadcastInDim S16384x2048 ![0, 1] bcast_S16384x1_S16384x2048_0_1 (Host.rsqrt (addf (Host.divf (broadcastInDim S16384x1 ![0] bcast_S16384_S16384x1_0 (Host.reduceAdd (mulf h h) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 g))) (shapeCast S2048x3072 (extractStridedSlice S1x2048x3072 ![1, 0, 0] w slices_S2x2048x3072_S1x2048x3072_1_0_0) shapeCasts_S1x2048x3072_S2048x3072) (ix2 n q)
      = spec h g w n q := by
  unfold spec rms
  pointwise []

end Reference

/-- The claim. -/
theorem same : @Cert.algebraic_Kernel5Ideal_Reference5Ideal Cert.Kernel5Ideal.Gen.facts Cert.Reference5Ideal.Gen.facts := by
  intro m g m' g' _ heq
  refine ⟨fun c => (Cert.Kernel5Ideal.Gen.dats m 0 c).arrAt 3 Cert.Kernel5Ideal.cfg0.N, Cert.Kernel5Ideal.Value.run_blocks (F := Ideal) m g, ?_⟩
  refine (θ_run Cert.Reference5Ideal.defs _ _).mono (fun r h c => ⟨(h c).1.trans ?_, (h c).2⟩) (Cert.Reference5Ideal.Value.run (F := Ideal) m' g')
  obtain ⟨h0, h1, h2⟩ := heq c
  rw [h0, h1, h2]
  funext i
  have hi : i = ix2 (i 0 : Fin 16384) (i 1 : Fin 3072) := by
    funext a
    match a with
    | 0 => rfl
    | 1 => rfl
  refine (congrArg _ hi).trans ((reference_at _ _ _ (i 0) (i 1)).trans ?_)
  exact (kernel_at m c (i 0) (i 1)).symm.trans (congrArg ((Cert.Kernel5Ideal.Gen.dats m 0 c).arrAt 3 Cert.Kernel5Ideal.cfg0.N) hi.symm)

end Cert.Calls.NormMatmul
end
-- ==== Proof.Proj.Runs.lean ====
/-
  What the body of the projection finds and leaves, point by point: the arrays when it is entered, the windows' blocks,
  the branch conditions, and where a window is left alone.
-/
module

public import proofs.«01_k».proof.Proof.Gen.Kernel7Ideal.Launch
public import proofs.«01_k».proof.Proof.Gen.Kernel7Ideal.Skeleton
public import proofs.«01_k».proof.Proof.Gen.Kernel7Ideal.Points
public import Idealize.ShloMosaic.Lib.Pipeline.FrameBody
public import Idealize.ShloMosaic.Lib.Pipeline.TableIdle
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.Kernel7Ideal.Proj

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 5) — by arithmetic of the point. -/
theorem hcond0_0 : ∀ t : Fin cfg0.N, cond0_0 (grid0.coords t) ↔ t.val % 5 = 0 :=
  (fun t => by
    have ht : t.val < 80 := Nat.lt_of_lt_of_eq t.isLt N_0
    have e0 : (grid0.coords t 0).val = t.val / 5 % 16 := Pipeline.Grid.coords_val t 0 (by decide) rfl
    have e1 : (grid0.coords t 1).val = t.val / 1 % 5 := Pipeline.Grid.coords_val t 1 (by decide) rfl
    simp only [cond0_0, k0_cond1, e0, e1]
    word_cmp
   : ∀ t : Fin grid0.N, cond0_0 (grid0.coords t) ↔ t.val % 5 = 0)

/-- The condition of the body's second branch. -/
abbrev cond0_1 (i : grid0.Coords) : Prop := k0_cond2 i = 1#1
/-- It holds at the points ≡ 2 (mod 5). -/
theorem hcond0_1 : ∀ t : Fin cfg0.N, cond0_1 (grid0.coords t) ↔ t.val % 5 = 2 :=
  (fun t => by
    have ht : t.val < 80 := Nat.lt_of_lt_of_eq t.isLt N_0
    have e0 : (grid0.coords t 0).val = t.val / 5 % 16 := Pipeline.Grid.coords_val t 0 (by decide) rfl
    have e1 : (grid0.coords t 1).val = t.val / 1 % 5 := Pipeline.Grid.coords_val t 1 (by decide) rfl
    simp only [cond0_1, k0_cond2, e0, e1]
    word_cmp
   : ∀ t : Fin grid0.N, cond0_1 (grid0.coords t) ↔ t.val % 5 = 2)

/-! ## Where the windows are idle -/

theorem live0 (t : Fin cfg0.N) : cfg0.idle 0 (grid0.coords t) = false := rfl
theorem live1 (t : Fin cfg0.N) : cfg0.idle 1 (grid0.coords t) = false := rfl
theorem live2 (t : Fin cfg0.N) : cfg0.idle 2 (grid0.coords t) = false := rfl
theorem live3 (t : Fin cfg0.N) : cfg0.idle 3 (grid0.coords t) = false := rfl

/-- The gates' window is stored at the points ≡ 0 (mod 5) only, and written back at those ≡ 4. -/
theorem idle4 : ∀ t : Fin cfg0.N, cfg0.idle 4 (grid0.coords t) = !decide (t.val % 5 = 0) := by decide +kernel
theorem flush4 : ∀ t : Fin cfg0.N, (cfg0.win 4).flush t = decide (t.val % 5 = 4) := by decide +kernel
/-- The compressed columns' window is stored at the points ≡ 2 (mod 5) only, and written back at those ≡ 4. -/
theorem idle5 : ∀ t : Fin cfg0.N, cfg0.idle 5 (grid0.coords t) = !decide (t.val % 5 = 2) := by decide +kernel
theorem flush5 : ∀ t : Fin cfg0.N, (cfg0.win 5).flush t = decide (t.val % 5 = 4) := by decide +kernel

/-- Where the gates' buffer holds nothing of the current rows: before the points ≡ 0 (mod 5). -/
def freshTab4 (n : ℕ) : Bool := decide (n % 5 = 0)
theorem fresh4 (t : Fin cfg0.N) : cfg0.fresh 4 t.val = freshTab4 t.val :=
  Pipeline.Cfg.fresh_tab cfg0 4 freshTab4 rfl (by decide +kernel) t.val (Nat.le_of_lt t.isLt)
/-- And the compressed columns' buffer: before the points ≡ 0, 1, 2 (mod 5). -/
def freshTab5 (n : ℕ) : Bool := decide (n % 5 < 3)
theorem fresh5 (t : Fin cfg0.N) : cfg0.fresh 5 t.val = freshTab5 t.val :=
  Pipeline.Cfg.fresh_tab cfg0 5 freshTab5 rfl (by decide +kernel) t.val (Nat.le_of_lt t.isLt)

/-! ## The staging memrefs -/

/-- Each window's current staging memref at point `t`, spelled as the pipeline passes it (`bodyAt0`), and its wholeness. -/
abbrev ms0_0 (t : Fin cfg0.N) : Memref sig .tc .vmem S1024x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8x1024x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8x64x2048 .bf16 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S1024x128 .f32 := Memref.whole cc0_scratch0

/-- The frame kit's invariant with the scratch operands as memrefs owned at some contents (`Gen.scopedRest0_eq`,
    `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel7Ideal.Proj

end
-- ==== Proof.Proj.RunA.lean ====
/-
  The body at a row block's first column block: the projection and the gates are stored.
-/
module

public import proofs.«01_k».proof.Proof.Proj.Runs

@[expose] public section

set_option maxRecDepth 16384

noncomputable section

namespace Cert.Kernel7Ideal.Proj

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run: from the input blocks, the pieces its stores leave in each output's buffer, found by the run. -/
noncomputable def runA (c : Dev nD) (i : grid0.Coords) (arg2 : Memref sig .tc .vmem S1024x2048 .bf16) (harg2 : arg2.IsWhole) (arg3 : Memref sig .tc .vmem S1x2048x1024 .bf16) (harg3 : arg3.IsWhole) (arg4 : Memref sig .tc .vmem S2048x128 .bf16) (harg4 : arg4.IsWhole) (arg5 : Memref sig .tc .vmem S1x8x1024x128 .bf16) (harg5 : arg5.IsWhole) (arg6 : Memref sig .tc .vmem S1024x128 .f32) (harg6 : arg6.IsWhole) (arg7 : Memref sig .tc .vmem S1x8x64x2048 .bf16) (harg7 : arg7.IsWhole) (arg8 : Memref sig .tc .vmem S1024x128 .f32) (harg8 : arg8.IsWhole) (hc0 : cond0_0 i) (hc1 : ¬cond0_1 i)
    (x0 : Vec F S1024x2048 .bf16) (x1 : Vec F S1x2048x1024 .bf16) (x2 : Vec F S2048x128 .bf16) :
    Σ' (L3 : List (View.Piece (Elt F) S1x8x1024x128 .bf16)), { L4 : List (View.Piece (Elt F) S1024x128 .f32) //
      ∀ (xi5 : Vec F S1x8x64x2048 .bf16) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ owns (c : Thread nD τ) arg7 fullShare xi5 ∗ (∃ d, owns (c : Thread nD τ) arg8 fullShare d)) -∗ K ⟨⟩))
          ⊢ wp frame (wpE (defs₀ (F := F)) Variants.none c none) E (cc0_nsa_proj i arg2 harg2 arg3 harg3 arg4 harg4 arg5 harg5 arg6 harg6 arg7 harg7 arg8 harg8) K } := by
  refine ⟨?_, ?_, fun xi5 E K => ?run⟩
  case run =>
    simp only [cc0_nsa_proj_eq_skeleton]; unfold cc0_nsa_proj_skel
    simp only [k0_part27_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg7.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]
    · iexists _; isplitr; · ipureintro; exact harg7.read_unread _
      iexact H5
    iexists _, _; isplitr; swap; · iexact HS0
    ipureintro; rfl

end Cert.Kernel7Ideal.Proj

end
-- ==== Proof.Proj.RunB.lean ====
/-
  The body at a column block that is neither the first nor the compressed branch's: the projection alone is stored.
-/
module

public import proofs.«01_k».proof.Proof.Proj.RunA

@[expose] public section

set_option maxRecDepth 16384

noncomputable section

namespace Cert.Kernel7Ideal.Proj

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run: from the input blocks, the pieces its stores leave in each output's buffer, found by the run. -/
noncomputable def runB (c : Dev nD) (i : grid0.Coords) (arg2 : Memref sig .tc .vmem S1024x2048 .bf16) (harg2 : arg2.IsWhole) (arg3 : Memref sig .tc .vmem S1x2048x1024 .bf16) (harg3 : arg3.IsWhole) (arg4 : Memref sig .tc .vmem S2048x128 .bf16) (harg4 : arg4.IsWhole) (arg5 : Memref sig .tc .vmem S1x8x1024x128 .bf16) (harg5 : arg5.IsWhole) (arg6 : Memref sig .tc .vmem S1024x128 .f32) (harg6 : arg6.IsWhole) (arg7 : Memref sig .tc .vmem S1x8x64x2048 .bf16) (harg7 : arg7.IsWhole) (arg8 : Memref sig .tc .vmem S1024x128 .f32) (harg8 : arg8.IsWhole) (hc0 : ¬cond0_0 i) (hc1 : ¬cond0_1 i)
    (x0 : Vec F S1024x2048 .bf16) (x1 : Vec F S1x2048x1024 .bf16) (x2 : Vec F S2048x128 .bf16) :
     { L3 : List (View.Piece (Elt F) S1x8x1024x128 .bf16) //
      ∀ (xi4 : Vec F S1024x128 .f32) (xi5 : Vec F S1x8x64x2048 .bf16) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xi4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xi4 ∗ owns (c : Thread nD τ) arg7 fullShare xi5 ∗ (∃ d, owns (c : Thread nD τ) arg8 fullShare d)) -∗ K ⟨⟩))
          ⊢ wp frame (wpE (defs₀ (F := F)) Variants.none c none) E (cc0_nsa_proj i arg2 harg2 arg3 harg3 arg4 harg4 arg5 harg5 arg6 harg6 arg7 harg7 arg8 harg8) K } := by
  refine ⟨?_, fun xi4 xi5 E K => ?run⟩
  case run =>
    simp only [cc0_nsa_proj_eq_skeleton]; unfold cc0_nsa_proj_skel
    simp only [k0_part27_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg6.eq_unread hf4; obtain rfl := harg7.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    isplitl [H5]
    · iexists _; isplitr; · ipureintro; exact harg7.read_unread _
      iexact H5
    iexists _, _; isplitr; swap; · iexact HS0
    ipureintro; rfl

end Cert.Kernel7Ideal.Proj

end
-- ==== Proof.Proj.RunC.lean ====
/-
  The body at the compressed branch's column block: the projection is stored by head and, through the scratch, by strides.
-/
module

public import proofs.«01_k».proof.Proof.Proj.RunB

@[expose] public section

set_option maxRecDepth 16384

noncomputable section

namespace Cert.Kernel7Ideal.Proj

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run: from the input blocks, the pieces its stores leave in each output's buffer, found by the run. -/
noncomputable def runC (c : Dev nD) (i : grid0.Coords) (arg2 : Memref sig .tc .vmem S1024x2048 .bf16) (harg2 : arg2.IsWhole) (arg3 : Memref sig .tc .vmem S1x2048x1024 .bf16) (harg3 : arg3.IsWhole) (arg4 : Memref sig .tc .vmem S2048x128 .bf16) (harg4 : arg4.IsWhole) (arg5 : Memref sig .tc .vmem S1x8x1024x128 .bf16) (harg5 : arg5.IsWhole) (arg6 : Memref sig .tc .vmem S1024x128 .f32) (harg6 : arg6.IsWhole) (arg7 : Memref sig .tc .vmem S1x8x64x2048 .bf16) (harg7 : arg7.IsWhole) (arg8 : Memref sig .tc .vmem S1024x128 .f32) (harg8 : arg8.IsWhole) (hc0 : ¬cond0_0 i) (hc1 : cond0_1 i)
    (x0 : Vec F S1024x2048 .bf16) (x1 : Vec F S1x2048x1024 .bf16) (x2 : Vec F S2048x128 .bf16) :
    Σ' (L3 : List (View.Piece (Elt F) S1x8x1024x128 .bf16)), { L5 : List (View.Piece (Elt F) S1x8x64x2048 .bf16) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xi4 ∗ (∃ f, arg7.view.loc (c : Thread nD τ) ↦[arg7.view.set]{fullShare} arg7.view.writes (Elt F) f L5) ∗ (∃ d, owns (c : Thread nD τ) arg8 fullShare d)) -∗ K ⟨⟩))
          ⊢ wp frame (wpE (defs₀ (F := F)) Variants.none c none) E (cc0_nsa_proj i arg2 harg2 arg3 harg3 arg4 harg4 arg5 harg5 arg6 harg6 arg7 harg7 arg8 harg8) K } := by
  refine ⟨?_, ?_, fun xi4 E K => ?run⟩
  case run =>
    simp only [cc0_nsa_proj_eq_skeleton]; unfold cc0_nsa_proj_skel
    simp only [k0_part27_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%d5, %f5, -, H5⟩, ⟨%ds0, %fs0, -, HS0⟩, Hk⟩
    obtain rfl := harg2.eq_unread hf0; obtain rfl := harg3.eq_unread hf1; obtain rfl := harg4.eq_unread hf2; obtain rfl := harg6.eq_unread hf4
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    isplitl [H5]; · iexists _; iexact H5
    iexists _, _; isplitr; swap; · iexact HS0
    ipureintro; rfl

end Cert.Kernel7Ideal.Proj

end
-- ==== Proof.Proj.Blocks.lean ====
/-
  The blocks the body leaves, as functions of the blocks it reads: the heads' columns of the product, and the same
  columns with 16 rows laid side by side.
-/
module

public import proofs.«01_k».proof.Proof.Proj.RunC
public import Idealize.ShloMosaic.Lib.WholeRead
public import Idealize.ShloMosaic.Lib.Pointwise

@[expose] public section

set_option maxRecDepth 16384

noncomputable section

namespace Cert.Kernel7Ideal.Proj

open Cert.Kernel7Ideal Cert.Kernel7Ideal.Gen
open Idealize.ShloMosaic Idealize.ShloMosaic.TcCoe Idealize.ShloMosaic.Tactic

variable {F : FTy → Type} [FloatOps F]

/-- The block of the heads: head `b`, row `p`, lane `q` is the product's row `p`, column `128 b + q`. -/
def zBlk (x0 : Vec F S1024x2048 .bf16) (x1 : Vec F S1x2048x1024 .bf16) : Vec F S1x8x1024x128 .bf16 := fun y =>
  k0_pay159 x0 x1 (ix2 (⟨(y 2).val, (y 2).isLt⟩ : Fin 1024)
    (⟨128 * (y 1).val + (y 3).val, by have h1 : (y 1).val < 8 := (y 1).isLt; have h3 : (y 3).val < 128 := (y 3).isLt; omega⟩ : Fin 1024))

/-- The block of the chunked heads: head `b`, chunk `p`, lane `q` is the product's row `16 p + q / 128`, column `128 b + q mod 128`. -/
def zcBlk (x0 : Vec F S1024x2048 .bf16) (x1 : Vec F S1x2048x1024 .bf16) : Vec F S1x8x64x2048 .bf16 := fun y =>
  k0_pay159 x0 x1 (ix2 (⟨16 * (y 2).val + (y 3).val / 128, by have h2 : (y 2).val < 64 := (y 2).isLt; have h3 : (y 3).val < 2048 := (y 3).isLt; omega⟩ : Fin 1024)
    (⟨128 * (y 1).val + (y 3).val % 128, by have h1 : (y 1).val < 8 := (y 1).isLt; omega⟩ : Fin 1024))

/-- A whole block read back. -/
theorem read0 {arg : Memref sig .tc .vmem S1024x2048 .bf16} (h : arg.IsWhole) (x : Vec F S1024x2048 .bf16) :
    View.readAt (Elt F) arg.view (Rect.unit ![0, 0] S1024x2048.size inb_S1024x2048_S1024x2048_0_0).toLoadRect (h.unread x) = x :=
  (funext fun y => h.readAt_unread x _ y).trans (View.ld_unit_zero (by funext a; match a with | 0 => rfl | 1 => rfl) inb_S1024x2048_S1024x2048_0_0 x)
theorem read1 {arg : Memref sig .tc .vmem S1x2048x1024 .bf16} (h : arg.IsWhole) (x : Vec F S1x2048x1024 .bf16) :
    View.readAt (Elt F) arg.view (Rect.unit ![0, 0, 0] S1x2048x1024.size inb_S1x2048x1024_S1x2048x1024_0_0_0).toLoadRect (h.unread x) = x :=
  (funext fun y => h.readAt_unread x _ y).trans (View.ld_unit_zero (by funext a; match a with | 0 => rfl | 1 => rfl | 2 => rfl) inb_S1x2048x1024_S1x2048x1024_0_0_0 x)
theorem read2 {arg : Memref sig .tc .vmem S2048x128 .bf16} (h : arg.IsWhole) (x : Vec F S2048x128 .bf16) :
    View.readAt (Elt F) arg.view (Rect.unit ![0, 0] S2048x128.size inb_S2048x128_S2048x128_0_0).toLoadRect (h.unread x) = x :=
  (funext fun y => h.readAt_unread x _ y).trans (View.ld_unit_zero (by funext a; match a with | 0 => rfl | 1 => rfl) inb_S2048x128_S2048x128_0_0 x)

/-- One store into the heads' block. -/
theorem z_piece (r : FVec F S1024x1024 .bf16) (x0 : Vec F S1024x2048 .bf16) (x1 : Vec F S1x2048x1024 .bf16) (hr : r = k0_pay159 x0 x1)
    (b o : ℕ) (ho : o = 128 * b) (hs : S1024x1024.Slices ![0, o] S1024x128) (hc : S1024x128.ShapeCasts S1x1x1024x128)
    (inb : ∀ a, (![0, b, 0, 0] : Fin 4 → ℕ) a + S1x1x1024x128.size a ≤ S1x8x1024x128.size a)
    (x : (Rect.unit (s := S1x8x1024x128) ![0, b, 0, 0] S1x1x1024x128.size inb).shape.Idx) :
    (shapeCast S1x1x1024x128 (extractStridedSlice S1024x128 ![0, o] r hs) hc : FVec F S1x1x1024x128 .bf16) x
      = zBlk x0 x1 ((Rect.unit (s := S1x8x1024x128) ![0, b, 0, 0] S1x1x1024x128.size inb).emb x) := by
  subst hr ho
  have h0 : (x 0).val < 1 := (x 0).isLt
  have h1 : (x 1).val < 1 := (x 1).isLt
  have h2 : (x 2).val < 1024 := (x 2).isLt
  have h3 : (x 3).val < 128 := (x 3).isLt
  have hb : b + 1 ≤ 8 := inb 1
  refine (shapeCast_apply _ hc x (ix2 (⟨(x 2).val, h2⟩ : Fin 1024) (⟨(x 3).val, h3⟩ : Fin 128)) ?_).trans ?_
  · rw [Shape.rowMajor_val_two, Shape.rowMajor_val_four]
    show (x 2).val * 128 + (x 3).val = (((x 0).val * 1 + (x 1).val) * 1024 + (x 2).val) * 128 + (x 3).val
    omega
  refine (extractStridedSlice_apply _ _ hs _ (ix2 (⟨(x 2).val, h2⟩ : Fin 1024) (⟨128 * b + (x 3).val, by omega⟩ : Fin 1024)) ?_).trans ?_
  · intro a
    match a with
    | 0 => show (x 2).val = 0 + (x 2).val; omega
    | 1 => rfl
  unfold zBlk
  refine congrArg (k0_pay159 x0 x1) (funext fun a => Fin.ext ?_)
  match a with
  | 0 => show (x 2).val = 0 + 1 * (x 2).val; omega
  | 1 => show 128 * b + (x 3).val = 128 * (b + 1 * (x 1).val) + (0 + 1 * (x 3).val); omega

/-- One store into the chunked heads' block: every 16th row of the buffer, which holds one head's columns. -/
theorem zc_piece (v : View sig .tc .vmem S1024x128 .f32) (r : FVec F S1024x1024 .f32) (x0 : Vec F S1024x2048 .bf16) (x1 : Vec F S1x2048x1024 .bf16)
    (hr : r = k0_pay158 x0 x1) (b l n o : ℕ) (hn : n = 128 * l) (ho : o = 128 * b) (hl : l < 16)
    (hs : S1024x1024.Slices ![0, o] S1024x128) (hc : S1024x128.ShapeCasts S1024x128)
    (inb0 : ∀ a, (![0, 0] : Fin 2 → ℕ) a + S1024x128.size a ≤ S1024x128.size a) (T : List (View.Piece (Elt F) S1024x128 .f32))
    (inbL : ∀ a, S64x128.size a = 0 ∨ (![l, 0] : Fin 2 → ℕ) a + (![16, 1] : Fin 2 → ℕ) a * (S64x128.size a - 1) < S1024x128.size a)
    (hlt : FTy.bits .bf16 < FTy.bits .f32) (hx : S64x128.ShapeCasts S1x1x64x128)
    (inb : ∀ a, (![0, b, 0, n] : Fin 4 → ℕ) a + S1x1x64x128.size a ≤ S1x8x64x2048.size a)
    (x : (Rect.unit (s := S1x8x64x2048) ![0, b, 0, n] S1x1x64x128.size inb).shape.Idx) :
    (shapeCast S1x1x64x128 (truncf .bf16 (v.readCov (Val := Elt F)
        ((⟨Rect.unit (s := S1024x128) ![0, 0] S1024x128.size inb0, shapeCast S1024x128 (extractStridedSlice S1024x128 ![0, o] r hs) hc⟩ : View.Piece (Elt F) S1024x128 .f32) :: T)
        (⟨![l, 0], S64x128.size, ![16, 1], inbL⟩ : LoadRect S1024x128) : FVec F S64x128 .f32) hlt : FVec F S64x128 .bf16) hx : FVec F S1x1x64x128 .bf16) x
      = zcBlk x0 x1 ((Rect.unit (s := S1x8x64x2048) ![0, b, 0, n] S1x1x64x128.size inb).emb x) := by
  subst hr hn ho
  have h0 : (x 0).val < 1 := (x 0).isLt
  have h1 : (x 1).val < 1 := (x 1).isLt
  have h2 : (x 2).val < 64 := (x 2).isLt
  have h3 : (x 3).val < 128 := (x 3).isLt
  have hb : b + 1 ≤ 8 := inb 1
  refine (shapeCast_apply _ hx x (ix2 (⟨(x 2).val, h2⟩ : Fin 64) (⟨(x 3).val, h3⟩ : Fin 128)) ?_).trans ?_
  · rw [Shape.rowMajor_val_two, Shape.rowMajor_val_four]
    show (x 2).val * 128 + (x 3).val = (((x 0).val * 1 + (x 1).val) * 64 + (x 2).val) * 128 + (x 3).val
    omega
  rw [View.readCov_eq_canon', View.canon_cons_unit_zero (by funext a; match a with | 0 => rfl | 1 => rfl), shapeCast_self]
  unfold zcBlk k0_pay159
  refine congrArg (fun w => FloatOps.truncf .bf16 hlt w) ((extractStridedSlice_apply _ _ hs _ _ ?_))
  intro a
  match a with
  | 0 => show 16 * (0 + 1 * (x 2).val) + (128 * l + 1 * (x 3).val) / 128 = 0 + (l + 16 * (x 2).val); omega
  | 1 => show 128 * (b + 1 * (x 1).val) + (128 * l + 1 * (x 3).val) % 128 = 128 * b + (0 + 1 * (x 3).val); omega

end Cert.Kernel7Ideal.Proj

end
-- ==== Proof.Proj.Stores.lean ====
/-
  What the body's stores leave in each result's buffer: the blocks.
-/
module

public import proofs.«01_k».proof.Proof.Proj.Blocks

@[expose] public section

set_option maxRecDepth 16384
set_option maxHeartbeats 2000000

noncomputable section

namespace Cert.Kernel7Ideal.Proj

open Cert.Kernel7Ideal Cert.Kernel7Ideal.Gen
open Idealize.ShloMosaic Idealize.ShloMosaic.TcCoe Idealize.ShloMosaic.Tactic

variable {F : FTy → Type} [FloatOps F]

/-- The heads' block after point class A. -/
theorem z_readA (c : Dev nD) (i : grid0.Coords) (arg2 : Memref sig .tc .vmem S1024x2048 .bf16) (harg2 : arg2.IsWhole) (arg3 : Memref sig .tc .vmem S1x2048x1024 .bf16) (harg3 : arg3.IsWhole) (arg4 : Memref sig .tc .vmem S2048x128 .bf16) (harg4 : arg4.IsWhole) (arg5 : Memref sig .tc .vmem S1x8x1024x128 .bf16) (harg5 : arg5.IsWhole) (arg6 : Memref sig .tc .vmem S1024x128 .f32) (harg6 : arg6.IsWhole) (arg7 : Memref sig .tc .vmem S1x8x64x2048 .bf16) (harg7 : arg7.IsWhole) (arg8 : Memref sig .tc .vmem S1024x128 .f32) (harg8 : arg8.IsWhole) (hc0 : cond0_0 i) (hc1 : ¬cond0_1 i)
    (x0 : Vec F S1024x2048 .bf16) (x1 : Vec F S1x2048x1024 .bf16) (x2 : Vec F S2048x128 .bf16) (f : arg5.view.ty.Contents (Elt F)) :
    arg5.view.read (Elt F) (arg5.view.writes (Elt F) f (runA c i arg2 harg2 arg3 harg3 arg4 harg4 arg5 harg5 arg6 harg6 arg7 harg7 arg8 harg8 hc0 hc1 x0 x1 x2).1) = zBlk x0 x1 := by
  have hp : ∀ p ∈ (runA c i arg2 harg2 arg3 harg3 arg4 harg4 arg5 harg5 arg6 harg6 arg7 harg7 arg8 harg8 hc0 hc1 x0 x1 x2).1, ∀ x : p.1.shape.Idx, p.2 x = zBlk x0 x1 (p.1.emb x) := by
    have hr : k0_pay159 (View.readAt (Elt F) arg2.view (Rect.unit ![0, 0] S1024x2048.size inb_S1024x2048_S1024x2048_0_0).toLoadRect (harg2.unread x0))
        (View.readAt (Elt F) arg3.view (Rect.unit ![0, 0, 0] S1x2048x1024.size inb_S1x2048x1024_S1x2048x1024_0_0_0).toLoadRect (harg3.unread x1)) = k0_pay159 x0 x1 := by
      rw [read0 harg2, read1 harg3]
    refine List.forall_mem_cons.mpr ⟨fun x => z_piece _ x0 x1 hr 7 896 rfl slices_S1024x1024_o0_896_S1024x128 shapeCasts_S1024x128_S1x1x1024x128 inb_S1x8x1024x128_S1x1x1024x128_0_7_0_0 x, ?_⟩
    refine List.forall_mem_cons.mpr ⟨fun x => z_piece _ x0 x1 hr 6 768 rfl slices_S1024x1024_o0_768_S1024x128 shapeCasts_S1024x128_S1x1x1024x128 inb_S1x8x1024x128_S1x1x1024x128_0_6_0_0 x, ?_⟩
    refine List.forall_mem_cons.mpr ⟨fun x => z_piece _ x0 x1 hr 5 640 rfl slices_S1024x1024_o0_640_S1024x128 shapeCasts_S1024x128_S1x1x1024x128 inb_S1x8x1024x128_S1x1x1024x128_0_5_0_0 x, ?_⟩
    refine List.forall_mem_cons.mpr ⟨fun x => z_piece _ x0 x1 hr 4 512 rfl slices_S1024x1024_o0_512_S1024x128 shapeCasts_S1024x128_S1x1x1024x128 inb_S1x8x1024x128_S1x1x1024x128_0_4_0_0 x, ?_⟩
    refine List.forall_mem_cons.mpr ⟨fun x => z_piece _ x0 x1 hr 3 384 rfl slices_S1024x1024_o0_384_S1024x128 shapeCasts_S1024x128_S1x1x1024x128 inb_S1x8x1024x128_S1x1x1024x128_0_3_0_0 x, ?_⟩
    refine List.forall_mem_cons.mpr ⟨fun x => z_piece _ x0 x1 hr 2 256 rfl slices_S1024x1024_o0_256_S1024x128 shapeCasts_S1024x128_S1x1x1024x128 inb_S1x8x1024x128_S1x1x1024x128_0_2_0_0 x, ?_⟩
    refine List.forall_mem_cons.mpr ⟨fun x => z_piece _ x0 x1 hr 1 128 rfl slices_S1024x1024_o0_128_S1024x128 shapeCasts_S1024x128_S1x1x1024x128 inb_S1x8x1024x128_S1x1x1024x128_0_1_0_0 x, ?_⟩
    refine List.forall_mem_cons.mpr ⟨fun x => z_piece _ x0 x1 hr 0 0 rfl slices_S1024x1024_o0_0_S1024x128 shapeCasts_S1024x128_S1x1x1024x128 inb_S1x8x1024x128_S1x1x1024x128_0_0_0_0 x, ?_⟩
    exact fun p h => absurd h List.not_mem_nil
  have hcov : ∀ y, ∃ p ∈ (runA c i arg2 harg2 arg3 harg3 arg4 harg4 arg5 harg5 arg6 harg6 arg7 harg7 arg8 harg8 hc0 hc1 x0 x1 x2).1, y ∈ p.1.set := fun y =>
    View.cover_of_tiledL (runA c i arg2 harg2 arg3 harg3 arg4 harg4 arg5 harg5 arg6 harg6 arg7 harg7 arg8 harg8 hc0 hc1 x0 x1 x2).1 S1x1x1024x128.size (by sl_kernel_rfl) y
  rw [View.read_writes_eq_canon _ _ _ hcov]
  exact funext fun y => View.canon_apply_of_pieces _ _ hp y (hcov y)

/-- The heads' block after point class B. -/
theorem z_readB (c : Dev nD) (i : grid0.Coords) (arg2 : Memref sig .tc .vmem S1024x2048 .bf16) (harg2 : arg2.IsWhole) (arg3 : Memref sig .tc .vmem S1x2048x1024 .bf16) (harg3 : arg3.IsWhole) (arg4 : Memref sig .tc .vmem S2048x128 .bf16) (harg4 : arg4.IsWhole) (arg5 : Memref sig .tc .vmem S1x8x1024x128 .bf16) (harg5 : arg5.IsWhole) (arg6 : Memref sig .tc .vmem S1024x128 .f32) (harg6 : arg6.IsWhole) (arg7 : Memref sig .tc .vmem S1x8x64x2048 .bf16) (harg7 : arg7.IsWhole) (arg8 : Memref sig .tc .vmem S1024x128 .f32) (harg8 : arg8.IsWhole) (hc0 : ¬cond0_0 i) (hc1 : ¬cond0_1 i)
    (x0 : Vec F S1024x2048 .bf16) (x1 : Vec F S1x2048x1024 .bf16) (x2 : Vec F S2048x128 .bf16) (f : arg5.view.ty.Contents (Elt F)) :
    arg5.view.read (Elt F) (arg5.view.writes (Elt F) f (runB c i arg2 harg2 arg3 harg3 arg4 harg4 arg5 harg5 arg6 harg6 arg7 harg7 arg8 harg8 hc0 hc1 x0 x1 x2).1) = zBlk x0 x1 := by
  have hp : ∀ p ∈ (runB c i arg2 harg2 arg3 harg3 arg4 harg4 arg5 harg5 arg6 harg6 arg7 harg7 arg8 harg8 hc0 hc1 x0 x1 x2).1, ∀ x : p.1.shape.Idx, p.2 x = zBlk x0 x1 (p.1.emb x) := by
    have hr : k0_pay159 (View.readAt (Elt F) arg2.view (Rect.unit ![0, 0] S1024x2048.size inb_S1024x2048_S1024x2048_0_0).toLoadRect (harg2.unread x0))
        (View.readAt (Elt F) arg3.view (Rect.unit ![0, 0, 0] S1x2048x1024.size inb_S1x2048x1024_S1x2048x1024_0_0_0).toLoadRect (harg3.unread x1)) = k0_pay159 x0 x1 := by
      rw [read0 harg2, read1 harg3]
    refine List.forall_mem_cons.mpr ⟨fun x => z_piece _ x0 x1 hr 7 896 rfl slices_S1024x1024_o0_896_S1024x128 shapeCasts_S1024x128_S1x1x1024x128 inb_S1x8x1024x128_S1x1x1024x128_0_7_0_0 x, ?_⟩
    refine List.forall_mem_cons.mpr ⟨fun x => z_piece _ x0 x1 hr 6 768 rfl slices_S1024x1024_o0_768_S1024x128 shapeCasts_S1024x128_S1x1x1024x128 inb_S1x8x1024x128_S1x1x1024x128_0_6_0_0 x, ?_⟩
    refine List.forall_mem_cons.mpr ⟨fun x => z_piece _ x0 x1 hr 5 640 rfl slices_S1024x1024_o0_640_S1024x128 shapeCasts_S1024x128_S1x1x1024x128 inb_S1x8x1024x128_S1x1x1024x128_0_5_0_0 x, ?_⟩
    refine List.forall_mem_cons.mpr ⟨fun x => z_piece _ x0 x1 hr 4 512 rfl slices_S1024x1024_o0_512_S1024x128 shapeCasts_S1024x128_S1x1x1024x128 inb_S1x8x1024x128_S1x1x1024x128_0_4_0_0 x, ?_⟩
    refine List.forall_mem_cons.mpr ⟨fun x => z_piece _ x0 x1 hr 3 384 rfl slices_S1024x1024_o0_384_S1024x128 shapeCasts_S1024x128_S1x1x1024x128 inb_S1x8x1024x128_S1x1x1024x128_0_3_0_0 x, ?_⟩
    refine List.forall_mem_cons.mpr ⟨fun x => z_piece _ x0 x1 hr 2 256 rfl slices_S1024x1024_o0_256_S1024x128 shapeCasts_S1024x128_S1x1x1024x128 inb_S1x8x1024x128_S1x1x1024x128_0_2_0_0 x, ?_⟩
    refine List.forall_mem_cons.mpr ⟨fun x => z_piece _ x0 x1 hr 1 128 rfl slices_S1024x1024_o0_128_S1024x128 shapeCasts_S1024x128_S1x1x1024x128 inb_S1x8x1024x128_S1x1x1024x128_0_1_0_0 x, ?_⟩
    refine List.forall_mem_cons.mpr ⟨fun x => z_piece _ x0 x1 hr 0 0 rfl slices_S1024x1024_o0_0_S1024x128 shapeCasts_S1024x128_S1x1x1024x128 inb_S1x8x1024x128_S1x1x1024x128_0_0_0_0 x, ?_⟩
    exact fun p h => absurd h List.not_mem_nil
  have hcov : ∀ y, ∃ p ∈ (runB c i arg2 harg2 arg3 harg3 arg4 harg4 arg5 harg5 arg6 harg6 arg7 harg7 arg8 harg8 hc0 hc1 x0 x1 x2).1, y ∈ p.1.set := fun y =>
    View.cover_of_tiledL (runB c i arg2 harg2 arg3 harg3 arg4 harg4 arg5 harg5 arg6 harg6 arg7 harg7 arg8 harg8 hc0 hc1 x0 x1 x2).1 S1x1x1024x128.size (by sl_kernel_rfl) y
  rw [View.read_writes_eq_canon _ _ _ hcov]
  exact funext fun y => View.canon_apply_of_pieces _ _ hp y (hcov y)

/-- The heads' block after point class C. -/
theorem z_readC (c : Dev nD) (i : grid0.Coords) (arg2 : Memref sig .tc .vmem S1024x2048 .bf16) (harg2 : arg2.IsWhole) (arg3 : Memref sig .tc .vmem S1x2048x1024 .bf16) (harg3 : arg3.IsWhole) (arg4 : Memref sig .tc .vmem S2048x128 .bf16) (harg4 : arg4.IsWhole) (arg5 : Memref sig .tc .vmem S1x8x1024x128 .bf16) (harg5 : arg5.IsWhole) (arg6 : Memref sig .tc .vmem S1024x128 .f32) (harg6 : arg6.IsWhole) (arg7 : Memref sig .tc .vmem S1x8x64x2048 .bf16) (harg7 : arg7.IsWhole) (arg8 : Memref sig .tc .vmem S1024x128 .f32) (harg8 : arg8.IsWhole) (hc0 : ¬cond0_0 i) (hc1 : cond0_1 i)
    (x0 : Vec F S1024x2048 .bf16) (x1 : Vec F S1x2048x1024 .bf16) (x2 : Vec F S2048x128 .bf16) (f : arg5.view.ty.Contents (Elt F)) :
    arg5.view.read (Elt F) (arg5.view.writes (Elt F) f (runC c i arg2 harg2 arg3 harg3 arg4 harg4 arg5 harg5 arg6 harg6 arg7 harg7 arg8 harg8 hc0 hc1 x0 x1 x2).1) = zBlk x0 x1 := by
  have hp : ∀ p ∈ (runC c i arg2 harg2 arg3 harg3 arg4 harg4 arg5 harg5 arg6 harg6 arg7 harg7 arg8 harg8 hc0 hc1 x0 x1 x2).1, ∀ x : p.1.shape.Idx, p.2 x = zBlk x0 x1 (p.1.emb x) := by
    have hr : k0_pay159 (View.readAt (Elt F) arg2.view (Rect.unit ![0, 0] S1024x2048.size inb_S1024x2048_S1024x2048_0_0).toLoadRect (harg2.unread x0))
        (View.readAt (Elt F) arg3.view (Rect.unit ![0, 0, 0] S1x2048x1024.size inb_S1x2048x1024_S1x2048x1024_0_0_0).toLoadRect (harg3.unread x1)) = k0_pay159 x0 x1 := by
      rw [read0 harg2, read1 harg3]
    refine List.forall_mem_cons.mpr ⟨fun x => z_piece _ x0 x1 hr 7 896 rfl slices_S1024x1024_o0_896_S1024x128 shapeCasts_S1024x128_S1x1x1024x128 inb_S1x8x1024x128_S1x1x1024x128_0_7_0_0 x, ?_⟩
    refine List.forall_mem_cons.mpr ⟨fun x => z_piece _ x0 x1 hr 6 768 rfl slices_S1024x1024_o0_768_S1024x128 shapeCasts_S1024x128_S1x1x1024x128 inb_S1x8x1024x128_S1x1x1024x128_0_6_0_0 x, ?_⟩
    refine List.forall_mem_cons.mpr ⟨fun x => z_piece _ x0 x1 hr 5 640 rfl slices_S1024x1024_o0_640_S1024x128 shapeCasts_S1024x128_S1x1x1024x128 inb_S1x8x1024x128_S1x1x1024x128_0_5_0_0 x, ?_⟩
    refine List.forall_mem_cons.mpr ⟨fun x => z_piece _ x0 x1 hr 4 512 rfl slices_S1024x1024_o0_512_S1024x128 shapeCasts_S1024x128_S1x1x1024x128 inb_S1x8x1024x128_S1x1x1024x128_0_4_0_0 x, ?_⟩
    refine List.forall_mem_cons.mpr ⟨fun x => z_piece _ x0 x1 hr 3 384 rfl slices_S1024x1024_o0_384_S1024x128 shapeCasts_S1024x128_S1x1x1024x128 inb_S1x8x1024x128_S1x1x1024x128_0_3_0_0 x, ?_⟩
    refine List.forall_mem_cons.mpr ⟨fun x => z_piece _ x0 x1 hr 2 256 rfl slices_S1024x1024_o0_256_S1024x128 shapeCasts_S1024x128_S1x1x1024x128 inb_S1x8x1024x128_S1x1x1024x128_0_2_0_0 x, ?_⟩
    refine List.forall_mem_cons.mpr ⟨fun x => z_piece _ x0 x1 hr 1 128 rfl slices_S1024x1024_o0_128_S1024x128 shapeCasts_S1024x128_S1x1x1024x128 inb_S1x8x1024x128_S1x1x1024x128_0_1_0_0 x, ?_⟩
    refine List.forall_mem_cons.mpr ⟨fun x => z_piece _ x0 x1 hr 0 0 rfl slices_S1024x1024_o0_0_S1024x128 shapeCasts_S1024x128_S1x1x1024x128 inb_S1x8x1024x128_S1x1x1024x128_0_0_0_0 x, ?_⟩
    exact fun p h => absurd h List.not_mem_nil
  have hcov : ∀ y, ∃ p ∈ (runC c i arg2 harg2 arg3 harg3 arg4 harg4 arg5 harg5 arg6 harg6 arg7 harg7 arg8 harg8 hc0 hc1 x0 x1 x2).1, y ∈ p.1.set := fun y =>
    View.cover_of_tiledL (runC c i arg2 harg2 arg3 harg3 arg4 harg4 arg5 harg5 arg6 harg6 arg7 harg7 arg8 harg8 hc0 hc1 x0 x1 x2).1 S1x1x1024x128.size (by sl_kernel_rfl) y
  rw [View.read_writes_eq_canon _ _ _ hcov]
  exact funext fun y => View.canon_apply_of_pieces _ _ hp y (hcov y)

/-- The gates' block. -/
theorem g_readA (c : Dev nD) (i : grid0.Coords) (arg2 : Memref sig .tc .vmem S1024x2048 .bf16) (harg2 : arg2.IsWhole) (arg3 : Memref sig .tc .vmem S1x2048x1024 .bf16) (harg3 : arg3.IsWhole) (arg4 : Memref sig .tc .vmem S2048x128 .bf16) (harg4 : arg4.IsWhole) (arg5 : Memref sig .tc .vmem S1x8x1024x128 .bf16) (harg5 : arg5.IsWhole) (arg6 : Memref sig .tc .vmem S1024x128 .f32) (harg6 : arg6.IsWhole) (arg7 : Memref sig .tc .vmem S1x8x64x2048 .bf16) (harg7 : arg7.IsWhole) (arg8 : Memref sig .tc .vmem S1024x128 .f32) (harg8 : arg8.IsWhole) (hc0 : cond0_0 i) (hc1 : ¬cond0_1 i)
    (x0 : Vec F S1024x2048 .bf16) (x1 : Vec F S1x2048x1024 .bf16) (x2 : Vec F S2048x128 .bf16) (f : arg6.view.ty.Contents (Elt F)) :
    arg6.view.read (Elt F) (arg6.view.writes (Elt F) f (runA c i arg2 harg2 arg3 harg3 arg4 harg4 arg5 harg5 arg6 harg6 arg7 harg7 arg8 harg8 hc0 hc1 x0 x1 x2).2.1) = k0_pay157 x0 x2 := by
  have hcov : ∀ y, ∃ p ∈ (runA c i arg2 harg2 arg3 harg3 arg4 harg4 arg5 harg5 arg6 harg6 arg7 harg7 arg8 harg8 hc0 hc1 x0 x1 x2).2.1, y ∈ p.1.set := fun y =>
    View.cover_of_tiledL (runA c i arg2 harg2 arg3 harg3 arg4 harg4 arg5 harg5 arg6 harg6 arg7 harg7 arg8 harg8 hc0 hc1 x0 x1 x2).2.1 S1024x128.size (by sl_kernel_rfl) y
  rw [View.read_writes_eq_canon _ _ _ hcov]
  refine (View.canon_cons_unit_zero (by funext a; match a with | 0 => rfl | 1 => rfl) inb_S1024x128_S1024x128_0_0 _ _).trans ?_
  have hr : k0_pay157 (View.readAt (Elt F) arg2.view (Rect.unit ![0, 0] S1024x2048.size inb_S1024x2048_S1024x2048_0_0).toLoadRect (harg2.unread x0))
        (View.readAt (Elt F) arg4.view (Rect.unit ![0, 0] S2048x128.size inb_S2048x128_S2048x128_0_0).toLoadRect (harg4.unread x2)) = k0_pay157 x0 x2 := by
    rw [read0 harg2, read2 harg4]
  exact hr

/-- The chunked heads' block. -/
theorem zc_readC (c : Dev nD) (i : grid0.Coords) (arg2 : Memref sig .tc .vmem S1024x2048 .bf16) (harg2 : arg2.IsWhole) (arg3 : Memref sig .tc .vmem S1x2048x1024 .bf16) (harg3 : arg3.IsWhole) (arg4 : Memref sig .tc .vmem S2048x128 .bf16) (harg4 : arg4.IsWhole) (arg5 : Memref sig .tc .vmem S1x8x1024x128 .bf16) (harg5 : arg5.IsWhole) (arg6 : Memref sig .tc .vmem S1024x128 .f32) (harg6 : arg6.IsWhole) (arg7 : Memref sig .tc .vmem S1x8x64x2048 .bf16) (harg7 : arg7.IsWhole) (arg8 : Memref sig .tc .vmem S1024x128 .f32) (harg8 : arg8.IsWhole) (hc0 : ¬cond0_0 i) (hc1 : cond0_1 i)
    (x0 : Vec F S1024x2048 .bf16) (x1 : Vec F S1x2048x1024 .bf16) (x2 : Vec F S2048x128 .bf16) (f : arg7.view.ty.Contents (Elt F)) :
    arg7.view.read (Elt F) (arg7.view.writes (Elt F) f (runC c i arg2 harg2 arg3 harg3 arg4 harg4 arg5 harg5 arg6 harg6 arg7 harg7 arg8 harg8 hc0 hc1 x0 x1 x2).2.1) = zcBlk x0 x1 := by
  have hp : ∀ p ∈ (runC c i arg2 harg2 arg3 harg3 arg4 harg4 arg5 harg5 arg6 harg6 arg7 harg7 arg8 harg8 hc0 hc1 x0 x1 x2).2.1, ∀ x : p.1.shape.Idx, p.2 x = zcBlk x0 x1 (p.1.emb x) := by
    have hr : k0_pay158 (View.readAt (Elt F) arg2.view (Rect.unit ![0, 0] S1024x2048.size inb_S1024x2048_S1024x2048_0_0).toLoadRect (harg2.unread x0))
        (View.readAt (Elt F) arg3.view (Rect.unit ![0, 0, 0] S1x2048x1024.size inb_S1x2048x1024_S1x2048x1024_0_0_0).toLoadRect (harg3.unread x1)) = k0_pay158 x0 x1 := by
      rw [read0 harg2, read1 harg3]
    refine List.forall_mem_cons.mpr ⟨fun x => zc_piece arg8.view _ x0 x1 hr 7 15 1920 896 rfl rfl (by decide) slices_S1024x1024_o0_896_S1024x128 shapeCasts_S1024x128_S1024x128 inb_S1024x128_S1024x128_0_0 _ inb_S1024x128_S64x128_15_0_s_16_1 bitsLt_bf16_f32 shapeCasts_S64x128_S1x1x64x128 inb_S1x8x64x2048_S1x1x64x128_0_7_0_1920 x, ?_⟩
    refine List.forall_mem_cons.mpr ⟨fun x => zc_piece arg8.view _ x0 x1 hr 7 14 1792 896 rfl rfl (by decide) slices_S1024x1024_o0_896_S1024x128 shapeCasts_S1024x128_S1024x128 inb_S1024x128_S1024x128_0_0 _ inb_S1024x128_S64x128_14_0_s_16_1 bitsLt_bf16_f32 shapeCasts_S64x128_S1x1x64x128 inb_S1x8x64x2048_S1x1x64x128_0_7_0_1792 x, ?_⟩
    refine List.forall_mem_cons.mpr ⟨fun x => zc_piece arg8.view _ x0 x1 hr 7 13 1664 896 rfl rfl (by decide) slices_S1024x1024_o0_896_S1024x128 shapeCasts_S1024x128_S1024x128 inb_S1024x128_S1024x128_0_0 _ inb_S1024x128_S64x128_13_0_s_16_1 bitsLt_bf16_f32 shapeCasts_S64x128_S1x1x64x128 inb_S1x8x64x2048_S1x1x64x128_0_7_0_1664 x, ?_⟩
    refine List.forall_mem_cons.mpr ⟨fun x => zc_piece arg8.view _ x0 x1 hr 7 12 1536 896 rfl rfl (by decide) slices_S1024x1024_o0_896_S1024x128 shapeCasts_S1024x128_S1024x128 inb_S1024x128_S1024x128_0_0 _ inb_S1024x128_S64x128_12_0_s_16_1 bitsLt_bf16_f32 shapeCasts_S64x128_S1x1x64x128 inb_S1x8x64x2048_S1x1x64x128_0_7_0_1536 x, ?_⟩
    refine List.forall_mem_cons.mpr ⟨fun x => zc_piece arg8.view _ x0 x1 hr 7 11 1408 896 rfl rfl (by decide) slices_S1024x1024_o0_896_S1024x128 shapeCasts_S1024x128_S1024x128 inb_S1024x128_S1024x128_0_0 _ inb_S1024x128_S64x128_11_0_s_16_1 bitsLt_bf16_f32 shapeCasts_S64x128_S1x1x64x128 inb_S1x8x64x2048_S1x1x64x128_0_7_0_1408 x, ?_⟩
    refine List.forall_mem_cons.mpr ⟨fun x => zc_piece arg8.view _ x0 x1 hr 7 10 1280 896 rfl rfl (by decide) slices_S1024x1024_o0_896_S1024x128 shapeCasts_S1024x128_S1024x128 inb_S1024x128_S1024x128_0_0 _ inb_S1024x128_S64x128_10_0_s_16_1 bitsLt_bf16_f32 shapeCasts_S64x128_S1x1x64x128 inb_S1x8x64x2048_S1x1x64x128_0_7_0_1280 x, ?_⟩
    refine List.forall_mem_cons.mpr ⟨fun x => zc_piece arg8.view _ x0 x1 hr 7 9 1152 896 rfl rfl (by decide) slices_S1024x1024_o0_896_S1024x128 shapeCasts_S1024x128_S1024x128 inb_S1024x128_S1024x128_0_0 _ inb_S1024x128_S64x128_9_0_s_16_1 bitsLt_bf16_f32 shapeCasts_S64x128_S1x1x64x128 inb_S1x8x64x2048_S1x1x64x128_0_7_0_1152 x, ?_⟩
    refine List.forall_mem_cons.mpr ⟨fun x => zc_piece arg8.view _ x0 x1 hr 7 8 1024 896 rfl rfl (by decide) slices_S1024x1024_o0_896_S1024x128 shapeCasts_S1024x128_S1024x128 inb_S1024x128_S1024x128_0_0 _ inb_S1024x128_S64x128_8_0_s_16_1 bitsLt_bf16_f32 shapeCasts_S64x128_S1x1x64x128 inb_S1x8x64x2048_S1x1x64x128_0_7_0_1024 x, ?_⟩
    refine List.forall_mem_cons.mpr ⟨fun x => zc_piece arg8.view _ x0 x1 hr 7 7 896 896 rfl rfl (by decide) slices_S1024x1024_o0_896_S1024x128 shapeCasts_S1024x128_S1024x128 inb_S1024x128_S1024x128_0_0 _ inb_S1024x128_S64x128_7_0_s_16_1 bitsLt_bf16_f32 shapeCasts_S64x128_S1x1x64x128 inb_S1x8x64x2048_S1x1x64x128_0_7_0_896 x, ?_⟩
    refine List.forall_mem_cons.mpr ⟨fun x => zc_piece arg8.view _ x0 x1 hr 7 6 768 896 rfl rfl (by decide) slices_S1024x1024_o0_896_S1024x128 shapeCasts_S1024x128_S1024x128 inb_S1024x128_S1024x128_0_0 _ inb_S1024x128_S64x128_6_0_s_16_1 bitsLt_bf16_f32 shapeCasts_S64x128_S1x1x64x128 inb_S1x8x64x2048_S1x1x64x128_0_7_0_768 x, ?_⟩
    refine List.forall_mem_cons.mpr ⟨fun x => zc_piece arg8.view _ x0 x1 hr 7 5 640 896 rfl rfl (by decide) slices_S1024x1024_o0_896_S1024x128 shapeCasts_S1024x128_S1024x128 inb_S1024x128_S1024x128_0_0 _ inb_S1024x128_S64x128_5_0_s_16_1 bitsLt_bf16_f32 shapeCasts_S64x128_S1x1x64x128 inb_S1x8x64x2048_S1x1x64x128_0_7_0_640 x, ?_⟩
    refine List.forall_mem_cons.mpr ⟨fun x => zc_piece arg8.view _ x0 x1 hr 7 4 512 896 rfl rfl (by decide) slices_S1024x1024_o0_896_S1024x128 shapeCasts_S1024x128_S1024x128 inb_S1024x128_S1024x128_0_0 _ inb_S1024x128_S64x128_4_0_s_16_1 bitsLt_bf16_f32 shapeCasts_S64x128_S1x1x64x128 inb_S1x8x64x2048_S1x1x64x128_0_7_0_512 x, ?_⟩
    refine List.forall_mem_cons.mpr ⟨fun x => zc_piece arg8.view _ x0 x1 hr 7 3 384 896 rfl rfl (by decide) slices_S1024x1024_o0_896_S1024x128 shapeCasts_S1024x128_S1024x128 inb_S1024x128_S1024x128_0_0 _ inb_S1024x128_S64x128_3_0_s_16_1 bitsLt_bf16_f32 shapeCasts_S64x128_S1x1x64x128 inb_S1x8x64x2048_S1x1x64x128_0_7_0_384 x, ?_⟩
    refine List.forall_mem_cons.mpr ⟨fun x => zc_piece arg8.view _ x0 x1 hr 7 2 256 896 rfl rfl (by decide) slices_S1024x1024_o0_896_S1024x128 shapeCasts_S1024x128_S1024x128 inb_S1024x128_S1024x128_0_0 _ inb_S1024x128_S64x128_2_0_s_16_1 bitsLt_bf16_f32 shapeCasts_S64x128_S1x1x64x128 inb_S1x8x64x2048_S1x1x64x128_0_7_0_256 x, ?_⟩
    refine List.forall_mem_cons.mpr ⟨fun x => zc_piece arg8.view _ x0 x1 hr 7 1 128 896 rfl rfl (by decide) slices_S1024x1024_o0_896_S1024x128 shapeCasts_S1024x128_S1024x128 inb_S1024x128_S1024x128_0_0 _ inb_S1024x128_S64x128_1_0_s_16_1 bitsLt_bf16_f32 shapeCasts_S64x128_S1x1x64x128 inb_S1x8x64x2048_S1x1x64x128_0_7_0_128 x, ?_⟩
    refine List.forall_mem_cons.mpr ⟨fun x => zc_piece arg8.view _ x0 x1 hr 7 0 0 896 rfl rfl (by decide) slices_S1024x1024_o0_896_S1024x128 shapeCasts_S1024x128_S1024x128 inb_S1024x128_S1024x128_0_0 _ inb_S1024x128_S64x128_0_0_s_16_1 bitsLt_bf16_f32 shapeCasts_S64x128_S1x1x64x128 inb_S1x8x64x2048_S1x1x64x128_0_7_0_0 x, ?_⟩
    refine List.forall_mem_cons.mpr ⟨fun x => zc_piece arg8.view _ x0 x1 hr 6 15 1920 768 rfl rfl (by decide) slices_S1024x1024_o0_768_S1024x128 shapeCasts_S1024x128_S1024x128 inb_S1024x128_S1024x128_0_0 _ inb_S1024x128_S64x128_15_0_s_16_1 bitsLt_bf16_f32 shapeCasts_S64x128_S1x1x64x128 inb_S1x8x64x2048_S1x1x64x128_0_6_0_1920 x, ?_⟩
    refine List.forall_mem_cons.mpr ⟨fun x => zc_piece arg8.view _ x0 x1 hr 6 14 1792 768 rfl rfl (by decide) slices_S1024x1024_o0_768_S1024x128 shapeCasts_S1024x128_S1024x128 inb_S1024x128_S1024x128_0_0 _ inb_S1024x128_S64x128_14_0_s_16_1 bitsLt_bf16_f32 shapeCasts_S64x128_S1x1x64x128 inb_S1x8x64x2048_S1x1x64x128_0_6_0_1792 x, ?_⟩
    refine List.forall_mem_cons.mpr ⟨fun x => zc_piece arg8.view _ x0 x1 hr 6 13 1664 768 rfl rfl (by decide) slices_S1024x1024_o0_768_S1024x128 shapeCasts_S1024x128_S1024x128 inb_S1024x128_S1024x128_0_0 _ inb_S1024x128_S64x128_13_0_s_16_1 bitsLt_bf16_f32 shapeCasts_S64x128_S1x1x64x128 inb_S1x8x64x2048_S1x1x64x128_0_6_0_1664 x, ?_⟩
    refine List.forall_mem_cons.mpr ⟨fun x => zc_piece arg8.view _ x0 x1 hr 6 12 1536 768 rfl rfl (by decide) slices_S1024x1024_o0_768_S1024x128 shapeCasts_S1024x128_S1024x128 inb_S1024x128_S1024x128_0_0 _ inb_S1024x128_S64x128_12_0_s_16_1 bitsLt_bf16_f32 shapeCasts_S64x128_S1x1x64x128 inb_S1x8x64x2048_S1x1x64x128_0_6_0_1536 x, ?_⟩
    refine List.forall_mem_cons.mpr ⟨fun x => zc_piece arg8.view _ x0 x1 hr 6 11 1408 768 rfl rfl (by decide) slices_S1024x1024_o0_768_S1024x128 shapeCasts_S1024x128_S1024x128 inb_S1024x128_S1024x128_0_0 _ inb_S1024x128_S64x128_11_0_s_16_1 bitsLt_bf16_f32 shapeCasts_S64x128_S1x1x64x128 inb_S1x8x64x2048_S1x1x64x128_0_6_0_1408 x, ?_⟩
    refine List.forall_mem_cons.mpr ⟨fun x => zc_piece arg8.view _ x0 x1 hr 6 10 1280 768 rfl rfl (by decide) slices_S1024x1024_o0_768_S1024x128 shapeCasts_S1024x128_S1024x128 inb_S1024x128_S1024x128_0_0 _ inb_S1024x128_S64x128_10_0_s_16_1 bitsLt_bf16_f32 shapeCasts_S64x128_S1x1x64x128 inb_S1x8x64x2048_S1x1x64x128_0_6_0_1280 x, ?_⟩
    refine List.forall_mem_cons.mpr ⟨fun x => zc_piece arg8.view _ x0 x1 hr 6 9 1152 768 rfl rfl (by decide) slices_S1024x1024_o0_768_S1024x128 shapeCasts_S1024x128_S1024x128 inb_S1024x128_S1024x128_0_0 _ inb_S1024x128_S64x128_9_0_s_16_1 bitsLt_bf16_f32 shapeCasts_S64x128_S1x1x64x128 inb_S1x8x64x2048_S1x1x64x128_0_6_0_1152 x, ?_⟩
    refine List.forall_mem_cons.mpr ⟨fun x => zc_piece arg8.view _ x0 x1 hr 6 8 1024 768 rfl rfl (by decide) slices_S1024x1024_o0_768_S1024x128 shapeCasts_S1024x128_S1024x128 inb_S1024x128_S1024x128_0_0 _ inb_S1024x128_S64x128_8_0_s_16_1 bitsLt_bf16_f32 shapeCasts_S64x128_S1x1x64x128 inb_S1x8x64x2048_S1x1x64x128_0_6_0_1024 x, ?_⟩
    refine List.forall_mem_cons.mpr ⟨fun x => zc_piece arg8.view _ x0 x1 hr 6 7 896 768 rfl rfl (by decide) slices_S1024x1024_o0_768_S1024x128 shapeCasts_S1024x128_S1024x128 inb_S1024x128_S1024x128_0_0 _ inb_S1024x128_S64x128_7_0_s_16_1 bitsLt_bf16_f32 shapeCasts_S64x128_S1x1x64x128 inb_S1x8x64x2048_S1x1x64x128_0_6_0_896 x, ?_⟩
    refine List.forall_mem_cons.mpr ⟨fun x => zc_piece arg8.view _ x0 x1 hr 6 6 768 768 rfl rfl (by decide) slices_S1024x1024_o0_768_S1024x128 shapeCasts_S1024x128_S1024x128 inb_S1024x128_S1024x128_0_0 _ inb_S1024x128_S64x128_6_0_s_16_1 bitsLt_bf16_f32 shapeCasts_S64x128_S1x1x64x128 inb_S1x8x64x2048_S1x1x64x128_0_6_0_768 x, ?_⟩
    refine List.forall_mem_cons.mpr ⟨fun x => zc_piece arg8.view _ x0 x1 hr 6 5 640 768 rfl rfl (by decide) slices_S1024x1024_o0_768_S1024x128 shapeCasts_S1024x128_S1024x128 inb_S1024x128_S1024x128_0_0 _ inb_S1024x128_S64x128_5_0_s_16_1 bitsLt_bf16_f32 shapeCasts_S64x128_S1x1x64x128 inb_S1x8x64x2048_S1x1x64x128_0_6_0_640 x, ?_⟩
    refine List.forall_mem_cons.mpr ⟨fun x => zc_piece arg8.view _ x0 x1 hr 6 4 512 768 rfl rfl (by decide) slices_S1024x1024_o0_768_S1024x128 shapeCasts_S1024x128_S1024x128 inb_S1024x128_S1024x128_0_0 _ inb_S1024x128_S64x128_4_0_s_16_1 bitsLt_bf16_f32 shapeCasts_S64x128_S1x1x64x128 inb_S1x8x64x2048_S1x1x64x128_0_6_0_512 x, ?_⟩
    refine List.forall_mem_cons.mpr ⟨fun x => zc_piece arg8.view _ x0 x1 hr 6 3 384 768 rfl rfl (by decide) slices_S1024x1024_o0_768_S1024x128 shapeCasts_S1024x128_S1024x128 inb_S1024x128_S1024x128_0_0 _ inb_S1024x128_S64x128_3_0_s_16_1 bitsLt_bf16_f32 shapeCasts_S64x128_S1x1x64x128 inb_S1x8x64x2048_S1x1x64x128_0_6_0_384 x, ?_⟩
    refine List.forall_mem_cons.mpr ⟨fun x => zc_piece arg8.view _ x0 x1 hr 6 2 256 768 rfl rfl (by decide) slices_S1024x1024_o0_768_S1024x128 shapeCasts_S1024x128_S1024x128 inb_S1024x128_S1024x128_0_0 _ inb_S1024x128_S64x128_2_0_s_16_1 bitsLt_bf16_f32 shapeCasts_S64x128_S1x1x64x128 inb_S1x8x64x2048_S1x1x64x128_0_6_0_256 x, ?_⟩
    refine List.forall_mem_cons.mpr ⟨fun x => zc_piece arg8.view _ x0 x1 hr 6 1 128 768 rfl rfl (by decide) slices_S1024x1024_o0_768_S1024x128 shapeCasts_S1024x128_S1024x128 inb_S1024x128_S1024x128_0_0 _ inb_S1024x128_S64x128_1_0_s_16_1 bitsLt_bf16_f32 shapeCasts_S64x128_S1x1x64x128 inb_S1x8x64x2048_S1x1x64x128_0_6_0_128 x, ?_⟩
    refine List.forall_mem_cons.mpr ⟨fun x => zc_piece arg8.view _ x0 x1 hr 6 0 0 768 rfl rfl (by decide) slices_S1024x1024_o0_768_S1024x128 shapeCasts_S1024x128_S1024x128 inb_S1024x128_S1024x128_0_0 _ inb_S1024x128_S64x128_0_0_s_16_1 bitsLt_bf16_f32 shapeCasts_S64x128_S1x1x64x128 inb_S1x8x64x2048_S1x1x64x128_0_6_0_0 x, ?_⟩
    refine List.forall_mem_cons.mpr ⟨fun x => zc_piece arg8.view _ x0 x1 hr 5 15 1920 640 rfl rfl (by decide) slices_S1024x1024_o0_640_S1024x128 shapeCasts_S1024x128_S1024x128 inb_S1024x128_S1024x128_0_0 _ inb_S1024x128_S64x128_15_0_s_16_1 bitsLt_bf16_f32 shapeCasts_S64x128_S1x1x64x128 inb_S1x8x64x2048_S1x1x64x128_0_5_0_1920 x, ?_⟩
    refine List.forall_mem_cons.mpr ⟨fun x => zc_piece arg8.view _ x0 x1 hr 5 14 1792 640 rfl rfl (by decide) slices_S1024x1024_o0_640_S1024x128 shapeCasts_S1024x128_S1024x128 inb_S1024x128_S1024x128_0_0 _ inb_S1024x128_S64x128_14_0_s_16_1 bitsLt_bf16_f32 shapeCasts_S64x128_S1x1x64x128 inb_S1x8x64x2048_S1x1x64x128_0_5_0_1792 x, ?_⟩
    refine List.forall_mem_cons.mpr ⟨fun x => zc_piece arg8.view _ x0 x1 hr 5 13 1664 640 rfl rfl (by decide) slices_S1024x1024_o0_640_S1024x128 shapeCasts_S1024x128_S1024x128 inb_S1024x128_S1024x128_0_0 _ inb_S1024x128_S64x128_13_0_s_16_1 bitsLt_bf16_f32 shapeCasts_S64x128_S1x1x64x128 inb_S1x8x64x2048_S1x1x64x128_0_5_0_1664 x, ?_⟩
    refine List.forall_mem_cons.mpr ⟨fun x => zc_piece arg8.view _ x0 x1 hr 5 12 1536 640 rfl rfl (by decide) slices_S1024x1024_o0_640_S1024x128 shapeCasts_S1024x128_S1024x128 inb_S1024x128_S1024x128_0_0 _ inb_S1024x128_S64x128_12_0_s_16_1 bitsLt_bf16_f32 shapeCasts_S64x128_S1x1x64x128 inb_S1x8x64x2048_S1x1x64x128_0_5_0_1536 x, ?_⟩
    refine List.forall_mem_cons.mpr ⟨fun x => zc_piece arg8.view _ x0 x1 hr 5 11 1408 640 rfl rfl (by decide) slices_S1024x1024_o0_640_S1024x128 shapeCasts_S1024x128_S1024x128 inb_S1024x128_S1024x128_0_0 _ inb_S1024x128_S64x128_11_0_s_16_1 bitsLt_bf16_f32 shapeCasts_S64x128_S1x1x64x128 inb_S1x8x64x2048_S1x1x64x128_0_5_0_1408 x, ?_⟩
    refine List.forall_mem_cons.mpr ⟨fun x => zc_piece arg8.view _ x0 x1 hr 5 10 1280 640 rfl rfl (by decide) slices_S1024x1024_o0_640_S1024x128 shapeCasts_S1024x128_S1024x128 inb_S1024x128_S1024x128_0_0 _ inb_S1024x128_S64x128_10_0_s_16_1 bitsLt_bf16_f32 shapeCasts_S64x128_S1x1x64x128 inb_S1x8x64x2048_S1x1x64x128_0_5_0_1280 x, ?_⟩
    refine List.forall_mem_cons.mpr ⟨fun x => zc_piece arg8.view _ x0 x1 hr 5 9 1152 640 rfl rfl (by decide) slices_S1024x1024_o0_640_S1024x128 shapeCasts_S1024x128_S1024x128 inb_S1024x128_S1024x128_0_0 _ inb_S1024x128_S64x128_9_0_s_16_1 bitsLt_bf16_f32 shapeCasts_S64x128_S1x1x64x128 inb_S1x8x64x2048_S1x1x64x128_0_5_0_1152 x, ?_⟩
    refine List.forall_mem_cons.mpr ⟨fun x => zc_piece arg8.view _ x0 x1 hr 5 8 1024 640 rfl rfl (by decide) slices_S1024x1024_o0_640_S1024x128 shapeCasts_S1024x128_S1024x128 inb_S1024x128_S1024x128_0_0 _ inb_S1024x128_S64x128_8_0_s_16_1 bitsLt_bf16_f32 shapeCasts_S64x128_S1x1x64x128 inb_S1x8x64x2048_S1x1x64x128_0_5_0_1024 x, ?_⟩
    refine List.forall_mem_cons.mpr ⟨fun x => zc_piece arg8.view _ x0 x1 hr 5 7 896 640 rfl rfl (by decide) slices_S1024x1024_o0_640_S1024x128 shapeCasts_S1024x128_S1024x128 inb_S1024x128_S1024x128_0_0 _ inb_S1024x128_S64x128_7_0_s_16_1 bitsLt_bf16_f32 shapeCasts_S64x128_S1x1x64x128 inb_S1x8x64x2048_S1x1x64x128_0_5_0_896 x, ?_⟩
    refine List.forall_mem_cons.mpr ⟨fun x => zc_piece arg8.view _ x0 x1 hr 5 6 768 640 rfl rfl (by decide) slices_S1024x1024_o0_640_S1024x128 shapeCasts_S1024x128_S1024x128 inb_S1024x128_S1024x128_0_0 _ inb_S1024x128_S64x128_6_0_s_16_1 bitsLt_bf16_f32 shapeCasts_S64x128_S1x1x64x128 inb_S1x8x64x2048_S1x1x64x128_0_5_0_768 x, ?_⟩
    refine List.forall_mem_cons.mpr ⟨fun x => zc_piece arg8.view _ x0 x1 hr 5 5 640 640 rfl rfl (by decide) slices_S1024x1024_o0_640_S1024x128 shapeCasts_S1024x128_S1024x128 inb_S1024x128_S1024x128_0_0 _ inb_S1024x128_S64x128_5_0_s_16_1 bitsLt_bf16_f32 shapeCasts_S64x128_S1x1x64x128 inb_S1x8x64x2048_S1x1x64x128_0_5_0_640 x, ?_⟩
    refine List.forall_mem_cons.mpr ⟨fun x => zc_piece arg8.view _ x0 x1 hr 5 4 512 640 rfl rfl (by decide) slices_S1024x1024_o0_640_S1024x128 shapeCasts_S1024x128_S1024x128 inb_S1024x128_S1024x128_0_0 _ inb_S1024x128_S64x128_4_0_s_16_1 bitsLt_bf16_f32 shapeCasts_S64x128_S1x1x64x128 inb_S1x8x64x2048_S1x1x64x128_0_5_0_512 x, ?_⟩
    refine List.forall_mem_cons.mpr ⟨fun x => zc_piece arg8.view _ x0 x1 hr 5 3 384 640 rfl rfl (by decide) slices_S1024x1024_o0_640_S1024x128 shapeCasts_S1024x128_S1024x128 inb_S1024x128_S1024x128_0_0 _ inb_S1024x128_S64x128_3_0_s_16_1 bitsLt_bf16_f32 shapeCasts_S64x128_S1x1x64x128 inb_S1x8x64x2048_S1x1x64x128_0_5_0_384 x, ?_⟩
    refine List.forall_mem_cons.mpr ⟨fun x => zc_piece arg8.view _ x0 x1 hr 5 2 256 640 rfl rfl (by decide) slices_S1024x1024_o0_640_S1024x128 shapeCasts_S1024x128_S1024x128 inb_S1024x128_S1024x128_0_0 _ inb_S1024x128_S64x128_2_0_s_16_1 bitsLt_bf16_f32 shapeCasts_S64x128_S1x1x64x128 inb_S1x8x64x2048_S1x1x64x128_0_5_0_256 x, ?_⟩
    refine List.forall_mem_cons.mpr ⟨fun x => zc_piece arg8.view _ x0 x1 hr 5 1 128 640 rfl rfl (by decide) slices_S1024x1024_o0_640_S1024x128 shapeCasts_S1024x128_S1024x128 inb_S1024x128_S1024x128_0_0 _ inb_S1024x128_S64x128_1_0_s_16_1 bitsLt_bf16_f32 shapeCasts_S64x128_S1x1x64x128 inb_S1x8x64x2048_S1x1x64x128_0_5_0_128 x, ?_⟩
    refine List.forall_mem_cons.mpr ⟨fun x => zc_piece arg8.view _ x0 x1 hr 5 0 0 640 rfl rfl (by decide) slices_S1024x1024_o0_640_S1024x128 shapeCasts_S1024x128_S1024x128 inb_S1024x128_S1024x128_0_0 _ inb_S1024x128_S64x128_0_0_s_16_1 bitsLt_bf16_f32 shapeCasts_S64x128_S1x1x64x128 inb_S1x8x64x2048_S1x1x64x128_0_5_0_0 x, ?_⟩
    refine List.forall_mem_cons.mpr ⟨fun x => zc_piece arg8.view _ x0 x1 hr 4 15 1920 512 rfl rfl (by decide) slices_S1024x1024_o0_512_S1024x128 shapeCasts_S1024x128_S1024x128 inb_S1024x128_S1024x128_0_0 _ inb_S1024x128_S64x128_15_0_s_16_1 bitsLt_bf16_f32 shapeCasts_S64x128_S1x1x64x128 inb_S1x8x64x2048_S1x1x64x128_0_4_0_1920 x, ?_⟩
    refine List.forall_mem_cons.mpr ⟨fun x => zc_piece arg8.view _ x0 x1 hr 4 14 1792 512 rfl rfl (by decide) slices_S1024x1024_o0_512_S1024x128 shapeCasts_S1024x128_S1024x128 inb_S1024x128_S1024x128_0_0 _ inb_S1024x128_S64x128_14_0_s_16_1 bitsLt_bf16_f32 shapeCasts_S64x128_S1x1x64x128 inb_S1x8x64x2048_S1x1x64x128_0_4_0_1792 x, ?_⟩
    refine List.forall_mem_cons.mpr ⟨fun x => zc_piece arg8.view _ x0 x1 hr 4 13 1664 512 rfl rfl (by decide) slices_S1024x1024_o0_512_S1024x128 shapeCasts_S1024x128_S1024x128 inb_S1024x128_S1024x128_0_0 _ inb_S1024x128_S64x128_13_0_s_16_1 bitsLt_bf16_f32 shapeCasts_S64x128_S1x1x64x128 inb_S1x8x64x2048_S1x1x64x128_0_4_0_1664 x, ?_⟩
    refine List.forall_mem_cons.mpr ⟨fun x => zc_piece arg8.view _ x0 x1 hr 4 12 1536 512 rfl rfl (by decide) slices_S1024x1024_o0_512_S1024x128 shapeCasts_S1024x128_S1024x128 inb_S1024x128_S1024x128_0_0 _ inb_S1024x128_S64x128_12_0_s_16_1 bitsLt_bf16_f32 shapeCasts_S64x128_S1x1x64x128 inb_S1x8x64x2048_S1x1x64x128_0_4_0_1536 x, ?_⟩
    refine List.forall_mem_cons.mpr ⟨fun x => zc_piece arg8.view _ x0 x1 hr 4 11 1408 512 rfl rfl (by decide) slices_S1024x1024_o0_512_S1024x128 shapeCasts_S1024x128_S1024x128 inb_S1024x128_S1024x128_0_0 _ inb_S1024x128_S64x128_11_0_s_16_1 bitsLt_bf16_f32 shapeCasts_S64x128_S1x1x64x128 inb_S1x8x64x2048_S1x1x64x128_0_4_0_1408 x, ?_⟩
    refine List.forall_mem_cons.mpr ⟨fun x => zc_piece arg8.view _ x0 x1 hr 4 10 1280 512 rfl rfl (by decide) slices_S1024x1024_o0_512_S1024x128 shapeCasts_S1024x128_S1024x128 inb_S1024x128_S1024x128_0_0 _ inb_S1024x128_S64x128_10_0_s_16_1 bitsLt_bf16_f32 shapeCasts_S64x128_S1x1x64x128 inb_S1x8x64x2048_S1x1x64x128_0_4_0_1280 x, ?_⟩
    refine List.forall_mem_cons.mpr ⟨fun x => zc_piece arg8.view _ x0 x1 hr 4 9 1152 512 rfl rfl (by decide) slices_S1024x1024_o0_512_S1024x128 shapeCasts_S1024x128_S1024x128 inb_S1024x128_S1024x128_0_0 _ inb_S1024x128_S64x128_9_0_s_16_1 bitsLt_bf16_f32 shapeCasts_S64x128_S1x1x64x128 inb_S1x8x64x2048_S1x1x64x128_0_4_0_1152 x, ?_⟩
    refine List.forall_mem_cons.mpr ⟨fun x => zc_piece arg8.view _ x0 x1 hr 4 8 1024 512 rfl rfl (by decide) slices_S1024x1024_o0_512_S1024x128 shapeCasts_S1024x128_S1024x128 inb_S1024x128_S1024x128_0_0 _ inb_S1024x128_S64x128_8_0_s_16_1 bitsLt_bf16_f32 shapeCasts_S64x128_S1x1x64x128 inb_S1x8x64x2048_S1x1x64x128_0_4_0_1024 x, ?_⟩
    refine List.forall_mem_cons.mpr ⟨fun x => zc_piece arg8.view _ x0 x1 hr 4 7 896 512 rfl rfl (by decide) slices_S1024x1024_o0_512_S1024x128 shapeCasts_S1024x128_S1024x128 inb_S1024x128_S1024x128_0_0 _ inb_S1024x128_S64x128_7_0_s_16_1 bitsLt_bf16_f32 shapeCasts_S64x128_S1x1x64x128 inb_S1x8x64x2048_S1x1x64x128_0_4_0_896 x, ?_⟩
    refine List.forall_mem_cons.mpr ⟨fun x => zc_piece arg8.view _ x0 x1 hr 4 6 768 512 rfl rfl (by decide) slices_S1024x1024_o0_512_S1024x128 shapeCasts_S1024x128_S1024x128 inb_S1024x128_S1024x128_0_0 _ inb_S1024x128_S64x128_6_0_s_16_1 bitsLt_bf16_f32 shapeCasts_S64x128_S1x1x64x128 inb_S1x8x64x2048_S1x1x64x128_0_4_0_768 x, ?_⟩
    refine List.forall_mem_cons.mpr ⟨fun x => zc_piece arg8.view _ x0 x1 hr 4 5 640 512 rfl rfl (by decide) slices_S1024x1024_o0_512_S1024x128 shapeCasts_S1024x128_S1024x128 inb_S1024x128_S1024x128_0_0 _ inb_S1024x128_S64x128_5_0_s_16_1 bitsLt_bf16_f32 shapeCasts_S64x128_S1x1x64x128 inb_S1x8x64x2048_S1x1x64x128_0_4_0_640 x, ?_⟩
    refine List.forall_mem_cons.mpr ⟨fun x => zc_piece arg8.view _ x0 x1 hr 4 4 512 512 rfl rfl (by decide) slices_S1024x1024_o0_512_S1024x128 shapeCasts_S1024x128_S1024x128 inb_S1024x128_S1024x128_0_0 _ inb_S1024x128_S64x128_4_0_s_16_1 bitsLt_bf16_f32 shapeCasts_S64x128_S1x1x64x128 inb_S1x8x64x2048_S1x1x64x128_0_4_0_512 x, ?_⟩
    refine List.forall_mem_cons.mpr ⟨fun x => zc_piece arg8.view _ x0 x1 hr 4 3 384 512 rfl rfl (by decide) slices_S1024x1024_o0_512_S1024x128 shapeCasts_S1024x128_S1024x128 inb_S1024x128_S1024x128_0_0 _ inb_S1024x128_S64x128_3_0_s_16_1 bitsLt_bf16_f32 shapeCasts_S64x128_S1x1x64x128 inb_S1x8x64x2048_S1x1x64x128_0_4_0_384 x, ?_⟩
    refine List.forall_mem_cons.mpr ⟨fun x => zc_piece arg8.view _ x0 x1 hr 4 2 256 512 rfl rfl (by decide) slices_S1024x1024_o0_512_S1024x128 shapeCasts_S1024x128_S1024x128 inb_S1024x128_S1024x128_0_0 _ inb_S1024x128_S64x128_2_0_s_16_1 bitsLt_bf16_f32 shapeCasts_S64x128_S1x1x64x128 inb_S1x8x64x2048_S1x1x64x128_0_4_0_256 x, ?_⟩
    refine List.forall_mem_cons.mpr ⟨fun x => zc_piece arg8.view _ x0 x1 hr 4 1 128 512 rfl rfl (by decide) slices_S1024x1024_o0_512_S1024x128 shapeCasts_S1024x128_S1024x128 inb_S1024x128_S1024x128_0_0 _ inb_S1024x128_S64x128_1_0_s_16_1 bitsLt_bf16_f32 shapeCasts_S64x128_S1x1x64x128 inb_S1x8x64x2048_S1x1x64x128_0_4_0_128 x, ?_⟩
    refine List.forall_mem_cons.mpr ⟨fun x => zc_piece arg8.view _ x0 x1 hr 4 0 0 512 rfl rfl (by decide) slices_S1024x1024_o0_512_S1024x128 shapeCasts_S1024x128_S1024x128 inb_S1024x128_S1024x128_0_0 _ inb_S1024x128_S64x128_0_0_s_16_1 bitsLt_bf16_f32 shapeCasts_S64x128_S1x1x64x128 inb_S1x8x64x2048_S1x1x64x128_0_4_0_0 x, ?_⟩
    refine List.forall_mem_cons.mpr ⟨fun x => zc_piece arg8.view _ x0 x1 hr 3 15 1920 384 rfl rfl (by decide) slices_S1024x1024_o0_384_S1024x128 shapeCasts_S1024x128_S1024x128 inb_S1024x128_S1024x128_0_0 _ inb_S1024x128_S64x128_15_0_s_16_1 bitsLt_bf16_f32 shapeCasts_S64x128_S1x1x64x128 inb_S1x8x64x2048_S1x1x64x128_0_3_0_1920 x, ?_⟩
    refine List.forall_mem_cons.mpr ⟨fun x => zc_piece arg8.view _ x0 x1 hr 3 14 1792 384 rfl rfl (by decide) slices_S1024x1024_o0_384_S1024x128 shapeCasts_S1024x128_S1024x128 inb_S1024x128_S1024x128_0_0 _ inb_S1024x128_S64x128_14_0_s_16_1 bitsLt_bf16_f32 shapeCasts_S64x128_S1x1x64x128 inb_S1x8x64x2048_S1x1x64x128_0_3_0_1792 x, ?_⟩
    refine List.forall_mem_cons.mpr ⟨fun x => zc_piece arg8.view _ x0 x1 hr 3 13 1664 384 rfl rfl (by decide) slices_S1024x1024_o0_384_S1024x128 shapeCasts_S1024x128_S1024x128 inb_S1024x128_S1024x128_0_0 _ inb_S1024x128_S64x128_13_0_s_16_1 bitsLt_bf16_f32 shapeCasts_S64x128_S1x1x64x128 inb_S1x8x64x2048_S1x1x64x128_0_3_0_1664 x, ?_⟩
    refine List.forall_mem_cons.mpr ⟨fun x => zc_piece arg8.view _ x0 x1 hr 3 12 1536 384 rfl rfl (by decide) slices_S1024x1024_o0_384_S1024x128 shapeCasts_S1024x128_S1024x128 inb_S1024x128_S1024x128_0_0 _ inb_S1024x128_S64x128_12_0_s_16_1 bitsLt_bf16_f32 shapeCasts_S64x128_S1x1x64x128 inb_S1x8x64x2048_S1x1x64x128_0_3_0_1536 x, ?_⟩
    refine List.forall_mem_cons.mpr ⟨fun x => zc_piece arg8.view _ x0 x1 hr 3 11 1408 384 rfl rfl (by decide) slices_S1024x1024_o0_384_S1024x128 shapeCasts_S1024x128_S1024x128 inb_S1024x128_S1024x128_0_0 _ inb_S1024x128_S64x128_11_0_s_16_1 bitsLt_bf16_f32 shapeCasts_S64x128_S1x1x64x128 inb_S1x8x64x2048_S1x1x64x128_0_3_0_1408 x, ?_⟩
    refine List.forall_mem_cons.mpr ⟨fun x => zc_piece arg8.view _ x0 x1 hr 3 10 1280 384 rfl rfl (by decide) slices_S1024x1024_o0_384_S1024x128 shapeCasts_S1024x128_S1024x128 inb_S1024x128_S1024x128_0_0 _ inb_S1024x128_S64x128_10_0_s_16_1 bitsLt_bf16_f32 shapeCasts_S64x128_S1x1x64x128 inb_S1x8x64x2048_S1x1x64x128_0_3_0_1280 x, ?_⟩
    refine List.forall_mem_cons.mpr ⟨fun x => zc_piece arg8.view _ x0 x1 hr 3 9 1152 384 rfl rfl (by decide) slices_S1024x1024_o0_384_S1024x128 shapeCasts_S1024x128_S1024x128 inb_S1024x128_S1024x128_0_0 _ inb_S1024x128_S64x128_9_0_s_16_1 bitsLt_bf16_f32 shapeCasts_S64x128_S1x1x64x128 inb_S1x8x64x2048_S1x1x64x128_0_3_0_1152 x, ?_⟩
    refine List.forall_mem_cons.mpr ⟨fun x => zc_piece arg8.view _ x0 x1 hr 3 8 1024 384 rfl rfl (by decide) slices_S1024x1024_o0_384_S1024x128 shapeCasts_S1024x128_S1024x128 inb_S1024x128_S1024x128_0_0 _ inb_S1024x128_S64x128_8_0_s_16_1 bitsLt_bf16_f32 shapeCasts_S64x128_S1x1x64x128 inb_S1x8x64x2048_S1x1x64x128_0_3_0_1024 x, ?_⟩
    refine List.forall_mem_cons.mpr ⟨fun x => zc_piece arg8.view _ x0 x1 hr 3 7 896 384 rfl rfl (by decide) slices_S1024x1024_o0_384_S1024x128 shapeCasts_S1024x128_S1024x128 inb_S1024x128_S1024x128_0_0 _ inb_S1024x128_S64x128_7_0_s_16_1 bitsLt_bf16_f32 shapeCasts_S64x128_S1x1x64x128 inb_S1x8x64x2048_S1x1x64x128_0_3_0_896 x, ?_⟩
    refine List.forall_mem_cons.mpr ⟨fun x => zc_piece arg8.view _ x0 x1 hr 3 6 768 384 rfl rfl (by decide) slices_S1024x1024_o0_384_S1024x128 shapeCasts_S1024x128_S1024x128 inb_S1024x128_S1024x128_0_0 _ inb_S1024x128_S64x128_6_0_s_16_1 bitsLt_bf16_f32 shapeCasts_S64x128_S1x1x64x128 inb_S1x8x64x2048_S1x1x64x128_0_3_0_768 x, ?_⟩
    refine List.forall_mem_cons.mpr ⟨fun x => zc_piece arg8.view _ x0 x1 hr 3 5 640 384 rfl rfl (by decide) slices_S1024x1024_o0_384_S1024x128 shapeCasts_S1024x128_S1024x128 inb_S1024x128_S1024x128_0_0 _ inb_S1024x128_S64x128_5_0_s_16_1 bitsLt_bf16_f32 shapeCasts_S64x128_S1x1x64x128 inb_S1x8x64x2048_S1x1x64x128_0_3_0_640 x, ?_⟩
    refine List.forall_mem_cons.mpr ⟨fun x => zc_piece arg8.view _ x0 x1 hr 3 4 512 384 rfl rfl (by decide) slices_S1024x1024_o0_384_S1024x128 shapeCasts_S1024x128_S1024x128 inb_S1024x128_S1024x128_0_0 _ inb_S1024x128_S64x128_4_0_s_16_1 bitsLt_bf16_f32 shapeCasts_S64x128_S1x1x64x128 inb_S1x8x64x2048_S1x1x64x128_0_3_0_512 x, ?_⟩
    refine List.forall_mem_cons.mpr ⟨fun x => zc_piece arg8.view _ x0 x1 hr 3 3 384 384 rfl rfl (by decide) slices_S1024x1024_o0_384_S1024x128 shapeCasts_S1024x128_S1024x128 inb_S1024x128_S1024x128_0_0 _ inb_S1024x128_S64x128_3_0_s_16_1 bitsLt_bf16_f32 shapeCasts_S64x128_S1x1x64x128 inb_S1x8x64x2048_S1x1x64x128_0_3_0_384 x, ?_⟩
    refine List.forall_mem_cons.mpr ⟨fun x => zc_piece arg8.view _ x0 x1 hr 3 2 256 384 rfl rfl (by decide) slices_S1024x1024_o0_384_S1024x128 shapeCasts_S1024x128_S1024x128 inb_S1024x128_S1024x128_0_0 _ inb_S1024x128_S64x128_2_0_s_16_1 bitsLt_bf16_f32 shapeCasts_S64x128_S1x1x64x128 inb_S1x8x64x2048_S1x1x64x128_0_3_0_256 x, ?_⟩
    refine List.forall_mem_cons.mpr ⟨fun x => zc_piece arg8.view _ x0 x1 hr 3 1 128 384 rfl rfl (by decide) slices_S1024x1024_o0_384_S1024x128 shapeCasts_S1024x128_S1024x128 inb_S1024x128_S1024x128_0_0 _ inb_S1024x128_S64x128_1_0_s_16_1 bitsLt_bf16_f32 shapeCasts_S64x128_S1x1x64x128 inb_S1x8x64x2048_S1x1x64x128_0_3_0_128 x, ?_⟩
    refine List.forall_mem_cons.mpr ⟨fun x => zc_piece arg8.view _ x0 x1 hr 3 0 0 384 rfl rfl (by decide) slices_S1024x1024_o0_384_S1024x128 shapeCasts_S1024x128_S1024x128 inb_S1024x128_S1024x128_0_0 _ inb_S1024x128_S64x128_0_0_s_16_1 bitsLt_bf16_f32 shapeCasts_S64x128_S1x1x64x128 inb_S1x8x64x2048_S1x1x64x128_0_3_0_0 x, ?_⟩
    refine List.forall_mem_cons.mpr ⟨fun x => zc_piece arg8.view _ x0 x1 hr 2 15 1920 256 rfl rfl (by decide) slices_S1024x1024_o0_256_S1024x128 shapeCasts_S1024x128_S1024x128 inb_S1024x128_S1024x128_0_0 _ inb_S1024x128_S64x128_15_0_s_16_1 bitsLt_bf16_f32 shapeCasts_S64x128_S1x1x64x128 inb_S1x8x64x2048_S1x1x64x128_0_2_0_1920 x, ?_⟩
    refine List.forall_mem_cons.mpr ⟨fun x => zc_piece arg8.view _ x0 x1 hr 2 14 1792 256 rfl rfl (by decide) slices_S1024x1024_o0_256_S1024x128 shapeCasts_S1024x128_S1024x128 inb_S1024x128_S1024x128_0_0 _ inb_S1024x128_S64x128_14_0_s_16_1 bitsLt_bf16_f32 shapeCasts_S64x128_S1x1x64x128 inb_S1x8x64x2048_S1x1x64x128_0_2_0_1792 x, ?_⟩
    refine List.forall_mem_cons.mpr ⟨fun x => zc_piece arg8.view _ x0 x1 hr 2 13 1664 256 rfl rfl (by decide) slices_S1024x1024_o0_256_S1024x128 shapeCasts_S1024x128_S1024x128 inb_S1024x128_S1024x128_0_0 _ inb_S1024x128_S64x128_13_0_s_16_1 bitsLt_bf16_f32 shapeCasts_S64x128_S1x1x64x128 inb_S1x8x64x2048_S1x1x64x128_0_2_0_1664 x, ?_⟩
    refine List.forall_mem_cons.mpr ⟨fun x => zc_piece arg8.view _ x0 x1 hr 2 12 1536 256 rfl rfl (by decide) slices_S1024x1024_o0_256_S1024x128 shapeCasts_S1024x128_S1024x128 inb_S1024x128_S1024x128_0_0 _ inb_S1024x128_S64x128_12_0_s_16_1 bitsLt_bf16_f32 shapeCasts_S64x128_S1x1x64x128 inb_S1x8x64x2048_S1x1x64x128_0_2_0_1536 x, ?_⟩
    refine List.forall_mem_cons.mpr ⟨fun x => zc_piece arg8.view _ x0 x1 hr 2 11 1408 256 rfl rfl (by decide) slices_S1024x1024_o0_256_S1024x128 shapeCasts_S1024x128_S1024x128 inb_S1024x128_S1024x128_0_0 _ inb_S1024x128_S64x128_11_0_s_16_1 bitsLt_bf16_f32 shapeCasts_S64x128_S1x1x64x128 inb_S1x8x64x2048_S1x1x64x128_0_2_0_1408 x, ?_⟩
    refine List.forall_mem_cons.mpr ⟨fun x => zc_piece arg8.view _ x0 x1 hr 2 10 1280 256 rfl rfl (by decide) slices_S1024x1024_o0_256_S1024x128 shapeCasts_S1024x128_S1024x128 inb_S1024x128_S1024x128_0_0 _ inb_S1024x128_S64x128_10_0_s_16_1 bitsLt_bf16_f32 shapeCasts_S64x128_S1x1x64x128 inb_S1x8x64x2048_S1x1x64x128_0_2_0_1280 x, ?_⟩
    refine List.forall_mem_cons.mpr ⟨fun x => zc_piece arg8.view _ x0 x1 hr 2 9 1152 256 rfl rfl (by decide) slices_S1024x1024_o0_256_S1024x128 shapeCasts_S1024x128_S1024x128 inb_S1024x128_S1024x128_0_0 _ inb_S1024x128_S64x128_9_0_s_16_1 bitsLt_bf16_f32 shapeCasts_S64x128_S1x1x64x128 inb_S1x8x64x2048_S1x1x64x128_0_2_0_1152 x, ?_⟩
    refine List.forall_mem_cons.mpr ⟨fun x => zc_piece arg8.view _ x0 x1 hr 2 8 1024 256 rfl rfl (by decide) slices_S1024x1024_o0_256_S1024x128 shapeCasts_S1024x128_S1024x128 inb_S1024x128_S1024x128_0_0 _ inb_S1024x128_S64x128_8_0_s_16_1 bitsLt_bf16_f32 shapeCasts_S64x128_S1x1x64x128 inb_S1x8x64x2048_S1x1x64x128_0_2_0_1024 x, ?_⟩
    refine List.forall_mem_cons.mpr ⟨fun x => zc_piece arg8.view _ x0 x1 hr 2 7 896 256 rfl rfl (by decide) slices_S1024x1024_o0_256_S1024x128 shapeCasts_S1024x128_S1024x128 inb_S1024x128_S1024x128_0_0 _ inb_S1024x128_S64x128_7_0_s_16_1 bitsLt_bf16_f32 shapeCasts_S64x128_S1x1x64x128 inb_S1x8x64x2048_S1x1x64x128_0_2_0_896 x, ?_⟩
    refine List.forall_mem_cons.mpr ⟨fun x => zc_piece arg8.view _ x0 x1 hr 2 6 768 256 rfl rfl (by decide) slices_S1024x1024_o0_256_S1024x128 shapeCasts_S1024x128_S1024x128 inb_S1024x128_S1024x128_0_0 _ inb_S1024x128_S64x128_6_0_s_16_1 bitsLt_bf16_f32 shapeCasts_S64x128_S1x1x64x128 inb_S1x8x64x2048_S1x1x64x128_0_2_0_768 x, ?_⟩
    refine List.forall_mem_cons.mpr ⟨fun x => zc_piece arg8.view _ x0 x1 hr 2 5 640 256 rfl rfl (by decide) slices_S1024x1024_o0_256_S1024x128 shapeCasts_S1024x128_S1024x128 inb_S1024x128_S1024x128_0_0 _ inb_S1024x128_S64x128_5_0_s_16_1 bitsLt_bf16_f32 shapeCasts_S64x128_S1x1x64x128 inb_S1x8x64x2048_S1x1x64x128_0_2_0_640 x, ?_⟩
    refine List.forall_mem_cons.mpr ⟨fun x => zc_piece arg8.view _ x0 x1 hr 2 4 512 256 rfl rfl (by decide) slices_S1024x1024_o0_256_S1024x128 shapeCasts_S1024x128_S1024x128 inb_S1024x128_S1024x128_0_0 _ inb_S1024x128_S64x128_4_0_s_16_1 bitsLt_bf16_f32 shapeCasts_S64x128_S1x1x64x128 inb_S1x8x64x2048_S1x1x64x128_0_2_0_512 x, ?_⟩
    refine List.forall_mem_cons.mpr ⟨fun x => zc_piece arg8.view _ x0 x1 hr 2 3 384 256 rfl rfl (by decide) slices_S1024x1024_o0_256_S1024x128 shapeCasts_S1024x128_S1024x128 inb_S1024x128_S1024x128_0_0 _ inb_S1024x128_S64x128_3_0_s_16_1 bitsLt_bf16_f32 shapeCasts_S64x128_S1x1x64x128 inb_S1x8x64x2048_S1x1x64x128_0_2_0_384 x, ?_⟩
    refine List.forall_mem_cons.mpr ⟨fun x => zc_piece arg8.view _ x0 x1 hr 2 2 256 256 rfl rfl (by decide) slices_S1024x1024_o0_256_S1024x128 shapeCasts_S1024x128_S1024x128 inb_S1024x128_S1024x128_0_0 _ inb_S1024x128_S64x128_2_0_s_16_1 bitsLt_bf16_f32 shapeCasts_S64x128_S1x1x64x128 inb_S1x8x64x2048_S1x1x64x128_0_2_0_256 x, ?_⟩
    refine List.forall_mem_cons.mpr ⟨fun x => zc_piece arg8.view _ x0 x1 hr 2 1 128 256 rfl rfl (by decide) slices_S1024x1024_o0_256_S1024x128 shapeCasts_S1024x128_S1024x128 inb_S1024x128_S1024x128_0_0 _ inb_S1024x128_S64x128_1_0_s_16_1 bitsLt_bf16_f32 shapeCasts_S64x128_S1x1x64x128 inb_S1x8x64x2048_S1x1x64x128_0_2_0_128 x, ?_⟩
    refine List.forall_mem_cons.mpr ⟨fun x => zc_piece arg8.view _ x0 x1 hr 2 0 0 256 rfl rfl (by decide) slices_S1024x1024_o0_256_S1024x128 shapeCasts_S1024x128_S1024x128 inb_S1024x128_S1024x128_0_0 _ inb_S1024x128_S64x128_0_0_s_16_1 bitsLt_bf16_f32 shapeCasts_S64x128_S1x1x64x128 inb_S1x8x64x2048_S1x1x64x128_0_2_0_0 x, ?_⟩
    refine List.forall_mem_cons.mpr ⟨fun x => zc_piece arg8.view _ x0 x1 hr 1 15 1920 128 rfl rfl (by decide) slices_S1024x1024_o0_128_S1024x128 shapeCasts_S1024x128_S1024x128 inb_S1024x128_S1024x128_0_0 _ inb_S1024x128_S64x128_15_0_s_16_1 bitsLt_bf16_f32 shapeCasts_S64x128_S1x1x64x128 inb_S1x8x64x2048_S1x1x64x128_0_1_0_1920 x, ?_⟩
    refine List.forall_mem_cons.mpr ⟨fun x => zc_piece arg8.view _ x0 x1 hr 1 14 1792 128 rfl rfl (by decide) slices_S1024x1024_o0_128_S1024x128 shapeCasts_S1024x128_S1024x128 inb_S1024x128_S1024x128_0_0 _ inb_S1024x128_S64x128_14_0_s_16_1 bitsLt_bf16_f32 shapeCasts_S64x128_S1x1x64x128 inb_S1x8x64x2048_S1x1x64x128_0_1_0_1792 x, ?_⟩
    refine List.forall_mem_cons.mpr ⟨fun x => zc_piece arg8.view _ x0 x1 hr 1 13 1664 128 rfl rfl (by decide) slices_S1024x1024_o0_128_S1024x128 shapeCasts_S1024x128_S1024x128 inb_S1024x128_S1024x128_0_0 _ inb_S1024x128_S64x128_13_0_s_16_1 bitsLt_bf16_f32 shapeCasts_S64x128_S1x1x64x128 inb_S1x8x64x2048_S1x1x64x128_0_1_0_1664 x, ?_⟩
    refine List.forall_mem_cons.mpr ⟨fun x => zc_piece arg8.view _ x0 x1 hr 1 12 1536 128 rfl rfl (by decide) slices_S1024x1024_o0_128_S1024x128 shapeCasts_S1024x128_S1024x128 inb_S1024x128_S1024x128_0_0 _ inb_S1024x128_S64x128_12_0_s_16_1 bitsLt_bf16_f32 shapeCasts_S64x128_S1x1x64x128 inb_S1x8x64x2048_S1x1x64x128_0_1_0_1536 x, ?_⟩
    refine List.forall_mem_cons.mpr ⟨fun x => zc_piece arg8.view _ x0 x1 hr 1 11 1408 128 rfl rfl (by decide) slices_S1024x1024_o0_128_S1024x128 shapeCasts_S1024x128_S1024x128 inb_S1024x128_S1024x128_0_0 _ inb_S1024x128_S64x128_11_0_s_16_1 bitsLt_bf16_f32 shapeCasts_S64x128_S1x1x64x128 inb_S1x8x64x2048_S1x1x64x128_0_1_0_1408 x, ?_⟩
    refine List.forall_mem_cons.mpr ⟨fun x => zc_piece arg8.view _ x0 x1 hr 1 10 1280 128 rfl rfl (by decide) slices_S1024x1024_o0_128_S1024x128 shapeCasts_S1024x128_S1024x128 inb_S1024x128_S1024x128_0_0 _ inb_S1024x128_S64x128_10_0_s_16_1 bitsLt_bf16_f32 shapeCasts_S64x128_S1x1x64x128 inb_S1x8x64x2048_S1x1x64x128_0_1_0_1280 x, ?_⟩
    refine List.forall_mem_cons.mpr ⟨fun x => zc_piece arg8.view _ x0 x1 hr 1 9 1152 128 rfl rfl (by decide) slices_S1024x1024_o0_128_S1024x128 shapeCasts_S1024x128_S1024x128 inb_S1024x128_S1024x128_0_0 _ inb_S1024x128_S64x128_9_0_s_16_1 bitsLt_bf16_f32 shapeCasts_S64x128_S1x1x64x128 inb_S1x8x64x2048_S1x1x64x128_0_1_0_1152 x, ?_⟩
    refine List.forall_mem_cons.mpr ⟨fun x => zc_piece arg8.view _ x0 x1 hr 1 8 1024 128 rfl rfl (by decide) slices_S1024x1024_o0_128_S1024x128 shapeCasts_S1024x128_S1024x128 inb_S1024x128_S1024x128_0_0 _ inb_S1024x128_S64x128_8_0_s_16_1 bitsLt_bf16_f32 shapeCasts_S64x128_S1x1x64x128 inb_S1x8x64x2048_S1x1x64x128_0_1_0_1024 x, ?_⟩
    refine List.forall_mem_cons.mpr ⟨fun x => zc_piece arg8.view _ x0 x1 hr 1 7 896 128 rfl rfl (by decide) slices_S1024x1024_o0_128_S1024x128 shapeCasts_S1024x128_S1024x128 inb_S1024x128_S1024x128_0_0 _ inb_S1024x128_S64x128_7_0_s_16_1 bitsLt_bf16_f32 shapeCasts_S64x128_S1x1x64x128 inb_S1x8x64x2048_S1x1x64x128_0_1_0_896 x, ?_⟩
    refine List.forall_mem_cons.mpr ⟨fun x => zc_piece arg8.view _ x0 x1 hr 1 6 768 128 rfl rfl (by decide) slices_S1024x1024_o0_128_S1024x128 shapeCasts_S1024x128_S1024x128 inb_S1024x128_S1024x128_0_0 _ inb_S1024x128_S64x128_6_0_s_16_1 bitsLt_bf16_f32 shapeCasts_S64x128_S1x1x64x128 inb_S1x8x64x2048_S1x1x64x128_0_1_0_768 x, ?_⟩
    refine List.forall_mem_cons.mpr ⟨fun x => zc_piece arg8.view _ x0 x1 hr 1 5 640 128 rfl rfl (by decide) slices_S1024x1024_o0_128_S1024x128 shapeCasts_S1024x128_S1024x128 inb_S1024x128_S1024x128_0_0 _ inb_S1024x128_S64x128_5_0_s_16_1 bitsLt_bf16_f32 shapeCasts_S64x128_S1x1x64x128 inb_S1x8x64x2048_S1x1x64x128_0_1_0_640 x, ?_⟩
    refine List.forall_mem_cons.mpr ⟨fun x => zc_piece arg8.view _ x0 x1 hr 1 4 512 128 rfl rfl (by decide) slices_S1024x1024_o0_128_S1024x128 shapeCasts_S1024x128_S1024x128 inb_S1024x128_S1024x128_0_0 _ inb_S1024x128_S64x128_4_0_s_16_1 bitsLt_bf16_f32 shapeCasts_S64x128_S1x1x64x128 inb_S1x8x64x2048_S1x1x64x128_0_1_0_512 x, ?_⟩
    refine List.forall_mem_cons.mpr ⟨fun x => zc_piece arg8.view _ x0 x1 hr 1 3 384 128 rfl rfl (by decide) slices_S1024x1024_o0_128_S1024x128 shapeCasts_S1024x128_S1024x128 inb_S1024x128_S1024x128_0_0 _ inb_S1024x128_S64x128_3_0_s_16_1 bitsLt_bf16_f32 shapeCasts_S64x128_S1x1x64x128 inb_S1x8x64x2048_S1x1x64x128_0_1_0_384 x, ?_⟩
    refine List.forall_mem_cons.mpr ⟨fun x => zc_piece arg8.view _ x0 x1 hr 1 2 256 128 rfl rfl (by decide) slices_S1024x1024_o0_128_S1024x128 shapeCasts_S1024x128_S1024x128 inb_S1024x128_S1024x128_0_0 _ inb_S1024x128_S64x128_2_0_s_16_1 bitsLt_bf16_f32 shapeCasts_S64x128_S1x1x64x128 inb_S1x8x64x2048_S1x1x64x128_0_1_0_256 x, ?_⟩
    refine List.forall_mem_cons.mpr ⟨fun x => zc_piece arg8.view _ x0 x1 hr 1 1 128 128 rfl rfl (by decide) slices_S1024x1024_o0_128_S1024x128 shapeCasts_S1024x128_S1024x128 inb_S1024x128_S1024x128_0_0 _ inb_S1024x128_S64x128_1_0_s_16_1 bitsLt_bf16_f32 shapeCasts_S64x128_S1x1x64x128 inb_S1x8x64x2048_S1x1x64x128_0_1_0_128 x, ?_⟩
    refine List.forall_mem_cons.mpr ⟨fun x => zc_piece arg8.view _ x0 x1 hr 1 0 0 128 rfl rfl (by decide) slices_S1024x1024_o0_128_S1024x128 shapeCasts_S1024x128_S1024x128 inb_S1024x128_S1024x128_0_0 _ inb_S1024x128_S64x128_0_0_s_16_1 bitsLt_bf16_f32 shapeCasts_S64x128_S1x1x64x128 inb_S1x8x64x2048_S1x1x64x128_0_1_0_0 x, ?_⟩
    refine List.forall_mem_cons.mpr ⟨fun x => zc_piece arg8.view _ x0 x1 hr 0 15 1920 0 rfl rfl (by decide) slices_S1024x1024_o0_0_S1024x128 shapeCasts_S1024x128_S1024x128 inb_S1024x128_S1024x128_0_0 _ inb_S1024x128_S64x128_15_0_s_16_1 bitsLt_bf16_f32 shapeCasts_S64x128_S1x1x64x128 inb_S1x8x64x2048_S1x1x64x128_0_0_0_1920 x, ?_⟩
    refine List.forall_mem_cons.mpr ⟨fun x => zc_piece arg8.view _ x0 x1 hr 0 14 1792 0 rfl rfl (by decide) slices_S1024x1024_o0_0_S1024x128 shapeCasts_S1024x128_S1024x128 inb_S1024x128_S1024x128_0_0 _ inb_S1024x128_S64x128_14_0_s_16_1 bitsLt_bf16_f32 shapeCasts_S64x128_S1x1x64x128 inb_S1x8x64x2048_S1x1x64x128_0_0_0_1792 x, ?_⟩
    refine List.forall_mem_cons.mpr ⟨fun x => zc_piece arg8.view _ x0 x1 hr 0 13 1664 0 rfl rfl (by decide) slices_S1024x1024_o0_0_S1024x128 shapeCasts_S1024x128_S1024x128 inb_S1024x128_S1024x128_0_0 _ inb_S1024x128_S64x128_13_0_s_16_1 bitsLt_bf16_f32 shapeCasts_S64x128_S1x1x64x128 inb_S1x8x64x2048_S1x1x64x128_0_0_0_1664 x, ?_⟩
    refine List.forall_mem_cons.mpr ⟨fun x => zc_piece arg8.view _ x0 x1 hr 0 12 1536 0 rfl rfl (by decide) slices_S1024x1024_o0_0_S1024x128 shapeCasts_S1024x128_S1024x128 inb_S1024x128_S1024x128_0_0 _ inb_S1024x128_S64x128_12_0_s_16_1 bitsLt_bf16_f32 shapeCasts_S64x128_S1x1x64x128 inb_S1x8x64x2048_S1x1x64x128_0_0_0_1536 x, ?_⟩
    refine List.forall_mem_cons.mpr ⟨fun x => zc_piece arg8.view _ x0 x1 hr 0 11 1408 0 rfl rfl (by decide) slices_S1024x1024_o0_0_S1024x128 shapeCasts_S1024x128_S1024x128 inb_S1024x128_S1024x128_0_0 _ inb_S1024x128_S64x128_11_0_s_16_1 bitsLt_bf16_f32 shapeCasts_S64x128_S1x1x64x128 inb_S1x8x64x2048_S1x1x64x128_0_0_0_1408 x, ?_⟩
    refine List.forall_mem_cons.mpr ⟨fun x => zc_piece arg8.view _ x0 x1 hr 0 10 1280 0 rfl rfl (by decide) slices_S1024x1024_o0_0_S1024x128 shapeCasts_S1024x128_S1024x128 inb_S1024x128_S1024x128_0_0 _ inb_S1024x128_S64x128_10_0_s_16_1 bitsLt_bf16_f32 shapeCasts_S64x128_S1x1x64x128 inb_S1x8x64x2048_S1x1x64x128_0_0_0_1280 x, ?_⟩
    refine List.forall_mem_cons.mpr ⟨fun x => zc_piece arg8.view _ x0 x1 hr 0 9 1152 0 rfl rfl (by decide) slices_S1024x1024_o0_0_S1024x128 shapeCasts_S1024x128_S1024x128 inb_S1024x128_S1024x128_0_0 _ inb_S1024x128_S64x128_9_0_s_16_1 bitsLt_bf16_f32 shapeCasts_S64x128_S1x1x64x128 inb_S1x8x64x2048_S1x1x64x128_0_0_0_1152 x, ?_⟩
    refine List.forall_mem_cons.mpr ⟨fun x => zc_piece arg8.view _ x0 x1 hr 0 8 1024 0 rfl rfl (by decide) slices_S1024x1024_o0_0_S1024x128 shapeCasts_S1024x128_S1024x128 inb_S1024x128_S1024x128_0_0 _ inb_S1024x128_S64x128_8_0_s_16_1 bitsLt_bf16_f32 shapeCasts_S64x128_S1x1x64x128 inb_S1x8x64x2048_S1x1x64x128_0_0_0_1024 x, ?_⟩
    refine List.forall_mem_cons.mpr ⟨fun x => zc_piece arg8.view _ x0 x1 hr 0 7 896 0 rfl rfl (by decide) slices_S1024x1024_o0_0_S1024x128 shapeCasts_S1024x128_S1024x128 inb_S1024x128_S1024x128_0_0 _ inb_S1024x128_S64x128_7_0_s_16_1 bitsLt_bf16_f32 shapeCasts_S64x128_S1x1x64x128 inb_S1x8x64x2048_S1x1x64x128_0_0_0_896 x, ?_⟩
    refine List.forall_mem_cons.mpr ⟨fun x => zc_piece arg8.view _ x0 x1 hr 0 6 768 0 rfl rfl (by decide) slices_S1024x1024_o0_0_S1024x128 shapeCasts_S1024x128_S1024x128 inb_S1024x128_S1024x128_0_0 _ inb_S1024x128_S64x128_6_0_s_16_1 bitsLt_bf16_f32 shapeCasts_S64x128_S1x1x64x128 inb_S1x8x64x2048_S1x1x64x128_0_0_0_768 x, ?_⟩
    refine List.forall_mem_cons.mpr ⟨fun x => zc_piece arg8.view _ x0 x1 hr 0 5 640 0 rfl rfl (by decide) slices_S1024x1024_o0_0_S1024x128 shapeCasts_S1024x128_S1024x128 inb_S1024x128_S1024x128_0_0 _ inb_S1024x128_S64x128_5_0_s_16_1 bitsLt_bf16_f32 shapeCasts_S64x128_S1x1x64x128 inb_S1x8x64x2048_S1x1x64x128_0_0_0_640 x, ?_⟩
    refine List.forall_mem_cons.mpr ⟨fun x => zc_piece arg8.view _ x0 x1 hr 0 4 512 0 rfl rfl (by decide) slices_S1024x1024_o0_0_S1024x128 shapeCasts_S1024x128_S1024x128 inb_S1024x128_S1024x128_0_0 _ inb_S1024x128_S64x128_4_0_s_16_1 bitsLt_bf16_f32 shapeCasts_S64x128_S1x1x64x128 inb_S1x8x64x2048_S1x1x64x128_0_0_0_512 x, ?_⟩
    refine List.forall_mem_cons.mpr ⟨fun x => zc_piece arg8.view _ x0 x1 hr 0 3 384 0 rfl rfl (by decide) slices_S1024x1024_o0_0_S1024x128 shapeCasts_S1024x128_S1024x128 inb_S1024x128_S1024x128_0_0 _ inb_S1024x128_S64x128_3_0_s_16_1 bitsLt_bf16_f32 shapeCasts_S64x128_S1x1x64x128 inb_S1x8x64x2048_S1x1x64x128_0_0_0_384 x, ?_⟩
    refine List.forall_mem_cons.mpr ⟨fun x => zc_piece arg8.view _ x0 x1 hr 0 2 256 0 rfl rfl (by decide) slices_S1024x1024_o0_0_S1024x128 shapeCasts_S1024x128_S1024x128 inb_S1024x128_S1024x128_0_0 _ inb_S1024x128_S64x128_2_0_s_16_1 bitsLt_bf16_f32 shapeCasts_S64x128_S1x1x64x128 inb_S1x8x64x2048_S1x1x64x128_0_0_0_256 x, ?_⟩
    refine List.forall_mem_cons.mpr ⟨fun x => zc_piece arg8.view _ x0 x1 hr 0 1 128 0 rfl rfl (by decide) slices_S1024x1024_o0_0_S1024x128 shapeCasts_S1024x128_S1024x128 inb_S1024x128_S1024x128_0_0 _ inb_S1024x128_S64x128_1_0_s_16_1 bitsLt_bf16_f32 shapeCasts_S64x128_S1x1x64x128 inb_S1x8x64x2048_S1x1x64x128_0_0_0_128 x, ?_⟩
    refine List.forall_mem_cons.mpr ⟨fun x => zc_piece arg8.view _ x0 x1 hr 0 0 0 0 rfl rfl (by decide) slices_S1024x1024_o0_0_S1024x128 shapeCasts_S1024x128_S1024x128 inb_S1024x128_S1024x128_0_0 _ inb_S1024x128_S64x128_0_0_s_16_1 bitsLt_bf16_f32 shapeCasts_S64x128_S1x1x64x128 inb_S1x8x64x2048_S1x1x64x128_0_0_0_0 x, ?_⟩
    exact fun p h => absurd h List.not_mem_nil
  have hcov : ∀ y, ∃ p ∈ (runC c i arg2 harg2 arg3 harg3 arg4 harg4 arg5 harg5 arg6 harg6 arg7 harg7 arg8 harg8 hc0 hc1 x0 x1 x2).2.1, y ∈ p.1.set := fun y =>
    View.cover_of_tiledL (runC c i arg2 harg2 arg3 harg3 arg4 harg4 arg5 harg5 arg6 harg6 arg7 harg7 arg8 harg8 hc0 hc1 x0 x1 x2).2.1 S1x1x64x128.size (by sl_kernel_rfl) y
  rw [View.read_writes_eq_canon _ _ _ hcov]
  exact funext fun y => View.canon_apply_of_pieces _ _ hp y (hcov y)

end Cert.Kernel7Ideal.Proj

end
-- ==== Proof.Proj.Frame.lean ====
/-
  The run: what every buffer holds after each point, the pipeline's obligation, and the frame.
-/
module

public import proofs.«01_k».proof.Proof.Proj.Stores
public import Idealize.ShloMosaic.Lib.Claim

@[expose] public section

set_option maxRecDepth 16384

noncomputable section

namespace Cert.Kernel7Ideal.Proj

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem fst_lt (t : Fin cfg0.N) : 5 * (t.val / 5) < cfg0.N := by have := t.isLt; omega
theorem mid_lt (t : Fin cfg0.N) : 5 * (t.val / 5) + 2 < cfg0.N := by have := t.isLt; have : cfg0.N = 80 := N_0; omega

/-- The point of `t`'s row block that stores the gates, and the one that stores the chunked heads. -/
def fst (t : Fin cfg0.N) : Fin cfg0.N := ⟨5 * (t.val / 5), fst_lt t⟩
def mid (t : Fin cfg0.N) : Fin cfg0.N := ⟨5 * (t.val / 5) + 2, mid_lt t⟩

/-- What the buffers hold after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => zBlk (iblk m c 0 t) (iblk m c 1 t)
    | ⟨4, _⟩ => k0_pay157 (iblk m c 0 (fst t)) (iblk m c 2 (fst t))
    | ⟨5, _⟩ => zcBlk (iblk m c 0 (mid t)) (iblk m c 1 (mid t))
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = zBlk (iblk m c 0 t) (iblk m c 1 t) := by dsimp only [dats]
theorem after0_4 (c : Dev nD) (t : Fin cfg0.N) : (dats m 0 c).after 4 t = k0_pay157 (iblk m c 0 (fst t)) (iblk m c 2 (fst t)) := by dsimp only [dats]
theorem after0_5 (c : Dev nD) (t : Fin cfg0.N) : (dats m 0 c).after 5 t = zcBlk (iblk m c 0 (mid t)) (iblk m c 1 (mid t)) := by dsimp only [dats]

/-- The inputs' buffers hold their blocks. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

theorem fst_self (t : Fin cfg0.N) (h : t.val % 5 = 0) : fst t = t := Fin.ext (by show 5 * (t.val / 5) = t.val; omega)
theorem mid_self (t : Fin cfg0.N) (h : t.val % 5 = 2) : mid t = t := Fin.ext (by show 5 * (t.val / 5) + 2 = t.val; omega)
theorem fst_pred (t : Fin cfg0.N) (h : t.val % 5 ≠ 0) : fst t = fst ⟨t.val - 1, by omega⟩ :=
  Fin.ext (by show 5 * (t.val / 5) = 5 * ((t.val - 1) / 5); omega)
theorem mid_pred (t : Fin cfg0.N) (h : t.val % 5 ≠ 0) : mid t = mid ⟨t.val - 1, by omega⟩ :=
  Fin.ext (by show 5 * (t.val / 5) + 2 = 5 * ((t.val - 1) / 5) + 2; omega)

/-- Between its store and its writing back a result's buffer keeps its contents. -/
theorem hcarry0_4 (c : Dev nD) : ∀ (t : Fin cfg0.N) (_ : t.val ≠ 0), cfg0.idle 4 (grid0.coords t) = true → cfg0.fresh 4 t.val = false →
    (dats m 0 c).after 4 t = (dats m 0 c).after 4 ⟨t.val - 1, by omega⟩ := by
  intro t _ hi _
  rw [idle4] at hi
  have h : t.val % 5 ≠ 0 := by simpa using hi
  rw [after0_4, after0_4, fst_pred t h]
theorem hcarry0_5 (c : Dev nD) : ∀ (t : Fin cfg0.N) (_ : t.val ≠ 0), cfg0.idle 5 (grid0.coords t) = true → cfg0.fresh 5 t.val = false →
    (dats m 0 c).after 5 t = (dats m 0 c).after 5 ⟨t.val - 1, by omega⟩ := by
  intro t _ _ hf
  rw [fresh5, freshTab5, decide_eq_false_iff_not] at hf
  rw [after0_5, after0_5, mid_pred t (by omega)]

theorem keep0_4 (c : Dev nD) (t : Fin cfg0.N) (h : t.val % 5 ≠ 0) (d) :
    (owns (c : Thread nD τ) (ms0_4 t) fullShare ((dats m 0 c).before 4 t d) : sProp 𝕄) ⊢ (dats m 0 c).leavesExact 4 t := by
  have hi : cfg0.idle 4 (grid0.coords t) = true := by rw [idle4]; simpa using h
  by_cases hf : t.val % 5 = 4
  · have hfl : (cfg0.win 4).flush t = true := by rw [flush4]; simpa using hf
    have e : (dats m 0 c).leavesExact 4 t = owns (c : Thread nD τ) (ms0_4 t) fullShare ((dats m 0 c).after 4 t) := by
      unfold Dat.leavesExact; rw [hi, hfl]
    have hfr : cfg0.fresh 4 t.val = false := by rw [fresh4, freshTab4]; simpa using h
    rw [e, Dat.before_out_traj _ 4 rfl (fun _ _ => rfl) (hcarry0_4 m c) t.val t rfl d, if_neg (by rw [hfr]; exact Bool.false_ne_true),
      hcarry0_4 m c t (by omega) hi hfr]
  · have hfl : (cfg0.win 4).flush t = false := by rw [flush4]; simpa using hf
    rw [Dat.leavesExact_idle (dats m 0 c) 4 t hi hfl]
    iintro H; iexists d; iexact H
theorem keep0_5 (c : Dev nD) (t : Fin cfg0.N) (h : t.val % 5 ≠ 2) (d) :
    (owns (c : Thread nD τ) (ms0_5 t) fullShare ((dats m 0 c).before 5 t d) : sProp 𝕄) ⊢ (dats m 0 c).leavesExact 5 t := by
  have hi : cfg0.idle 5 (grid0.coords t) = true := by rw [idle5]; simpa using h
  by_cases hf : t.val % 5 = 4
  · have hfl : (cfg0.win 5).flush t = true := by rw [flush5]; simpa using hf
    have e : (dats m 0 c).leavesExact 5 t = owns (c : Thread nD τ) (ms0_5 t) fullShare ((dats m 0 c).after 5 t) := by
      unfold Dat.leavesExact; rw [hi, hfl]
    have hfr : cfg0.fresh 5 t.val = false := by rw [fresh5, freshTab5, decide_eq_false_iff_not]; omega
    rw [e, Dat.before_out_traj _ 5 rfl (fun _ _ => rfl) (hcarry0_5 m c) t.val t rfl d, if_neg (by rw [hfr]; exact Bool.false_ne_true),
      hcarry0_5 m c t (by omega) hi hfr]
  · have hfl : (cfg0.win 5).flush t = false := by rw [flush5]; simpa using hf
    rw [Dat.leavesExact_idle (dats m 0 c) 5 t hi hfl]
    iintro H; iexists d; iexact H

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem leaves0_0 (c : Dev nD) (t : Fin cfg0.N) : (dats m 0 c).leavesExact 0 t = owns (c : Thread nD τ) (ms0_0 t) fullShare (iblk m c 0 t) := by
  unfold Dat.leavesExact; rw [live0 t, after0_0]
theorem leaves0_1 (c : Dev nD) (t : Fin cfg0.N) : (dats m 0 c).leavesExact 1 t = owns (c : Thread nD τ) (ms0_1 t) fullShare (iblk m c 1 t) := by
  unfold Dat.leavesExact; rw [live1 t, after0_1]
theorem leaves0_2 (c : Dev nD) (t : Fin cfg0.N) : (dats m 0 c).leavesExact 2 t = owns (c : Thread nD τ) (ms0_2 t) fullShare (iblk m c 2 t) := by
  unfold Dat.leavesExact; rw [live2 t, after0_2]
theorem leaves0_3 (c : Dev nD) (t : Fin cfg0.N) : (dats m 0 c).leavesExact 3 t = owns (c : Thread nD τ) (ms0_3 t) fullShare (zBlk (iblk m c 0 t) (iblk m c 1 t)) := by
  unfold Dat.leavesExact; rw [live3 t, after0_3]
theorem leaves0_4 (c : Dev nD) (t : Fin cfg0.N) (h : t.val % 5 = 0) :
    (dats m 0 c).leavesExact 4 t = owns (c : Thread nD τ) (ms0_4 t) fullShare (k0_pay157 (iblk m c 0 t) (iblk m c 2 t)) := by
  have hi : cfg0.idle 4 (grid0.coords t) = false := by rw [idle4]; simpa using h
  unfold Dat.leavesExact; rw [hi, after0_4, fst_self t h]
theorem leaves0_5 (c : Dev nD) (t : Fin cfg0.N) (h : t.val % 5 = 2) :
    (dats m 0 c).leavesExact 5 t = owns (c : Thread nD τ) (ms0_5 t) fullShare (zcBlk (iblk m c 0 t) (iblk m c 1 t)) := by
  have hi : cfg0.idle 5 (grid0.coords t) = false := by rw [idle5]; simpa using h
  unfold Dat.leavesExact; rw [hi, after0_5, mid_self t h]

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  rw [leaves0_0, leaves0_1, leaves0_2, leaves0_3]
  by_cases h0 : t.val % 5 = 0
  · have h2 : ¬t.val % 5 = 2 := by omega
    rw [leaves0_4 m c t h0]
    iintro ⟨⟨HS0, Hg⟩, Ho, ⟨%d0, H0⟩, ⟨%d1, H1⟩, ⟨%d2, H2⟩, ⟨%d3, H3⟩, ⟨%d4, H4⟩, ⟨%d5, H5⟩⟩
    iapply ((runA c (grid0.coords t) _ _ _ _ _ _ _ _ _ _ _ _ _ _ ((hcond0_0 t).mpr h0) (fun h => h2 ((hcond0_1 t).mp h)) (iblk m c 0 t) (iblk m c 1 t) (iblk m c 2 t)).2.2 _ Set.univ _)
    isplitl [H0]; · iexact H0
    isplitl [H1]; · iexact H1
    isplitl [H2]; · iexact H2
    isplitl [H3]; · iexists _; iexact H3
    isplitl [H4]; · iexists _; iexact H4
    isplitl [H5]; · iexact H5
    isplitl [HS0]; · iexact HS0
    iintro ⟨H0, H1, H2, ⟨%e3, H3⟩, ⟨%e4, H4⟩, H5, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact z_readA c _ _ _ _ _ _ _ _ _ _ _ _ _ _ _ _ _ _ _ _ _
    isplitl [H4]
    · unfold owns; iexists _; isplitr
      swap; · iexact H4
      ipureintro; exact g_readA c _ _ _ _ _ _ _ _ _ _ _ _ _ _ _ _ _ _ _ _ _
    iapply (keep0_5 m c t h2 _); iexact H5
  · by_cases h2 : t.val % 5 = 2
    · rw [leaves0_5 m c t h2]
      iintro ⟨⟨HS0, Hg⟩, Ho, ⟨%d0, H0⟩, ⟨%d1, H1⟩, ⟨%d2, H2⟩, ⟨%d3, H3⟩, ⟨%d4, H4⟩, ⟨%d5, H5⟩⟩
      iapply ((runC c (grid0.coords t) _ _ _ _ _ _ _ _ _ _ _ _ _ _ (fun h => h0 ((hcond0_0 t).mp h)) ((hcond0_1 t).mpr h2) (iblk m c 0 t) (iblk m c 1 t) (iblk m c 2 t)).2.2 _ Set.univ _)
      isplitl [H0]; · iexact H0
      isplitl [H1]; · iexact H1
      isplitl [H2]; · iexact H2
      isplitl [H3]; · iexists _; iexact H3
      isplitl [H4]; · iexact H4
      isplitl [H5]; · iexists _; iexact H5
      isplitl [HS0]; · iexact HS0
      iintro ⟨H0, H1, H2, ⟨%e3, H3⟩, H4, ⟨%e5, H5⟩, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact z_readC c _ _ _ _ _ _ _ _ _ _ _ _ _ _ _ _ _ _ _ _ _
      isplitl [H4]
      · iapply (keep0_4 m c t h0 _); iexact H4
      unfold owns; iexists _; isplitr
      swap; · iexact H5
      ipureintro; exact zc_readC c _ _ _ _ _ _ _ _ _ _ _ _ _ _ _ _ _ _ _ _ _
    · iintro ⟨⟨HS0, Hg⟩, Ho, ⟨%d0, H0⟩, ⟨%d1, H1⟩, ⟨%d2, H2⟩, ⟨%d3, H3⟩, ⟨%d4, H4⟩, ⟨%d5, H5⟩⟩
      iapply ((runB c (grid0.coords t) _ _ _ _ _ _ _ _ _ _ _ _ _ _ (fun h => h0 ((hcond0_0 t).mp h)) (fun h => h2 ((hcond0_1 t).mp h)) (iblk m c 0 t) (iblk m c 1 t) (iblk m c 2 t)).2 _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [HS0]; · iexact HS0
      iintro ⟨H0, H1, H2, ⟨%e3, H3⟩, H4, H5, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact z_readB c _ _ _ _ _ _ _ _ _ _ _ _ _ _ _ _ _ _ _ _ _
      isplitl [H4]
      · iapply (keep0_4 m c t h0 _); iexact H4
      iapply (keep0_5 m c t h2 _); iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every execution ends, with the arrays at what the points left in them and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.Kernel7Ideal.Proj

end
-- ==== Proof.Proj.Value.lean ====
/-
  What the attention layer's projection kernel leaves in its three results: the heads, the gates' logits in a padded row
  and the key heads regrouped, each entry a sum of products of the activations with layer 1 of the weights.
-/
module

public import proofs.«01_k».proof.Proof.Proj.Frame
public import Idealize.ShloMosaic.Lib.Pointwise
public import Idealize.ShloMosaic.Lib.Pipeline.Value
public import Idealize.ShloMosaic.Lib.Pipeline.ValueKit

@[expose] public section

set_option maxHeartbeats 4000000
set_option maxRecDepth 16384
noncomputable section
open Idealize.ShloMosaic Idealize.ShloMosaic.TcCoe Idealize.SL.Sem

namespace Cert.Kernel7Ideal.Proj

open Cert.Kernel7Ideal Cert.Kernel7Ideal.Gen

/-- Row `n` of the activations times column `q` of layer 1 of the weights. -/
def prod (x : FVec Ideal S16384x2048 .bf16) (w : FVec Ideal S2x2048x5168 .f32) (n : Fin 16384) (q : Fin 5168) : EReal :=
  ∑ k : Fin 2048, x (ix2 n k) * w (ix3 1 k q)

/-- The gates' logits: 48 columns, and zeros up to 128. -/
def gates (x : FVec Ideal S16384x2048 .bf16) (w : FVec Ideal S2x2048x5168 .f32) (n : Fin 16384) (q : Fin 128) : EReal :=
  if h : q.val < 48 then prod x w n ⟨5120 + q.val, by omega⟩ else 0

variable (m : (ℓ : Loc nD τ sig) → Buf (Elt Ideal) ℓ) (ρ : Dev nD → PrngReg) (c : Dev nD)

/-- Where the windows' blocks lie. -/
theorem idx : ∀ t : Fin cfg0.N, win0_0.index t = ![t.val / 5, 0] ∧ win0_1.index t = ![1, 0, t.val % 5] ∧ win0_2.index t = ![0, 0]
    ∧ win0_3.index t = ![t.val / 20, t.val % 5, t.val / 5 % 4, 0] ∧ win0_4.index t = ![t.val / 5, 0] ∧ win0_5.index t = ![t.val / 20, 0, t.val / 5 % 4, 0] :=
  (by decide +kernel : ∀ t : Fin grid0.N, _)

theorem r0 (t : Fin cfg0.N) (r : Fin 1024) (k : Fin 2048) (n : Fin 16384) (hn : n.val = 1024 * (t.val / 5) + r.val) :
    iblk m c 0 t (ix2 r k) = (m ((c : Thread nD τ).loc main_arg0) : FVec Ideal S16384x2048 .bf16) (ix2 n k) := by
  have e := (idx t).1
  blk_point [iblk, V, e]

/-- The heads' weights as the region finds them. -/
def headW (w : FVec Ideal S2x2048x5168 .f32) : FVec Ideal S2x2048x5120 .bf16 :=
  truncf .bf16 (extractStridedSlice S2x2048x5120 ![0, 0, 0] w slices_S2x2048x5168_S2x2048x5120_0_0_0) bitsLt_bf16_f32

theorem V_v1 : V m c main_v1 = headW (m ((c : Thread nD τ).loc main_arg1)) := by
  unfold V headW
  simp only [hostOps0, hostOps0_1, hostOps0_2, List.flatten_cons, List.flatten_nil, List.append_nil, List.cons_append, List.nil_append]
  after_results <;> rfl

/-- The gates' weights as the region finds them. -/
def gateW (w : FVec Ideal S2x2048x5168 .f32) : FVec Ideal S2048x128 .bf16 :=
  truncf .bf16 (pad S2048x128 ![0, 0] ![0, 80] ![0, 0] (shapeCast S2048x48 (extractStridedSlice S1x2048x48 ![1, 0, 5120] w slices_S2x2048x5168_S1x2048x48_1_0_5120)
    shapeCasts_S1x2048x48_S2048x48) (sitofp .f32 (constantI S_ 32 0#32)) pads_S2048x48_S2048x128_000_0800 h_S_) bitsLt_bf16_f32

theorem V_v5 : V m c main_v5 = gateW (m ((c : Thread nD τ).loc main_arg1)) := by
  unfold V gateW
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results <;> rfl

theorem sitofp_zero : (FloatOps.sitofp (F := Ideal) .f32 0#32 : EReal) = 0 := by
  show (((0#32 : BitVec 32).toInt : ℝ) : EReal) = 0
  simp

theorem gateW_at (w : FVec Ideal S2x2048x5168 .f32) (k : Fin 2048) (q : Fin 128) :
    gateW w (ix2 k q) = if h : q.val < 48 then w (ix3 1 k ⟨5120 + q.val, by omega⟩) else (0 : EReal) := by
  rw [← sitofp_zero]
  unfold gateW
  pointwise []

theorem headW_at (w : FVec Ideal S2x2048x5168 .f32) (l : Fin 2) (k : Fin 2048) (q : Fin 5120) : headW w (ix3 l k q) = w (ix3 l k ⟨q.val, by omega⟩) := by
  unfold headW
  pointwise []

theorem r1 (t : Fin cfg0.N) (k : Fin 2048) (q : Fin 1024) (j : Fin 5168) (hj : j.val = 1024 * (t.val % 5) + q.val) :
    iblk m c 1 t (ix3 0 k q) = (m ((c : Thread nD τ).loc main_arg1) : FVec Ideal S2x2048x5168 .f32) (ix3 1 k j) := by
  have e := (idx t).2.1
  have hj' : j.val < 5120 := by omega
  refine Eq.trans ?_ (headW_at (m ((c : Thread nD τ).loc main_arg1)) 1 k ⟨j.val, hj'⟩)
  show ((cfg0.win 1).blk t).view.read (Elt Ideal) (V m c main_v1) (ix3 0 k q) = _
  rw [V_v1]
  generalize headW (m ((c : Thread nD τ).loc main_arg1)) = f
  blk_point [e]

theorem r2 (t : Fin cfg0.N) (k : Fin 2048) (q : Fin 128) :
    iblk m c 2 t (ix2 k q) = gateW (m ((c : Thread nD τ).loc main_arg1)) (ix2 k q) := by
  have e := (idx t).2.2.1
  show ((cfg0.win 2).blk t).view.read (Elt Ideal) (V m c main_v5) (ix2 k q) = _
  rw [V_v5]
  generalize gateW (m ((c : Thread nD τ).loc main_arg1)) = f
  blk_point [e]

theorem out3_read (t : Fin cfg0.N) (f : Vec Ideal S4x40x4096x128 .bf16) (h : Fin 8) (r : Fin 1024) (d : Fin 128)
    (b : Fin 4) (h' : Fin 40) (s : Fin 4096) (eb : b.val = t.val / 20) (eh : h'.val = 8 * (t.val % 5) + h.val) (es : s.val = 1024 * (t.val / 5 % 4) + r.val) :
    ((cfg0.win 3).blk t).view.read (Elt Ideal) f (ix4 0 h r d) = f (ix4 b h' s d) := by
  have e := (idx t).2.2.2.1
  blk_point [e]

theorem out4_read (t : Fin cfg0.N) (f : Vec Ideal S16384x128 .f32) (r : Fin 1024) (q : Fin 128) (n : Fin 16384) (hn : n.val = 1024 * (t.val / 5) + r.val) :
    ((cfg0.win 4).blk t).view.read (Elt Ideal) f (ix2 r q) = f (ix2 n q) := by
  have e := (idx t).2.2.2.2.1
  blk_point [e]

theorem out5_read (t : Fin cfg0.N) (f : Vec Ideal S4x8x256x2048 .bf16) (h : Fin 8) (p : Fin 64) (d : Fin 2048)
    (b : Fin 4) (s : Fin 256) (eb : b.val = t.val / 20) (es : s.val = 64 * (t.val / 5 % 4) + p.val) :
    ((cfg0.win 5).blk t).view.read (Elt Ideal) f (ix4 0 h p d) = f (ix4 b h s d) := by
  have e := (idx t).2.2.2.2.2
  blk_point [e]

theorem pay157_at (x : Vec Ideal S1024x2048 .bf16) (w : Vec Ideal S2048x128 .bf16) (r : Fin 1024) (q : Fin 128) :
    k0_pay157 x w (ix2 r q) = ∑ k : Fin 2048, x (ix2 r k) * w (ix2 k q) := by
  pointwise [k0_pay157]

theorem pay159_at (x : Vec Ideal S1024x2048 .bf16) (w : Vec Ideal S1x2048x1024 .bf16) (r : Fin 1024) (q : Fin 1024) :
    k0_pay159 x w (ix2 r q) = ∑ k : Fin 2048, x (ix2 r k) * w (ix3 0 k q) := by
  pointwise [k0_pay159, k0_pay158]

/-- A point's product with its block of columns. -/
theorem z_at (t : Fin cfg0.N) (r q : Fin 1024) (n : Fin 16384) (j : Fin 5168) (hn : n.val = 1024 * (t.val / 5) + r.val) (hj : j.val = 1024 * (t.val % 5) + q.val) :
    k0_pay159 (iblk m c 0 t) (iblk m c 1 t) (ix2 r q) = prod (m ((c : Thread nD τ).loc main_arg0)) (m ((c : Thread nD τ).loc main_arg1)) n j := by
  rw [pay159_at]
  unfold prod
  simp only [r0 m c t r _ n hn, r1 m c t _ q j hj]

/-- A point's product with the gates' weights. -/
theorem g_at (t : Fin cfg0.N) (r : Fin 1024) (q : Fin 128) (n : Fin 16384) (hn : n.val = 1024 * (t.val / 5) + r.val) :
    k0_pay157 (iblk m c 0 t) (iblk m c 2 t) (ix2 r q) = gates (m ((c : Thread nD τ).loc main_arg0)) (m ((c : Thread nD τ).loc main_arg1)) n q := by
  rw [pay157_at]
  unfold gates prod
  simp only [r0 m c t r _ n hn, r2, gateW_at]
  by_cases h : q.val < 48
  · simp only [dif_pos h]
  · simp only [dif_neg h]
    exact Finset.sum_eq_zero fun k _ => mul_zero _

/-! ## What a point writes back, and the arrays block by block -/

theorem inj3 : ∀ t t' : Fin cfg0.N, win0_3.index t = win0_3.index t' → t = t' :=
  (by decide +kernel : ∀ t t' : Fin grid0.N, win0_3.index t = win0_3.index t' → t = t')
theorem inj4 : ∀ t t' : Fin cfg0.N, t.val % 5 = 4 → t'.val % 5 = 4 → win0_4.index t = win0_4.index t' → t = t' :=
  (by decide +kernel : ∀ t t' : Fin grid0.N, t.val % 5 = 4 → t'.val % 5 = 4 → win0_4.index t = win0_4.index t' → t = t')
theorem inj5 : ∀ t t' : Fin cfg0.N, t.val % 5 = 4 → t'.val % 5 = 4 → win0_5.index t = win0_5.index t' → t = t' :=
  (by decide +kernel : ∀ t t' : Fin grid0.N, t.val % 5 = 4 → t'.val % 5 = 4 → win0_5.index t = win0_5.index t' → t = t')

theorem flush3 : ∀ t : Fin cfg0.N, (cfg0.win 3).flush t = true := by decide +kernel
theorem last4 (t : Fin cfg0.N) (h : (cfg0.win 4).flush t = true) : t.val % 5 = 4 := by rw [flush4] at h; exact of_decide_eq_true h
theorem last5 (t : Fin cfg0.N) (h : (cfg0.win 5).flush t = true) : t.val % 5 = 4 := by rw [flush5] at h; exact of_decide_eq_true h

theorem blocks3 (t : Fin cfg0.N) : ((cfg0.win 3).blk t).view.read (Elt Ideal) ((dats m 0 c).arrAt 3 cfg0.N) = (dats m 0 c).flushed 3 t :=
  (dats m 0 c).read_blk_arrAt_eq_flushed 3 (fun t t' _ _ hne => (cfg0.win 3).disjoint_blk fun h => hne (inj3 t t' h)) cfg0.N t t.isLt (flush3 t)
theorem blocks4 (t : Fin cfg0.N) (h : t.val % 5 = 4) : ((cfg0.win 4).blk t).view.read (Elt Ideal) ((dats m 0 c).arrAt 4 cfg0.N) = (dats m 0 c).flushed 4 t :=
  (dats m 0 c).read_blk_arrAt_eq_flushed 4 (fun t t' hf hf' hne => (cfg0.win 4).disjoint_blk fun h => hne (inj4 t t' (last4 t hf) (last4 t' hf') h)) cfg0.N t t.isLt
    ((flush4 t).trans (decide_eq_true h))
theorem blocks5 (t : Fin cfg0.N) (h : t.val % 5 = 4) : ((cfg0.win 5).blk t).view.read (Elt Ideal) ((dats m 0 c).arrAt 5 cfg0.N) = (dats m 0 c).flushed 5 t :=
  (dats m 0 c).read_blk_arrAt_eq_flushed 5 (fun t t' hf hf' hne => (cfg0.win 5).disjoint_blk fun h => hne (inj5 t t' (last5 t hf) (last5 t' hf') h)) cfg0.N t t.isLt
    ((flush5 t).trans (decide_eq_true h))

theorem flushed3 (t : Fin cfg0.N) : (dats m 0 c).flushed 3 t = (cfg0.win 3).cut (grid0.coords t) (zBlk (iblk m c 0 t) (iblk m c 1 t)) := by
  show (cfg0.win 3).cut (grid0.coords t) ((dats m 0 c).after 3 t) = _
  rw [after0_3]
theorem flushed4 (t : Fin cfg0.N) : (dats m 0 c).flushed 4 t = (cfg0.win 4).cut (grid0.coords t) (k0_pay157 (iblk m c 0 (fst t)) (iblk m c 2 (fst t))) := by
  show (cfg0.win 4).cut (grid0.coords t) ((dats m 0 c).after 4 t) = _
  rw [after0_4]
theorem flushed5 (t : Fin cfg0.N) : (dats m 0 c).flushed 5 t = (cfg0.win 5).cut (grid0.coords t) (zcBlk (iblk m c 0 (mid t)) (iblk m c 1 (mid t))) := by
  show (cfg0.win 5).cut (grid0.coords t) ((dats m 0 c).after 5 t) = _
  rw [after0_5]

/-! ## The three results -/

/-- The heads. -/
theorem heads_at (b : Fin 4) (h : Fin 40) (s : Fin 4096) (d : Fin 128) :
    ((dats m 0 c).arrAt 3 cfg0.N : FVec Ideal S4x40x4096x128 .bf16) (ix4 b h s d)
      = prod (m ((c : Thread nD τ).loc main_arg0)) (m ((c : Thread nD τ).loc main_arg1)) ⟨4096 * b.val + s.val, by omega⟩ ⟨128 * h.val + d.val, by omega⟩ := by
  have hN : cfg0.N = 80 := N_0
  let t : Fin cfg0.N := ⟨5 * (4 * b.val + s.val / 1024) + h.val / 8, by omega⟩
  have ht : t.val = 5 * (4 * b.val + s.val / 1024) + h.val / 8 := rfl
  let r : Fin 1024 := ⟨s.val % 1024, by omega⟩
  have hr : r.val = s.val % 1024 := rfl
  let g : Fin 8 := ⟨h.val % 8, by omega⟩
  have hg : g.val = h.val % 8 := rfl
  refine (out3_read t _ g r d b h s (by omega) (by omega) (by omega)).symm.trans ((congrFun (blocks3 m c t) (ix4 0 g r d)).trans ?_)
  rw [flushed3]
  show k0_pay159 (iblk m c 0 t) (iblk m c 1 t) (ix2 r ⟨128 * g.val + d.val, _⟩) = _
  exact z_at m c t r _ _ _ (by show 4096 * b.val + s.val = _; omega) (by show 128 * h.val + d.val = 1024 * (t.val % 5) + (128 * g.val + d.val); omega)

/-- The gates' logits. -/
theorem gates_at (n : Fin 16384) (q : Fin 128) :
    ((dats m 0 c).arrAt 4 cfg0.N : FVec Ideal S16384x128 .f32) (ix2 n q) = gates (m ((c : Thread nD τ).loc main_arg0)) (m ((c : Thread nD τ).loc main_arg1)) n q := by
  have hN : cfg0.N = 80 := N_0
  let t : Fin cfg0.N := ⟨5 * (n.val / 1024) + 4, by omega⟩
  have ht : t.val = 5 * (n.val / 1024) + 4 := rfl
  let r : Fin 1024 := ⟨n.val % 1024, by omega⟩
  have hr : r.val = n.val % 1024 := rfl
  have hf : (fst t).val = 5 * (t.val / 5) := rfl
  refine (out4_read t _ r q n (by omega)).symm.trans ((congrFun (blocks4 m c t (by omega)) (ix2 r q)).trans ?_)
  rw [flushed4]
  show k0_pay157 (iblk m c 0 (fst t)) (iblk m c 2 (fst t)) (ix2 r q) = _
  exact g_at m c (fst t) r q n (by omega)

/-- The key heads, sixteen positions to a row. -/
theorem chunks_at (b : Fin 4) (h : Fin 8) (p : Fin 256) (d : Fin 2048) :
    ((dats m 0 c).arrAt 5 cfg0.N : FVec Ideal S4x8x256x2048 .bf16) (ix4 b h p d)
      = prod (m ((c : Thread nD τ).loc main_arg0)) (m ((c : Thread nD τ).loc main_arg1)) ⟨4096 * b.val + (16 * p.val + d.val / 128), by omega⟩
          ⟨128 * (16 + h.val) + d.val % 128, by omega⟩ := by
  have hN : cfg0.N = 80 := N_0
  let t : Fin cfg0.N := ⟨5 * (4 * b.val + p.val / 64) + 4, by omega⟩
  have ht : t.val = 5 * (4 * b.val + p.val / 64) + 4 := rfl
  let r : Fin 64 := ⟨p.val % 64, by omega⟩
  have hr : r.val = p.val % 64 := rfl
  have hf : (mid t).val = 5 * (t.val / 5) + 2 := rfl
  refine (out5_read t _ h r d b p (by omega) (by omega)).symm.trans ((congrFun (blocks5 m c t (by omega)) (ix4 0 h r d)).trans ?_)
  rw [flushed5]
  show k0_pay159 (iblk m c 0 (mid t)) (iblk m c 1 (mid t)) (ix2 ⟨16 * r.val + d.val / 128, _⟩ ⟨128 * h.val + d.val % 128, _⟩) = _
  exact z_at m c (mid t) _ _ _ _ (by show 4096 * b.val + (16 * p.val + d.val / 128) = 1024 * ((mid t).val / 5) + (16 * r.val + d.val / 128); omega)
    (by show 128 * (16 + h.val) + d.val % 128 = 1024 * ((mid t).val % 5) + (128 * h.val + d.val % 128); omega)

/-- The run, each result named. -/
theorem run_blocks : θ_run defs (onTc (τ := τ) (main (F := Ideal))) ⟨m, fun _ => 0, ρ⟩ fun r => ∀ c : Dev nD,
      r.2.mem ((c : Thread nD τ).loc main_v6_0) = (dats m 0 c).arrAt 3 cfg0.N
      ∧ r.2.mem ((c : Thread nD τ).loc main_v6_1) = (dats m 0 c).arrAt 4 cfg0.N
      ∧ r.2.mem ((c : Thread nD τ).loc main_v6_2) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1 3, (h c).1 4, (h c).1 5,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩)
    (run_main m ρ)

end Cert.Kernel7Ideal.Proj
end
-- ==== Proof.Calls.NsaProj.lean ====
/-
  The attention layer's projection: what the kernel leaves and what the reference computes are both the activations times
  layer 1 of the weights, laid out by head, by gate and by group of sixteen positions.
-/
module

public import proofs.«01_k».proof.Proof.Proj.Value
public import proofs.«01_k».proof.Proof.Gen.Reference7Ideal.Run
public import proofs.«01_k».proof.Defs

@[expose] public section

set_option maxHeartbeats 4000000
set_option maxRecDepth 16384
noncomputable section
open Idealize.ShloMosaic Idealize.ShloMosaic.TcCoe Idealize.SL.Sem

namespace Cert.Calls.NsaProj

open Cert.Kernel7Ideal.Proj (prod gates sitofp_zero)

section Reference
open Cert.Reference7Ideal Cert.Reference7Ideal.Gen Idealize.ShloMosaic.StableHlo

/-- The reference's product. -/
def prodT (x : FVec Ideal S16384x2048 .bf16) (w : FVec Ideal S2x2048x5168 .f32) : FVec Ideal S16384x5168 .f32 :=
  Host.dotGeneral dot_S16384x2048_S2048x5168_S16384x5168_1_0_0_1_n_n none (extf .f32 x bitsLt_bf16_f32)
    (shapeCast S2048x5168 (extractStridedSlice S1x2048x5168 ![1, 0, 0] w slices_S2x2048x5168_S1x2048x5168_1_0_0) shapeCasts_S1x2048x5168_S2048x5168)

/-- A product's first 5120 columns by head. -/
def byHead (z : FVec Ideal S16384x5168 .f32) : FVec Ideal S4x40x4096x128 .f32 :=
  transpose S4x40x4096x128 [0, 2, 1, 3] (shapeCast S4x4096x40x128 (extractStridedSlice S16384x5120 ![0, 0] z slices_S16384x5168_S16384x5120_0_0)
    shapeCasts_S16384x5120_S4x4096x40x128) transposes_S4x4096x40x128_S4x40x4096x128_0_2_1_3

/-- A product's last 48 columns, padded. -/
def byGate (z : FVec Ideal S16384x5168 .f32) : FVec Ideal S16384x128 .f32 :=
  pad S16384x128 ![0, 0] ![0, 80] ![0, 0] (extractStridedSlice S16384x48 ![0, 5120] z slices_S16384x5168_S16384x48_0_5120)
    (sitofp .f32 (constantI S_ 32 0#32)) pads_S16384x48_S16384x128_000_0800 h_S_

/-- Heads 16 to 23, sixteen positions to a row. -/
def byGroup (y : FVec Ideal S4x40x4096x128 .f32) : FVec Ideal S4x8x256x2048 .f32 :=
  shapeCast S4x8x256x2048 (extractStridedSlice S4x8x4096x128 ![0, 16, 0, 0] y slices_S4x40x4096x128_S4x8x4096x128_0_16_0_0) shapeCasts_S4x8x4096x128_S4x8x256x2048

theorem prodT_at (x : FVec Ideal S16384x2048 .bf16) (w : FVec Ideal S2x2048x5168 .f32) (n : Fin 16384) (q : Fin 5168) :
    prodT x w (ix2 n q) = prod x w n q := by
  unfold prodT prod
  pointwise []

theorem byHead_at (z : FVec Ideal S16384x5168 .f32) (b : Fin 4) (h : Fin 40) (s : Fin 4096) (d : Fin 128) :
    byHead z (ix4 b h s d) = z (ix2 ⟨4096 * b.val + s.val, by omega⟩ ⟨128 * h.val + d.val, by omega⟩) := by
  unfold byHead
  pointwise []
  exact congrArg z (congrArg₂ ix2 (Fin.ext (by show b.val * 4096 + s.val = 4096 * b.val + s.val; omega)) (Fin.ext (by show h.val * 128 + d.val = 128 * h.val + d.val; omega)))

theorem byGate_at (z : FVec Ideal S16384x5168 .f32) (n : Fin 16384) (q : Fin 128) :
    byGate z (ix2 n q) = if h : q.val < 48 then z (ix2 n ⟨5120 + q.val, by omega⟩) else (0 : EReal) := by
  rw [← sitofp_zero]
  unfold byGate
  pointwise []

theorem byGroup_at (y : FVec Ideal S4x40x4096x128 .f32) (b : Fin 4) (h : Fin 8) (p : Fin 256) (d : Fin 2048) :
    byGroup y (ix4 b h p d) = y (ix4 b ⟨16 + h.val, by omega⟩ ⟨16 * p.val + d.val / 128, by omega⟩ ⟨d.val % 128, by omega⟩) := by
  unfold byGroup
  pointwise []
  exact congrArg (fun n => y (ix4 b ⟨16 + h.val, by omega⟩ n ⟨d.val % 128, by omega⟩))
    (Fin.ext (by show p.val * 16 + d.val / 128 = 16 * p.val + d.val / 128; omega) : (⟨p.val * 16 + d.val / 128, by omega⟩ : Fin 4096) = ⟨16 * p.val + d.val / 128, by omega⟩)

theorem heads_at (x : FVec Ideal S16384x2048 .bf16) (w : FVec Ideal S2x2048x5168 .f32) (b : Fin 4) (h : Fin 40) (s : Fin 4096) (d : Fin 128) :
    (truncf .bf16 (byHead (prodT x w)) bitsLt_bf16_f32 : FVec Ideal S4x40x4096x128 .bf16) (ix4 b h s d)
      = prod x w ⟨4096 * b.val + s.val, by omega⟩ ⟨128 * h.val + d.val, by omega⟩ :=
  (byHead_at _ b h s d).trans (prodT_at x w _ _)

theorem gates_at (x : FVec Ideal S16384x2048 .bf16) (w : FVec Ideal S2x2048x5168 .f32) (n : Fin 16384) (q : Fin 128) :
    byGate (prodT x w) (ix2 n q) = gates x w n q := by
  rw [byGate_at]
  unfold gates
  simp only [prodT_at]

theorem chunks_at (x : FVec Ideal S16384x2048 .bf16) (w : FVec Ideal S2x2048x5168 .f32) (b : Fin 4) (h : Fin 8) (p : Fin 256) (d : Fin 2048) :
    (truncf .bf16 (byGroup (byHead (prodT x w))) bitsLt_bf16_f32 : FVec Ideal S4x8x256x2048 .bf16) (ix4 b h p d)
      = prod x w ⟨4096 * b.val + (16 * p.val + d.val / 128), by omega⟩ ⟨128 * (16 + h.val) + d.val % 128, by omega⟩ :=
  (byGroup_at _ b h p d).trans ((byHead_at _ b _ _ _).trans (prodT_at x w _ _))

end Reference

theorem ix2_eq {n k : ℕ} (i : (⟨2, ![n, k]⟩ : Shape).Idx) : i = ix2 (i 0 : Fin n) (i 1 : Fin k) := by
  funext a
  match a with
  | 0 => rfl
  | 1 => rfl

theorem ix4_eq {n k l j : ℕ} (i : (⟨4, ![n, k, l, j]⟩ : Shape).Idx) : i = ix4 (i 0 : Fin n) (i 1 : Fin k) (i 2 : Fin l) (i 3 : Fin j) := by
  funext a
  match a with
  | 0 => rfl
  | 1 => rfl
  | 2 => rfl
  | 3 => rfl

/-- The claim. -/
theorem same : @Cert.algebraic_Kernel7Ideal_Reference7Ideal Cert.Kernel7Ideal.Gen.facts Cert.Reference7Ideal.Gen.facts := by
  intro m g m' g' _ heq
  refine ⟨fun c => (Cert.Kernel7Ideal.Proj.dats m 0 c).arrAt 3 Cert.Kernel7Ideal.cfg0.N, fun c => (Cert.Kernel7Ideal.Proj.dats m 0 c).arrAt 4 Cert.Kernel7Ideal.cfg0.N,
    fun c => (Cert.Kernel7Ideal.Proj.dats m 0 c).arrAt 5 Cert.Kernel7Ideal.cfg0.N, Cert.Kernel7Ideal.Proj.run_blocks m g, ?_⟩
  refine (θ_run Cert.Reference7Ideal.defs _ _).mono (fun r h c => ⟨(h c).1.trans ?_, (h c).2.1.trans ?_, (h c).2.2.1.trans ?_, (h c).2.2.2⟩)
    (Cert.Reference7Ideal.Value.run (F := Ideal) m' g')
  · obtain ⟨h0, h1⟩ := heq c
    rw [h0, h1]
    funext i
    refine (congrArg _ (ix4_eq i)).trans ((heads_at _ _ (i 0) (i 1) (i 2) (i 3)).trans ?_)
    exact (Cert.Kernel7Ideal.Proj.heads_at m c (i 0) (i 1) (i 2) (i 3)).symm.trans
      (congrArg ((Cert.Kernel7Ideal.Proj.dats m 0 c).arrAt 3 Cert.Kernel7Ideal.cfg0.N) (ix4_eq i).symm)
  · obtain ⟨h0, h1⟩ := heq c
    rw [h0, h1]
    funext i
    refine (congrArg _ (ix2_eq i)).trans ((gates_at _ _ (i 0) (i 1)).trans ?_)
    exact (Cert.Kernel7Ideal.Proj.gates_at m c (i 0) (i 1)).symm.trans
      (congrArg ((Cert.Kernel7Ideal.Proj.dats m 0 c).arrAt 4 Cert.Kernel7Ideal.cfg0.N) (ix2_eq i).symm)
  · obtain ⟨h0, h1⟩ := heq c
    rw [h0, h1]
    funext i
    refine (congrArg _ (ix4_eq i)).trans ((chunks_at _ _ (i 0) (i 1) (i 2) (i 3)).trans ?_)
    exact (Cert.Kernel7Ideal.Proj.chunks_at m c (i 0) (i 1) (i 2) (i 3)).symm.trans
      (congrArg ((Cert.Kernel7Ideal.Proj.dats m 0 c).arrAt 5 Cert.Kernel7Ideal.cfg0.N) (ix4_eq i).symm)

end Cert.Calls.NsaProj
end
-- ==== Proof.Proj.Machine.lean ====
/-
  The frame of the attention projection's kernel over floats as bit patterns: its program is the one whose run over any
  floats is already known.
-/
module

public import proofs.«01_k».proof.Proof.Proj.Frame
public import proofs.«01_k».proof.Proof.Gen.Kernel7
public import proofs.«01_k».proof.Proof.Gen.Kernel7.Launch
public import proofs.«01_k».proof.Defs

@[expose] public section

set_option maxRecDepth 16384
set_option maxHeartbeats 4000000
noncomputable section
open Idealize.ShloMosaic Idealize.SL.Sem

namespace Cert.Kernel7Ideal.Proj

/-- The two programs have one kernel body. -/
theorem bodies : @Cert.Kernel7.defs₀ Bits _ Cert.Kernel7.Gen.facts = @Cert.Kernel7Ideal.defs₀ Bits _ Cert.Kernel7Ideal.Gen.facts := by
  refine congrArg Defs.onTc (funext fun k => ?_)
  match k with
  | 0 => rfl

/-- So their tables of functions are one. -/
theorem tables : @Cert.Kernel7.defs Bits _ Cert.Kernel7.Gen.facts = @Cert.Kernel7Ideal.defs Bits _ Cert.Kernel7Ideal.Gen.facts :=
  congrArg (Pipeline.defs (Cert.Kernel7Ideal.pcfgs (F := Bits))) bodies

/-- The frame, from the run over any floats. -/
theorem machine_frame : @Cert.quiescent_Kernel7 Cert.Kernel7.Gen.facts := by
  intro m ρ _
  rw [tables]
  exact frame (F := Bits) m ρ

end Cert.Kernel7Ideal.Proj
end
-- ==== Proof.Compress.Windows.lean ====
/-
  The compression's arguments as its blocks hold them: sixteen positions of a head joined to a row, the positions' offsets
  and the two weights by half, keys and values one after the other.
-/
module

public import proofs.«01_k».proof.Proof.Gen.Kernel6Ideal.Frame
public import Idealize.ShloMosaic.Lib.Pointwise
public import Idealize.ShloMosaic.Lib.Pipeline.Value
public import Idealize.ShloMosaic.Lib.Pipeline.ValueKit

@[expose] public section

set_option maxHeartbeats 4000000
set_option maxRecDepth 16384
noncomputable section
open Idealize.ShloMosaic Idealize.ShloMosaic.TcCoe Idealize.SL.Sem

namespace Cert.Kernel6Ideal.Compress

open Cert.Kernel6Ideal Cert.Kernel6Ideal.Gen

variable (m : (ℓ : Loc nD τ sig) → Buf (Elt Ideal) ℓ) (ρ : Dev nD → PrngReg) (c : Dev nD)

/-! ## The arrays the host prepares -/

/-- The heads of the keys, then those of the values. -/
def catT (y z : FVec Ideal S4x4096x4x128 .f32) : FVec Ideal S4x4096x8x128 .f32 :=
  concatenate S4x4096x8x128 2 [⟨S4x4096x4x128, y⟩, ⟨S4x4096x4x128, z⟩] concatenates_S4x4096x4x128_S4x4096x4x128_S4x4096x8x128_d2

/-- Heads outermost, sixteen positions to a row. -/
def rowsT (x : FVec Ideal S4x4096x8x128 .f32) : FVec Ideal S4x8x256x2048 .bf16 :=
  truncf .bf16 (shapeCast S4x8x256x2048 (transpose S4x8x4096x128 [0, 2, 1, 3] x transposes_S4x4096x8x128_S4x8x4096x128_0_2_1_3)
    shapeCasts_S4x8x4096x128_S4x8x256x2048) bitsLt_bf16_f32

/-- The offsets, sixteen positions to a row. -/
def posT (p q : FVec Ideal S32x128 .f32) : FVec Ideal S2x2x1x2048 .f32 :=
  shapeCast S2x2x1x2048 (concatenate S2x32x128 0 [⟨S1x32x128, broadcastInDim S1x32x128 ![1, 2] bcast_S32x128_S1x32x128_1_2 p⟩,
    ⟨S1x32x128, broadcastInDim S1x32x128 ![1, 2] bcast_S32x128_S1x32x128_1_2 q⟩] concatenates_S1x32x128_S1x32x128_S2x32x128_d0) shapeCasts_S2x32x128_S2x2x1x2048

/-- The first weights, sixteen positions to a row. -/
def upT (v w : FVec Ideal S32x128x512 .f32) : FVec Ideal S2x2x2048x512 .bf16 :=
  truncf .bf16 (shapeCast S2x2x2048x512 (concatenate S2x32x128x512 0 [⟨S1x32x128x512, broadcastInDim S1x32x128x512 ![1, 2, 3] bcast_S32x128x512_S1x32x128x512_1_2_3 v⟩,
    ⟨S1x32x128x512, broadcastInDim S1x32x128x512 ![1, 2, 3] bcast_S32x128x512_S1x32x128x512_1_2_3 w⟩] concatenates_S1x32x128x512_S1x32x128x512_S2x32x128x512_d0)
    shapeCasts_S2x32x128x512_S2x2x2048x512) bitsLt_bf16_f32

/-- The second weights. -/
def downT (v w : FVec Ideal S512x128 .f32) : FVec Ideal S2x512x128 .bf16 :=
  truncf .bf16 (concatenate S2x512x128 0 [⟨S1x512x128, broadcastInDim S1x512x128 ![1, 2] bcast_S512x128_S1x512x128_1_2 v⟩,
    ⟨S1x512x128, broadcastInDim S1x512x128 ![1, 2] bcast_S512x128_S1x512x128_1_2 w⟩] concatenates_S1x512x128_S1x512x128_S2x512x128_d0) bitsLt_bf16_f32

theorem V_rows : V m c main_v3 = rowsT (catT (m ((c : Thread nD τ).loc main_arg0)) (m ((c : Thread nD τ).loc main_arg1))) := by
  unfold V V0 rowsT catT
  simp only [hostOps0, List.flatten_cons, List.flatten_nil, List.append_nil, List.cons_append, List.nil_append]
  after_results <;> rfl

theorem V_pos : V m c main_v7 = posT (m ((c : Thread nD τ).loc main_arg2)) (m ((c : Thread nD τ).loc main_arg5)) := by
  unfold V V0 posT
  simp only [hostOps0, List.flatten_cons, List.flatten_nil, List.append_nil, List.cons_append, List.nil_append]
  after_results <;> rfl

theorem V_up : V m c main_v12 = upT (m ((c : Thread nD τ).loc main_arg3)) (m ((c : Thread nD τ).loc main_arg6)) := by
  unfold V V0 upT
  simp only [hostOps0, List.flatten_cons, List.flatten_nil, List.append_nil, List.cons_append, List.nil_append]
  after_results <;> rfl

theorem V_down : V m c main_v16 = downT (m ((c : Thread nD τ).loc main_arg4)) (m ((c : Thread nD τ).loc main_arg7)) := by
  unfold V V0 downT
  simp only [hostOps0, List.flatten_cons, List.flatten_nil, List.append_nil, List.cons_append, List.nil_append]
  after_results <;> rfl

/-! ## Their entries, of the keys and of the values -/

theorem cat_k (y z : FVec Ideal S4x4096x4x128 .f32) (b g : Fin 4) (s : Fin 4096) (d : Fin 128) :
    catT y z (ix4 b s ⟨g.val, by omega⟩ d) = y (ix4 b s g d) := by
  unfold catT
  pointwise []

theorem cat_v (y z : FVec Ideal S4x4096x4x128 .f32) (b g : Fin 4) (s : Fin 4096) (d : Fin 128) :
    catT y z (ix4 b s ⟨4 + g.val, by omega⟩ d) = z (ix4 b s g d) := by
  unfold catT
  pointwise []

theorem rows_at (x : FVec Ideal S4x4096x8x128 .f32) (b : Fin 4) (h : Fin 8) (n : Fin 256) (k : Fin 2048) :
    rowsT x (ix4 b h n k) = x (ix4 b ⟨16 * n.val + k.val / 128, by omega⟩ h ⟨k.val % 128, by omega⟩) := by
  unfold rowsT
  pointwise []
  exact congrArg (fun s => x (ix4 b s h ⟨k.val % 128, by omega⟩))
    (Fin.ext (by show n.val * 16 + k.val / 128 = 16 * n.val + k.val / 128; omega) : (⟨n.val * 16 + k.val / 128, by omega⟩ : Fin 4096) = ⟨16 * n.val + k.val / 128, by omega⟩)

theorem pos_k (p q : FVec Ideal S32x128 .f32) (h : Fin 2) (k : Fin 2048) :
    posT p q (ix4 0 h 0 k) = p (ix2 ⟨16 * h.val + k.val / 128, by omega⟩ ⟨k.val % 128, by omega⟩) := by
  unfold posT
  pointwise []
  exact congrArg (fun a => p (ix2 a ⟨k.val % 128, by omega⟩))
    (Fin.ext (by show h.val * 16 + k.val / 128 = 16 * h.val + k.val / 128; omega) : (⟨h.val * 16 + k.val / 128, by omega⟩ : Fin 32) = ⟨16 * h.val + k.val / 128, by omega⟩)

theorem pos_v (p q : FVec Ideal S32x128 .f32) (h : Fin 2) (k : Fin 2048) :
    posT p q (ix4 1 h 0 k) = q (ix2 ⟨16 * h.val + k.val / 128, by omega⟩ ⟨k.val % 128, by omega⟩) := by
  unfold posT
  pointwise []
  exact congrArg (fun a => q (ix2 a ⟨k.val % 128, by omega⟩))
    (Fin.ext (by show h.val * 16 + k.val / 128 = 16 * h.val + k.val / 128; omega) : (⟨h.val * 16 + k.val / 128, by omega⟩ : Fin 32) = ⟨16 * h.val + k.val / 128, by omega⟩)

theorem up_k (v w : FVec Ideal S32x128x512 .f32) (h : Fin 2) (k : Fin 2048) (f : Fin 512) :
    upT v w (ix4 0 h k f) = v (ix3 ⟨16 * h.val + k.val / 128, by omega⟩ ⟨k.val % 128, by omega⟩ f) := by
  unfold upT
  pointwise []
  exact congrArg (fun a => v (ix3 a ⟨k.val % 128, by omega⟩ f))
    (Fin.ext (by show h.val * 16 + k.val / 128 = 16 * h.val + k.val / 128; omega) : (⟨h.val * 16 + k.val / 128, by omega⟩ : Fin 32) = ⟨16 * h.val + k.val / 128, by omega⟩)

theorem up_v (v w : FVec Ideal S32x128x512 .f32) (h : Fin 2) (k : Fin 2048) (f : Fin 512) :
    upT v w (ix4 1 h k f) = w (ix3 ⟨16 * h.val + k.val / 128, by omega⟩ ⟨k.val % 128, by omega⟩ f) := by
  unfold upT
  pointwise []
  exact congrArg (fun a => w (ix3 a ⟨k.val % 128, by omega⟩ f))
    (Fin.ext (by show h.val * 16 + k.val / 128 = 16 * h.val + k.val / 128; omega) : (⟨h.val * 16 + k.val / 128, by omega⟩ : Fin 32) = ⟨16 * h.val + k.val / 128, by omega⟩)

theorem down_k (v w : FVec Ideal S512x128 .f32) (f : Fin 512) (d : Fin 128) : downT v w (ix3 0 f d) = v (ix2 f d) := by
  unfold downT
  pointwise []

theorem down_v (v w : FVec Ideal S512x128 .f32) (f : Fin 512) (d : Fin 128) : downT v w (ix3 1 f d) = w (ix2 f d) := by
  unfold downT
  pointwise []

end Cert.Kernel6Ideal.Compress
end
-- ==== Proof.Compress.Places.lean ====
/-
  Where the compression's windows read and write.
-/
module

public import proofs.«01_k».proof.Proof.Gen.Kernel6Ideal.Frame
public import Idealize.ShloMosaic.Lib.Pointwise
public import Idealize.ShloMosaic.Lib.Pipeline.Value
public import Idealize.ShloMosaic.Lib.Pipeline.ValueKit

@[expose] public section

set_option maxHeartbeats 4000000
set_option maxRecDepth 16384
noncomputable section
open Idealize.ShloMosaic Idealize.ShloMosaic.TcCoe Idealize.SL.Sem

namespace Cert.Kernel6Ideal.Compress

open Cert.Kernel6Ideal Cert.Kernel6Ideal.Gen

/-- Where the windows' blocks lie. -/
theorem idx : ∀ t : Fin cfg0.N, win0_0.index t = ![t.val / 4 % 4, 4 * (t.val / 16) + t.val % 4, 0, 0] ∧ win0_1.index t = ![t.val / 16, 0, 0, 0]
    ∧ win0_2.index t = ![t.val / 16, 0, 0, 0] ∧ win0_3.index t = ![t.val / 16, 0, 0] ∧ win0_4.index t = ![t.val / 16, t.val / 4 % 4, t.val % 4, 0, 0] :=
  (by decide +kernel : ∀ t : Fin grid0.N, _)

theorem read0 (t : Fin cfg0.N) (x : Vec Ideal S4x8x256x2048 .bf16) (n : Fin 256) (k : Fin 2048) (b : Fin 4) (h : Fin 8) (hb : b.val = t.val / 4 % 4)
    (hh : h.val = 4 * (t.val / 16) + t.val % 4) : ((cfg0.win 0).blk t).view.read (Elt Ideal) x (ix4 0 0 n k) = x (ix4 b h n k) := by
  have e := (idx t).1
  blk_point [e]

theorem read1 (t : Fin cfg0.N) (x : Vec Ideal S2x2x1x2048 .f32) (h : Fin 2) (k : Fin 2048) (a : Fin 2) (ha : a.val = t.val / 16) :
    ((cfg0.win 1).blk t).view.read (Elt Ideal) x (ix4 0 h 0 k) = x (ix4 a h 0 k) := by
  have e := (idx t).2.1
  blk_point [e]

theorem read2 (t : Fin cfg0.N) (x : Vec Ideal S2x2x2048x512 .bf16) (h : Fin 2) (k : Fin 2048) (f : Fin 512) (a : Fin 2) (ha : a.val = t.val / 16) :
    ((cfg0.win 2).blk t).view.read (Elt Ideal) x (ix4 0 h k f) = x (ix4 a h k f) := by
  have e := (idx t).2.2.1
  blk_point [e]

theorem read3 (t : Fin cfg0.N) (x : Vec Ideal S2x512x128 .bf16) (f : Fin 512) (d : Fin 128) (a : Fin 2) (ha : a.val = t.val / 16) :
    ((cfg0.win 3).blk t).view.read (Elt Ideal) x (ix3 0 f d) = x (ix3 a f d) := by
  have e := (idx t).2.2.2.1
  blk_point [e]

theorem read4 (t : Fin cfg0.N) (f : Vec Ideal S2x4x4x256x128 .bf16) (n : Fin 256) (d : Fin 128)
    (a : Fin 2) (b g : Fin 4) (ha : a.val = t.val / 16) (hb : b.val = t.val / 4 % 4) (hg : g.val = t.val % 4) :
    ((cfg0.win 4).blk t).view.read (Elt Ideal) f (ix5 0 0 0 n d) = f (ix5 a b g n d) := by
  have e := (idx t).2.2.2.2
  blk_point [e]

theorem inj4 : ∀ t t' : Fin cfg0.N, win0_4.index t = win0_4.index t' → t = t' :=
  (by decide +kernel : ∀ t t' : Fin grid0.N, win0_4.index t = win0_4.index t' → t = t')

end Cert.Kernel6Ideal.Compress
end
-- ==== Proof.Compress.Spec.lean ====
/-
  The compression of keys or values: blocks of 32 positions, sixteen apart, each with its offsets added, through two
  products with a gelu between them. A block's sum over 32 positions is the sum over its two halves.
-/
module

public import proofs.«01_k».proof.Proof.Gen.Kernel6Ideal.Skeleton
public import Idealize.ShloMosaic.Lib.Pointwise

@[expose] public section

noncomputable section
open Idealize.ShloMosaic Idealize.ShloMosaic.TcCoe

namespace Cert.Kernel6Ideal.Compress

open Cert.Kernel6Ideal

/-- jax's gelu by tanh, with its constants as they are rounded. -/
def gelu (x : EReal) : EReal :=
  x * (Scalar.ofBits (F := Ideal) .f32 0x3F000000#32 * (Scalar.ofBits (F := Ideal) .f32 0x3F800000#32
    + Ideal.tanh (Scalar.ofBits (F := Ideal) .f32 0x3F4C422A#32 * (x + Scalar.ofBits (F := Ideal) .f32 0x3D372713#32 * (x * x * x)))))

/-- A position's component with its offset, times the first weight. -/
def term (y : FVec Ideal S4x4096x4x128 .f32) (p : FVec Ideal S32x128 .f32) (w : FVec Ideal S32x128x512 .f32)
    (b : Fin 4) (g : Fin 4) (n : Fin 255) (f : Fin 512) (l : Fin 32) (d : Fin 128) : EReal :=
  (y (ix4 b ⟨16 * n.val + l.val, by omega⟩ g d) + p (ix2 l d)) * w (ix3 l d f)

/-- Hidden unit `f` of block `n` of a head. -/
def units (y : FVec Ideal S4x4096x4x128 .f32) (p : FVec Ideal S32x128 .f32) (w : FVec Ideal S32x128x512 .f32)
    (b : Fin 4) (g : Fin 4) (n : Fin 255) (f : Fin 512) : EReal :=
  ∑ l : Fin 32, ∑ d : Fin 128, term y p w b g n f l d

/-- Component `d` of block `n` of a head. -/
def entry (y : FVec Ideal S4x4096x4x128 .f32) (p : FVec Ideal S32x128 .f32) (w : FVec Ideal S32x128x512 .f32) (v : FVec Ideal S512x128 .f32)
    (b : Fin 4) (g : Fin 4) (n : Fin 255) (d : Fin 128) : EReal :=
  ∑ f : Fin 512, gelu (units y p w b g n f) * v (ix2 f d)

theorem sum_rows (G : Fin 16 → Fin 128 → EReal) :
    ∑ k : Fin 2048, G ⟨k.val / 128, by omega⟩ ⟨k.val % 128, by omega⟩ = ∑ l : Fin 16, ∑ d : Fin 128, G l d := by
  rw [← Fintype.sum_prod_type' G]
  exact Fintype.sum_equiv (finProdFinEquiv (m := 16) (n := 128)).symm _ _ (fun k => rfl)

theorem sum_halves (G : Fin 32 → Fin 128 → EReal) :
    ∑ l : Fin 32, ∑ d : Fin 128, G l d
      = ∑ k : Fin 2048, G ⟨k.val / 128, by omega⟩ ⟨k.val % 128, by omega⟩
        + ∑ k : Fin 2048, G ⟨16 + k.val / 128, by omega⟩ ⟨k.val % 128, by omega⟩ := by
  rw [sum_rows (fun l d => G ⟨l.val, by omega⟩ d), sum_rows (fun l d => G ⟨16 + l.val, by omega⟩ d)]
  exact Fin.sum_univ_add (a := 16) (b := 16) (fun l => ∑ d : Fin 128, G l d)

end Cert.Kernel6Ideal.Compress
end
-- ==== Proof.Compress.Block.lean ====
/-
  A point of the compression: a head's 256 blocks, of which the last one wraps round to the first row.
-/
module

public import proofs.«01_k».proof.Proof.Gen.Kernel6Ideal.Frame
public import proofs.«01_k».proof.Proof.Compress.Spec
public import Idealize.ShloMosaic.Lib.Pointwise
public import Idealize.ShloMosaic.Lib.Pipeline.Value
public import Idealize.ShloMosaic.Lib.Pipeline.ValueKit

@[expose] public section

set_option maxHeartbeats 4000000
set_option maxRecDepth 16384
noncomputable section
open Idealize.ShloMosaic Idealize.ShloMosaic.TcCoe Idealize.SL.Sem

namespace Cert.Kernel6Ideal.Compress

open Cert.Kernel6Ideal Cert.Kernel6Ideal.Gen

/-- The hidden units: a row's product with the first half of the weights, and the next row's with the second. -/
theorem pay2_at (x : Vec Ideal S1x1x256x2048 .bf16) (p q : Vec Ideal S1x1x1x2048 .f32) (v w : Vec Ideal S1x1x2048x512 .bf16) (r s : Fin 256) (hs : s.val = r.val + 1) (f : Fin 512) :
    k0_pay2 x p q v w (ix2 r f) = (∑ k : Fin 2048, (x (ix4 0 0 r k) + p (ix4 0 0 0 k)) * v (ix4 0 0 k f) : EReal)
      + ∑ k : Fin 2048, (x (ix4 0 0 s k) + q (ix4 0 0 0 k)) * w (ix4 0 0 k f) := by
  pointwise [k0_pay2]
  have e : (⟨(r.val + 256 - 255) % 256, by omega⟩ : Fin 256) = s := Fin.ext (by show (r.val + 256 - 255) % 256 = s.val; omega)
  rw [e]

theorem pay3_at (x : Vec Ideal S1x1x256x2048 .bf16) (p q : Vec Ideal S1x1x1x2048 .f32) (v w : Vec Ideal S1x1x2048x512 .bf16) (r : Fin 256) (f : Fin 512)
    (z : EReal) (hz : k0_pay2 x p q v w (ix2 r f) = z) :
    k0_pay3 x p q v w (ix2 r f) = Scalar.ofBits (F := Ideal) .f32 0x3F800000#32
      + Ideal.tanh (Scalar.ofBits (F := Ideal) .f32 0x3F4C422A#32 * (z + Scalar.ofBits (F := Ideal) .f32 0x3D372713#32 * (z * z * z))) := by
  subst hz
  unfold k0_pay3
  generalize k0_pay2 x p q v w = y
  pointwise []

theorem pay1_at (y z : FVec Ideal S256x512 .f32) (w : Vec Ideal S1x512x128 .bf16) (r : Fin 256) (d : Fin 128) :
    k0_pay1 y z w (ix5 0 0 0 r d) = ∑ f : Fin 512, y (ix2 r f) * (Scalar.ofBits (F := Ideal) .f32 0x3F000000#32 * z (ix2 r f)) * w (ix3 0 f d) := by
  pointwise [k0_pay1]

theorem ld1 (x : Vec Ideal S1x2x1x2048 .f32) (k : Fin 2048) : View.ld x r0_1 (ix4 0 0 0 k) = x (ix4 0 0 0 k) := by
  refine congrArg x ?_
  funext a; apply Fin.ext
  match a with
  | 0 => rfl
  | 1 => rfl
  | 2 => rfl
  | 3 => show 0 + 1 * k.val = k.val; omega
theorem ld2 (x : Vec Ideal S1x2x1x2048 .f32) (k : Fin 2048) : View.ld x r0_2 (ix4 0 0 0 k) = x (ix4 0 1 0 k) := by
  refine congrArg x ?_
  funext a; apply Fin.ext
  match a with
  | 0 => rfl
  | 1 => rfl
  | 2 => rfl
  | 3 => show 0 + 1 * k.val = k.val; omega
theorem ld3 (x : Vec Ideal S1x2x2048x512 .bf16) (k : Fin 2048) (f : Fin 512) : View.ld x r0_3 (ix4 0 0 k f) = x (ix4 0 0 k f) := by
  refine congrArg x ?_
  funext a; apply Fin.ext
  match a with
  | 0 => rfl
  | 1 => rfl
  | 2 => show 0 + 1 * k.val = k.val; omega
  | 3 => show 0 + 1 * f.val = f.val; omega
theorem ld4 (x : Vec Ideal S1x2x2048x512 .bf16) (k : Fin 2048) (f : Fin 512) : View.ld x r0_4 (ix4 0 0 k f) = x (ix4 0 1 k f) := by
  refine congrArg x ?_
  funext a; apply Fin.ext
  match a with
  | 0 => rfl
  | 1 => rfl
  | 2 => show 0 + 1 * k.val = k.val; omega
  | 3 => show 0 + 1 * f.val = f.val; omega

theorem out_pay (x : Vec Ideal S1x1x256x2048 .bf16) (p : Vec Ideal S1x2x1x2048 .f32) (u : Vec Ideal S1x2x2048x512 .bf16) (w : Vec Ideal S1x512x128 .bf16) :
    out0_4 x p u w = k0_pay1 (k0_pay2 x (View.ld p r0_1) (View.ld p r0_2) (View.ld u r0_3) (View.ld u r0_4))
      (k0_pay3 x (View.ld p r0_1) (View.ld p r0_2) (View.ld u r0_3) (View.ld u r0_4)) w := by
  unfold out0_4
  rw [View.canon_unit_zero (by funext a; match a with | 0 => rfl | 1 => rfl | 2 => rfl | 3 => rfl | 4 => rfl),
    View.ld_unit_zero (S := S1x1x256x2048) (by funext a; match a with | 0 => rfl | 1 => rfl | 2 => rfl | 3 => rfl),
    View.ld_unit_zero (S := S1x512x128) (by funext a; match a with | 0 => rfl | 1 => rfl | 2 => rfl)]

/-- A point's entry, from the blocks' entries: keys or values are what the blocks are cut from. -/
theorem out_at (x : Vec Ideal S1x1x256x2048 .bf16) (p : Vec Ideal S1x2x1x2048 .f32) (u : Vec Ideal S1x2x2048x512 .bf16) (w : Vec Ideal S1x512x128 .bf16)
    (y : FVec Ideal S4x4096x4x128 .f32) (p' : FVec Ideal S32x128 .f32) (u' : FVec Ideal S32x128x512 .f32) (w' : FVec Ideal S512x128 .f32) (b g : Fin 4)
    (hx : ∀ (n : Fin 256) (k : Fin 2048), x (ix4 0 0 n k) = y (ix4 b ⟨16 * n.val + k.val / 128, by omega⟩ g ⟨k.val % 128, by omega⟩))
    (hp : ∀ (h : Fin 2) (k : Fin 2048), p (ix4 0 h 0 k) = p' (ix2 ⟨16 * h.val + k.val / 128, by omega⟩ ⟨k.val % 128, by omega⟩))
    (hu : ∀ (h : Fin 2) (k : Fin 2048) (f : Fin 512), u (ix4 0 h k f) = u' (ix3 ⟨16 * h.val + k.val / 128, by omega⟩ ⟨k.val % 128, by omega⟩ f))
    (hw : ∀ (f : Fin 512) (d : Fin 128), w (ix3 0 f d) = w' (ix2 f d))
    (n : Fin 255) (d : Fin 128) :
    out0_4 x p u w (ix5 0 0 0 ⟨n.val, by omega⟩ d) = entry y p' u' w' b g n d := by
  have hh : ∀ f : Fin 512, k0_pay2 x (View.ld p r0_1) (View.ld p r0_2) (View.ld u r0_3) (View.ld u r0_4) (ix2 ⟨n.val, by omega⟩ f) = units y p' u' b g n f := by
    intro f
    rw [pay2_at _ _ _ _ _ ⟨n.val, by omega⟩ ⟨n.val + 1, by omega⟩ rfl f]
    unfold units
    rw [sum_halves]
    refine congrArg₂ (· + ·) (Finset.sum_congr rfl fun k _ => ?_) (Finset.sum_congr rfl fun k _ => ?_)
    · have e : (⟨16 * (0 : Fin 2).val + k.val / 128, by show 16 * 0 + _ < 32; omega⟩ : Fin 32) = ⟨k.val / 128, by omega⟩ := Fin.ext (by show 16 * 0 + k.val / 128 = k.val / 128; omega)
      exact congrArg₂ (· * ·) (congrArg₂ (· + ·) (hx _ k) ((ld1 p k).trans ((hp 0 k).trans (congrArg (fun a => p' (ix2 a ⟨k.val % 128, by omega⟩)) e))))
        ((ld3 u k f).trans ((hu 0 k f).trans (congrArg (fun a => u' (ix3 a ⟨k.val % 128, by omega⟩ f)) e)))
    · have e : (⟨16 * (1 : Fin 2).val + k.val / 128, by show 16 * 1 + _ < 32; omega⟩ : Fin 32) = ⟨16 + k.val / 128, by omega⟩ := Fin.ext (by show 16 * 1 + k.val / 128 = 16 + k.val / 128; omega)
      have e' : (⟨16 * (n.val + 1) + k.val / 128, by omega⟩ : Fin 4096) = ⟨16 * n.val + (16 + k.val / 128), by omega⟩ := Fin.ext (by show 16 * (n.val + 1) + k.val / 128 = 16 * n.val + (16 + k.val / 128); omega)
      exact congrArg₂ (· * ·) (congrArg₂ (· + ·) ((hx _ k).trans (congrArg (fun a => y (ix4 b a g ⟨k.val % 128, by omega⟩)) e'))
          ((ld2 p k).trans ((hp 1 k).trans (congrArg (fun a => p' (ix2 a ⟨k.val % 128, by omega⟩)) e))))
        ((ld4 u k f).trans ((hu 1 k f).trans (congrArg (fun a => u' (ix3 a ⟨k.val % 128, by omega⟩ f)) e)))
  rw [out_pay, pay1_at]
  unfold entry gelu
  refine Finset.sum_congr rfl fun f _ => ?_
  rw [pay3_at _ _ _ _ _ _ f _ (hh f), hh f, hw]

end Cert.Kernel6Ideal.Compress
end
-- ==== Proof.Compress.Value.lean ====
/-
  What the compression leaves: 255 blocks of every head, of the keys and of the values.
-/
module

public import proofs.«01_k».proof.Proof.Compress.Windows
public import proofs.«01_k».proof.Proof.Compress.Places
public import proofs.«01_k».proof.Proof.Compress.Block

@[expose] public section

set_option maxHeartbeats 4000000
set_option maxRecDepth 16384
noncomputable section
open Idealize.ShloMosaic Idealize.ShloMosaic.TcCoe Idealize.SL.Sem

namespace Cert.Kernel6Ideal.Compress

open Cert.Kernel6Ideal Cert.Kernel6Ideal.Gen

variable (m : (ℓ : Loc nD τ sig) → Buf (Elt Ideal) ℓ) (ρ : Dev nD → PrngReg) (c : Dev nD)

/-! ## The blocks the body reads -/

theorem iblk0 (t : Fin cfg0.N) : iblk m c 0 t = ((cfg0.win 0).blk t).view.read (Elt Ideal) (rowsT (catT (m ((c : Thread nD τ).loc main_arg0)) (m ((c : Thread nD τ).loc main_arg1)))) :=
  congrArg (((cfg0.win 0).blk t).view.read (Elt Ideal)) (V_rows m c)

theorem iblk1 (t : Fin cfg0.N) : iblk m c 1 t = ((cfg0.win 1).blk t).view.read (Elt Ideal) (posT (m ((c : Thread nD τ).loc main_arg2)) (m ((c : Thread nD τ).loc main_arg5))) :=
  congrArg (((cfg0.win 1).blk t).view.read (Elt Ideal)) (V_pos m c)

theorem iblk2 (t : Fin cfg0.N) : iblk m c 2 t = ((cfg0.win 2).blk t).view.read (Elt Ideal) (upT (m ((c : Thread nD τ).loc main_arg3)) (m ((c : Thread nD τ).loc main_arg6))) :=
  congrArg (((cfg0.win 2).blk t).view.read (Elt Ideal)) (V_up m c)

theorem iblk3 (t : Fin cfg0.N) : iblk m c 3 t = ((cfg0.win 3).blk t).view.read (Elt Ideal) (downT (m ((c : Thread nD τ).loc main_arg4)) (m ((c : Thread nD τ).loc main_arg7))) :=
  congrArg (((cfg0.win 3).blk t).view.read (Elt Ideal)) (V_down m c)

theorem blocks4 (t : Fin cfg0.N) : ((cfg0.win 4).blk t).view.read (Elt Ideal) ((dats m 0 c).arrAt 4 cfg0.N) = (dats m 0 c).flushed 4 t :=
  (dats m 0 c).read_blk_arrAt_eq_flushed 4 (fun t t' _ _ hne => (cfg0.win 4).disjoint_blk fun h => hne (inj4 t t' h)) cfg0.N t t.isLt (flush0_4 t)

theorem flushed4 (t : Fin cfg0.N) : (dats m 0 c).flushed 4 t = (cfg0.win 4).cut (grid0.coords t) (out0_4 (iblk m c 0 t) (iblk m c 1 t) (iblk m c 2 t) (iblk m c 3 t)) := by
  show (cfg0.win 4).cut (grid0.coords t) ((dats m 0 c).after 4 t) = _
  rw [after0_4]

/-- A block of the keys. -/
theorem arr_k (b g : Fin 4) (n : Fin 255) (d : Fin 128) :
    ((dats m 0 c).arrAt 4 cfg0.N : FVec Ideal S2x4x4x256x128 .bf16) (ix5 0 b g ⟨n.val, by omega⟩ d)
      = entry (m ((c : Thread nD τ).loc main_arg0)) (m ((c : Thread nD τ).loc main_arg2)) (m ((c : Thread nD τ).loc main_arg3)) (m ((c : Thread nD τ).loc main_arg4)) b g n d := by
  have hN : cfg0.N = 32 := N_0
  let t : Fin cfg0.N := ⟨4 * b.val + g.val, by omega⟩
  have ht : t.val = 4 * b.val + g.val := rfl
  refine (read4 t _ ⟨n.val, by omega⟩ d 0 b g (by show 0 = t.val / 16; omega) (by omega) (by omega)).symm.trans ((congrFun (blocks4 m c t) (ix5 0 0 0 ⟨n.val, by omega⟩ d)).trans ?_)
  rw [flushed4]
  refine out_at (iblk m c 0 t) (iblk m c 1 t) (iblk m c 2 t) (iblk m c 3 t) _ _ _ _ b g (fun q k => ?_) (fun h k => ?_) (fun h k f => ?_) (fun f e => ?_) n d
  · rw [iblk0]
    exact (read0 t _ q k b ⟨g.val, by omega⟩ (by omega) (by show g.val = _; omega)).trans ((rows_at _ b _ q k).trans (cat_k _ _ b g _ _))
  · rw [iblk1]
    exact (read1 t _ h k 0 (by show 0 = t.val / 16; omega)).trans (pos_k _ _ h k)
  · rw [iblk2]
    exact (read2 t _ h k f 0 (by show 0 = t.val / 16; omega)).trans (up_k _ _ h k f)
  · rw [iblk3]
    exact (read3 t _ f e 0 (by show 0 = t.val / 16; omega)).trans (down_k _ _ f e)

/-- A block of the values. -/
theorem arr_v (b g : Fin 4) (n : Fin 255) (d : Fin 128) :
    ((dats m 0 c).arrAt 4 cfg0.N : FVec Ideal S2x4x4x256x128 .bf16) (ix5 1 b g ⟨n.val, by omega⟩ d)
      = entry (m ((c : Thread nD τ).loc main_arg1)) (m ((c : Thread nD τ).loc main_arg5)) (m ((c : Thread nD τ).loc main_arg6)) (m ((c : Thread nD τ).loc main_arg7)) b g n d := by
  have hN : cfg0.N = 32 := N_0
  let t : Fin cfg0.N := ⟨16 + (4 * b.val + g.val), by omega⟩
  have ht : t.val = 16 + (4 * b.val + g.val) := rfl
  refine (read4 t _ ⟨n.val, by omega⟩ d 1 b g (by show 1 = t.val / 16; omega) (by omega) (by omega)).symm.trans ((congrFun (blocks4 m c t) (ix5 0 0 0 ⟨n.val, by omega⟩ d)).trans ?_)
  rw [flushed4]
  refine out_at (iblk m c 0 t) (iblk m c 1 t) (iblk m c 2 t) (iblk m c 3 t) _ _ _ _ b g (fun q k => ?_) (fun h k => ?_) (fun h k f => ?_) (fun f e => ?_) n d
  · rw [iblk0]
    exact (read0 t _ q k b ⟨4 + g.val, by omega⟩ (by omega) (by show 4 + g.val = _; omega)).trans ((rows_at _ b _ q k).trans (cat_v _ _ b g _ _))
  · rw [iblk1]
    exact (read1 t _ h k 1 (by show 1 = t.val / 16; omega)).trans (pos_v _ _ h k)
  · rw [iblk2]
    exact (read2 t _ h k f 1 (by show 1 = t.val / 16; omega)).trans (up_v _ _ h k f)
  · rw [iblk3]
    exact (read3 t _ f e 1 (by show 1 = t.val / 16; omega)).trans (down_v _ _ f e)

/-! ## The result -/

/-- All rows but the last of every head. -/
def cutT (x : FVec Ideal S2x4x4x256x128 .bf16) : FVec Ideal S2x4x4x255x128 .bf16 :=
  extractStridedSlice S2x4x4x255x128 ![0, 0, 0, 0, 0] x slices_S2x4x4x256x128_S2x4x4x255x128_0_0_0_0_0

theorem cutT_at (x : FVec Ideal S2x4x4x256x128 .bf16) (a : Fin 2) (b g : Fin 4) (n : Fin 255) (d : Fin 128) :
    cutT x (ix5 a b g n d) = x (ix5 a b g ⟨n.val, by omega⟩ d) := by
  unfold cutT
  pointwise []

/-- The host's slice after the kernel. -/
theorem tail_eq : Pipeline.afterTail₀ cfgs (dats m) 0 (V0 m) [hostOps1] c main_v18 = cutT ((dats m 0 c).arrAt 4 cfg0.N) := by
  unfold Pipeline.afterTail₀
  simp only [hostOps1, List.flatten_cons, List.flatten_nil, List.append_nil]
  have h := Pipeline.withArrays_arr spec0 launch0.win.arr_inj c (V0 m c) (fun w => (dats m 0 c).arrAt w cfg0.N) 4
  after_results
  exact congrArg cutT h

/-- The run, its result named. -/
theorem run_blocks : θ_run defs (onTc (τ := τ) (main (F := Ideal))) ⟨m, fun _ => 0, ρ⟩ fun r => ∀ c : Dev nD,
      r.2.mem ((c : Thread nD τ).loc main_v18) = cutT ((dats m 0 c).arrAt 4 cfg0.N)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨((h c).2 main_v18 (Pipeline.mem_restRefs_of main_v18 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩) (run_main m ρ)

end Cert.Kernel6Ideal.Compress
end
-- ==== Proof.Compress.Read.lean ====
/-
  The reference's two unusual readings: the gather of overlapping blocks of 32 positions, sixteen apart, and the product
  summed over a block's positions and components.
-/
module

public import proofs.«01_k».proof.Proof.Gen.Reference6Ideal.Run
public import Idealize.ShloMosaic.Lib.Pointwise
public import Idealize.ShloMosaic.Lib.TwoAxisContraction

@[expose] public section

set_option maxHeartbeats 4000000
set_option maxRecDepth 16384
noncomputable section
open Idealize.ShloMosaic Idealize.ShloMosaic.TcCoe Idealize.SL.Sem

namespace Cert.Reference6Ideal.Compress

open Cert.Reference6Ideal Cert.Reference6Ideal.Gen
open Idealize.ShloMosaic.ValueIdx (contrEquiv2 contrEquiv2_symm_val0 contrEquiv2_symm_val1)

/-- Block `n`'s position `l`, without the wrapping of negative ones. -/
def at0 : IVec S255x32 32 :=
  addi (broadcastInDim S255x32 ![0, 1] bcast_S255x1_S255x32_0_1 (muli (broadcastInDim S255x1 ![0] bcast_S255_S255x1_0 (iotaInDim S255 32 0))
      (broadcastInDim S255x1 ![] bcast_S_S255x1 (constantI S_ 32 16#32))))
    (broadcastInDim S255x32 ![0, 1] bcast_S1x32_S255x32_0_1 (broadcastInDim S1x32 ![1] bcast_S32_S1x32_1 (iotaInDim S32 32 0)))

/-- The positions of the blocks. -/
def places : IVec S255x32x1 32 :=
  broadcastInDim S255x32x1 ![0, 1] bcast_S255x32_S255x32x1_0_1
    (select (cmpi .slt at0 (broadcastInDim S255x32 ![] bcast_S_S255x32 (constantI S_ 32 0#32)))
      (addi at0 (broadcastInDim S255x32 ![] bcast_S_S255x32 (constantI S_ 32 4096#32))) at0)

theorem at0_at (n : Fin 255) (l : Fin 32) : at0 (ix2 n l) = BitVec.ofNat 32 (16 * n.val + l.val) := by
  unfold at0
  pointwise []
  exact BitVec.eq_of_toNat_eq (by
    have hn : n.val < 255 := n.isLt
    have hl : l.val < 32 := l.isLt
    simp only [IntOp.addi, IntOp.muli, BitVec.toNat_add, BitVec.toNat_mul, BitVec.toNat_ofNat]
    omega)

theorem places_at (n : Fin 255) (l : Fin 32) : (places (ix3 n l 0)).toInt.toNat = 16 * n.val + l.val := by
  unfold places
  pointwise [at0_at]
  have hn : n.val < 255 := n.isLt
  have hl : l.val < 32 := l.isLt
  have e : (BitVec.ofNat 32 (16 * n.val + l.val)).toInt = ((16 * n.val + l.val : ℕ) : ℤ) := by
    rw [BitVec.toInt_eq_toNat_of_lt (by rw [BitVec.toNat_ofNat]; omega), BitVec.toNat_ofNat, Nat.mod_eq_of_lt (by omega)]
  have hc : IntOp.cmpi .slt (BitVec.ofNat 32 (16 * n.val + l.val)) 0#32 = 0#1 := by
    show BitVec.ofBool (decide ((BitVec.ofNat 32 (16 * n.val + l.val)).toInt < (0#32).toInt)) = 0#1
    rw [e, decide_eq_false (by show ¬ ((16 * n.val + l.val : ℕ) : ℤ) < 0; omega)]
    rfl
  rw [hc]
  show (BitVec.ofNat 32 (16 * n.val + l.val)).toInt.toNat = _
  rw [e]
  rfl

/-- The gather read at an entry. -/
theorem gather_at (y : FVec Ideal S4x4096x4x128 .f32) (b : Fin 4) (n : Fin 255) (l : Fin 32) (g : Fin 4) (d : Fin 128) :
    Host.gather gather_S4x4096x4x128_S255x32x1_S4x255x32x4x128_034_1_n_n_1_2_414128 y places (ix5 b n l g d)
      = y (ix4 b ⟨16 * n.val + l.val, by omega⟩ g d) := by
  unfold Host.gather
  refine congrArg y ?_
  funext a
  apply Fin.ext
  match a with
  | ⟨0, _⟩ => exact Nat.zero_add _
  | ⟨1, _⟩ =>
    have h := places_at n l
    show min (places _).toInt.toNat 4095 + 0 + 0 = 16 * n.val + l.val
    have e : (gather_S4x4096x4x128_S255x32x1_S4x255x32x4x128_034_1_n_n_1_2_414128).siIdx (ix5 b n l g d) ⟨0, by decide⟩ = ix3 n l 0 := by
      funext q
      match q with
      | ⟨0, _⟩ => rfl
      | ⟨1, _⟩ => rfl
      | ⟨2, _⟩ => rfl
    have h2 : (places ((gather_S4x4096x4x128_S255x32x1_S4x255x32x4x128_034_1_n_n_1_2_414128).siIdx (ix5 b n l g d) ⟨0, by decide⟩)).toInt.toNat = 16 * n.val + l.val := by
      rw [e]; exact h
    show min (places ((gather_S4x4096x4x128_S255x32x1_S4x255x32x4x128_034_1_n_n_1_2_414128).siIdx (ix5 b n l g d) ⟨0, by decide⟩)).toInt.toNat 4095 + 0 + 0 = _
    rw [h2]
    omega
  | ⟨2, _⟩ => exact Nat.zero_add _
  | ⟨3, _⟩ => exact Nat.zero_add _

/-- The product over a block's positions and components. -/
theorem dot_at (x : FVec Ideal S4x255x32x4x128 .f32) (w : FVec Ideal S32x128x512 .f32) (b : Fin 4) (n : Fin 255) (g : Fin 4) (f : Fin 512) :
    Host.dotGeneral dot_S4x255x32x4x128_S32x128x512_S4x255x4x512_42_10_013_2_n_n none x w (ix4 b n g f)
      = ∑ l : Fin 32, ∑ d : Fin 128, x (ix5 b n l g d) * w (ix3 l d f) := by
  let D := dot_S4x255x32x4x128_S32x128x512_S4x255x4x512_42_10_013_2_n_n
  have hr : D.contr.rank = 2 := rfl
  have c0 : D.contr.size ⟨0, by rw [hr]; omega⟩ = 128 := rfl
  have c1 : D.contr.size ⟨1, by rw [hr]; omega⟩ = 32 := rfl
  refine (Ideal.dotGeneral_apply _ _ _ _ _ _).trans ?_
  rw [← Equiv.sum_comp (contrEquiv2 D 128 32 hr c0 c1).symm, Fintype.sum_prod_type, Finset.sum_comm]
  refine Finset.sum_congr rfl fun l _ => Finset.sum_congr rfl fun d _ => ?_
  have h0 := contrEquiv2_symm_val0 D 128 32 hr c0 c1 (d, l)
  have h1 := contrEquiv2_symm_val1 D 128 32 hr c0 c1 (d, l)
  have el : D.lhsIdx (ix4 b n g f) ((contrEquiv2 D 128 32 hr c0 c1).symm (d, l)) = ix5 b n l g d := by
    funext a; apply Fin.ext
    match a with
    | ⟨0, _⟩ => rfl
    | ⟨1, _⟩ => rfl
    | ⟨2, _⟩ => exact h1
    | ⟨3, _⟩ => rfl
    | ⟨4, _⟩ => exact h0
  have er : D.rhsIdx (ix4 b n g f) ((contrEquiv2 D 128 32 hr c0 c1).symm (d, l)) = ix3 l d f := by
    funext a; apply Fin.ext
    match a with
    | ⟨0, _⟩ => exact h1
    | ⟨1, _⟩ => exact h0
    | ⟨2, _⟩ => rfl
  exact congrArg₂ (fun p q => x p * w q) el er

end Cert.Reference6Ideal.Compress
end
-- ==== Proof.Compress.Reference.lean ====
/-
  The reference's result, entry by entry.
-/
module

public import proofs.«01_k».proof.Proof.Compress.Read
public import proofs.«01_k».proof.Proof.Compress.Spec

@[expose] public section

set_option maxHeartbeats 4000000
set_option maxRecDepth 16384
noncomputable section
open Idealize.ShloMosaic Idealize.ShloMosaic.TcCoe Idealize.SL.Sem

namespace Cert.Reference6Ideal.Compress

open Cert.Reference6Ideal Cert.Reference6Ideal.Gen
open Cert.Kernel6Ideal.Compress (gelu term units entry)

/-- The blocks with their offsets. -/
def blocksT (y : FVec Ideal S4x4096x4x128 .f32) (p : FVec Ideal S32x128 .f32) : FVec Ideal S4x255x32x4x128 .f32 :=
  addf (Host.gather gather_S4x4096x4x128_S255x32x1_S4x255x32x4x128_034_1_n_n_1_2_414128 y places)
    (broadcastInDim S4x255x32x4x128 ![0, 1, 2, 3, 4] bcast_S1x1x32x1x128_S4x255x32x4x128_0_1_2_3_4 (broadcastInDim S1x1x32x1x128 ![2, 4] bcast_S32x128_S1x1x32x1x128_2_4 p))

/-- The hidden units before the gelu. -/
def hiddenT (y : FVec Ideal S4x4096x4x128 .f32) (p : FVec Ideal S32x128 .f32) (w : FVec Ideal S32x128x512 .f32) : FVec Ideal S4x255x4x512 .f32 :=
  Host.dotGeneral dot_S4x255x32x4x128_S32x128x512_S4x255x4x512_42_10_013_2_n_n none (blocksT y p) w

/-- A constant at every hidden unit. -/
def constT (v : BitVec 32) : FVec Ideal S4x255x4x512 .f32 := broadcastInDim S4x255x4x512 ![] bcast_S_S4x255x4x512 (constant S_ .f32 v)

/-- The gelu. -/
def geluT (x : FVec Ideal S4x255x4x512 .f32) : FVec Ideal S4x255x4x512 .f32 :=
  mulf x (mulf (constT 0x3F000000#32) (addf (constT 0x3F800000#32)
    (Host.tanh (mulf (constT 0x3F4C422A#32) (addf x (mulf (constT 0x3D372713#32) (mulf (mulf x x) x)))))))

/-- The compression of keys or values. -/
def compressT (y : FVec Ideal S4x4096x4x128 .f32) (p : FVec Ideal S32x128 .f32) (w : FVec Ideal S32x128x512 .f32) (v : FVec Ideal S512x128 .f32) :
    FVec Ideal S4x255x4x128 .f32 :=
  Host.dotGeneral dot_S4x255x4x512_S512x128_S4x255x4x128_3_0_012_1_n_n none (geluT (hiddenT y p w)) v

/-- Both, heads before blocks. -/
def bothT (k v : FVec Ideal S4x255x4x128 .f32) : FVec Ideal S2x4x4x255x128 .bf16 :=
  truncf .bf16 (transpose S2x4x4x255x128 [0, 1, 3, 2, 4]
    (concatenate S2x4x255x4x128 0 [⟨S1x4x255x4x128, broadcastInDim S1x4x255x4x128 ![1, 2, 3, 4] bcast_S4x255x4x128_S1x4x255x4x128_1_2_3_4 k⟩,
      ⟨S1x4x255x4x128, broadcastInDim S1x4x255x4x128 ![1, 2, 3, 4] bcast_S4x255x4x128_S1x4x255x4x128_1_2_3_4 v⟩] concatenates_S1x4x255x4x128_S1x4x255x4x128_S2x4x255x4x128_d0)
    transposes_S2x4x255x4x128_S2x4x4x255x128_0_1_3_2_4) bitsLt_bf16_f32

theorem blocksT_at (y : FVec Ideal S4x4096x4x128 .f32) (p : FVec Ideal S32x128 .f32) (b : Fin 4) (n : Fin 255) (l : Fin 32) (g : Fin 4) (d : Fin 128) :
    blocksT y p (ix5 b n l g d) = y (ix4 b ⟨16 * n.val + l.val, by omega⟩ g d) + p (ix2 l d) := by
  rw [← gather_at y b n l g d]
  unfold blocksT
  generalize Host.gather gather_S4x4096x4x128_S255x32x1_S4x255x32x4x128_034_1_n_n_1_2_414128 y places = z
  pointwise []

theorem hiddenT_at (y : FVec Ideal S4x4096x4x128 .f32) (p : FVec Ideal S32x128 .f32) (w : FVec Ideal S32x128x512 .f32) (b : Fin 4) (n : Fin 255) (g : Fin 4) (f : Fin 512) :
    hiddenT y p w (ix4 b n g f) = units y p w b g n f := by
  unfold hiddenT units term
  rw [dot_at]
  simp only [blocksT_at]

theorem geluT_at (x : FVec Ideal S4x255x4x512 .f32) (b : Fin 4) (n : Fin 255) (g : Fin 4) (f : Fin 512) : geluT x (ix4 b n g f) = gelu (x (ix4 b n g f)) := by
  unfold geluT constT gelu
  pointwise []

theorem compressT_at (y : FVec Ideal S4x4096x4x128 .f32) (p : FVec Ideal S32x128 .f32) (w : FVec Ideal S32x128x512 .f32) (v : FVec Ideal S512x128 .f32)
    (b : Fin 4) (n : Fin 255) (g : Fin 4) (d : Fin 128) : compressT y p w v (ix4 b n g d) = entry y p w v b g n d := by
  have e : compressT y p w v (ix4 b n g d) = ∑ f : Fin 512, geluT (hiddenT y p w) (ix4 b n g f) * v (ix2 f d) := by
    unfold compressT
    generalize geluT (hiddenT y p w) = z
    pointwise []
  rw [e]
  unfold entry
  simp only [geluT_at, hiddenT_at]

theorem bothT_k (k v : FVec Ideal S4x255x4x128 .f32) (b g : Fin 4) (n : Fin 255) (d : Fin 128) : bothT k v (ix5 0 b g n d) = k (ix4 b n g d) := by
  unfold bothT
  pointwise []

theorem bothT_v (k v : FVec Ideal S4x255x4x128 .f32) (b g : Fin 4) (n : Fin 255) (d : Fin 128) : bothT k v (ix5 1 b g n d) = v (ix4 b n g d) := by
  unfold bothT
  pointwise []

/-- What the run leaves. -/
theorem res_eq (m : (ℓ : Loc nD τ sig) → Buf (Elt Ideal) ℓ) (c : Dev nD) :
    Value.res_out0 m c = bothT (compressT (m ((c.tc : Thread nD τ).loc main_arg0)) (m ((c.tc : Thread nD τ).loc main_arg2)) (m ((c.tc : Thread nD τ).loc main_arg3)) (m ((c.tc : Thread nD τ).loc main_arg4)))
      (compressT (m ((c.tc : Thread nD τ).loc main_arg1)) (m ((c.tc : Thread nD τ).loc main_arg5)) (m ((c.tc : Thread nD τ).loc main_arg6)) (m ((c.tc : Thread nD τ).loc main_arg7))) := by
  unfold Value.res_out0 Value.res_main_v72 bothT compressT geluT constT hiddenT blocksT places at0
  rfl

end Cert.Reference6Ideal.Compress
end
-- ==== Proof.Calls.NsaCompress.lean ====
/-
  The compression of the attention's keys and values: what the kernel leaves and what the reference computes are the same
  blocks, entry by entry.
-/
module

public import proofs.«01_k».proof.Proof.Compress.Value
public import proofs.«01_k».proof.Proof.Compress.Reference
public import proofs.«01_k».proof.Defs

@[expose] public section

set_option maxHeartbeats 4000000
set_option maxRecDepth 16384
noncomputable section
open Idealize.ShloMosaic Idealize.ShloMosaic.TcCoe Idealize.SL.Sem

namespace Cert.Calls.NsaCompress

open Cert.Kernel6Ideal.Compress (cutT cutT_at arr_k arr_v)
open Cert.Reference6Ideal.Compress (bothT compressT bothT_k bothT_v compressT_at)

theorem ix5_eq {n k l j i : ℕ} (x : (⟨5, ![n, k, l, j, i]⟩ : Shape).Idx) :
    x = ix5 (x 0 : Fin n) (x 1 : Fin k) (x 2 : Fin l) (x 3 : Fin j) (x 4 : Fin i) := by
  funext a
  match a with
  | 0 => rfl
  | 1 => rfl
  | 2 => rfl
  | 3 => rfl
  | 4 => rfl

variable (m : (ℓ : Loc Cert.Kernel6Ideal.nD Cert.Kernel6Ideal.τ Cert.Kernel6Ideal.sig) → Buf (Elt Ideal) ℓ) (c : Dev Cert.Kernel6Ideal.nD)

/-- Entry by entry, the keys and the values. -/
theorem both (a : Fin 2) (b g : Fin 4) (n : Fin 255) (d : Fin 128) :
    bothT (compressT (m ((c : Thread Cert.Kernel6Ideal.nD Cert.Kernel6Ideal.τ).loc Cert.Kernel6Ideal.main_arg0)) (m ((c : Thread Cert.Kernel6Ideal.nD Cert.Kernel6Ideal.τ).loc Cert.Kernel6Ideal.main_arg2))
        (m ((c : Thread Cert.Kernel6Ideal.nD Cert.Kernel6Ideal.τ).loc Cert.Kernel6Ideal.main_arg3)) (m ((c : Thread Cert.Kernel6Ideal.nD Cert.Kernel6Ideal.τ).loc Cert.Kernel6Ideal.main_arg4)))
      (compressT (m ((c : Thread Cert.Kernel6Ideal.nD Cert.Kernel6Ideal.τ).loc Cert.Kernel6Ideal.main_arg1)) (m ((c : Thread Cert.Kernel6Ideal.nD Cert.Kernel6Ideal.τ).loc Cert.Kernel6Ideal.main_arg5))
        (m ((c : Thread Cert.Kernel6Ideal.nD Cert.Kernel6Ideal.τ).loc Cert.Kernel6Ideal.main_arg6)) (m ((c : Thread Cert.Kernel6Ideal.nD Cert.Kernel6Ideal.τ).loc Cert.Kernel6Ideal.main_arg7))) (ix5 a b g n d)
      = cutT ((Cert.Kernel6Ideal.Gen.dats m 0 c).arrAt 4 Cert.Kernel6Ideal.cfg0.N) (ix5 a b g n d) := by
  match a with
  | 0 => exact ((bothT_k _ _ b g n d).trans (compressT_at _ _ _ _ b n g d)).trans ((cutT_at _ 0 b g n d).trans (arr_k m c b g n d)).symm
  | 1 => exact ((bothT_v _ _ b g n d).trans (compressT_at _ _ _ _ b n g d)).trans ((cutT_at _ 1 b g n d).trans (arr_v m c b g n d)).symm

/-- The claim. -/
theorem same : @Cert.algebraic_Kernel6Ideal_Reference6Ideal Cert.Kernel6Ideal.Gen.facts Cert.Reference6Ideal.Gen.facts := by
  intro m g m' g' _ heq
  refine ⟨fun c => cutT ((Cert.Kernel6Ideal.Gen.dats m 0 c).arrAt 4 Cert.Kernel6Ideal.cfg0.N), Cert.Kernel6Ideal.Compress.run_blocks m g, ?_⟩
  refine (θ_run Cert.Reference6Ideal.defs _ _).mono (fun r h c => ⟨(h c).1.trans ?_, (h c).2⟩) (Cert.Reference6Ideal.Value.run (F := Ideal) m' g')
  obtain ⟨h0, h1, h2, h3, h4, h5, h6, h7⟩ := heq c
  refine (Cert.Reference6Ideal.Compress.res_eq m' c).trans ?_
  rw [h0, h1, h2, h3, h4, h5, h6, h7]
  funext i
  refine (congrArg _ (ix5_eq i)).trans (Eq.trans ?_ (congrArg (cutT ((Cert.Kernel6Ideal.Gen.dats m 0 c).arrAt 4 Cert.Kernel6Ideal.cfg0.N)) (ix5_eq i)).symm)
  exact both m c (i 0) (i 1) (i 2) (i 3) (i 4)

end Cert.Calls.NsaCompress
end
-- ==== Proof.Calls.PleNext.lean ====
/-
  The per-layer embedding with the next layer's norm: what the kernel leaves and what the reference computes are both the
  rows with the gated embedding added, and the same rows normed.
-/
module

public import proofs.«01_k».proof.Proof.Calls.Norm
public import proofs.«01_k».proof.Proof.Gen.Kernel8Ideal.Value
public import proofs.«01_k».proof.Proof.Gen.Reference8Ideal.Run
public import proofs.«01_k».proof.Defs

@[expose] public section

set_option maxHeartbeats 4000000
set_option maxRecDepth 16384
noncomputable section
open Idealize.ShloMosaic Idealize.ShloMosaic.TcCoe Idealize.SL.Sem

namespace Cert.Calls.PleNext

variable (h : FVec Ideal ⟨2, ![16384, 2048]⟩ .f32) (g : FVec Ideal ⟨1, ![2048]⟩ .f32) (w : FVec Ideal ⟨3, ![4, 2048, 2048]⟩ .f32)
  (p : FVec Ideal ⟨4, ![4, 4, 4096, 256]⟩ .f32) (v : FVec Ideal ⟨3, ![4, 256, 2048]⟩ .f32) (gf : FVec Ideal ⟨1, ![2048]⟩ .f32)

/-- The gate: the sigmoid of the normed row times layer 2 of `w`. -/
def gate (n : Fin 16384) (q : Fin 2048) : EReal :=
  Ideal.div 1 (1 + Ideal.exp (-∑ k, rms (fun j => h (ix2 n j)) (fun j => g (ix1 j)) k * w (ix3 2 k q)))

/-- The embedding: position `n`'s row of layer 2 of `p` times layer 2 of `v`. -/
def emb (n : Fin 16384) (q : Fin 2048) : EReal :=
  ∑ k : Fin 256, p (ix4 2 (⟨n.val / 4096, by omega⟩ : Fin 4) (⟨n.val % 4096, by omega⟩ : Fin 4096) k) * v (ix3 2 k q)

/-- The rows with the gated embedding added. -/
def sum (n : Fin 16384) (q : Fin 2048) : EReal := h (ix2 n q) + gate h g w n q * emb p v n q

/-- The second result: those rows normed. -/
def normed (n : Fin 16384) (q : Fin 2048) : EReal := rms (sum h g w p v n) (fun j => gf (ix1 j)) q

section Kernel
open Cert.Kernel8Ideal Cert.Kernel8Ideal.Gen

variable (m : (ℓ : Loc nD τ sig) → Buf (Elt Ideal) ℓ) (c : Dev nD)

/-- Where the windows' blocks lie. -/
theorem idx : ∀ t : Fin cfg0.N, win0_0.index t = ![t.val, 0] ∧ win0_1.index t = ![0, 0] ∧ win0_2.index t = ![2, 0, 0] ∧ win0_3.index t = ![2, t.val, 0]
    ∧ win0_4.index t = ![2, 0, 0] ∧ win0_5.index t = ![0, 0] ∧ win0_6.index t = ![t.val, 0] ∧ win0_7.index t = ![t.val, 0] :=
  (by decide +kernel : ∀ t : Fin grid0.N, _)

theorem r0 (t : Fin cfg0.N) (r : Fin 512) (k : Fin 2048) (n : Fin 16384) (hn : n.val = 512 * t.val + r.val) :
    iblk m c 0 t (ix2 r k) = (m ((c : Thread nD τ).loc main_arg0) : FVec Ideal S16384x2048 .f32) (ix2 n k) := by
  have e := (idx t).1
  blk_point [iblk, V, e]

theorem r1 (t : Fin cfg0.N) (k : Fin 2048) :
    iblk m c 1 t (ix2 0 k) = (m ((c : Thread nD τ).loc main_arg1) : FVec Ideal S2048 .f32) (ix1 k) := by
  have e := (idx t).2.1
  blk_point [iblk, V, e]

theorem r2 (t : Fin cfg0.N) (k q : Fin 2048) :
    iblk m c 2 t (ix3 0 k q) = (m ((c : Thread nD τ).loc main_arg2) : FVec Ideal S4x2048x2048 .f32) (ix3 2 k q) := by
  have e := (idx t).2.2.1
  blk_point [iblk, V, e]

theorem r3 (t : Fin cfg0.N) (r : Fin 512) (k : Fin 256) (n : Fin 16384) (hn : n.val = 512 * t.val + r.val) :
    iblk m c 3 t (ix3 0 r k) = (m ((c : Thread nD τ).loc main_arg3) : FVec Ideal S4x4x4096x256 .f32)
      (ix4 2 (⟨n.val / 4096, by omega⟩ : Fin 4) (⟨n.val % 4096, by omega⟩ : Fin 4096) k) := by
  have e := (idx t).2.2.2.1
  blk_point [iblk, V, e]

theorem r4 (t : Fin cfg0.N) (k : Fin 256) (q : Fin 2048) :
    iblk m c 4 t (ix3 0 k q) = (m ((c : Thread nD τ).loc main_arg4) : FVec Ideal S4x256x2048 .f32) (ix3 2 k q) := by
  have e := (idx t).2.2.2.2.1
  blk_point [iblk, V, e]

theorem r5 (t : Fin cfg0.N) (k : Fin 2048) :
    iblk m c 5 t (ix2 0 k) = (m ((c : Thread nD τ).loc main_arg5) : FVec Ideal S2048 .f32) (ix1 k) := by
  have e := (idx t).2.2.2.2.2.1
  blk_point [iblk, V, e]

/-- The results' block `t` is its rows `512 t …`. -/
theorem out_read (t : Fin cfg0.N) (f : Vec Ideal S16384x2048 .f32) (r : Fin 512) (q : Fin 2048) (n : Fin 16384) (hn : n.val = 512 * t.val + r.val) :
    ((cfg0.win 6).blk t).view.read (Elt Ideal) f (ix2 r q) = f (ix2 n q) := by
  have e := (idx t).2.2.2.2.2.2.1
  blk_point [e]

theorem out_read7 (t : Fin cfg0.N) (f : Vec Ideal S16384x2048 .bf16) (r : Fin 512) (q : Fin 2048) (n : Fin 16384) (hn : n.val = 512 * t.val + r.val) :
    ((cfg0.win 7).blk t).view.read (Elt Ideal) f (ix2 r q) = f (ix2 n q) := by
  have e := (idx t).2.2.2.2.2.2.2
  blk_point [e]

theorem ld0 {φ : EltTy} (x : Vec Ideal S512x2048 φ) : View.ld x r0_0 = x :=
  View.ld_unit_zero (by funext a; match a with | 0 => rfl | 1 => rfl) _ x
theorem ld1 {φ : EltTy} (x : Vec Ideal S1x2048 φ) : View.ld x r0_1 = x :=
  View.ld_unit_zero (by funext a; match a with | 0 => rfl | 1 => rfl) _ x
theorem ld2 {φ : EltTy} (x : Vec Ideal S1x2048x2048 φ) : View.ld x r0_2 = x :=
  View.ld_unit_zero (by funext a; match a with | 0 => rfl | 1 => rfl | 2 => rfl) _ x
theorem ld3 {φ : EltTy} (x : Vec Ideal S1x512x256 φ) : View.ld x r0_3 = x :=
  View.ld_unit_zero (by funext a; match a with | 0 => rfl | 1 => rfl | 2 => rfl) _ x
theorem ld4 {φ : EltTy} (x : Vec Ideal S1x256x2048 φ) : View.ld x r0_4 = x :=
  View.ld_unit_zero (by funext a; match a with | 0 => rfl | 1 => rfl | 2 => rfl) _ x

theorem out_pay6 (x0 : Vec Ideal S512x2048 .f32) (x1 : Vec Ideal S1x2048 .f32) (x2 : Vec Ideal S1x2048x2048 .bf16) (x3 : Vec Ideal S1x512x256 .f32)
    (x4 : Vec Ideal S1x256x2048 .bf16) (x5 : Vec Ideal S1x2048 .f32) :
    out0_6 x0 x1 x2 x3 x4 x5 = k0_pay2 x0 x1 x2 x3 x4 := by
  unfold out0_6
  rw [View.canon_unit_zero (by funext a; match a with | 0 => rfl | 1 => rfl)]
  simp only [ld0, ld1, ld2, ld3, ld4]

theorem out_pay7 (x0 : Vec Ideal S512x2048 .f32) (x1 : Vec Ideal S1x2048 .f32) (x2 : Vec Ideal S1x2048x2048 .bf16) (x3 : Vec Ideal S1x512x256 .f32)
    (x4 : Vec Ideal S1x256x2048 .bf16) (x5 : Vec Ideal S1x2048 .f32) :
    out0_7 x0 x1 x2 x3 x4 x5 = k0_pay1 (k0_pay2 x0 x1 x2 x3 x4) x5 := by
  unfold out0_7
  rw [View.canon_unit_zero (by funext a; match a with | 0 => rfl | 1 => rfl)]
  simp only [ld0, ld1, ld2, ld3, ld4]

/-- The rows with the gated embedding added, as a point's blocks give them. -/
theorem pay2_at (x0 : Vec Ideal S512x2048 .f32) (x1 : Vec Ideal S1x2048 .f32) (x2 : Vec Ideal S1x2048x2048 .bf16) (x3 : Vec Ideal S1x512x256 .f32)
    (x4 : Vec Ideal S1x256x2048 .bf16) (r : Fin 512) (q : Fin 2048) :
    k0_pay2 x0 x1 x2 x3 x4 (ix2 r q) = x0 (ix2 r q)
      + Ideal.div 1 (1 + Ideal.exp (0 - ∑ k, rms (fun j => x0 (ix2 r j)) (fun j => x1 (ix2 0 j)) k * x2 (ix3 0 k q))) * ∑ k : Fin 256, x3 (ix3 0 r k) * x4 (ix3 0 k q) := by
  unfold rms
  pointwise [k0_pay2]

theorem pay1_at (s : FVec Ideal S512x2048 .f32) (x5 : Vec Ideal S1x2048 .f32) (r : Fin 512) (q : Fin 2048) :
    k0_pay1 s x5 (ix2 r q) = rms (fun j => s (ix2 r j)) (fun j => x5 (ix2 0 j)) q := by
  unfold rms
  pointwise [k0_pay1]

/-- The sum's row at a point. -/
theorem sum_at (t : Fin cfg0.N) (r : Fin 512) (q : Fin 2048) (n : Fin 16384) (hn : n.val = 512 * t.val + r.val) :
    k0_pay2 (iblk m c 0 t) (iblk m c 1 t) (iblk m c 2 t) (iblk m c 3 t) (iblk m c 4 t) (ix2 r q)
      = sum (m ((c : Thread nD τ).loc main_arg0)) (m ((c : Thread nD τ).loc main_arg1)) (m ((c : Thread nD τ).loc main_arg2)) (m ((c : Thread nD τ).loc main_arg3))
          (m ((c : Thread nD τ).loc main_arg4)) n q := by
  rw [pay2_at, zero_sub]
  unfold sum gate emb rms
  simp only [r0 m c t r _ n hn, r1, r2, r3 m c t r _ n hn, r4]

/-- What the kernel leaves of the sum. -/
theorem kernel6_at (n : Fin 16384) (q : Fin 2048) :
    ((dats m 0 c).arrAt 6 cfg0.N : FVec Ideal S16384x2048 .f32) (ix2 n q)
      = sum (m ((c : Thread nD τ).loc main_arg0)) (m ((c : Thread nD τ).loc main_arg1)) (m ((c : Thread nD τ).loc main_arg2)) (m ((c : Thread nD τ).loc main_arg3))
          (m ((c : Thread nD τ).loc main_arg4)) n q := by
  have hN : cfg0.N = 32 := N_0
  let t : Fin cfg0.N := ⟨n.val / 512, by omega⟩
  let r : Fin 512 := ⟨n.val % 512, by omega⟩
  have hn : n.val = 512 * t.val + r.val := by show n.val = 512 * (n.val / 512) + n.val % 512; omega
  refine (out_read t _ r q n hn).symm.trans ((congrFun (Value.blocks6 m c t (flush0_6 t)) (ix2 r q)).trans ?_)
  rw [Value.flushed6]
  show out0_6 (iblk m c 0 t) (iblk m c 1 t) (iblk m c 2 t) (iblk m c 3 t) (iblk m c 4 t) (iblk m c 5 t) (ix2 r q) = _
  rw [out_pay6]
  exact sum_at m c t r q n hn

/-- What the kernel leaves of the normed rows. -/
theorem kernel7_at (n : Fin 16384) (q : Fin 2048) :
    ((dats m 0 c).arrAt 7 cfg0.N : FVec Ideal S16384x2048 .bf16) (ix2 n q)
      = normed (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) n q := by
  have hN : cfg0.N = 32 := N_0
  let t : Fin cfg0.N := ⟨n.val / 512, by omega⟩
  let r : Fin 512 := ⟨n.val % 512, by omega⟩
  have hn : n.val = 512 * t.val + r.val := by show n.val = 512 * (n.val / 512) + n.val % 512; omega
  refine (out_read7 t _ r q n hn).symm.trans ((congrFun (Value.blocks7 m c t (flush0_7 t)) (ix2 r q)).trans ?_)
  rw [Value.flushed7]
  show out0_7 (iblk m c 0 t) (iblk m c 1 t) (iblk m c 2 t) (iblk m c 3 t) (iblk m c 4 t) (iblk m c 5 t) (ix2 r q) = _
  rw [out_pay7, pay1_at]
  unfold normed
  exact congrArg₂ (fun a b => rms a b q) (funext fun j => sum_at m c t r j n hn) (funext fun j => r5 m c t j)

end Kernel

section Reference
open Cert.Reference8Ideal Cert.Reference8Ideal.Gen Idealize.ShloMosaic.StableHlo

/-- The reference's norm. -/
def normT (x : FVec Ideal S16384x2048 .f32) (g : FVec Ideal S2048 .f32) : FVec Ideal S16384x2048 .f32 :=
  mulf (mulf x (broadcastInDim S16384x2048 ![0, 1] bcast_S16384x1_S16384x2048_0_1 (Host.rsqrt (addf (Host.divf (broadcastInDim S16384x1 ![0] bcast_S16384_S16384x1_0
    (Host.reduceAdd (mulf x x) (constant S_ .f32 0x00000000#32) reducesTo_S16384x2048_S16384_d1 h_S_)) (broadcastInDim S16384x1 ![] bcast_S_S16384x1 (constant S_ .f32 0x45000000#32)))
    (broadcastInDim S16384x1 ![] bcast_S_S16384x1 (constant S_ .f32 0x358637BD#32)))))) (broadcastInDim S16384x2048 ![0, 1] bcast_S1x2048_S16384x2048_0_1
    (broadcastInDim S1x2048 ![1] bcast_S2048_S1x2048_1 g))

/-- The reference's product with layer 2 of the gate's matrix. -/
def gateT (x : FVec Ideal S16384x2048 .f32) (w : FVec Ideal S4x2048x2048 .f32) : FVec Ideal S16384x2048 .f32 :=
  Host.dotGeneral dot_S16384x2048_S2048x2048_S16384x2048_1_0_0_1_n_n none x
    (shapeCast S2048x2048 (extractStridedSlice S1x2048x2048 ![2, 0, 0] w slices_S4x2048x2048_S1x2048x2048_2_0_0) shapeCasts_S1x2048x2048_S2048x2048)

/-- The reference's embedding. -/
def embT (p : FVec Ideal S4x4x4096x256 .f32) (v : FVec Ideal S4x256x2048 .f32) : FVec Ideal S16384x2048 .f32 :=
  Host.dotGeneral dot_S16384x256_S256x2048_S16384x2048_1_0_0_1_n_n none
    (shapeCast S16384x256 (shapeCast S4x4096x256 (extractStridedSlice S1x4x4096x256 ![2, 0, 0, 0] p slices_S4x4x4096x256_S1x4x4096x256_2_0_0_0)
      shapeCasts_S1x4x4096x256_S4x4096x256) shapeCasts_S4x4096x256_S16384x256)
    (shapeCast S256x2048 (extractStridedSlice S1x256x2048 ![2, 0, 0] v slices_S4x256x2048_S1x256x2048_2_0_0) shapeCasts_S1x256x2048_S256x2048)

/-- The reference's sum. -/
def sumT (h : FVec Ideal S16384x2048 .f32) (g : FVec Ideal S2048 .f32) (w : FVec Ideal S4x2048x2048 .f32) (p : FVec Ideal S4x4x4096x256 .f32)
    (v : FVec Ideal S4x256x2048 .f32) : FVec Ideal S16384x2048 .f32 :=
  addf h (mulf (Host.divf (broadcastInDim S16384x2048 ![] bcast_S_S16384x2048 (constant S_ .f32 0x3F800000#32))
    (addf (broadcastInDim S16384x2048 ![] bcast_S_S16384x2048 (constant S_ .f32 0x3F800000#32)) (Host.exp (Host.negf (gateT (normT h g) w))))) (embT p v))

theorem normT_at (x : FVec Ideal S16384x2048 .f32) (g : FVec Ideal S2048 .f32) (n : Fin 16384) (q : Fin 2048) :
    normT x g (ix2 n q) = rms (fun j => x (ix2 n j)) (fun j => g (ix1 j)) q := by
  unfold normT rms
  pointwise []

theorem gateT_at (x : FVec Ideal S16384x2048 .f32) (w : FVec Ideal S4x2048x2048 .f32) (n : Fin 16384) (q : Fin 2048) :
    gateT x w (ix2 n q) = ∑ k : Fin 2048, x (ix2 n k) * w (ix3 2 k q) := by
  unfold gateT
  pointwise []

theorem embT_at (p : FVec Ideal S4x4x4096x256 .f32) (v : FVec Ideal S4x256x2048 .f32) (n : Fin 16384) (q : Fin 2048) :
    embT p v (ix2 n q) = emb p v n q := by
  unfold embT emb
  pointwise []

theorem sumT_at (h : FVec Ideal S16384x2048 .f32) (g : FVec Ideal S2048 .f32) (w : FVec Ideal S4x2048x2048 .f32) (p : FVec Ideal S4x4x4096x256 .f32)
    (v : FVec Ideal S4x256x2048 .f32) (n : Fin 16384) (q : Fin 2048) : sumT h g w p v (ix2 n q) = sum h g w p v n q := by
  have e1 : gateT (normT h g) w (ix2 n q) = ∑ k, rms (fun j => h (ix2 n j)) (fun j => g (ix1 j)) k * w (ix3 2 k q) :=
    (gateT_at _ w n q).trans (Finset.sum_congr rfl fun k _ => congrArg (· * w (ix3 2 k q)) (normT_at h g n k))
  have e2 := embT_at p v n q
  unfold sum gate
  rw [← e1, ← e2]
  unfold sumT
  generalize gateT (normT h g) w = a
  generalize embT p v = b
  pointwise []

theorem norm_sum_at (h : FVec Ideal S16384x2048 .f32) (g : FVec Ideal S2048 .f32) (w : FVec Ideal S4x2048x2048 .f32) (p : FVec Ideal S4x4x4096x256 .f32)
    (v : FVec Ideal S4x256x2048 .f32) (gf : FVec Ideal S2048 .f32) (n : Fin 16384) (q : Fin 2048) :
    normT (sumT h g w p v) gf (ix2 n q) = normed h g w p v gf n q := by
  rw [normT_at]
  unfold normed
  exact congrArg (fun a => rms a _ q) (funext fun j => sumT_at h g w p v n j)

/-- The second result is the norm of the sum, cast. -/
theorem res_eq (m : (ℓ : Loc nD τ sig) → Buf (Elt Ideal) ℓ) (c : Dev nD) :
    Value.res_main_v43 m c = truncf .bf16 (normT (sumT (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4))) (m ((c.tc : Thread nD τ).loc main_arg5))) bitsLt_bf16_f32 := by
  unfold Value.res_main_v43 sumT gateT embT
  rfl

end Reference

theorem ix_eq (i : (⟨2, ![16384, 2048]⟩ : Shape).Idx) : i = ix2 (i 0 : Fin 16384) (i 1 : Fin 2048) := by
  funext a
  match a with
  | 0 => rfl
  | 1 => rfl

/-- The claim. -/
theorem same : @Cert.algebraic_Kernel8Ideal_Reference8Ideal Cert.Kernel8Ideal.Gen.facts Cert.Reference8Ideal.Gen.facts := by
  intro m g m' g' _ heq
  refine ⟨fun c => (Cert.Kernel8Ideal.Gen.dats m 0 c).arrAt 6 Cert.Kernel8Ideal.cfg0.N, fun c => (Cert.Kernel8Ideal.Gen.dats m 0 c).arrAt 7 Cert.Kernel8Ideal.cfg0.N,
    Cert.Kernel8Ideal.Value.run_blocks (F := Ideal) m g, ?_⟩
  refine (θ_run Cert.Reference8Ideal.defs _ _).mono (fun r h c => ⟨(h c).1.trans ?_, (h c).2.1.trans ?_, (h c).2.2⟩) (Cert.Reference8Ideal.Value.run (F := Ideal) m' g')
  · obtain ⟨h0, h1, h2, h3, h4, h5⟩ := heq c
    rw [h0, h1, h2, h3, h4]
    funext i
    refine (congrArg _ (ix_eq i)).trans ((sumT_at _ _ _ _ _ (i 0) (i 1)).trans ?_)
    exact (kernel6_at m c (i 0) (i 1)).symm.trans (congrArg ((Cert.Kernel8Ideal.Gen.dats m 0 c).arrAt 6 Cert.Kernel8Ideal.cfg0.N) (ix_eq i).symm)
  · obtain ⟨h0, h1, h2, h3, h4, h5⟩ := heq c
    rw [res_eq, h0, h1, h2, h3, h4, h5]
    funext i
    refine (congrArg _ (ix_eq i)).trans ((norm_sum_at _ _ _ _ _ _ (i 0) (i 1)).trans ?_)
    exact (kernel7_at m c (i 0) (i 1)).symm.trans (congrArg ((Cert.Kernel8Ideal.Gen.dats m 0 c).arrAt 7 Cert.Kernel8Ideal.cfg0.N) (ix_eq i).symm)

end Cert.Calls.PleNext
end
-- ==== Proof.Calls.PlePlain.lean ====
/-
  The per-layer embedding without a norm: what the kernel leaves and what the reference computes are both the rows with the
  gated embedding added.
-/
module

public import proofs.«01_k».proof.Proof.Calls.Norm
public import proofs.«01_k».proof.Proof.Gen.Kernel9Ideal.Value
public import proofs.«01_k».proof.Proof.Gen.Reference9Ideal.Run
public import proofs.«01_k».proof.Defs

@[expose] public section

set_option maxHeartbeats 4000000
set_option maxRecDepth 16384
noncomputable section
open Idealize.ShloMosaic Idealize.ShloMosaic.TcCoe Idealize.SL.Sem

namespace Cert.Calls.PlePlain

variable (h : FVec Ideal ⟨2, ![16384, 2048]⟩ .f32) (g : FVec Ideal ⟨1, ![2048]⟩ .f32) (w : FVec Ideal ⟨3, ![4, 2048, 2048]⟩ .f32)
  (p : FVec Ideal ⟨4, ![4, 4, 4096, 256]⟩ .f32) (v : FVec Ideal ⟨3, ![4, 256, 2048]⟩ .f32)

/-- The gate: the sigmoid of the normed row times layer 1 of `w`. -/
def gate (n : Fin 16384) (q : Fin 2048) : EReal :=
  Ideal.div 1 (1 + Ideal.exp (-∑ k, rms (fun j => h (ix2 n j)) (fun j => g (ix1 j)) k * w (ix3 1 k q)))

/-- The embedding: position `n`'s row of layer 1 of `p` times layer 1 of `v`. -/
def emb (n : Fin 16384) (q : Fin 2048) : EReal :=
  ∑ k : Fin 256, p (ix4 1 (⟨n.val / 4096, by omega⟩ : Fin 4) (⟨n.val % 4096, by omega⟩ : Fin 4096) k) * v (ix3 1 k q)

/-- The rows with the gated embedding added. -/
def sum (n : Fin 16384) (q : Fin 2048) : EReal := h (ix2 n q) + gate h g w n q * emb p v n q

section Kernel
open Cert.Kernel9Ideal Cert.Kernel9Ideal.Gen

variable (m : (ℓ : Loc nD τ sig) → Buf (Elt Ideal) ℓ) (c : Dev nD)

/-- Where the windows' blocks lie. -/
theorem idx : ∀ t : Fin cfg0.N, win0_0.index t = ![t.val, 0] ∧ win0_1.index t = ![0, 0] ∧ win0_2.index t = ![1, 0, 0] ∧ win0_3.index t = ![1, t.val, 0]
    ∧ win0_4.index t = ![1, 0, 0] ∧ win0_5.index t = ![0, 0] ∧ win0_6.index t = ![t.val, 0] :=
  (by decide +kernel : ∀ t : Fin grid0.N, _)

theorem r0 (t : Fin cfg0.N) (r : Fin 512) (k : Fin 2048) (n : Fin 16384) (hn : n.val = 512 * t.val + r.val) :
    iblk m c 0 t (ix2 r k) = (m ((c : Thread nD τ).loc main_arg0) : FVec Ideal S16384x2048 .f32) (ix2 n k) := by
  have e := (idx t).1
  blk_point [iblk, V, e]

theorem r1 (t : Fin cfg0.N) (k : Fin 2048) :
    iblk m c 1 t (ix2 0 k) = (m ((c : Thread nD τ).loc main_arg1) : FVec Ideal S2048 .f32) (ix1 k) := by
  have e := (idx t).2.1
  blk_point [iblk, V, e]

theorem r2 (t : Fin cfg0.N) (k q : Fin 2048) :
    iblk m c 2 t (ix3 0 k q) = (m ((c : Thread nD τ).loc main_arg2) : FVec Ideal S4x2048x2048 .f32) (ix3 1 k q) := by
  have e := (idx t).2.2.1
  blk_point [iblk, V, e]

theorem r3 (t : Fin cfg0.N) (r : Fin 512) (k : Fin 256) (n : Fin 16384) (hn : n.val = 512 * t.val + r.val) :
    iblk m c 3 t (ix3 0 r k) = (m ((c : Thread nD τ).loc main_arg3) : FVec Ideal S4x4x4096x256 .f32)
      (ix4 1 (⟨n.val / 4096, by omega⟩ : Fin 4) (⟨n.val % 4096, by omega⟩ : Fin 4096) k) := by
  have e := (idx t).2.2.2.1
  blk_point [iblk, V, e]

theorem r4 (t : Fin cfg0.N) (k : Fin 256) (q : Fin 2048) :
    iblk m c 4 t (ix3 0 k q) = (m ((c : Thread nD τ).loc main_arg4) : FVec Ideal S4x256x2048 .f32) (ix3 1 k q) := by
  have e := (idx t).2.2.2.2.1
  blk_point [iblk, V, e]

/-- The result's block `t` is its rows `512 t …`. -/
theorem out_read (t : Fin cfg0.N) (f : Vec Ideal S16384x2048 .f32) (r : Fin 512) (q : Fin 2048) (n : Fin 16384) (hn : n.val = 512 * t.val + r.val) :
    ((cfg0.win 6).blk t).view.read (Elt Ideal) f (ix2 r q) = f (ix2 n q) := by
  have e := (idx t).2.2.2.2.2.2
  blk_point [e]

theorem ld0 {φ : EltTy} (x : Vec Ideal S512x2048 φ) : View.ld x r0_0 = x :=
  View.ld_unit_zero (by funext a; match a with | 0 => rfl | 1 => rfl) _ x
theorem ld1 {φ : EltTy} (x : Vec Ideal S1x2048 φ) : View.ld x r0_1 = x :=
  View.ld_unit_zero (by funext a; match a with | 0 => rfl | 1 => rfl) _ x
theorem ld2 {φ : EltTy} (x : Vec Ideal S1x2048x2048 φ) : View.ld x r0_2 = x :=
  View.ld_unit_zero (by funext a; match a with | 0 => rfl | 1 => rfl | 2 => rfl) _ x
theorem ld3 {φ : EltTy} (x : Vec Ideal S1x512x256 φ) : View.ld x r0_3 = x :=
  View.ld_unit_zero (by funext a; match a with | 0 => rfl | 1 => rfl | 2 => rfl) _ x
theorem ld4 {φ : EltTy} (x : Vec Ideal S1x256x2048 φ) : View.ld x r0_4 = x :=
  View.ld_unit_zero (by funext a; match a with | 0 => rfl | 1 => rfl | 2 => rfl) _ x

theorem out_pay (x0 : Vec Ideal S512x2048 .f32) (x1 : Vec Ideal S1x2048 .f32) (x2 : Vec Ideal S1x2048x2048 .bf16) (x3 : Vec Ideal S1x512x256 .f32)
    (x4 : Vec Ideal S1x256x2048 .bf16) (x5 : Vec Ideal S1x2048 .f32) :
    out0_6 x0 x1 x2 x3 x4 x5 = k0_pay1 x0 x1 x2 x3 x4 := by
  unfold out0_6
  rw [View.canon_unit_zero (by funext a; match a with | 0 => rfl | 1 => rfl)]
  simp only [ld0, ld1, ld2, ld3, ld4]

/-- The rows with the gated embedding added, as a point's blocks give them. -/
theorem pay1_at (x0 : Vec Ideal S512x2048 .f32) (x1 : Vec Ideal S1x2048 .f32) (x2 : Vec Ideal S1x2048x2048 .bf16) (x3 : Vec Ideal S1x512x256 .f32)
    (x4 : Vec Ideal S1x256x2048 .bf16) (r : Fin 512) (q : Fin 2048) :
    k0_pay1 x0 x1 x2 x3 x4 (ix2 r q) = x0 (ix2 r q)
      + Ideal.div 1 (1 + Ideal.exp (0 - ∑ k, rms (fun j => x0 (ix2 r j)) (fun j => x1 (ix2 0 j)) k * x2 (ix3 0 k q))) * ∑ k : Fin 256, x3 (ix3 0 r k) * x4 (ix3 0 k q) := by
  unfold rms
  pointwise [k0_pay1]

/-- The sum's row at a point. -/
theorem sum_at (t : Fin cfg0.N) (r : Fin 512) (q : Fin 2048) (n : Fin 16384) (hn : n.val = 512 * t.val + r.val) :
    k0_pay1 (iblk m c 0 t) (iblk m c 1 t) (iblk m c 2 t) (iblk m c 3 t) (iblk m c 4 t) (ix2 r q)
      = sum (m ((c : Thread nD τ).loc main_arg0)) (m ((c : Thread nD τ).loc main_arg1)) (m ((c : Thread nD τ).loc main_arg2)) (m ((c : Thread nD τ).loc main_arg3))
          (m ((c : Thread nD τ).loc main_arg4)) n q := by
  rw [pay1_at, zero_sub]
  unfold sum gate emb rms
  simp only [r0 m c t r _ n hn, r1, r2, r3 m c t r _ n hn, r4]

/-- What the kernel leaves. -/
theorem kernel_at (n : Fin 16384) (q : Fin 2048) :
    ((dats m 0 c).arrAt 6 cfg0.N : FVec Ideal S16384x2048 .f32) (ix2 n q)
      = sum (m ((c : Thread nD τ).loc main_arg0)) (m ((c : Thread nD τ).loc main_arg1)) (m ((c : Thread nD τ).loc main_arg2)) (m ((c : Thread nD τ).loc main_arg3))
          (m ((c : Thread nD τ).loc main_arg4)) n q := by
  have hN : cfg0.N = 32 := N_0
  let t : Fin cfg0.N := ⟨n.val / 512, by omega⟩
  let r : Fin 512 := ⟨n.val % 512, by omega⟩
  have hn : n.val = 512 * t.val + r.val := by show n.val = 512 * (n.val / 512) + n.val % 512; omega
  refine (out_read t _ r q n hn).symm.trans ((congrFun (Value.blocks6 m c t (flush0_6 t)) (ix2 r q)).trans ?_)
  rw [Value.flushed6]
  show out0_6 (iblk m c 0 t) (iblk m c 1 t) (iblk m c 2 t) (iblk m c 3 t) (iblk m c 4 t) (iblk m c 5 t) (ix2 r q) = _
  rw [out_pay]
  exact sum_at m c t r q n hn

end Kernel

section Reference
open Cert.Reference9Ideal Cert.Reference9Ideal.Gen Idealize.ShloMosaic.StableHlo

/-- The reference's norm. -/
def normT (x : FVec Ideal S16384x2048 .f32) (g : FVec Ideal S2048 .f32) : FVec Ideal S16384x2048 .f32 :=
  mulf (mulf x (broadcastInDim S16384x2048 ![0, 1] bcast_S16384x1_S16384x2048_0_1 (Host.rsqrt (addf (Host.divf (broadcastInDim S16384x1 ![0] bcast_S16384_S16384x1_0
    (Host.reduceAdd (mulf x x) (constant S_ .f32 0x00000000#32) reducesTo_S16384x2048_S16384_d1 h_S_)) (broadcastInDim S16384x1 ![] bcast_S_S16384x1 (constant S_ .f32 0x45000000#32)))
    (broadcastInDim S16384x1 ![] bcast_S_S16384x1 (constant S_ .f32 0x358637BD#32)))))) (broadcastInDim S16384x2048 ![0, 1] bcast_S1x2048_S16384x2048_0_1
    (broadcastInDim S1x2048 ![1] bcast_S2048_S1x2048_1 g))

/-- The reference's product with layer 1 of the gate's matrix. -/
def gateT (x : FVec Ideal S16384x2048 .f32) (w : FVec Ideal S4x2048x2048 .f32) : FVec Ideal S16384x2048 .f32 :=
  Host.dotGeneral dot_S16384x2048_S2048x2048_S16384x2048_1_0_0_1_n_n none x
    (shapeCast S2048x2048 (extractStridedSlice S1x2048x2048 ![1, 0, 0] w slices_S4x2048x2048_S1x2048x2048_1_0_0) shapeCasts_S1x2048x2048_S2048x2048)

/-- The reference's embedding. -/
def embT (p : FVec Ideal S4x4x4096x256 .f32) (v : FVec Ideal S4x256x2048 .f32) : FVec Ideal S16384x2048 .f32 :=
  Host.dotGeneral dot_S16384x256_S256x2048_S16384x2048_1_0_0_1_n_n none
    (shapeCast S16384x256 (shapeCast S4x4096x256 (extractStridedSlice S1x4x4096x256 ![1, 0, 0, 0] p slices_S4x4x4096x256_S1x4x4096x256_1_0_0_0)
      shapeCasts_S1x4x4096x256_S4x4096x256) shapeCasts_S4x4096x256_S16384x256)
    (shapeCast S256x2048 (extractStridedSlice S1x256x2048 ![1, 0, 0] v slices_S4x256x2048_S1x256x2048_1_0_0) shapeCasts_S1x256x2048_S256x2048)

/-- The reference's sum. -/
def sumT (h : FVec Ideal S16384x2048 .f32) (g : FVec Ideal S2048 .f32) (w : FVec Ideal S4x2048x2048 .f32) (p : FVec Ideal S4x4x4096x256 .f32)
    (v : FVec Ideal S4x256x2048 .f32) : FVec Ideal S16384x2048 .f32 :=
  addf h (mulf (Host.divf (broadcastInDim S16384x2048 ![] bcast_S_S16384x2048 (constant S_ .f32 0x3F800000#32))
    (addf (broadcastInDim S16384x2048 ![] bcast_S_S16384x2048 (constant S_ .f32 0x3F800000#32)) (Host.exp (Host.negf (gateT (normT h g) w))))) (embT p v))

theorem normT_at (x : FVec Ideal S16384x2048 .f32) (g : FVec Ideal S2048 .f32) (n : Fin 16384) (q : Fin 2048) :
    normT x g (ix2 n q) = rms (fun j => x (ix2 n j)) (fun j => g (ix1 j)) q := by
  unfold normT rms
  pointwise []

theorem gateT_at (x : FVec Ideal S16384x2048 .f32) (w : FVec Ideal S4x2048x2048 .f32) (n : Fin 16384) (q : Fin 2048) :
    gateT x w (ix2 n q) = ∑ k : Fin 2048, x (ix2 n k) * w (ix3 1 k q) := by
  unfold gateT
  pointwise []

theorem embT_at (p : FVec Ideal S4x4x4096x256 .f32) (v : FVec Ideal S4x256x2048 .f32) (n : Fin 16384) (q : Fin 2048) :
    embT p v (ix2 n q) = emb p v n q := by
  unfold embT emb
  pointwise []

theorem sumT_at (h : FVec Ideal S16384x2048 .f32) (g : FVec Ideal S2048 .f32) (w : FVec Ideal S4x2048x2048 .f32) (p : FVec Ideal S4x4x4096x256 .f32)
    (v : FVec Ideal S4x256x2048 .f32) (n : Fin 16384) (q : Fin 2048) : sumT h g w p v (ix2 n q) = sum h g w p v n q := by
  have e1 : gateT (normT h g) w (ix2 n q) = ∑ k, rms (fun j => h (ix2 n j)) (fun j => g (ix1 j)) k * w (ix3 1 k q) :=
    (gateT_at _ w n q).trans (Finset.sum_congr rfl fun k _ => congrArg (· * w (ix3 1 k q)) (normT_at h g n k))
  have e2 := embT_at p v n q
  unfold sum gate
  rw [← e1, ← e2]
  unfold sumT
  generalize gateT (normT h g) w = a
  generalize embT p v = b
  pointwise []

end Reference

/-- The claim. -/
theorem same : @Cert.algebraic_Kernel9Ideal_Reference9Ideal Cert.Kernel9Ideal.Gen.facts Cert.Reference9Ideal.Gen.facts := by
  intro m g m' g' _ heq
  refine ⟨fun c => (Cert.Kernel9Ideal.Gen.dats m 0 c).arrAt 6 Cert.Kernel9Ideal.cfg0.N, Cert.Kernel9Ideal.Value.run_blocks (F := Ideal) m g, ?_⟩
  refine (θ_run Cert.Reference9Ideal.defs _ _).mono (fun r h c => ⟨(h c).1.trans ?_, (h c).2⟩) (Cert.Reference9Ideal.Value.run (F := Ideal) m' g')
  obtain ⟨h0, h1, h2, h3, h4, h5⟩ := heq c
  rw [h0, h1, h2, h3, h4]
  funext i
  have hi : i = ix2 (i 0 : Fin 16384) (i 1 : Fin 2048) := by
    funext a
    match a with
    | 0 => rfl
    | 1 => rfl
  refine (congrArg _ hi).trans ((sumT_at _ _ _ _ _ (i 0) (i 1)).trans ?_)
  exact (kernel_at m c (i 0) (i 1)).symm.trans (congrArg ((Cert.Kernel9Ideal.Gen.dats m 0 c).arrAt 6 Cert.Kernel9Ideal.cfg0.N) hi.symm)

end Cert.Calls.PlePlain
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Mixer.Chain
public import proofs.«01_k».proof.Proof.Mixer.RefOut
public import proofs.«01_k».proof.Proof.Mixer.Pre
public import Idealize.ShloMosaic.Adequacy
public import Idealize.ShloMosaic.Init

public import proofs.«01_k».proof.Proof.Calls.Mlp
public import proofs.«01_k».proof.Proof.Calls.Ple
public import proofs.«01_k».proof.Proof.Calls.MatmulResidual
public import proofs.«01_k».proof.Proof.Calls.NormMatmul
public import proofs.«01_k».proof.Proof.Calls.NsaProj
public import proofs.«01_k».proof.Proof.Proj.Machine
public import proofs.«01_k».proof.Proof.Calls.NsaCompress
public import proofs.«01_k».proof.Proof.Calls.PleNext
public import proofs.«01_k».proof.Proof.Calls.PlePlain

public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run

@[expose] public section

noncomputable section

namespace Cert.Proof

open Idealize.ShloMosaic Idealize.SL.Sem Cert.Kernel

/-- The reference's frame: its arguments end unchanged, and it declares no semaphore. -/
theorem reference_frame : @Cert.quiescent_ReferenceIdeal Cert.ReferenceIdeal.Gen.facts := by
  intro m g _
  exact (θ_run Cert.ReferenceIdeal.defs _ _).mono (fun r h => ⟨fun c => (h c).2, sem_eq_zero_of_no_sems (by decide) r.2⟩)
    (Cert.ReferenceIdeal.Value.run (F := Ideal) m g)

/-- The kernel's output and the reference's result, equal. -/
theorem same : @Cert.algebraic_KernelIdeal_ReferenceIdeal_pre_pool_finite Cert.KernelIdeal.Gen.facts Cert.ReferenceIdeal.Gen.facts Cert.Mixer.preFacts := by
  intro m g m' g' hpre heq
  refine ⟨fun c => Cert.KernelIdeal.Value.G10 m c, Cert.KernelIdeal.Value.run (F := Ideal) m g, ?_⟩
  refine (θ_run Cert.ReferenceIdeal.defs _ _).mono (fun r h c => ⟨(h c).1.trans ?_, (h c).2⟩) (Cert.ReferenceIdeal.Value.run (F := Ideal) m' g')
  have hA : Cert.Mixer.Ref.argsR m' c = Cert.Mixer.args m c := by
    obtain ⟨h0, h1, h2, h3, h4, h5, h6, h7, h8, h9⟩ := heq c
    unfold Cert.Mixer.Ref.argsR Cert.Mixer.args
    congr 1
  have hF : Cert.Mixer.Ref.Finite (Cert.Mixer.Ref.argsR m' c) := hA ▸ Cert.Mixer.finite_of_pre m hpre c
  funext i
  have hi : i = ix3 (i 0 : Fin 4) (i 1 : Fin 4096) (i 2 : Fin 2048) := by
    funext a
    match a with
    | 0 => rfl
    | 1 => rfl
    | 2 => rfl
  have e := (Cert.Mixer.Ref.reference_out (i 0 : Fin 4) m' c hF (i 1 : Fin 4096) (i 2 : Fin 2048)).trans
    ((congrArg (fun A => Cert.Mixer.Spec.out A (i 0 : Fin 4) (i 1 : Fin 4096).val (i 2 : Fin 2048)) hA).trans
      (Cert.Mixer.kernel_out m c (i 0 : Fin 4) (i 1 : Fin 4096) (i 2 : Fin 2048)).symm)
  exact (congrArg (Cert.ReferenceIdeal.Value.out_main_v173 _) hi).trans (e.trans (congrArg (Cert.KernelIdeal.Value.G10 m c) hi.symm))

/-- The frame of the MLP's reference. -/
theorem reference2_frame : @Cert.quiescent_Reference2Ideal Cert.Reference2Ideal.Gen.facts := by
  intro m g _
  exact (θ_run Cert.Reference2Ideal.defs _ _).mono (fun r h => ⟨fun c => (h c).2, sem_eq_zero_of_no_sems (by decide) r.2⟩)
    (Cert.Reference2Ideal.Value.run (F := Ideal) m g)

/-- The frame of the per-layer embedding's reference. -/
theorem reference3_frame : @Cert.quiescent_Reference3Ideal Cert.Reference3Ideal.Gen.facts := by
  intro m g _
  exact (θ_run Cert.Reference3Ideal.defs _ _).mono (fun r h => ⟨fun c => (h c).2, sem_eq_zero_of_no_sems (by decide) r.2⟩)
    (Cert.Reference3Ideal.Value.run (F := Ideal) m g)

/-- The frame of the output projection's reference. -/
theorem reference4_frame : @Cert.quiescent_Reference4Ideal Cert.Reference4Ideal.Gen.facts := by
  intro m g _
  exact (θ_run Cert.Reference4Ideal.defs _ _).mono (fun r h => ⟨fun c => (h c).2.2, sem_eq_zero_of_no_sems (by decide) r.2⟩)
    (Cert.Reference4Ideal.Value.run (F := Ideal) m g)

/-- The frame of the input projection's reference. -/
theorem reference5_frame : @Cert.quiescent_Reference5Ideal Cert.Reference5Ideal.Gen.facts := by
  intro m g _
  exact (θ_run Cert.Reference5Ideal.defs _ _).mono (fun r h => ⟨fun c => (h c).2, sem_eq_zero_of_no_sems (by decide) r.2⟩)
    (Cert.Reference5Ideal.Value.run (F := Ideal) m g)

/-- The frame of the compression's reference. -/
theorem reference6_frame : @Cert.quiescent_Reference6Ideal Cert.Reference6Ideal.Gen.facts := by
  intro m g _
  exact (θ_run Cert.Reference6Ideal.defs _ _).mono (fun r h => ⟨fun c => (h c).2, sem_eq_zero_of_no_sems (by decide) r.2⟩)
    (Cert.Reference6Ideal.Value.run (F := Ideal) m g)

/-- The frame of the attention projection's reference. -/
theorem reference7_frame : @Cert.quiescent_Reference7Ideal Cert.Reference7Ideal.Gen.facts := by
  intro m g _
  exact (θ_run Cert.Reference7Ideal.defs _ _).mono (fun r h => ⟨fun c => (h c).2.2.2, sem_eq_zero_of_no_sems (by decide) r.2⟩)
    (Cert.Reference7Ideal.Value.run (F := Ideal) m g)

/-- The frame of the reference of the per-layer embedding with the next layer's norm. -/
theorem reference8_frame : @Cert.quiescent_Reference8Ideal Cert.Reference8Ideal.Gen.facts := by
  intro m g _
  exact (θ_run Cert.Reference8Ideal.defs _ _).mono (fun r h => ⟨fun c => (h c).2.2, sem_eq_zero_of_no_sems (by decide) r.2⟩)
    (Cert.Reference8Ideal.Value.run (F := Ideal) m g)

/-- The frame of the reference of the per-layer embedding without a norm. -/
theorem reference9_frame : @Cert.quiescent_Reference9Ideal Cert.Reference9Ideal.Gen.facts := by
  intro m g _
  exact (θ_run Cert.Reference9Ideal.defs _ _).mono (fun r h => ⟨fun c => (h c).2, sem_eq_zero_of_no_sems (by decide) r.2⟩)
    (Cert.Reference9Ideal.Value.run (F := Ideal) m g)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Mixer.preFacts,
  fun m ρ _ => Cert.Kernel.Gen.frame m ρ,
  fun m ρ _ => Cert.KernelIdeal.Gen.frame m ρ,
  fun m ρ _ => Cert.KernelIdeal.Gen.frame m ρ,
  reference_frame,
  fun m ρ _ => reference_frame m ρ trivial,
  fun m ρ _ => Cert.Kernel2.Gen.frame m ρ,
  fun m ρ _ => Cert.Kernel2Ideal.Gen.frame m ρ,
  reference2_frame,
  fun m ρ _ => Cert.Kernel3.Gen.frame m ρ,
  fun m ρ _ => Cert.Kernel3Ideal.Gen.frame m ρ,
  reference3_frame,
  fun m ρ _ => Cert.Kernel4.Gen.frame m ρ,
  fun m ρ _ => Cert.Kernel4Ideal.Gen.frame m ρ,
  reference4_frame,
  fun m ρ _ => Cert.Kernel5.Gen.frame m ρ,
  fun m ρ _ => Cert.Kernel5Ideal.Gen.frame m ρ,
  reference5_frame,
  fun m ρ _ => Cert.Kernel6.Gen.frame m ρ,
  fun m ρ _ => Cert.Kernel6Ideal.Gen.frame m ρ,
  reference6_frame,
  Cert.Kernel7Ideal.Proj.machine_frame,
  fun m ρ _ => Cert.Kernel7Ideal.Proj.frame m ρ,
  reference7_frame,
  fun m ρ _ => Cert.Kernel8.Gen.frame m ρ,
  fun m ρ _ => Cert.Kernel8Ideal.Gen.frame m ρ,
  reference8_frame,
  fun m ρ _ => Cert.Kernel9.Gen.frame m ρ,
  fun m ρ _ => Cert.Kernel9Ideal.Gen.frame m ρ,
  reference9_frame,
  trivial,
  same,
  trivial,
  Cert.Calls.Mlp.same,
  trivial,
  Cert.Calls.Ple.same,
  trivial,
  Cert.Calls.MatmulResidual.same,
  trivial,
  Cert.Calls.NormMatmul.same,
  trivial,
  Cert.Calls.NsaCompress.same,
  trivial,
  Cert.Calls.NsaProj.same,
  trivial,
  Cert.Calls.PleNext.same,
  trivial,
  Cert.Calls.PlePlain.same⟩

end Cert.Proof

end
